-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v11) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v37)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v17)) (v1 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_v18) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v29)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v23)) (v1 : (c : Dev Cert.Kernel7Ideal.nD) → Buf (Elt Ideal) ((c.tc : Thread Cert.Kernel7Ideal.nD Cert.Kernel7Ideal.τ).loc Cert.Kernel7Ideal.main_v25)) (v2 : (c : Dev Cert.Kernel7Ideal.nD) → Buf (Elt Ideal) ((c.tc : Thread Cert.Kernel7Ideal.nD Cert.Kernel7Ideal.τ).loc Cert.Kernel7Ideal.main_v28)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23) = v0 c
          ∧ r.2.mem ((c.tc : Thread Cert.Kernel7Ideal.nD Cert.Kernel7Ideal.τ).loc Cert.Kernel7Ideal.main_v25) = v1 c
          ∧ r.2.mem ((c.tc : Thread Cert.Kernel7Ideal.nD Cert.Kernel7Ideal.τ).loc Cert.Kernel7Ideal.main_v28) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v43) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v28)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v28) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v7)) (v1 : (c : Dev Cert.Kernel11Ideal.nD) → Buf (Elt Ideal) ((c.tc : Thread Cert.Kernel11Ideal.nD Cert.Kernel11Ideal.τ).loc Cert.Kernel11Ideal.main_v9)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7) = v0 c
          ∧ r.2.mem ((c.tc : Thread Cert.Kernel11Ideal.nD Cert.Kernel11Ideal.τ).loc Cert.Kernel11Ideal.main_v9) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v8)) (v1 : (c : Dev Cert.Kernel12Ideal.nD) → Buf (Elt Ideal) ((c.tc : Thread Cert.Kernel12Ideal.nD Cert.Kernel12Ideal.τ).loc Cert.Kernel12Ideal.main_v10)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_v10) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v6)) (v1 : (c : Dev Cert.Kernel13Ideal.nD) → Buf (Elt Ideal) ((c.tc : Thread Cert.Kernel13Ideal.nD Cert.Kernel13Ideal.τ).loc Cert.Kernel13Ideal.main_v7)) (v2 : (c : Dev Cert.Kernel13Ideal.nD) → Buf (Elt Ideal) ((c.tc : Thread Cert.Kernel13Ideal.nD Cert.Kernel13Ideal.τ).loc Cert.Kernel13Ideal.main_v8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_v7) = v1 c
          ∧ r.2.mem ((c.tc : Thread Cert.Kernel13Ideal.nD Cert.Kernel13Ideal.τ).loc Cert.Kernel13Ideal.main_v8) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v50) = v1 c
          ∧ r.2.mem ((c.tc : Thread Cert.Reference13Ideal.nD Cert.Reference13Ideal.τ).loc Cert.Reference13Ideal.main_v36) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v11)) (v1 : (c : Dev Cert.Kernel14Ideal.nD) → Buf (Elt Ideal) ((c.tc : Thread Cert.Kernel14Ideal.nD Cert.Kernel14Ideal.τ).loc Cert.Kernel14Ideal.main_v15)) (v2 : (c : Dev Cert.Kernel14Ideal.nD) → Buf (Elt Ideal) ((c.tc : Thread Cert.Kernel14Ideal.nD Cert.Kernel14Ideal.τ).loc Cert.Kernel14Ideal.main_v19)) (v3 : (c : Dev Cert.Kernel14Ideal.nD) → Buf (Elt Ideal) ((c.tc : Thread Cert.Kernel14Ideal.nD Cert.Kernel14Ideal.τ).loc Cert.Kernel14Ideal.main_v23)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v11) = v0 c
          ∧ r.2.mem ((c.tc : Thread Cert.Kernel14Ideal.nD Cert.Kernel14Ideal.τ).loc Cert.Kernel14Ideal.main_v15) = v1 c
          ∧ r.2.mem ((c.tc : Thread Cert.Kernel14Ideal.nD Cert.Kernel14Ideal.τ).loc Cert.Kernel14Ideal.main_v19) = v2 c
          ∧ r.2.mem ((c.tc : Thread Cert.Kernel14Ideal.nD Cert.Kernel14Ideal.τ).loc Cert.Kernel14Ideal.main_v23) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_v12) = v2 c
          ∧ r.2.mem ((c.tc : Thread Cert.Reference14Ideal.nD Cert.Reference14Ideal.τ).loc Cert.Reference14Ideal.main_v18) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S_ : Shape := ⟨0, ![]⟩

class Facts : Prop where
  bcast_S_S4x2048x5632 : S_.BroadcastsInDim S4x2048x5632 (![] : Fin 0 → Fin S4x2048x5632.rank)
  reducesTo_S4x2048x5632_S_d0_1_2 : S4x2048x5632.ReducesTo [0, 1, 2] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_arg4 : FVec F S4x2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4x2048x1024 .f32 := Host.absf main_arg4
  let main_cst_6 : FVec F S_ .f32 := constant S_ .f32 0x7F800000#32
  let main_v20 : FVec F S4x2048x1024 .f32 := broadcastInDim S4x2048x1024 ![] bcast_S_S4x2048x1024 main_cst_6
  let main_v21 : IVec S4x2048x1024 1 := cmpf .olt main_v19 main_v20
  let main_c_7 : IVec S_ 1 := constantI S_ 1 1#1
  let main_v22 : IVec S_ 1 := (fun x v => Host.reduce IntOp.andi x v reducesTo_S4x2048x1024_S_d0_1_2 h_S_) main_v21 main_c_7
  let main_v23 : IVec S_ 1 := andi main_v18 main_v22
  main_v23

def fn {F : FTy → Type} [FloatOps F] (main_arg0 : FVec F S4x2048x5632 .f32) (main_arg1 : FVec F S3x5632 .f32) (main_arg2 : FVec F S5632 .f32) (main_arg3 : FVec F S2816x1024 .f32) (main_arg4 : FVec F S4x2048x1024 .f32) : IVec S_ 1 :=
  let main_v0 : FVec F S4x2048x5632 .f32 := Host.absf main_arg0
  let main_cst : FVec F S_ .f32 := constant S_ .f32 0x7F800000#32
  let main_v1 : FVec F S4x2048x5632 .f32 := broadcastInDim S4x2048x5632 ![] bcast_S_S4x2048x5632 main_cst
  let main_v2 : IVec S4x2048x5632 1 := cmpf .olt main_v0 main_v1
  let main_c : IVec S_ 1 := constantI S_ 1 1#1
  let main_v3 : IVec S_ 1 := (fun x v => Host.reduce IntOp.andi x v reducesTo_S4x2048x5632_S_d0_1_2 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S5632 .f32 := Host.absf main_arg2
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S4x2x5632 : Shape := ⟨3, ![4, 2, 5632]⟩
abbrev S_ : Shape := ⟨0, ![]⟩
abbrev S4x2050x5632 : Shape := ⟨3, ![4, 2050, 5632]⟩
abbrev S1x5632 : Shape := ⟨2, ![1, 5632]⟩
abbrev S1x1x5632 : Shape := ⟨3, ![1, 1, 5632]⟩
abbrev S3x2x4x704 : Shape := ⟨4, ![3, 2, 4, 704]⟩
abbrev S2x4x3x704 : Shape := ⟨4, ![2, 4, 3, 704]⟩
abbrev S4x704x1024 : Shape := ⟨3, ![4, 704, 1024]⟩
abbrev S8192x1024 : Shape := ⟨2, ![8192, 1024]⟩
abbrev S8192x2x4x704 : Shape := ⟨4, ![8192, 2, 4, 704]⟩
abbrev S2x4x8192x704 : Shape := ⟨4, ![2, 4, 8192, 704]⟩
abbrev S2x4x8x704 : Shape := ⟨4, ![2, 4, 8, 704]⟩
abbrev S512x1024 : Shape := ⟨2, ![512, 1024]⟩
abbrev S8x1024 : Shape := ⟨2, ![8, 1024]⟩
abbrev S1x704x1024 : Shape := ⟨3, ![1, 704, 1024]⟩
abbrev S2x1x512x704 : Shape := ⟨4, ![2, 1, 512, 704]⟩
abbrev S2x1x8x704 : Shape := ⟨4, ![2, 1, 8, 704]⟩
abbrev S2x1x3x704 : Shape := ⟨4, ![2, 1, 3, 704]⟩
abbrev S520x1024 : Shape := ⟨2, ![520, 1024]⟩
abbrev S520x704 : Shape := ⟨2, ![520, 704]⟩
abbrev S2x512x704 : Shape := ⟨3, ![2, 512, 704]⟩
abbrev S704x1024 : Shape := ⟨2, ![704, 1024]⟩
abbrev S1x1x512x704 : Shape := ⟨4, ![1, 1, 512, 704]⟩
abbrev S512x704 : Shape := ⟨2, ![512, 704]⟩
abbrev S1x1x8x704 : Shape := ⟨4, ![1, 1, 8, 704]⟩
abbrev S8x704 : Shape := ⟨2, ![8, 704]⟩
abbrev S1x1x3x704 : Shape := ⟨4, ![1, 1, 3, 704]⟩
abbrev S3x704 : Shape := ⟨2, ![3, 704]⟩
abbrev S1x512x704 : Shape := ⟨3, ![1, 512, 704]⟩
abbrev S1x704 : Shape := ⟨2, ![1, 704]⟩
abbrev S1x1x1x704 : Shape := ⟨4, ![1, 1, 1, 704]⟩
abbrev S704 : Shape := ⟨1, ![704]⟩
abbrev S2x4x1x704 : Shape := ⟨4, ![2, 4, 1, 704]⟩
abbrev S2x4x704 : Shape := ⟨3, ![2, 4, 704]⟩

abbrev nBuf : Space → Nat
  | .hbm => 52
  | .vmem => 21
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4x2048x1024, .f32⟩
  | .hbm, ⟨5, _⟩ => ⟨S4x2x5632, .f32⟩
  | .hbm, ⟨6, _⟩ => ⟨S_, .f32⟩
  | .hbm, ⟨7, _⟩ => ⟨S4x2x5632, .f32⟩
  | .hbm, ⟨8, _⟩ => ⟨S4x2050x5632, .f32⟩
  | .hbm, ⟨9, _⟩ => ⟨S1x5632, .f32⟩
  | .hbm, ⟨10, _⟩ => ⟨S5632, .f32⟩
  | .hbm, ⟨11, _⟩ => ⟨S4x2048x5632, .f32⟩
  | .hbm, ⟨12, _⟩ => ⟨S1x1x5632, .f32⟩
  | .hbm, ⟨13, _⟩ => ⟨S4x2048x5632, .f32⟩
  | .hbm, ⟨14, _⟩ => ⟨S4x2048x5632, .f32⟩
  | .hbm, ⟨15, _⟩ => ⟨S1x5632, .f32⟩
  | .hbm, ⟨16, _⟩ => ⟨S5632, .f32⟩
  | .hbm, ⟨17, _⟩ => ⟨S4x2048x5632, .f32⟩
  | .hbm, ⟨18, _⟩ => ⟨S1x1x5632, .f32⟩
  | .hbm, ⟨19, _⟩ => ⟨S4x2048x5632, .f32⟩
  | .hbm, ⟨20, _⟩ => ⟨S4x2048x5632, .f32⟩
  | .hbm, ⟨21, _⟩ => ⟨S4x2048x5632, .f32⟩
  | .hbm, ⟨22, _⟩ => ⟨S1x5632, .f32⟩
  | .hbm, ⟨23, _⟩ => ⟨S5632, .f32⟩
  | .hbm, ⟨24, _⟩ => ⟨S4x2048x5632, .f32⟩
  | .hbm, ⟨25, _⟩ => ⟨S1x1x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S3x2x4x704, .f32⟩
  | .hbm, ⟨33, _⟩ => ⟨S2x4x3x704, .f32⟩
  | .hbm, ⟨34, _⟩ => ⟨S2816x1024, .bf16⟩
  | .hbm, ⟨35, _⟩ => ⟨S4x704x1024, .bf16⟩
  | .hbm, ⟨36, _⟩ => ⟨S8192x1024, .f32⟩
  | .hbm, ⟨37, _⟩ => ⟨S8192x2x4x704, .f32⟩
  | .hbm, ⟨38, _⟩ => ⟨S2x4x8192x704, .f32⟩
  | .hbm, ⟨39, _⟩ => ⟨S8192x2x4x704, .f32⟩
  | .hbm, ⟨40, _⟩ => ⟨S2x4x8192x704, .f32⟩
  | .hbm, ⟨41, _⟩ => ⟨S2x4x8192x704, .bf16⟩
  | .hbm, ⟨42, _⟩ => ⟨S2x4x8x704, .f32⟩
  | .hbm, ⟨43, _⟩ => ⟨S2x4x8192x704, .f32⟩
  | .hbm, ⟨44, _⟩ => ⟨S8192x2x4x704, .f32⟩
  | .hbm, ⟨45, _⟩ => ⟨S4x2048x5632, .f32⟩
  | .hbm, ⟨46, _⟩ => ⟨S2x4x3x704, .f32⟩
  | .hbm, ⟨47, _⟩ => ⟨S3x2x4x704, .f32⟩
  | .hbm, ⟨48, _⟩ => ⟨S3x5632, .f32⟩
  | .hbm, ⟨49, _⟩ => ⟨S2x4x1x704, .f32⟩
  | .hbm, ⟨50, _⟩ => ⟨S2x4x704, .f32⟩
  | .hbm, ⟨51, _⟩ => ⟨S5632, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S2x1x512x704, .f32⟩
  | .local _ .vmem, ⟨7, _⟩ => ⟨S2x1x512x704, .f32⟩
  | .local _ .vmem, ⟨8, _⟩ => ⟨S2x1x512x704, .f32⟩
  | .local _ .vmem, ⟨9, _⟩ => ⟨S2x1x512x704, .f32⟩
  | .local _ .vmem, ⟨10, _⟩ => ⟨S2x1x8x704, .f32⟩
  | .local _ .vmem, ⟨11, _⟩ => ⟨S2x1x8x704, .f32⟩
  | .local _ .vmem, ⟨12, _⟩ => ⟨S2x1x3x704, .f32⟩
  | .local _ .vmem, ⟨13, _⟩ => ⟨S2x1x3x704, .f32⟩
  | .local _ .vmem, ⟨14, _⟩ => ⟨S2x1x512x704, .bf16⟩
  | .local _ .vmem, ⟨15, _⟩ => ⟨S2x1x512x704, .bf16⟩
  | .local _ .vmem, ⟨16, _⟩ => ⟨S2x1x8x704, .f32⟩
  | .local _ .vmem, ⟨17, _⟩ => ⟨S2x1x8x704, .f32⟩
  | .local _ .vmem, ⟨18, _⟩ => ⟨S520x1024, .bf16⟩
  | .local _ .vmem, ⟨19, _⟩ => ⟨S520x704, .f32⟩
  | .local _ .vmem, ⟨20, _⟩ => ⟨S2x512x704, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35_0 : Ref sig .tc := ⟨.hbm, 41, rfl⟩
abbrev main_v35_1 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![c0_i32.toNat, arg0.toNat, v2.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x8x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x8x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S4x2x5632 : Shape := ⟨3, ![4, 2, 5632]⟩
abbrev S_ : Shape := ⟨0, ![]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩

abbrev nBuf : Space → Nat
  | .hbm => 113
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4x2048x1024, .f32⟩
  | .hbm, ⟨5, _⟩ => ⟨S4x2x5632, .f32⟩
  | .hbm, ⟨6, _⟩ => ⟨S_, .f32⟩
  | .hbm, ⟨7, _⟩ => ⟨S4x2x5632, .f32⟩
  | .hbm, ⟨8, _⟩ => ⟨S4x2050x5632, .f32⟩
  | .hbm, ⟨9, _⟩ => ⟨S_, .f32⟩
  | .hbm, ⟨10, _⟩ => ⟨S4x2x5632, .f32⟩
  | .hbm, ⟨11, _⟩ => ⟨S1x5632, .f32⟩
  | .hbm, ⟨12, _⟩ => ⟨S5632, .f32⟩
  | .hbm, ⟨13, _⟩ => ⟨S4x2048x5632, .f32⟩
  | .hbm, ⟨14, _⟩ => ⟨S1x1x5632, .f32⟩
  | .hbm, ⟨15, _⟩ => ⟨S4x2048x5632, .f32⟩
  | .hbm, ⟨16, _⟩ => ⟨S4x2048x5632, .f32⟩
  | .hbm, ⟨17, _⟩ => ⟨S1x5632, .f32⟩
  | .hbm, ⟨18, _⟩ => ⟨S5632, .f32⟩
  | .hbm, ⟨19, _⟩ => ⟨S4x2048x5632, .f32⟩
  | .hbm, ⟨20, _⟩ => ⟨S1x1x5632, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S1x5632, .f32⟩
  | .hbm, ⟨25, _⟩ => ⟨S5632, .f32⟩
  | .hbm, ⟨26, _⟩ => ⟨S4x2048x5632, .f32⟩
  | .hbm, ⟨27, _⟩ => ⟨S1x1x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S1x1x5632, .f32⟩
  | .hbm, ⟨32, _⟩ => ⟨S4x2048x5632, .f32⟩
  | .hbm, ⟨33, _⟩ => ⟨S4x2048x5632, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S_, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S_, .f32⟩
  | .hbm, ⟨44, _⟩ => ⟨S4x2048x2816, .f32⟩
  | .hbm, ⟨45, _⟩ => ⟨S4x2048x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S4x2048x1024, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S_, .f32⟩
  | .hbm, ⟨55, _⟩ => ⟨S4x2048x5632, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S_, .f32⟩
  | .hbm, ⟨61, _⟩ => ⟨S4x2048x5632, .f32⟩
  | .hbm, ⟨62, _⟩ => ⟨S4x2048x5632, .f32⟩
  | .hbm, ⟨63, _⟩ => ⟨S_, .f32⟩
  | .hbm, ⟨64, _⟩ => ⟨S5632, .f32⟩
  | .hbm, ⟨65, _⟩ => ⟨S1x1x5632, .f32⟩
  | .hbm, ⟨66, _⟩ => ⟨S_, .f32⟩
  | .hbm, ⟨67, _⟩ => ⟨S5632, .f32⟩
  | .hbm, ⟨68, _⟩ => ⟨S4x2048x5632, .f32⟩
  | .hbm, ⟨69, _⟩ => ⟨S4x2048x5632, .f32⟩
  | .hbm, ⟨70, _⟩ => ⟨S4x2048x5632, .f32⟩
  | .hbm, ⟨71, _⟩ => ⟨S_, .f32⟩
  | .hbm, ⟨72, _⟩ => ⟨S5632, .f32⟩
  | .hbm, ⟨73, _⟩ => ⟨S1x1x5632, .f32⟩
  | .hbm, ⟨74, _⟩ => ⟨S_, .f32⟩
  | .hbm, ⟨75, _⟩ => ⟨S5632, .f32⟩
  | .hbm, ⟨76, _⟩ => ⟨S_, .f32⟩
  | .hbm, ⟨77, _⟩ => ⟨S4x2050x5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S4x2048x5632, .f32⟩
  | .hbm, ⟨82, _⟩ => ⟨S4x2048x5632, .f32⟩
  | .hbm, ⟨83, _⟩ => ⟨S4x2048x5632, .f32⟩
  | .hbm, ⟨84, _⟩ => ⟨S_, .f32⟩
  | .hbm, ⟨85, _⟩ => ⟨S5632, .f32⟩
  | .hbm, ⟨86, _⟩ => ⟨S1x1x5632, .f32⟩
  | .hbm, ⟨87, _⟩ => ⟨S_, .f32⟩
  | .hbm, ⟨88, _⟩ => ⟨S5632, .f32⟩
  | .hbm, ⟨89, _⟩ => ⟨S_, .f32⟩
  | .hbm, ⟨90, _⟩ => ⟨S4x2050x5632, .f32⟩
  | .hbm, ⟨91, _⟩ => ⟨S4x2050x5632, .f32⟩
  | .hbm, ⟨92, _⟩ => ⟨S1x5632, .f32⟩
  | .hbm, ⟨93, _⟩ => ⟨S_, .f32⟩
  | .hbm, ⟨94, _⟩ => ⟨S3x5632, .f32⟩
  | .hbm, ⟨95, _⟩ => ⟨S3x5632, .f32⟩
  | .hbm, ⟨96, _⟩ => ⟨S4x2048x5632, .f32⟩
  | .hbm, ⟨97, _⟩ => ⟨S4x2048x5632, .f32⟩
  | .hbm, ⟨98, _⟩ => ⟨S4x2048x5632, .f32⟩
  | .hbm, ⟨99, _⟩ => ⟨S_, .f32⟩
  | .hbm, ⟨100, _⟩ => ⟨S5632, .f32⟩
  | .hbm, ⟨101, _⟩ => ⟨S1x1x5632, .f32⟩
  | .hbm, ⟨102, _⟩ => ⟨S_, .f32⟩
  | .hbm, ⟨103, _⟩ => ⟨S5632, .f32⟩
  | .hbm, ⟨104, _⟩ => ⟨S_, .f32⟩
  | .hbm, ⟨105, _⟩ => ⟨S4x2050x5632, .f32⟩
  | .hbm, ⟨106, _⟩ => ⟨S4x2050x5632, .f32⟩
  | .hbm, ⟨107, _⟩ => ⟨S1x5632, .f32⟩
  | .hbm, ⟨108, _⟩ => ⟨S_, .f32⟩
  | .hbm, ⟨109, _⟩ => ⟨S3x5632, .f32⟩
  | .hbm, ⟨110, _⟩ => ⟨S3x5632, .f32⟩
  | .hbm, ⟨111, _⟩ => ⟨S4x2x5632, .f32⟩
  | .hbm, ⟨112, _⟩ => ⟨S4x2048x5632, .f32⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v28_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v28_1 : Ref sig .tc := ⟨.hbm, 46, rfl⟩
abbrev main_v28_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_16 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩

abbrev nD : Nat := 1
abbrev τ : Topo := Topo.v7x

variable {F : FTy → Type} [FloatOps F]
-- ==== Kernel2.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S8192x2x4x704 : Shape := ⟨4, ![8192, 2, 4, 704]⟩
abbrev S2x4x8192x704 : Shape := ⟨4, ![2, 4, 8192, 704]⟩
abbrev S1024x2x4x704 : Shape := ⟨4, ![1024, 2, 4, 704]⟩
abbrev S2x4x1024x704 : Shape := ⟨4, ![2, 4, 1024, 704]⟩
abbrev S8192x1024 : Shape := ⟨2, ![8192, 1024]⟩
abbrev S1x1024 : Shape := ⟨2, ![1, 1024]⟩
abbrev S2x4x256x704 : Shape := ⟨4, ![2, 4, 256, 704]⟩
abbrev S256x1024 : Shape := ⟨2, ![256, 1024]⟩
abbrev S1x1x256x704 : Shape := ⟨4, ![1, 1, 256, 704]⟩
abbrev S256x704 : Shape := ⟨2, ![256, 704]⟩
abbrev S1x1x1024x704 : Shape := ⟨4, ![1, 1, 1024, 704]⟩
abbrev S1024x704 : Shape := ⟨2, ![1024, 704]⟩
abbrev S256 : Shape := ⟨1, ![256]⟩
abbrev S256x1 : Shape := ⟨2, ![256, 1]⟩

abbrev nBuf : Space → Nat
  | .hbm => 18
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x1024, .f32⟩
  | .hbm, ⟨4, _⟩ => ⟨S4x2048x5632, .f32⟩
  | .hbm, ⟨5, _⟩ => ⟨S4x2048x5632, .bf16⟩
  | .hbm, ⟨6, _⟩ => ⟨S8192x2x4x704, .bf16⟩
  | .hbm, ⟨7, _⟩ => ⟨S2x4x8192x704, .bf16⟩
  | .hbm, ⟨8, _⟩ => ⟨S1024x5632, .bf16⟩
  | .hbm, ⟨9, _⟩ => ⟨S1024x2x4x704, .bf16⟩
  | .hbm, ⟨10, _⟩ => ⟨S2x4x1024x704, .bf16⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S4x2048x1024, .f32⟩
  | .hbm, ⟨17, _⟩ => ⟨S1024, .f32⟩
  | .local _ .vmem, ⟨0, _⟩ => ⟨S2x4x256x704, .bf16⟩
  | .local _ .vmem, ⟨1, _⟩ => ⟨S2x4x256x704, .bf16⟩
  | .local _ .vmem, ⟨2, _⟩ => ⟨S2x4x1024x704, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x1024, .f32⟩
  | .hbm, ⟨4, _⟩ => ⟨S4x2048x5632, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x5632, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S_, .f32⟩
  | .hbm, ⟨47, _⟩ => ⟨S4x2048, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel3.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1x8192x1024 : Shape := ⟨3, ![1, 8192, 1024]⟩
abbrev S8192x2x4x704 : Shape := ⟨4, ![8192, 2, 4, 704]⟩
abbrev S2x4x8192x704 : Shape := ⟨4, ![2, 4, 8192, 704]⟩
abbrev S8x8192x704 : Shape := ⟨3, ![8, 8192, 704]⟩
abbrev S8x1x704x1024 : Shape := ⟨4, ![8, 1, 704, 1024]⟩
abbrev S4x1024x704 : Shape := ⟨3, ![4, 1024, 704]⟩
abbrev S1x1024x1024 : Shape := ⟨3, ![1, 1024, 1024]⟩
abbrev S4x1x704x1024 : Shape := ⟨4, ![4, 1, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S8x704x1024 : Shape := ⟨3, ![8, 704, 1024]⟩
abbrev S5632x1024 : Shape := ⟨2, ![5632, 1024]⟩

abbrev nBuf : Space → Nat
  | .hbm => 31
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x5632, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x1024, .bf16⟩
  | .hbm, ⟨21, _⟩ => ⟨S1x8192x1024, .bf16⟩
  | .hbm, ⟨22, _⟩ => ⟨S4x2048x5632, .bf16⟩
  | .hbm, ⟨23, _⟩ => ⟨S8192x2x4x704, .bf16⟩
  | .hbm, ⟨24, _⟩ => ⟨S2x4x8192x704, .bf16⟩
  | .hbm, ⟨25, _⟩ => ⟨S8x8192x704, .bf16⟩
  | .hbm, ⟨26, _⟩ => ⟨S8x1x704x1024, .bf16⟩
  | .hbm, ⟨27, _⟩ => ⟨S8x704x1024, .bf16⟩
  | .hbm, ⟨28, _⟩ => ⟨S8x704x1024, .f32⟩
  | .hbm, ⟨29, _⟩ => ⟨S5632x1024, .f32⟩
  | .hbm, ⟨30, _⟩ => ⟨S1024x5632, .f32⟩
  | .local _ .vmem, ⟨0, _⟩ => ⟨S4x1024x704, .bf16⟩
  | .local _ .vmem, ⟨1, _⟩ => ⟨S4x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S4x1x704x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 1, 8], ![false, false, false, false]⟩

def k0_cond2 (i : grid0.Coords) : BitVec 1 :=
  let arg3 : BitVec 32 := BitVec.ofNat 32 (i 3).val
  let c7_i32 : BitVec 32 := 7#32
  let v41 : BitVec 1 := Scalar.cmpi .eq arg3 c7_i32
  let v42 : BitVec 32 := Scalar.extui v41
  let c0_i32_47 : BitVec 32 := 0#32
  let v43 : BitVec 1 := Scalar.cmpi .ne v42 c0_i32_47
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg2.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S4x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S5632x1024 : Shape := ⟨2, ![5632, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x5632, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x5632, .f32⟩
  | .hbm, ⟨21, _⟩ => ⟨S5632x1024, .f32⟩
  | .hbm, ⟨22, _⟩ => ⟨S1024x5632, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S4x2x5632 : Shape := ⟨3, ![4, 2, 5632]⟩
abbrev S_ : Shape := ⟨0, ![]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩
abbrev S8192x4x704 : Shape := ⟨3, ![8192, 4, 704]⟩
abbrev S4x8192x704 : Shape := ⟨3, ![4, 8192, 704]⟩
abbrev S1x8192x1024 : Shape := ⟨3, ![1, 8192, 1024]⟩
abbrev S4x1x704x1024 : Shape := ⟨4, ![4, 1, 704, 1024]⟩
abbrev S4x1024x704 : Shape := ⟨3, ![4, 1024, 704]⟩
abbrev S1x1024x1024 : Shape := ⟨3, ![1, 1024, 1024]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S4x704x1024 : Shape := ⟨3, ![4, 704, 1024]⟩

abbrev nBuf : Space → Nat
  | .hbm => 52
  | .vmem => 6
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4x2048x1024, .f32⟩
  | .hbm, ⟨5, _⟩ => ⟨S4x2x5632, .f32⟩
  | .hbm, ⟨6, _⟩ => ⟨S_, .f32⟩
  | .hbm, ⟨7, _⟩ => ⟨S4x2x5632, .f32⟩
  | .hbm, ⟨8, _⟩ => ⟨S4x2050x5632, .f32⟩
  | .hbm, ⟨9, _⟩ => ⟨S1x5632, .f32⟩
  | .hbm, ⟨10, _⟩ => ⟨S5632, .f32⟩
  | .hbm, ⟨11, _⟩ => ⟨S4x2048x5632, .f32⟩
  | .hbm, ⟨12, _⟩ => ⟨S1x1x5632, .f32⟩
  | .hbm, ⟨13, _⟩ => ⟨S4x2048x5632, .f32⟩
  | .hbm, ⟨14, _⟩ => ⟨S4x2048x5632, .f32⟩
  | .hbm, ⟨15, _⟩ => ⟨S1x5632, .f32⟩
  | .hbm, ⟨16, _⟩ => ⟨S5632, .f32⟩
  | .hbm, ⟨17, _⟩ => ⟨S4x2048x5632, .f32⟩
  | .hbm, ⟨18, _⟩ => ⟨S1x1x5632, .f32⟩
  | .hbm, ⟨19, _⟩ => ⟨S4x2048x5632, .f32⟩
  | .hbm, ⟨20, _⟩ => ⟨S4x2048x5632, .f32⟩
  | .hbm, ⟨21, _⟩ => ⟨S4x2048x5632, .f32⟩
  | .hbm, ⟨22, _⟩ => ⟨S1x5632, .f32⟩
  | .hbm, ⟨23, _⟩ => ⟨S5632, .f32⟩
  | .hbm, ⟨24, _⟩ => ⟨S4x2048x5632, .f32⟩
  | .hbm, ⟨25, _⟩ => ⟨S1x1x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S_, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S4x2048x2816, .f32⟩
  | .hbm, ⟨42, _⟩ => ⟨S4x2048x2816, .f32⟩
  | .hbm, ⟨43, _⟩ => ⟨S4x2048x2816, .f32⟩
  | .hbm, ⟨44, _⟩ => ⟨S4x2048x2816, .bf16⟩
  | .hbm, ⟨45, _⟩ => ⟨S8192x4x704, .bf16⟩
  | .hbm, ⟨46, _⟩ => ⟨S4x8192x704, .bf16⟩
  | .hbm, ⟨47, _⟩ => ⟨S1x8192x1024, .f32⟩
  | .hbm, ⟨48, _⟩ => ⟨S4x1x704x1024, .bf16⟩
  | .hbm, ⟨49, _⟩ => ⟨S4x704x1024, .bf16⟩
  | .hbm, ⟨50, _⟩ => ⟨S4x704x1024, .f32⟩
  | .hbm, ⟨51, _⟩ => ⟨S2816x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1x1024x1024, .f32⟩
  | .local _ .vmem, ⟨3, _⟩ => ⟨S1x1024x1024, .f32⟩
  | .local _ .vmem, ⟨4, _⟩ => ⟨S4x1x704x1024, .bf16⟩
  | .local _ .vmem, ⟨5, _⟩ => ⟨S4x1x704x1024, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond2 (i : grid0.Coords) : BitVec 1 :=
  let arg3 : BitVec 32 := BitVec.ofNat 32 (i 3).val
  let c7_i32 : BitVec 32 := 7#32
  let v42 : BitVec 1 := Scalar.cmpi .eq arg3 c7_i32
  let v43 : BitVec 32 := Scalar.extui v42
  let c0_i32_47 : BitVec 32 := 0#32
  let v44 : BitVec 1 := Scalar.cmpi .ne v43 c0_i32_47
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg2.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference4Ideal.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S4x2x5632 : Shape := ⟨3, ![4, 2, 5632]⟩
abbrev S_ : Shape := ⟨0, ![]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩
abbrev S1024x2816 : Shape := ⟨2, ![1024, 2816]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4x2048x1024, .f32⟩
  | .hbm, ⟨5, _⟩ => ⟨S4x2x5632, .f32⟩
  | .hbm, ⟨6, _⟩ => ⟨S_, .f32⟩
  | .hbm, ⟨7, _⟩ => ⟨S4x2x5632, .f32⟩
  | .hbm, ⟨8, _⟩ => ⟨S4x2050x5632, .f32⟩
  | .hbm, ⟨9, _⟩ => ⟨S1x5632, .f32⟩
  | .hbm, ⟨10, _⟩ => ⟨S5632, .f32⟩
  | .hbm, ⟨11, _⟩ => ⟨S4x2048x5632, .f32⟩
  | .hbm, ⟨12, _⟩ => ⟨S1x1x5632, .f32⟩
  | .hbm, ⟨13, _⟩ => ⟨S4x2048x5632, .f32⟩
  | .hbm, ⟨14, _⟩ => ⟨S4x2048x5632, .f32⟩
  | .hbm, ⟨15, _⟩ => ⟨S1x5632, .f32⟩
  | .hbm, ⟨16, _⟩ => ⟨S5632, .f32⟩
  | .hbm, ⟨17, _⟩ => ⟨S4x2048x5632, .f32⟩
  | .hbm, ⟨18, _⟩ => ⟨S1x1x5632, .f32⟩
  | .hbm, ⟨19, _⟩ => ⟨S4x2048x5632, .f32⟩
  | .hbm, ⟨20, _⟩ => ⟨S4x2048x5632, .f32⟩
  | .hbm, ⟨21, _⟩ => ⟨S4x2048x5632, .f32⟩
  | .hbm, ⟨22, _⟩ => ⟨S1x5632, .f32⟩
  | .hbm, ⟨23, _⟩ => ⟨S5632, .f32⟩
  | .hbm, ⟨24, _⟩ => ⟨S4x2048x5632, .f32⟩
  | .hbm, ⟨25, _⟩ => ⟨S1x1x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S_, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S4x2048x2816, .f32⟩
  | .hbm, ⟨42, _⟩ => ⟨S4x2048x2816, .f32⟩
  | .hbm, ⟨43, _⟩ => ⟨S4x2048x2816, .f32⟩
  | .hbm, ⟨44, _⟩ => ⟨S4x2048x1024, .f32⟩
  | .hbm, ⟨45, _⟩ => ⟨S1024x2816, .f32⟩
  | .hbm, ⟨46, _⟩ => ⟨S2816x1024, .f32⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel5.lean ====
abbrev S4x2048x1024 : Shape := ⟨3, ![4, 2048, 1024]⟩
abbrev S1024 : Shape := ⟨1, ![1024]⟩
abbrev S1024x2822 : Shape := ⟨2, ![1024, 2822]⟩
abbrev S4x2048x2822 : Shape := ⟨3, ![4, 2048, 2822]⟩
abbrev S8192x2822 : Shape := ⟨2, ![8192, 2822]⟩
abbrev S_ : Shape := ⟨0, ![]⟩
abbrev S8192x250 : Shape := ⟨2, ![8192, 250]⟩
abbrev S8192x1152 : Shape := ⟨2, ![8192, 1152]⟩
abbrev S8192x1664 : Shape := ⟨2, ![8192, 1664]⟩
abbrev S8192x6 : Shape := ⟨2, ![8192, 6]⟩
abbrev S8192x3072 : Shape := ⟨2, ![8192, 3072]⟩
abbrev S1024x250 : Shape := ⟨2, ![1024, 250]⟩
abbrev S1024x1152 : Shape := ⟨2, ![1024, 1152]⟩
abbrev S1024x1664 : Shape := ⟨2, ![1024, 1664]⟩
abbrev S1024x6 : Shape := ⟨2, ![1024, 6]⟩
abbrev S1024x3072 : Shape := ⟨2, ![1024, 3072]⟩
abbrev S8192x1024 : Shape := ⟨2, ![8192, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 27
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2822, .f32⟩
  | .hbm, ⟨3, _⟩ => ⟨S4x2048x1024, .f32⟩
  | .hbm, ⟨4, _⟩ => ⟨S4x2048x2822, .f32⟩
  | .hbm, ⟨5, _⟩ => ⟨S8192x2822, .f32⟩
  | .hbm, ⟨6, _⟩ => ⟨S_, .f32⟩
  | .hbm, ⟨7, _⟩ => ⟨S8192x250, .f32⟩
  | .hbm, ⟨8, _⟩ => ⟨S8192x1152, .f32⟩
  | .hbm, ⟨9, _⟩ => ⟨S8192x1664, .f32⟩
  | .hbm, ⟨10, _⟩ => ⟨S8192x6, .f32⟩
  | .hbm, ⟨11, _⟩ => ⟨S8192x3072, .f32⟩
  | .hbm, ⟨12, _⟩ => ⟨S8192x3072, .bf16⟩
  | .hbm, ⟨13, _⟩ => ⟨S_, .f32⟩
  | .hbm, ⟨14, _⟩ => ⟨S1024x250, .f32⟩
  | .hbm, ⟨15, _⟩ => ⟨S1024x1152, .f32⟩
  | .hbm, ⟨16, _⟩ => ⟨S1024x1664, .f32⟩
  | .hbm, ⟨17, _⟩ => ⟨S1024x6, .f32⟩
  | .hbm, ⟨18, _⟩ => ⟨S1024x3072, .f32⟩
  | .hbm, ⟨19, _⟩ => ⟨S1024x3072, .bf16⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S4x2048x1024, .f32⟩
  | .hbm, ⟨26, _⟩ => ⟨S1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4x2048x1024 : Shape := ⟨3, ![4, 2048, 1024]⟩
abbrev S1024 : Shape := ⟨1, ![1024]⟩
abbrev S1024x2822 : Shape := ⟨2, ![1024, 2822]⟩
abbrev S4x2048x2822 : Shape := ⟨3, ![4, 2048, 2822]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2822, .f32⟩
  | .hbm, ⟨3, _⟩ => ⟨S4x2048x1024, .f32⟩
  | .hbm, ⟨4, _⟩ => ⟨S4x2048x2822, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x2822, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S_, .f32⟩
  | .hbm, ⟨47, _⟩ => ⟨S4x2048, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel6.lean ====
abbrev S4x2048x1024 : Shape := ⟨3, ![4, 2048, 1024]⟩
abbrev S1024 : Shape := ⟨1, ![1024]⟩
abbrev S1024x2822 : Shape := ⟨2, ![1024, 2822]⟩
abbrev S4x2048x2822 : Shape := ⟨3, ![4, 2048, 2822]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1x8192x1024 : Shape := ⟨3, ![1, 8192, 1024]⟩
abbrev S8192x2822 : Shape := ⟨2, ![8192, 2822]⟩
abbrev S8192x250 : Shape := ⟨2, ![8192, 250]⟩
abbrev S8192x1152 : Shape := ⟨2, ![8192, 1152]⟩
abbrev S8192x1664 : Shape := ⟨2, ![8192, 1664]⟩
abbrev S8192x6 : Shape := ⟨2, ![8192, 6]⟩
abbrev S8192x3072 : Shape := ⟨2, ![8192, 3072]⟩
abbrev S1x8192x3072 : Shape := ⟨3, ![1, 8192, 3072]⟩
abbrev S1x1x1024x3072 : Shape := ⟨4, ![1, 1, 1024, 3072]⟩
abbrev S1x1024x1024 : Shape := ⟨3, ![1, 1024, 1024]⟩
abbrev S1x1024x3072 : Shape := ⟨3, ![1, 1024, 3072]⟩
abbrev S1024x3072 : Shape := ⟨2, ![1024, 3072]⟩
abbrev S1024x1024 : Shape := ⟨2, ![1024, 1024]⟩
abbrev S1024x1152 : Shape := ⟨2, ![1024, 1152]⟩
abbrev S1024x6 : Shape := ⟨2, ![1024, 6]⟩
abbrev S1024x1664 : Shape := ⟨2, ![1024, 1664]⟩

abbrev nBuf : Space → Nat
  | .hbm => 38
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2822, .f32⟩
  | .hbm, ⟨3, _⟩ => ⟨S4x2048x2822, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x1024, .bf16⟩
  | .hbm, ⟨21, _⟩ => ⟨S1x8192x1024, .bf16⟩
  | .hbm, ⟨22, _⟩ => ⟨S8192x2822, .f32⟩
  | .hbm, ⟨23, _⟩ => ⟨S_, .f32⟩
  | .hbm, ⟨24, _⟩ => ⟨S8192x250, .f32⟩
  | .hbm, ⟨25, _⟩ => ⟨S8192x1152, .f32⟩
  | .hbm, ⟨26, _⟩ => ⟨S8192x1664, .f32⟩
  | .hbm, ⟨27, _⟩ => ⟨S8192x6, .f32⟩
  | .hbm, ⟨28, _⟩ => ⟨S8192x3072, .f32⟩
  | .hbm, ⟨29, _⟩ => ⟨S8192x3072, .bf16⟩
  | .hbm, ⟨30, _⟩ => ⟨S1x8192x3072, .bf16⟩
  | .hbm, ⟨31, _⟩ => ⟨S1x1x1024x3072, .bf16⟩
  | .hbm, ⟨32, _⟩ => ⟨S1024x3072, .bf16⟩
  | .hbm, ⟨33, _⟩ => ⟨S1024x3072, .f32⟩
  | .hbm, ⟨34, _⟩ => ⟨S1024x1152, .f32⟩
  | .hbm, ⟨35, _⟩ => ⟨S1024x6, .f32⟩
  | .hbm, ⟨36, _⟩ => ⟨S1024x1664, .f32⟩
  | .hbm, ⟨37, _⟩ => ⟨S1024x2822, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x3072, .bf16⟩
  | .local _ .vmem, ⟨3, _⟩ => ⟨S1x1024x3072, .bf16⟩
  | .local _ .vmem, ⟨4, _⟩ => ⟨S1x1x1024x3072, .bf16⟩
  | .local _ .vmem, ⟨5, _⟩ => ⟨S1x1x1024x3072, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond2 (i : grid0.Coords) : BitVec 1 :=
  let arg3 : BitVec 32 := BitVec.ofNat 32 (i 3).val
  let c7_i32 : BitVec 32 := 7#32
  let v14 : BitVec 1 := Scalar.cmpi .eq arg3 c7_i32
  let v15 : BitVec 32 := Scalar.extui v14
  let c0_i32_14 : BitVec 32 := 0#32
  let v16 : BitVec 1 := Scalar.cmpi .ne v15 c0_i32_14
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 1 → Memref sig .tc .vmem S1x1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference6Ideal.lean ====
abbrev S4x2048x1024 : Shape := ⟨3, ![4, 2048, 1024]⟩
abbrev S1024 : Shape := ⟨1, ![1024]⟩
abbrev S1024x2822 : Shape := ⟨2, ![1024, 2822]⟩
abbrev S4x2048x2822 : Shape := ⟨3, ![4, 2048, 2822]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S2822x1024 : Shape := ⟨2, ![2822, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2822, .f32⟩
  | .hbm, ⟨3, _⟩ => ⟨S4x2048x2822, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x2822, .f32⟩
  | .hbm, ⟨21, _⟩ => ⟨S2822x1024, .f32⟩
  | .hbm, ⟨22, _⟩ => ⟨S1024x2822, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1024x2x4x704 : Shape := ⟨4, ![1024, 2, 4, 704]⟩
abbrev S2x4x1024x704 : Shape := ⟨4, ![2, 4, 1024, 704]⟩
abbrev S3x2x4x704 : Shape := ⟨4, ![3, 2, 4, 704]⟩
abbrev S2x4x3x704 : Shape := ⟨4, ![2, 4, 3, 704]⟩
abbrev S2x4x1x704 : Shape := ⟨4, ![2, 4, 1, 704]⟩
abbrev S2x4x8192x704 : Shape := ⟨4, ![2, 4, 8192, 704]⟩
abbrev S4x8192x704 : Shape := ⟨3, ![4, 8192, 704]⟩
abbrev S512x1024 : Shape := ⟨2, ![512, 1024]⟩
abbrev S8x1024 : Shape := ⟨2, ![8, 1024]⟩
abbrev S2x1x1024x704 : Shape := ⟨4, ![2, 1, 1024, 704]⟩
abbrev S2x1x3x704 : Shape := ⟨4, ![2, 1, 3, 704]⟩
abbrev S2x1x1x704 : Shape := ⟨4, ![2, 1, 1, 704]⟩
abbrev S2x1x512x704 : Shape := ⟨4, ![2, 1, 512, 704]⟩
abbrev S1x512x704 : Shape := ⟨3, ![1, 512, 704]⟩
abbrev S2x520x704 : Shape := ⟨3, ![2, 520, 704]⟩
abbrev S520x1024 : Shape := ⟨2, ![520, 1024]⟩
abbrev S1x1x1024x704 : Shape := ⟨4, ![1, 1, 1024, 704]⟩
abbrev S1024x704 : Shape := ⟨2, ![1024, 704]⟩
abbrev S520x704 : Shape := ⟨2, ![520, 704]⟩
abbrev S512x704 : Shape := ⟨2, ![512, 704]⟩
abbrev S1x1x512x704 : Shape := ⟨4, ![1, 1, 512, 704]⟩
abbrev S8x704 : Shape := ⟨2, ![8, 704]⟩
abbrev S1x8x704 : Shape := ⟨3, ![1, 8, 704]⟩
abbrev S1x1x3x704 : Shape := ⟨4, ![1, 1, 3, 704]⟩
abbrev S3x704 : Shape := ⟨2, ![3, 704]⟩
abbrev S1x1x1x704 : Shape := ⟨4, ![1, 1, 1, 704]⟩
abbrev S1x704 : Shape := ⟨2, ![1, 704]⟩
abbrev S8192x2x4x704 : Shape := ⟨4, ![8192, 2, 4, 704]⟩
abbrev S4x2048x5632 : Shape := ⟨3, ![4, 2048, 5632]⟩
abbrev S8192x4x704 : Shape := ⟨3, ![8192, 4, 704]⟩
abbrev S4x2048x2816 : Shape := ⟨3, ![4, 2048, 2816]⟩

abbrev nBuf : Space → Nat
  | .hbm => 39
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .bf16⟩
  | .hbm, ⟨22, _⟩ => ⟨S8192x1024, .bf16⟩
  | .hbm, ⟨23, _⟩ => ⟨S1024x5632, .bf16⟩
  | .hbm, ⟨24, _⟩ => ⟨S1024x2x4x704, .bf16⟩
  | .hbm, ⟨25, _⟩ => ⟨S2x4x1024x704, .bf16⟩
  | .hbm, ⟨26, _⟩ => ⟨S3x2x4x704, .f32⟩
  | .hbm, ⟨27, _⟩ => ⟨S2x4x3x704, .f32⟩
  | .hbm, ⟨28, _⟩ => ⟨S2x4x1x704, .f32⟩
  | .hbm, ⟨29, _⟩ => ⟨S2x4x8192x704, .f32⟩
  | .hbm, ⟨30, _⟩ => ⟨S2x4x8192x704, .f32⟩
  | .hbm, ⟨31, _⟩ => ⟨S4x8192x704, .bf16⟩
  | .hbm, ⟨32, _⟩ => ⟨S8192x2x4x704, .f32⟩
  | .hbm, ⟨33, _⟩ => ⟨S4x2048x5632, .f32⟩
  | .hbm, ⟨34, _⟩ => ⟨S8192x2x4x704, .f32⟩
  | .hbm, ⟨35, _⟩ => ⟨S4x2048x5632, .f32⟩
  | .hbm, ⟨36, _⟩ => ⟨S4x8192x704, .f32⟩
  | .hbm, ⟨37, _⟩ => ⟨S8192x4x704, .f32⟩
  | .hbm, ⟨38, _⟩ => ⟨S4x2048x2816, .f32⟩
  | .local _ .vmem, ⟨0, _⟩ => ⟨S512x1024, .bf16⟩
  | .local _ .vmem, ⟨1, _⟩ => ⟨S512x1024, .bf16⟩
  | .local _ .vmem, ⟨2, _⟩ => ⟨S8x1024, .bf16⟩
  | .local _ .vmem, ⟨3, _⟩ => ⟨S8x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x3x704, .f32⟩
  | .local _ .vmem, ⟨7, _⟩ => ⟨S2x1x3x704, .f32⟩
  | .local _ .vmem, ⟨8, _⟩ => ⟨S2x1x1x704, .f32⟩
  | .local _ .vmem, ⟨9, _⟩ => ⟨S2x1x1x704, .f32⟩
  | .local _ .vmem, ⟨10, _⟩ => ⟨S2x1x512x704, .f32⟩
  | .local _ .vmem, ⟨11, _⟩ => ⟨S2x1x512x704, .f32⟩
  | .local _ .vmem, ⟨12, _⟩ => ⟨S2x1x512x704, .f32⟩
  | .local _ .vmem, ⟨13, _⟩ => ⟨S2x1x512x704, .f32⟩
  | .local _ .vmem, ⟨14, _⟩ => ⟨S1x512x704, .bf16⟩
  | .local _ .vmem, ⟨15, _⟩ => ⟨S1x512x704, .bf16⟩
  | .local _ .vmem, ⟨16, _⟩ => ⟨S2x520x704, .f32⟩
  | .local _ .vmem, ⟨17, _⟩ => ⟨S520x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x5632, .f32⟩
  | .hbm, ⟨22, _⟩ => ⟨S4x2x5632, .f32⟩
  | .hbm, ⟨23, _⟩ => ⟨S_, .f32⟩
  | .hbm, ⟨24, _⟩ => ⟨S4x2x5632, .f32⟩
  | .hbm, ⟨25, _⟩ => ⟨S4x2050x5632, .f32⟩
  | .hbm, ⟨26, _⟩ => ⟨S1x5632, .f32⟩
  | .hbm, ⟨27, _⟩ => ⟨S5632, .f32⟩
  | .hbm, ⟨28, _⟩ => ⟨S4x2048x5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S1x5632, .f32⟩
  | .hbm, ⟨33, _⟩ => ⟨S5632, .f32⟩
  | .hbm, ⟨34, _⟩ => ⟨S4x2048x5632, .f32⟩
  | .hbm, ⟨35, _⟩ => ⟨S1x1x5632, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S1x5632, .f32⟩
  | .hbm, ⟨40, _⟩ => ⟨S5632, .f32⟩
  | .hbm, ⟨41, _⟩ => ⟨S4x2048x5632, .f32⟩
  | .hbm, ⟨42, _⟩ => ⟨S1x1x5632, .f32⟩
  | .hbm, ⟨43, _⟩ => ⟨S4x2048x5632, .f32⟩
  | .hbm, ⟨44, _⟩ => ⟨S4x2048x5632, .f32⟩
  | .hbm, ⟨45, _⟩ => ⟨S4x2048x5632, .f32⟩
  | .hbm, ⟨46, _⟩ => ⟨S1x1x5632, .f32⟩
  | .hbm, ⟨47, _⟩ => ⟨S4x2048x5632, .f32⟩
  | .hbm, ⟨48, _⟩ => ⟨S4x2048x5632, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S_, .f32⟩
  | .hbm, ⟨53, _⟩ => ⟨S4x2048x2816, .f32⟩
  | .hbm, ⟨54, _⟩ => ⟨S4x2048x2816, .f32⟩
  | .hbm, ⟨55, _⟩ => ⟨S_, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S4x2048x2816, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel8.lean ====
abbrev S4x2048x1024 : Shape := ⟨3, ![4, 2048, 1024]⟩
abbrev S1024x1024 : Shape := ⟨2, ![1024, 1024]⟩
abbrev S1x8192x1024 : Shape := ⟨3, ![1, 8192, 1024]⟩
abbrev S1x1x1024x1024 : Shape := ⟨4, ![1, 1, 1024, 1024]⟩
abbrev S1x1024x1024 : Shape := ⟨3, ![1, 1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x1024, .bf16⟩
  | .hbm, ⟨4, _⟩ => ⟨S1x8192x1024, .bf16⟩
  | .hbm, ⟨5, _⟩ => ⟨S1x8192x1024, .f32⟩
  | .hbm, ⟨6, _⟩ => ⟨S1x1x1024x1024, .bf16⟩
  | .hbm, ⟨7, _⟩ => ⟨S1024x1024, .bf16⟩
  | .hbm, ⟨8, _⟩ => ⟨S1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1x1024x1024, .bf16⟩
  | .local _ .vmem, ⟨5, _⟩ => ⟨S1x1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond2 (i : grid0.Coords) : BitVec 1 :=
  let arg3 : BitVec 32 := BitVec.ofNat 32 (i 3).val
  let c7_i32 : BitVec 32 := 7#32
  let v15 : BitVec 1 := Scalar.cmpi .eq arg3 c7_i32
  let v16 : BitVec 32 := Scalar.extui v15
  let c0_i32_14 : BitVec 32 := 0#32
  let v17 : BitVec 1 := Scalar.cmpi .ne v16 c0_i32_14
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 1 → Memref sig .tc .vmem S1x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference8Ideal.lean ====
abbrev S4x2048x1024 : Shape := ⟨3, ![4, 2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x1024, .f32⟩
  | .hbm, ⟨4, _⟩ => ⟨S1024x1024, .f32⟩
  | .hbm, ⟨5, _⟩ => ⟨S1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S8192x1024, .f32⟩
  | .hbm, ⟨4, _⟩ => ⟨S1024x1024, .bf16⟩
  | .hbm, ⟨5, _⟩ => ⟨S8192x1024, .f32⟩
  | .hbm, ⟨6, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4x2048x1024 : Shape := ⟨3, ![4, 2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S4x2048x1024 : Shape := ⟨3, ![4, 2048, 1024]⟩
abbrev S1024 : Shape := ⟨1, ![1024]⟩
abbrev S1024x2822 : Shape := ⟨2, ![1024, 2822]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1024x250 : Shape := ⟨2, ![1024, 250]⟩
abbrev S1024x1152 : Shape := ⟨2, ![1024, 1152]⟩
abbrev S1024x1664 : Shape := ⟨2, ![1024, 1664]⟩
abbrev S1024x6 : Shape := ⟨2, ![1024, 6]⟩
abbrev S1024x3072 : Shape := ⟨2, ![1024, 3072]⟩
abbrev S8192x2304 : Shape := ⟨2, ![8192, 2304]⟩
abbrev S8192x768 : Shape := ⟨2, ![8192, 768]⟩
abbrev S512x1024 : Shape := ⟨2, ![512, 1024]⟩
abbrev S512x2304 : Shape := ⟨2, ![512, 2304]⟩
abbrev S512x768 : Shape := ⟨2, ![512, 768]⟩
abbrev S1024x2304 : Shape := ⟨2, ![1024, 2304]⟩
abbrev S1024x768 : Shape := ⟨2, ![1024, 768]⟩
abbrev S8192x3072 : Shape := ⟨2, ![8192, 3072]⟩
abbrev S8192x1152 : Shape := ⟨2, ![8192, 1152]⟩
abbrev S8192x6 : Shape := ⟨2, ![8192, 6]⟩
abbrev S8192x1664 : Shape := ⟨2, ![8192, 1664]⟩
abbrev S8192x2822 : Shape := ⟨2, ![8192, 2822]⟩
abbrev S4x2048x2822 : Shape := ⟨3, ![4, 2048, 2822]⟩

abbrev nBuf : Space → Nat
  | .hbm => 37
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2822, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x1024, .bf16⟩
  | .hbm, ⟨20, _⟩ => ⟨S8192x1024, .bf16⟩
  | .hbm, ⟨21, _⟩ => ⟨S1024x2822, .bf16⟩
  | .hbm, ⟨22, _⟩ => ⟨S_, .bf16⟩
  | .hbm, ⟨23, _⟩ => ⟨S1024x250, .bf16⟩
  | .hbm, ⟨24, _⟩ => ⟨S1024x1152, .bf16⟩
  | .hbm, ⟨25, _⟩ => ⟨S1024x1664, .bf16⟩
  | .hbm, ⟨26, _⟩ => ⟨S1024x6, .bf16⟩
  | .hbm, ⟨27, _⟩ => ⟨S1024x3072, .bf16⟩
  | .hbm, ⟨28, _⟩ => ⟨S8192x2304, .bf16⟩
  | .hbm, ⟨29, _⟩ => ⟨S8192x768, .f32⟩
  | .hbm, ⟨30, _⟩ => ⟨S8192x2304, .f32⟩
  | .hbm, ⟨31, _⟩ => ⟨S8192x3072, .f32⟩
  | .hbm, ⟨32, _⟩ => ⟨S8192x1152, .f32⟩
  | .hbm, ⟨33, _⟩ => ⟨S8192x6, .f32⟩
  | .hbm, ⟨34, _⟩ => ⟨S8192x1664, .f32⟩
  | .hbm, ⟨35, _⟩ => ⟨S8192x2822, .f32⟩
  | .hbm, ⟨36, _⟩ => ⟨S4x2048x2822, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x2304, .bf16⟩
  | .local _ .vmem, ⟨4, _⟩ => ⟨S512x2304, .bf16⟩
  | .local _ .vmem, ⟨5, _⟩ => ⟨S512x768, .f32⟩
  | .local _ .vmem, ⟨6, _⟩ => ⟨S512x768, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S4x2048x1024 : Shape := ⟨3, ![4, 2048, 1024]⟩
abbrev S1024 : Shape := ⟨1, ![1024]⟩
abbrev S1024x2822 : Shape := ⟨2, ![1024, 2822]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2822 : Shape := ⟨3, ![4, 2048, 2822]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2822, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2822, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel11.lean ====
abbrev S4x2048x1024 : Shape := ⟨3, ![4, 2048, 1024]⟩
abbrev S1024x1024 : Shape := ⟨2, ![1024, 1024]⟩
abbrev S1024 : Shape := ⟨1, ![1024]⟩
abbrev S1x8192x1024 : Shape := ⟨3, ![1, 8192, 1024]⟩
abbrev S1x1024x1024 : Shape := ⟨3, ![1, 1024, 1024]⟩
abbrev S8192x1024 : Shape := ⟨2, ![8192, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S1024, .f32⟩
  | .hbm, ⟨4, _⟩ => ⟨S4x2048x1024, .bf16⟩
  | .hbm, ⟨5, _⟩ => ⟨S1x8192x1024, .bf16⟩
  | .hbm, ⟨6, _⟩ => ⟨S1024x1024, .bf16⟩
  | .hbm, ⟨7, _⟩ => ⟨S1x1024x1024, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S4x2048x1024, .f32⟩
  | .hbm, ⟨13, _⟩ => ⟨S8192x1024, .f32⟩
  | .hbm, ⟨14, _⟩ => ⟨S4x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel12.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S1024, .f32⟩
  | .hbm, ⟨4, _⟩ => ⟨S4x2048x2816, .bf16⟩
  | .hbm, ⟨5, _⟩ => ⟨S8192x4x704, .bf16⟩
  | .hbm, ⟨6, _⟩ => ⟨S4x8192x704, .bf16⟩
  | .hbm, ⟨7, _⟩ => ⟨S2816x1024, .bf16⟩
  | .hbm, ⟨8, _⟩ => ⟨S4x704x1024, .bf16⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S4x2048x1024, .f32⟩
  | .hbm, ⟨14, _⟩ => ⟨S8192x1024, .f32⟩
  | .hbm, ⟨15, _⟩ => ⟨S4x2048x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel13.lean ====
abbrev S4x2048x1024 : Shape := ⟨3, ![4, 2048, 1024]⟩
abbrev S1024 : Shape := ⟨1, ![1024]⟩
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x128, .f32⟩
  | .hbm, ⟨8, _⟩ => ⟨S1x1024, .f32⟩
  | .hbm, ⟨9, _⟩ => ⟨S1x1, .f32⟩
  | .hbm, ⟨10, _⟩ => ⟨S1, .f32⟩
  | .hbm, ⟨11, _⟩ => ⟨S_, .f32⟩
  | .hbm, ⟨12, _⟩ => ⟨S4x2048x1024, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x2048, .f32⟩
  | .hbm, ⟨41, _⟩ => ⟨S_, .f32⟩
  | .hbm, ⟨42, _⟩ => ⟨S4x2048, .f32⟩
  | .hbm, ⟨43, _⟩ => ⟨S4x2048, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel14.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S1408x1024 : Shape := ⟨2, ![1408, 1024]⟩
abbrev S8x64x1024 : Shape := ⟨3, ![8, 64, 1024]⟩
abbrev S64x1024 : Shape := ⟨2, ![64, 1024]⟩
abbrev S1x64x1024 : Shape := ⟨3, ![1, 64, 1024]⟩
abbrev S1x1024x704 : Shape := ⟨3, ![1, 1024, 704]⟩
abbrev S1024x704 : Shape := ⟨2, ![1024, 704]⟩

abbrev nBuf : Space → Nat
  | .hbm => 31
  | .vmem => 16
  | .smem => 0
  | _ => 0

abbrev bufTy : (tb : Table) → Fin (tcTables nBuf tb) → BufTy
  | .hbm, ⟨0, _⟩ => ⟨S8x704x1024, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S8x704x1024, .bf16⟩
  | .hbm, ⟨5, _⟩ => ⟨S2x704x1024, .f32⟩
  | .hbm, ⟨6, _⟩ => ⟨S1408x1024, .f32⟩
  | .hbm, ⟨7, _⟩ => ⟨S2x704x1024, .f32⟩
  | .hbm, ⟨8, _⟩ => ⟨S1408x1024, .f32⟩
  | .hbm, ⟨9, _⟩ => ⟨S2x704x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S2x704x1024, .f32⟩
  | .hbm, ⟨16, _⟩ => ⟨S2x1024x704, .f32⟩
  | .hbm, ⟨17, _⟩ => ⟨S1x1024x704, .f32⟩
  | .hbm, ⟨18, _⟩ => ⟨S1024x704, .f32⟩
  | .hbm, ⟨19, _⟩ => ⟨S2x704x1024, .f32⟩
  | .hbm, ⟨20, _⟩ => ⟨S2x1024x704, .f32⟩
  | .hbm, ⟨21, _⟩ => ⟨S1x1024x704, .f32⟩
  | .hbm, ⟨22, _⟩ => ⟨S1024x704, .f32⟩
  | .hbm, ⟨23, _⟩ => ⟨S2x704x1024, .f32⟩
  | .hbm, ⟨24, _⟩ => ⟨S2x1024x704, .f32⟩
  | .hbm, ⟨25, _⟩ => ⟨S1x1024x704, .f32⟩
  | .hbm, ⟨26, _⟩ => ⟨S1024x704, .f32⟩
  | .hbm, ⟨27, _⟩ => ⟨S2x704x1024, .f32⟩
  | .hbm, ⟨28, _⟩ => ⟨S2x1024x704, .f32⟩
  | .hbm, ⟨29, _⟩ => ⟨S1x1024x704, .f32⟩
  | .hbm, ⟨30, _⟩ => ⟨S1024x704, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![v0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1024x704 : Shape := ⟨2, ![1024, 704]⟩
abbrev S1x1024x704 : Shape := ⟨3, ![1, 1024, 704]⟩

abbrev nBuf : Space → Nat
  | .hbm => 46
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S704x1024, .f32⟩
  | .hbm, ⟨6, _⟩ => ⟨S1024x704, .f32⟩
  | .hbm, ⟨7, _⟩ => ⟨S1x1024x704, .f32⟩
  | .hbm, ⟨8, _⟩ => ⟨S1024x704, .f32⟩
  | .hbm, ⟨9, _⟩ => ⟨S1x1024x704, .f32⟩
  | .hbm, ⟨10, _⟩ => ⟨S1024x704, .f32⟩
  | .hbm, ⟨11, _⟩ => ⟨S1x1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Spec.lean ====
/- The gradient of the gated MLP's gate and causal convolution in plain sums over the argument arrays: what both programs
   compute. -/
module

public import Idealize.ShloMosaic.Lib.Pointwise

@[expose] public section

noncomputable section

open Idealize.ShloMosaic

namespace Cert.Spec

/-- The half that the kernel's sigmoid multiplies and adds. -/
def hf : EReal := Ideal.ofBits .f32 1056964608#32
/-- The kernel's sigmoid. -/
def sgt (z : EReal) : EReal := hf * Ideal.tanh (hf * z) + hf
/-- The gate's gradient from the gradient `d` at its output and its inputs, the kernel's way. -/
def gate0 (d z y : EReal) : EReal := d * y * (sgt z * (1 + z * (1 - sgt z)))
def gate1 (d z : EReal) : EReal := d * (z * sgt z)

abbrev U := (⟨3, ![4, 2048, 5632]⟩ : Shape).Idx → EReal
abbrev W := (⟨2, ![3, 5632]⟩ : Shape).Idx → EReal
abbrev B := (⟨1, ![5632]⟩ : Shape).Idx → EReal
abbrev WD := (⟨2, ![2816, 1024]⟩ : Shape).Idx → EReal
abbrev CT := (⟨3, ![4, 2048, 1024]⟩ : Shape).Idx → EReal

/-- Column `g` of half `h`. -/
abbrev col (h : Fin 2) (g : Fin 2816) : Fin 5632 := ⟨h.val * 2816 + g.val, by omega⟩

variable (u : U) (w : W) (b : B) (wd : WD) (ct : CT)

/-- The convolution's input behind two rows of zeros. -/
def up (bb : Fin 4) (s : ℕ) (f : Fin 5632) : EReal :=
  if s < 2 then 0 else if h : s - 2 < 2048 then u (ix3 bb ⟨s - 2, h⟩ f) else 0
theorem up_lt {bb : Fin 4} {s : ℕ} (f : Fin 5632) (h : s < 2) : up u bb s f = 0 := if_pos h
theorem up_ge {bb : Fin 4} {s : ℕ} (f : Fin 5632) (h : ¬ s < 2) (h' : s - 2 < 2048) : up u bb s f = u (ix3 bb ⟨s - 2, h'⟩ f) :=
  (if_neg h).trans (dif_pos h')
theorem up_two {bb : Fin 4} {s : ℕ} (f : Fin 5632) (h' : s < 2048) : up u bb (2 + s) f = u (ix3 bb ⟨s, h'⟩ f) := by
  refine (up_ge u f (by omega) (by omega)).trans (congrArg u ?_)
  have e : (⟨2 + s - 2, by omega⟩ : Fin 2048) = ⟨s, h'⟩ := Fin.ext (Nat.add_sub_cancel_left 2 s)
  rw [e]
/-- The convolution. -/
def cv (bb : Fin 4) (s : ℕ) (f : Fin 5632) : EReal :=
  w (ix2 0 f) * up u bb s f + w (ix2 1 f) * up u bb (1 + s) f + w (ix2 2 f) * up u bb (2 + s) f + b (ix1 f)
/-- The gradient at the gate's output. -/
def dh (bb : Fin 4) (s : Fin 2048) (g : Fin 2816) : EReal := ∑ k : Fin 1024, ct (ix3 bb s k) * wd (ix2 g k)
/-- The gradient at the convolution's output, zero behind the sequence's end. -/
def dcs (bb : Fin 4) (s : ℕ) (h : Fin 2) (g : Fin 2816) : EReal :=
  if hs : s < 2048 then
    (if h = 0 then gate0 (dh wd ct bb ⟨s, hs⟩ g) (cv u w b bb s (col 0 g)) (cv u w b bb s (col 1 g))
      else gate1 (dh wd ct bb ⟨s, hs⟩ g) (cv u w b bb s (col 0 g)))
  else 0
/-- The gradient at the convolution's input. -/
def dus (bb : Fin 4) (s : ℕ) (h : Fin 2) (g : Fin 2816) : EReal :=
  w (ix2 2 (col h g)) * dcs u w b wd ct bb s h g + w (ix2 1 (col h g)) * dcs u w b wd ct bb (1 + s) h g
    + w (ix2 0 (col h g)) * dcs u w b wd ct bb (2 + s) h g
/-- The gradient of tap `k` and of the bias. -/
def dws (k : ℕ) (h : Fin 2) (g : Fin 2816) : EReal :=
  ∑ bb : Fin 4, ∑ s : Fin 2048, dcs u w b wd ct bb (2 - k + s.val) h g * u (ix3 bb s (col h g))
def dbs (h : Fin 2) (g : Fin 2816) : EReal := ∑ bb : Fin 4, ∑ s : Fin 2048, dcs u w b wd ct bb s.val h g

theorem ix3_eq {n0 n1 n2 : ℕ} {a a' : Fin n0} {b b' : Fin n1} {c c' : Fin n2} (ha : a.val = a'.val) (hb : b.val = b'.val)
    (hc : c.val = c'.val) : ix3 a b c = ix3 a' b' c' := by
  obtain rfl := Fin.ext ha
  obtain rfl := Fin.ext hb
  obtain rfl := Fin.ext hc
  rfl

theorem ix4_eq {n0 n1 n2 n3 : ℕ} {a a' : Fin n0} {b b' : Fin n1} {c c' : Fin n2} {d d' : Fin n3} (ha : a.val = a'.val) (hb : b.val = b'.val)
    (hc : c.val = c'.val) (hd : d.val = d'.val) : ix4 a b c d = ix4 a' b' c' d' := by
  obtain rfl := Fin.ext ha
  obtain rfl := Fin.ext hb
  obtain rfl := Fin.ext hc
  obtain rfl := Fin.ext hd
  rfl

theorem ix2_eq {n0 n1 : ℕ} {a a' : Fin n0} {b b' : Fin n1} (ha : a.val = a'.val) (hb : b.val = b'.val) : ix2 a b = ix2 a' b' := by
  obtain rfl := Fin.ext ha
  obtain rfl := Fin.ext hb
  rfl

theorem cv_eq (u : U) (w : W) (b : B) {bb bb' : Fin 4} {s s' : ℕ} {f f' : Fin 5632} (hb : bb.val = bb'.val) (hs : s = s') (hf : f.val = f'.val) :
    cv u w b bb s f = cv u w b bb' s' f' := by
  obtain rfl := Fin.ext hb
  obtain rfl := Fin.ext hf
  rw [hs]

end Cert.Spec
end
-- ==== Proof.Block.lean ====
/- What one grid point of the gradient kernel leaves in its two output blocks, at an index, as a function of the seven
   input blocks at the point. -/
module

public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen
open Cert.Spec (hf sgt gate0 gate1)

/-! ## The values -/

/-- A row of the cotangent's scratch: the tile's rows, then the next tile's first rows, zero behind a sequence's last tile. -/
def dxr (i : grid0.Coords) (x0 : Vec Ideal S512x1024 .f32) (x1 : Vec Ideal S8x1024 .f32) (r : ℕ) (k : Fin 1024) : EReal :=
  if h : r < 512 then x0 (ix2 ⟨r, h⟩ k) else if (i 1).val % 4 = 3 then 0 else if h' : r - 512 < 8 then x1 (ix2 ⟨r - 512, h'⟩ k) else 0
/-- A row of one half of the convolution's output: the tile's rows, then the next tile's first rows. -/
def cr (x4 : Vec Ideal S2x1x512x704 .f32) (x5 : Vec Ideal S2x1x8x704 .f32) (h : Fin 2) (r : ℕ) (l : Fin 704) : EReal :=
  if h' : r < 512 then x4 (ix4 h 0 ⟨r, h'⟩ l) else if h' : r - 512 < 8 then x5 (ix4 h 0 ⟨r - 512, h'⟩ l) else 0
/-- The gradient at the gate's output. -/
def dhr (i : grid0.Coords) (x0 : Vec Ideal S512x1024 .f32) (x1 : Vec Ideal S8x1024 .f32) (x2 : Vec Ideal S1x704x1024 .bf16) (r : ℕ) (l : Fin 704) : EReal :=
  ∑ k : Fin 1024, dxr i x0 x1 r k * x2 (ix3 0 l k)
/-- The gradient at the convolution's output. -/
def dcr (i : grid0.Coords) (x0 : Vec Ideal S512x1024 .f32) (x1 : Vec Ideal S8x1024 .f32) (x2 : Vec Ideal S1x704x1024 .bf16)
    (x4 : Vec Ideal S2x1x512x704 .f32) (x5 : Vec Ideal S2x1x8x704 .f32) (h : Fin 2) (r : ℕ) (l : Fin 704) : EReal :=
  if h = 0 then gate0 (dhr i x0 x1 x2 r l) (cr x4 x5 0 r l) (cr x4 x5 1 r l) else gate1 (dhr i x0 x1 x2 r l) (cr x4 x5 0 r l)

/-! ## The scratch of the cotangent's rows -/

/-- The scratch of the cotangent's rows, read whole after its two stores. -/
def DXB (i : grid0.Coords) (x0 : Vec Ideal S512x1024 .f32) (x1 : Vec Ideal S8x1024 .f32) : Vec Ideal S520x1024 .bf16 :=
  (View.whole cc0_scratch0).readCov (Val := Elt Ideal)
    [⟨Rect.unit ![512, 0] ![8, 1024] inb_S520x1024_S8x1024_512_0, k0_pay5 (F := Ideal) i x1⟩,
      ⟨Rect.unit ![0, 0] ![512, 1024] inb_S520x1024_S512x1024_0_0, k0_pay4 (F := Ideal) x0⟩]
    (Rect.unit (s := S520x1024) ![0, 0] ![520, 1024] inb_S520x1024_S520x1024_0_0).toLoadRect

/-- The body's test for a sequence's last tile, at every tile. -/
theorem last_bit : ∀ n : Fin 16, Scalar.cmpi .eq (Scalar.select (Scalar.andi (Scalar.xori
      (Scalar.cmpi .slt (Scalar.remsi (BitVec.ofNat 32 n.val) (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi (BitVec.ofNat 32 n.val) (Scalar.select (Scalar.cmpi .eq 4#32 0#32) 1#32 4#32)) 0#32))
      (Scalar.addi (Scalar.remsi (BitVec.ofNat 32 n.val) (Scalar.select (Scalar.cmpi .eq 4#32 0#32) 1#32 4#32)) (Scalar.select (Scalar.cmpi .eq 4#32 0#32) 1#32 4#32))
      (Scalar.remsi (BitVec.ofNat 32 n.val) (Scalar.select (Scalar.cmpi .eq 4#32 0#32) 1#32 4#32))) 3#32 = if n.val % 4 = 3 then 1#1 else 0#1 := by
  decide +kernel

theorem pay5_apply (i : grid0.Coords) (x1 : Vec Ideal S8x1024 .f32) (r : Fin 8) (k : Fin 1024) :
    k0_pay5 (F := Ideal) i x1 (ix2 r k) = if (i 1).val % 4 = 3 then 0 else x1 (ix2 r k) := by
  unfold k0_pay5
  dsimp only
  rw [last_bit (i 1)]
  by_cases h : (i 1).val % 4 = 3
  · rw [if_pos h, if_pos h]; pointwise []
  · rw [if_neg h, if_neg h]; pointwise []

theorem DXB_apply (i : grid0.Coords) (x0 : Vec Ideal S512x1024 .f32) (x1 : Vec Ideal S8x1024 .f32) (r : Fin 520) (k : Fin 1024) :
    DXB i x0 x1 (ix2 r k) = dxr i x0 x1 r.val k := by
  unfold DXB
  rw [View.readCov_eq_canon']
  have hl : (Rect.unit (s := S520x1024) ![0, 0] ![520, 1024] inb_S520x1024_S520x1024_0_0).toLoadRect.idx (ix2 r k) = ix2 r k := by
    funext a
    apply Fin.ext
    match a with
    | ⟨0, _⟩ => simp
    | ⟨1, _⟩ => simp
  beta_reduce
  rw [hl]
  by_cases hr : r.val < 512
  · have e : (ix2 r k : S520x1024.Idx) = (Rect.unit (s := S520x1024) ![0, 0] ![512, 1024] inb_S520x1024_S512x1024_0_0).emb (ix2 ⟨r.val, hr⟩ k) := by
      funext a
      apply Fin.ext
      match a with
      | ⟨0, _⟩ => simp
      | ⟨1, _⟩ => simp
    rw [View.canon_cons_of_not_mem, e, View.canon_cons_emb]
    · unfold dxr
      rw [dif_pos hr]
      pointwise [k0_pay4]
    · rw [Rect.mem_set_unit]
      intro hh
      have := (hh ⟨0, by decide⟩).1
      simp at this
      omega
  · have hr2 : r.val - 512 < 8 := by omega
    have e : (ix2 r k : S520x1024.Idx) = (Rect.unit (s := S520x1024) ![512, 0] ![8, 1024] inb_S520x1024_S8x1024_512_0).emb (ix2 ⟨r.val - 512, hr2⟩ k) := by
      funext a
      apply Fin.ext
      match a with
      | ⟨0, _⟩ => simp; omega
      | ⟨1, _⟩ => simp
    rw [e, View.canon_cons_emb]
    unfold dxr
    rw [dif_neg hr, dif_pos hr2]
    exact pay5_apply i x1 _ _

/-! ## The payloads at an index -/

theorem ld4 (x : Vec Ideal S2x1x512x704 .f32) (h : Fin 2) (r : Fin 512) (l : Fin 704) (inb) :
    View.ld x (Rect.unit (s := S2x1x512x704) ![h.val, 0, 0, 0] ![1, 1, 512, 704] inb) (ix4 0 0 r l) = x (ix4 h 0 r l) := by
  refine View.ld_unit_apply_of _ _ _ _ _ _ fun a => ?_
  match a with
  | ⟨0, _⟩ => simp
  | ⟨1, _⟩ => simp
  | ⟨2, _⟩ => simp
  | ⟨3, _⟩ => simp

theorem ld5 (x : Vec Ideal S2x1x8x704 .f32) (h : Fin 2) (r : Fin 8) (l : Fin 704) (inb) :
    View.ld x (Rect.unit (s := S2x1x8x704) ![h.val, 0, 0, 0] ![1, 1, 8, 704] inb) (ix4 0 0 r l) = x (ix4 h 0 r l) := by
  refine View.ld_unit_apply_of _ _ _ _ _ _ fun a => ?_
  match a with
  | ⟨0, _⟩ => simp
  | ⟨1, _⟩ => simp
  | ⟨2, _⟩ => simp
  | ⟨3, _⟩ => simp

theorem ld6 (x : Vec Ideal S2x1x3x704 .f32) (h : Fin 2) (r : Fin 3) (l : Fin 704) (inb) :
    View.ld x (Rect.unit (s := S2x1x3x704) ![h.val, 0, 0, 0] ![1, 1, 3, 704] inb) (ix4 0 0 r l) = x (ix4 h 0 r l) := by
  refine View.ld_unit_apply_of _ _ _ _ _ _ fun a => ?_
  match a with
  | ⟨0, _⟩ => simp
  | ⟨1, _⟩ => simp
  | ⟨2, _⟩ => simp
  | ⟨3, _⟩ => simp

theorem ld8 (x : Vec Ideal S2x1x8x704 .f32) (h : Fin 2) (k : Fin 8) (l : Fin 704) (inb) :
    View.ld x (Rect.unit (s := S2x1x8x704) ![h.val, 0, k.val, 0] ![1, 1, 1, 704] inb) (ix4 0 0 0 l) = x (ix4 h 0 k l) := by
  refine View.ld_unit_apply_of _ _ _ _ _ _ fun a => ?_
  match a with
  | ⟨0, _⟩ => simp
  | ⟨1, _⟩ => simp
  | ⟨2, _⟩ => simp
  | ⟨3, _⟩ => simp

theorem ldb (x : Vec Ideal S520x704 .f32) (d : ℕ) (hd : d < 8) (r : Fin 512) (l : Fin 704) (inb) :
    View.ld x (Rect.unit (s := S520x704) ![d, 0] ![512, 704] inb) (ix2 r l) = x (ix2 ⟨d + r.val, by omega⟩ l) := by
  refine View.ld_unit_apply_of _ _ _ _ _ _ fun a => ?_
  match a with
  | ⟨0, _⟩ => simp
  | ⟨1, _⟩ => simp

section
variable (i : grid0.Coords) (x0 : Vec Ideal S512x1024 .f32) (x1 : Vec Ideal S8x1024 .f32) (x2 : Vec Ideal S1x704x1024 .bf16)
  (x3 x4 : Vec Ideal S2x1x512x704 .f32) (x5 : Vec Ideal S2x1x8x704 .f32) (x6 : Vec Ideal S2x1x3x704 .f32) (x8 : Vec Ideal S2x1x8x704 .f32)

/-- The two halves of the gradient at the convolution's output, as the run's terms spell them. -/
def V10 : FVec Ideal S520x704 .f32 :=
  k0_pay10 (F := Ideal) (DXB i x0 x1) (k0_pay6 x2) (constant S520x704 FTy.f32 0#32)
    (View.ld x4 (Rect.unit ![0, 0, 0, 0] ![1, 1, 512, 704] inb_S2x1x512x704_S1x1x512x704_0_0_0_0))
    (View.ld x5 (Rect.unit ![0, 0, 0, 0] ![1, 1, 8, 704] inb_S2x1x8x704_S1x1x8x704_0_0_0_0))
    (View.ld x4 (Rect.unit ![1, 0, 0, 0] ![1, 1, 512, 704] inb_S2x1x512x704_S1x1x512x704_1_0_0_0))
    (View.ld x5 (Rect.unit ![1, 0, 0, 0] ![1, 1, 8, 704] inb_S2x1x8x704_S1x1x8x704_1_0_0_0))
def V11 : FVec Ideal S520x704 .f32 :=
  k0_pay11 (F := Ideal) (DXB i x0 x1) (k0_pay6 x2) (constant S520x704 FTy.f32 0#32)
    (View.ld x4 (Rect.unit ![0, 0, 0, 0] ![1, 1, 512, 704] inb_S2x1x512x704_S1x1x512x704_0_0_0_0))
    (View.ld x5 (Rect.unit ![0, 0, 0, 0] ![1, 1, 8, 704] inb_S2x1x8x704_S1x1x8x704_0_0_0_0))
def V13 : FVec Ideal S520x704 .f32 :=
  k0_pay13 (F := Ideal) (DXB i x0 x1) (k0_pay6 x2) (constant S520x704 FTy.f32 0#32)
    (View.ld x4 (Rect.unit ![0, 0, 0, 0] ![1, 1, 512, 704] inb_S2x1x512x704_S1x1x512x704_0_0_0_0))
    (View.ld x5 (Rect.unit ![0, 0, 0, 0] ![1, 1, 8, 704] inb_S2x1x8x704_S1x1x8x704_0_0_0_0))
    (View.ld x4 (Rect.unit ![1, 0, 0, 0] ![1, 1, 512, 704] inb_S2x1x512x704_S1x1x512x704_1_0_0_0))
    (View.ld x5 (Rect.unit ![1, 0, 0, 0] ![1, 1, 8, 704] inb_S2x1x8x704_S1x1x8x704_1_0_0_0))

theorem V10_apply (r : Fin 520) (l : Fin 704) : V10 i x0 x1 x2 x4 x5 (ix2 r l) = dcr i x0 x1 x2 x4 x5 0 r.val l := by
  unfold V10 dcr gate0 dhr sgt hf cr
  pointwise [k0_pay10, k0_pay9, k0_pay8, k0_pay7, k0_pay6]
  have hr : r.val - 512 < 8 := by omega
  simp only [DXB_apply, hr, dif_pos, if_pos]

theorem V11_apply (r : Fin 520) (l : Fin 704) : V11 i x0 x1 x2 x4 x5 (ix2 r l) = dcr i x0 x1 x2 x4 x5 1 r.val l := by
  unfold V11 dcr gate1 dhr sgt hf cr
  pointwise [k0_pay11, k0_pay9, k0_pay8, k0_pay7, k0_pay6]
  have hr : r.val - 512 < 8 := by omega
  simp only [DXB_apply, hr, dif_pos, if_neg one_ne_zero]

theorem V13_apply (r : Fin 520) (l : Fin 704) : V13 i x0 x1 x2 x4 x5 (ix2 r l) = dcr i x0 x1 x2 x4 x5 0 r.val l := by
  rw [← V10_apply]
  unfold V13 V10
  pointwise [k0_pay13]

theorem V26_apply (r : Fin 520) (l : Fin 704) : k0_pay26 (F := Ideal) (V11 i x0 x1 x2 x4 x5) (ix2 r l) = dcr i x0 x1 x2 x4 x5 1 r.val l := by
  rw [← V11_apply]
  pointwise [k0_pay26]

/-! ## The gradient at the convolution's input -/

/-- The block of the gradient at the convolution's input. -/
def duB (y : S2x1x512x704.Idx) : EReal :=
  x6 (ix4 (y 0) 0 2 (y 3)) * dcr i x0 x1 x2 x4 x5 (y 0) (y 2).val (y 3)
    + x6 (ix4 (y 0) 0 1 (y 3)) * dcr i x0 x1 x2 x4 x5 (y 0) (1 + (y 2).val) (y 3)
    + x6 (ix4 (y 0) 0 0 (y 3)) * dcr i x0 x1 x2 x4 x5 (y 0) (2 + (y 2).val) (y 3)

/-- What the run leaves in output window 7's buffer, as its two stores. -/
def pieces7 : List (View.Piece (Elt Ideal) S2x1x512x704 .bf16) :=
  [⟨Rect.unit ![1, 0, 0, 0] ![1, 1, 512, 704] inb_S2x1x512x704_S1x1x512x704_1_0_0_0,
    k0_pay34 (F := Ideal) (k0_pay25 (F := Ideal) (View.ld x6 (Rect.unit ![1, 0, 0, 0] ![1, 1, 3, 704] inb_S2x1x3x704_S1x1x3x704_1_0_0_0)))
      (k0_pay30 (k0_pay27 (F := Ideal) (View.ld (Val := Elt Ideal) (e' := .f32) (k0_pay26 (F := Ideal) (V11 i x0 x1 x2 x4 x5)) (Rect.unit (s := S520x704) ![1, 0] ![512, 704] inb_S520x704_S512x704_1_0))))
      (k0_pay31 (k0_pay28 (F := Ideal) (View.ld (Val := Elt Ideal) (e' := .f32) (k0_pay26 (F := Ideal) (V11 i x0 x1 x2 x4 x5)) (Rect.unit (s := S520x704) ![2, 0] ![512, 704] inb_S520x704_S512x704_2_0))))
      (k0_pay32 (V11 i x0 x1 x2 x4 x5) (View.ld x6 (Rect.unit ![1, 0, 0, 0] ![1, 1, 3, 704] inb_S2x1x3x704_S1x1x3x704_1_0_0_0)))
      (k0_pay33 (View.ld x6 (Rect.unit ![1, 0, 0, 0] ![1, 1, 3, 704] inb_S2x1x3x704_S1x1x3x704_1_0_0_0)))⟩,
   ⟨Rect.unit ![0, 0, 0, 0] ![1, 1, 512, 704] inb_S2x1x512x704_S1x1x512x704_0_0_0_0,
    k0_pay19 (F := Ideal) (V10 i x0 x1 x2 x4 x5)
      (k0_pay12 (View.ld x6 (Rect.unit ![0, 0, 0, 0] ![1, 1, 3, 704] inb_S2x1x3x704_S1x1x3x704_0_0_0_0)))
      (k0_pay14 (F := Ideal) (View.ld (Val := Elt Ideal) (e' := .f32) (V13 i x0 x1 x2 x4 x5) (Rect.unit (s := S520x704) ![1, 0] ![512, 704] inb_S520x704_S512x704_1_0)))
      (k0_pay15 (F := Ideal) (View.ld (Val := Elt Ideal) (e' := .f32) (V13 i x0 x1 x2 x4 x5) (Rect.unit (s := S520x704) ![2, 0] ![512, 704] inb_S520x704_S512x704_2_0)))⟩]

theorem emb7 (h : Fin 2) (r : Fin 512) (l : Fin 704) (inb) :
    (Rect.unit (s := S2x1x512x704) ![h.val, 0, 0, 0] ![1, 1, 512, 704] inb).emb (ix4 0 0 r l) = ix4 h 0 r l := by
  funext a
  apply Fin.ext
  match a with
  | ⟨0, _⟩ => simp
  | ⟨1, _⟩ => simp
  | ⟨2, _⟩ => simp
  | ⟨3, _⟩ => simp

theorem eta7 (x : S1x1x512x704.Idx) : x = ix4 0 0 (x 2) (x 3) := by
  have e0 : x 0 = (0 : Fin 1) := Subsingleton.elim (α := Fin 1) _ _
  have e1 : x 1 = (0 : Fin 1) := Subsingleton.elim (α := Fin 1) _ _
  funext a
  match a with
  | ⟨0, _⟩ => exact e0
  | ⟨1, _⟩ => exact e1
  | ⟨2, _⟩ => rfl
  | ⟨3, _⟩ => rfl

theorem pieces7_of : View.PiecesOf (Val := Elt Ideal) (e := .bf16) (duB i x0 x1 x2 x4 x5 x6) (pieces7 i x0 x1 x2 x4 x5 x6) := by
  refine ⟨fun x => ?_, fun x => ?_, trivial⟩
  · obtain ⟨r, l, rfl⟩ : ∃ (r : Fin 512) (l : Fin 704), x = ix4 0 0 r l := ⟨x 2, x 3, eta7 x⟩
    have e := emb7 1 r l inb_S2x1x512x704_S1x1x512x704_1_0_0_0
    simp only [Fin.val_one] at e
    rw [e]
    unfold duB
    pointwise [k0_pay34, k0_pay33, k0_pay32, k0_pay31, k0_pay30, k0_pay28, k0_pay29, k0_pay27, k0_pay25]
    rw [V11_apply, V26_apply, V26_apply]
  · obtain ⟨r, l, rfl⟩ : ∃ (r : Fin 512) (l : Fin 704), x = ix4 0 0 r l := ⟨x 2, x 3, eta7 x⟩
    have e := emb7 0 r l inb_S2x1x512x704_S1x1x512x704_0_0_0_0
    simp only [Fin.val_zero] at e
    rw [e]
    unfold duB
    pointwise [k0_pay19, k0_pay18, k0_pay17, k0_pay16, k0_pay15, k0_pay14, k0_pay12]
    rw [V10_apply, V13_apply, V13_apply]

/-! ## The sums for the convolution's weights -/

/-- What one tile adds to row `k` of one half's sums: rows 0 to 2 the convolution's taps, row 3 its bias. -/
def incB (h : Fin 2) (k : ℕ) (l : Fin 704) : EReal :=
  if k = 3 then ∑ r : Fin 512, dcr i x0 x1 x2 x4 x5 h r.val l
  else ∑ r : Fin 512, dcr i x0 x1 x2 x4 x5 h (if k = 2 then r.val else 2 - k + r.val) l * x3 (ix4 h 0 r l)
/-- The sums after one tile, over what they were. -/
def accB (b : Vec Ideal S2x1x8x704 .f32) (y : S2x1x8x704.Idx) : EReal := b y + incB i x0 x1 x2 x3 x4 x5 (y 0) (y 2).val (y 3)

/-- What the run stores into output window 8's buffer over its contents `b`. -/
def pieces8 (b : Vec Ideal S2x1x8x704 .f32) : List (View.Piece (Elt Ideal) S2x1x8x704 .f32) :=
  [⟨Rect.unit ![1, 0, 3, 0] ![1, 1, 1, 704] inb_S2x1x8x704_S1x1x1x704_1_0_3_0,
    k0_pay2 (F := Ideal) (k0_pay29 (F := Ideal) (V11 i x0 x1 x2 x4 x5)) (View.ld b (Rect.unit ![1, 0, 3, 0] ![1, 1, 1, 704] inb_S2x1x8x704_S1x1x1x704_1_0_3_0))⟩,
   ⟨Rect.unit ![1, 0, 2, 0] ![1, 1, 1, 704] inb_S2x1x8x704_S1x1x1x704_1_0_2_0,
    k0_pay1 (F := Ideal) (k0_pay29 (F := Ideal) (V11 i x0 x1 x2 x4 x5)) (k0_pay35 (F := Ideal) (View.ld x3 (Rect.unit ![1, 0, 0, 0] ![1, 1, 512, 704] inb_S2x1x512x704_S1x1x512x704_1_0_0_0))) (View.ld b (Rect.unit ![1, 0, 2, 0] ![1, 1, 1, 704] inb_S2x1x8x704_S1x1x1x704_1_0_2_0))⟩,
   ⟨Rect.unit ![1, 0, 1, 0] ![1, 1, 1, 704] inb_S2x1x8x704_S1x1x1x704_1_0_1_0,
    k0_pay37 (F := Ideal) (k0_pay30 (F := Ideal) (k0_pay27 (F := Ideal) (View.ld (Val := Elt Ideal) (e' := .f32) (k0_pay26 (F := Ideal) (V11 i x0 x1 x2 x4 x5)) (Rect.unit (s := S520x704) ![1, 0] ![512, 704] inb_S520x704_S512x704_1_0)))) (View.ld x3 (Rect.unit ![1, 0, 0, 0] ![1, 1, 512, 704] inb_S2x1x512x704_S1x1x512x704_1_0_0_0)) (View.ld b (Rect.unit ![1, 0, 1, 0] ![1, 1, 1, 704] inb_S2x1x8x704_S1x1x1x704_1_0_1_0))⟩,
   ⟨Rect.unit ![1, 0, 0, 0] ![1, 1, 1, 704] inb_S2x1x8x704_S1x1x1x704_1_0_0_0,
    k0_pay36 (F := Ideal) (k0_pay31 (F := Ideal) (k0_pay28 (F := Ideal) (View.ld (Val := Elt Ideal) (e' := .f32) (k0_pay26 (F := Ideal) (V11 i x0 x1 x2 x4 x5)) (Rect.unit (s := S520x704) ![2, 0] ![512, 704] inb_S520x704_S512x704_2_0)))) (View.ld x3 (Rect.unit ![1, 0, 0, 0] ![1, 1, 512, 704] inb_S2x1x512x704_S1x1x512x704_1_0_0_0)) (View.ld b (Rect.unit ![1, 0, 0, 0] ![1, 1, 1, 704] inb_S2x1x8x704_S1x1x1x704_1_0_0_0))⟩,
   ⟨Rect.unit ![0, 0, 3, 0] ![1, 1, 1, 704] inb_S2x1x8x704_S1x1x1x704_0_0_3_0,
    k0_pay24 (F := Ideal) (k0_pay16 (F := Ideal) (V10 i x0 x1 x2 x4 x5)) (View.ld b (Rect.unit ![0, 0, 3, 0] ![1, 1, 1, 704] inb_S2x1x8x704_S1x1x1x704_0_0_3_0))⟩,
   ⟨Rect.unit ![0, 0, 2, 0] ![1, 1, 1, 704] inb_S2x1x8x704_S1x1x1x704_0_0_2_0,
    k0_pay23 (F := Ideal) (k0_pay16 (F := Ideal) (V10 i x0 x1 x2 x4 x5)) (k0_pay20 (F := Ideal) (View.ld x3 (Rect.unit ![0, 0, 0, 0] ![1, 1, 512, 704] inb_S2x1x512x704_S1x1x512x704_0_0_0_0))) (View.ld b (Rect.unit ![0, 0, 2, 0] ![1, 1, 1, 704] inb_S2x1x8x704_S1x1x1x704_0_0_2_0))⟩,
   ⟨Rect.unit ![0, 0, 1, 0] ![1, 1, 1, 704] inb_S2x1x8x704_S1x1x1x704_0_0_1_0,
    k0_pay22 (F := Ideal) (k0_pay17 (F := Ideal) (k0_pay14 (F := Ideal) (View.ld (Val := Elt Ideal) (e' := .f32) (V13 i x0 x1 x2 x4 x5) (Rect.unit (s := S520x704) ![1, 0] ![512, 704] inb_S520x704_S512x704_1_0)))) (k0_pay20 (F := Ideal) (View.ld x3 (Rect.unit ![0, 0, 0, 0] ![1, 1, 512, 704] inb_S2x1x512x704_S1x1x512x704_0_0_0_0))) (View.ld b (Rect.unit ![0, 0, 1, 0] ![1, 1, 1, 704] inb_S2x1x8x704_S1x1x1x704_0_0_1_0))⟩,
   ⟨Rect.unit ![0, 0, 0, 0] ![1, 1, 1, 704] inb_S2x1x8x704_S1x1x1x704_0_0_0_0,
    k0_pay21 (F := Ideal) (k0_pay18 (F := Ideal) (k0_pay15 (F := Ideal) (View.ld (Val := Elt Ideal) (e' := .f32) (V13 i x0 x1 x2 x4 x5) (Rect.unit (s := S520x704) ![2, 0] ![512, 704] inb_S520x704_S512x704_2_0)))) (k0_pay20 (F := Ideal) (View.ld x3 (Rect.unit ![0, 0, 0, 0] ![1, 1, 512, 704] inb_S2x1x512x704_S1x1x512x704_0_0_0_0))) (View.ld b (Rect.unit ![0, 0, 0, 0] ![1, 1, 1, 704] inb_S2x1x8x704_S1x1x1x704_0_0_0_0))⟩]

theorem emb8 (h : Fin 2) (k : Fin 8) (l : Fin 704) (inb) :
    (Rect.unit (s := S2x1x8x704) ![h.val, 0, k.val, 0] ![1, 1, 1, 704] inb).emb (ix4 0 0 0 l) = ix4 h 0 k l := by
  funext a
  apply Fin.ext
  match a with
  | ⟨0, _⟩ => simp
  | ⟨1, _⟩ => simp
  | ⟨2, _⟩ => simp
  | ⟨3, _⟩ => simp

theorem eta8 (x : S1x1x1x704.Idx) : x = ix4 0 0 0 (x 3) := by
  have e0 : x 0 = (0 : Fin 1) := Subsingleton.elim (α := Fin 1) _ _
  have e1 : x 1 = (0 : Fin 1) := Subsingleton.elim (α := Fin 1) _ _
  have e2 : x 2 = (0 : Fin 1) := Subsingleton.elim (α := Fin 1) _ _
  funext a
  match a with
  | ⟨0, _⟩ => exact e0
  | ⟨1, _⟩ => exact e1
  | ⟨2, _⟩ => exact e2
  | ⟨3, _⟩ => rfl

theorem v2 : ((2 : Fin 8) : ℕ) = 2 := rfl
theorem v3 : ((3 : Fin 8) : ℕ) = 3 := rfl

theorem pieces8_of (b : Vec Ideal S2x1x8x704 .f32) :
    View.PiecesOf (Val := Elt Ideal) (e := .f32) (accB i x0 x1 x2 x3 x4 x5 b) (pieces8 i x0 x1 x2 x3 x4 x5 b) := by
  refine ⟨fun x => ?_, fun x => ?_, fun x => ?_, fun x => ?_, fun x => ?_, fun x => ?_, fun x => ?_, fun x => ?_, trivial⟩
  · obtain ⟨l, rfl⟩ : ∃ l : Fin 704, x = ix4 0 0 0 l := ⟨x 3, eta8 x⟩
    have e := emb8 1 3 l inb_S2x1x8x704_S1x1x1x704_1_0_3_0
    simp only [Fin.isValue, Fin.val_one, Fin.val_zero, v2, v3] at e
    rw [e]
    unfold accB incB
    pointwise [k0_pay2, k0_pay29]
    simp only [V11_apply, V26_apply, V10_apply, V13_apply]
  · obtain ⟨l, rfl⟩ : ∃ l : Fin 704, x = ix4 0 0 0 l := ⟨x 3, eta8 x⟩
    have e := emb8 1 2 l inb_S2x1x8x704_S1x1x1x704_1_0_2_0
    simp only [Fin.isValue, Fin.val_one, Fin.val_zero, v2, v3] at e
    rw [e]
    unfold accB incB
    pointwise [k0_pay1, k0_pay29, k0_pay35]
    simp only [V11_apply, V26_apply, V10_apply, V13_apply]
  · obtain ⟨l, rfl⟩ : ∃ l : Fin 704, x = ix4 0 0 0 l := ⟨x 3, eta8 x⟩
    have e := emb8 1 1 l inb_S2x1x8x704_S1x1x1x704_1_0_1_0
    simp only [Fin.isValue, Fin.val_one, Fin.val_zero, v2, v3] at e
    rw [e]
    unfold accB incB
    pointwise [k0_pay37, k0_pay30, k0_pay27, k0_pay35]
    simp only [V11_apply, V26_apply, V10_apply, V13_apply]
  · obtain ⟨l, rfl⟩ : ∃ l : Fin 704, x = ix4 0 0 0 l := ⟨x 3, eta8 x⟩
    have e := emb8 1 0 l inb_S2x1x8x704_S1x1x1x704_1_0_0_0
    simp only [Fin.isValue, Fin.val_one, Fin.val_zero, v2, v3] at e
    rw [e]
    unfold accB incB
    pointwise [k0_pay36, k0_pay31, k0_pay28, k0_pay35]
    simp only [V11_apply, V26_apply, V10_apply, V13_apply]
  · obtain ⟨l, rfl⟩ : ∃ l : Fin 704, x = ix4 0 0 0 l := ⟨x 3, eta8 x⟩
    have e := emb8 0 3 l inb_S2x1x8x704_S1x1x1x704_0_0_3_0
    simp only [Fin.isValue, Fin.val_one, Fin.val_zero, v2, v3] at e
    rw [e]
    unfold accB incB
    pointwise [k0_pay24, k0_pay16]
    simp only [V11_apply, V26_apply, V10_apply, V13_apply]
  · obtain ⟨l, rfl⟩ : ∃ l : Fin 704, x = ix4 0 0 0 l := ⟨x 3, eta8 x⟩
    have e := emb8 0 2 l inb_S2x1x8x704_S1x1x1x704_0_0_2_0
    simp only [Fin.isValue, Fin.val_one, Fin.val_zero, v2, v3] at e
    rw [e]
    unfold accB incB
    pointwise [k0_pay23, k0_pay16, k0_pay20]
    simp only [V11_apply, V26_apply, V10_apply, V13_apply]
  · obtain ⟨l, rfl⟩ : ∃ l : Fin 704, x = ix4 0 0 0 l := ⟨x 3, eta8 x⟩
    have e := emb8 0 1 l inb_S2x1x8x704_S1x1x1x704_0_0_1_0
    simp only [Fin.isValue, Fin.val_one, Fin.val_zero, v2, v3] at e
    rw [e]
    unfold accB incB
    pointwise [k0_pay22, k0_pay17, k0_pay14, k0_pay20]
    simp only [V11_apply, V26_apply, V10_apply, V13_apply]
  · obtain ⟨l, rfl⟩ : ∃ l : Fin 704, x = ix4 0 0 0 l := ⟨x 3, eta8 x⟩
    have e := emb8 0 0 l inb_S2x1x8x704_S1x1x1x704_0_0_0_0
    simp only [Fin.isValue, Fin.val_one, Fin.val_zero, v2, v3] at e
    rw [e]
    unfold accB incB
    pointwise [k0_pay21, k0_pay18, k0_pay15, k0_pay20]
    simp only [V11_apply, V26_apply, V10_apply, V13_apply]

end

/-- Every element of output window 7's block is in one of the two stores. -/
theorem cover7 (i : grid0.Coords) (x0 : Vec Ideal S512x1024 .f32) (x1 : Vec Ideal S8x1024 .f32) (x2 : Vec Ideal S1x704x1024 .bf16)
    (x4 : Vec Ideal S2x1x512x704 .f32) (x5 : Vec Ideal S2x1x8x704 .f32) (x6 : Vec Ideal S2x1x3x704 .f32) (y : S2x1x512x704.Idx) :
    ∃ p ∈ pieces7 i x0 x1 x2 x4 x5 x6, y ∈ p.1.set := by
  have key : ∀ (h : Fin 2), y 0 = h → ∀ inb, y ∈ (Rect.unit (s := S2x1x512x704) ![h.val, 0, 0, 0] ![1, 1, 512, 704] inb).set := by
    intro h e inb
    rw [Rect.mem_set_unit]
    intro a
    have hy := (y a).isLt
    match a with
    | ⟨0, _⟩ => subst e; exact ⟨le_refl _, Nat.lt_succ_self _⟩
    | ⟨1, _⟩ => exact ⟨Nat.zero_le _, by simpa using hy⟩
    | ⟨2, _⟩ => exact ⟨Nat.zero_le _, by simpa using hy⟩
    | ⟨3, _⟩ => exact ⟨Nat.zero_le _, by simpa using hy⟩
  have h01 : y 0 = (1 : Fin 2) ∨ y 0 = (0 : Fin 2) := by
    have : ∀ h : Fin 2, h = 1 ∨ h = 0 := by decide
    exact this (y 0)
  unfold pieces7
  rcases h01 with e | e
  · exact ⟨_, List.mem_cons_self, key 1 e inb_S2x1x512x704_S1x1x512x704_1_0_0_0⟩
  · exact ⟨_, List.mem_cons_of_mem _ List.mem_cons_self, key 0 e inb_S2x1x512x704_S1x1x512x704_0_0_0_0⟩

/-- Every element of the first four rows of output window 8's block is in one of the eight stores. -/
theorem cover8 (i : grid0.Coords) (x0 : Vec Ideal S512x1024 .f32) (x1 : Vec Ideal S8x1024 .f32) (x2 : Vec Ideal S1x704x1024 .bf16)
    (x3 x4 : Vec Ideal S2x1x512x704 .f32) (x5 b : Vec Ideal S2x1x8x704 .f32) (h : Fin 2) (k : Fin 4) (l : Fin 704) :
    ∃ p ∈ pieces8 i x0 x1 x2 x3 x4 x5 b, (ix4 h 0 ⟨k.val, by omega⟩ l : S2x1x8x704.Idx) ∈ p.1.set := by
  have key : ∀ (h' : Fin 2) (k' : Fin 8), h' = h → k'.val = k.val → ∀ inb,
      (ix4 h 0 ⟨k.val, by omega⟩ l : S2x1x8x704.Idx) ∈ (Rect.unit (s := S2x1x8x704) ![h'.val, 0, k'.val, 0] ![1, 1, 1, 704] inb).set := by
    intro h' k' e e' inb
    subst e
    have : (⟨k.val, by omega⟩ : Fin 8) = k' := Fin.ext e'.symm
    rw [this, ← emb8 h' k' l inb]
    rw [← Rect.map_emb_univ]
    exact Finset.mem_map_of_mem _ (Finset.mem_univ _)
  unfold pieces8
  fin_cases h <;> fin_cases k
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), key 0 0 rfl rfl inb_S2x1x8x704_S1x1x1x704_0_0_0_0⟩
  · exact ⟨_, List.mem_cons_of_mem _ (List.mem_cons_of_mem _ (List.mem_cons_of_mem _ (List.mem_cons_of_mem _ (List.mem_cons_of_mem _ (List.mem_cons_of_mem _ List.mem_cons_self))))), key 0 1 rfl rfl inb_S2x1x8x704_S1x1x1x704_0_0_1_0⟩
  · exact ⟨_, List.mem_cons_of_mem _ (List.mem_cons_of_mem _ (List.mem_cons_of_mem _ (List.mem_cons_of_mem _ (List.mem_cons_of_mem _ List.mem_cons_self)))), key 0 2 rfl rfl inb_S2x1x8x704_S1x1x1x704_0_0_2_0⟩
  · exact ⟨_, List.mem_cons_of_mem _ (List.mem_cons_of_mem _ (List.mem_cons_of_mem _ (List.mem_cons_of_mem _ List.mem_cons_self))), key 0 3 rfl rfl inb_S2x1x8x704_S1x1x1x704_0_0_3_0⟩
  · exact ⟨_, List.mem_cons_of_mem _ (List.mem_cons_of_mem _ (List.mem_cons_of_mem _ List.mem_cons_self)), key 1 0 rfl rfl inb_S2x1x8x704_S1x1x1x704_1_0_0_0⟩
  · exact ⟨_, List.mem_cons_of_mem _ (List.mem_cons_of_mem _ List.mem_cons_self), key 1 1 rfl rfl inb_S2x1x8x704_S1x1x1x704_1_0_1_0⟩
  · exact ⟨_, List.mem_cons_of_mem _ List.mem_cons_self, key 1 2 rfl rfl inb_S2x1x8x704_S1x1x1x704_1_0_2_0⟩
  · exact ⟨_, List.mem_cons_self, key 1 3 rfl rfl inb_S2x1x8x704_S1x1x1x704_1_0_3_0⟩

/-! ## The run's output blocks -/

variable (m : (ℓ : Loc nD τ sig) → Buf (Elt Ideal) ℓ)

set_option maxHeartbeats 1000000 in
theorem out7_A (c : Dev nD) (t : Fin cfg0.N) (h0 : t.val % 16 = 0) :
    (outsAt0 m c t.val t.isLt).1 = duB (grid0.coords t) (iblk m c 0 t) (iblk m c 1 t) (iblk m c 2 t) (iblk m c 4 t) (iblk m c 5 t) (iblk m c 6 t) := by
  rw [outsAt0_A m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  frame_open
  simp (disch := decide) only [↓ View.readCov_skip, ↓ View.readCov_cons_toLoadRect, ↓ View.readCov_fill]
  frame_out
  funext y
  exact View.canon_append_of_piecesOf (Val := Elt Ideal) (e := .bf16) _ [] (pieces7 (grid0.coords t) x0 x1 x2 x4 x5 x6) (pieces7_of _ _ _ _ _ _ _) y (cover7 _ _ _ _ _ _ _ y)

set_option maxHeartbeats 1000000 in
theorem out7_B (c : Dev nD) (t : Fin cfg0.N) (h0 : ¬t.val % 16 = 0) :
    (outsAt0 m c t.val t.isLt).1 = duB (grid0.coords t) (iblk m c 0 t) (iblk m c 1 t) (iblk m c 2 t) (iblk m c 4 t) (iblk m c 5 t) (iblk m c 6 t) := by
  rw [outsAt0_B m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize (outsAt0 m c (t.val - 1) _).2 = x8
  frame_open
  simp (disch := decide) only [↓ View.readCov_skip, ↓ View.readCov_cons_toLoadRect, ↓ View.readCov_fill]
  frame_out
  funext y
  exact View.canon_append_of_piecesOf (Val := Elt Ideal) (e := .bf16) _ [] (pieces7 (grid0.coords t) x0 x1 x2 x4 x5 x6) (pieces7_of _ _ _ _ _ _ _) y (cover7 _ _ _ _ _ _ _ y)

set_option maxHeartbeats 1000000 in
theorem out8_A (c : Dev nD) (t : Fin cfg0.N) (h0 : t.val % 16 = 0) (h : Fin 2) (k : Fin 4) (l : Fin 704) :
    (outsAt0 m c t.val t.isLt).2 (ix4 h 0 ⟨k.val, by omega⟩ l)
      = 0 + incB (grid0.coords t) (iblk m c 0 t) (iblk m c 1 t) (iblk m c 2 t) (iblk m c 3 t) (iblk m c 4 t) (iblk m c 5 t) h k.val l := by
  rw [outsAt0_A m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  frame_open
  simp (disch := decide) only [↓ View.readCov_skip, ↓ View.readCov_cons_toLoadRect, ↓ View.readCov_fill]
  frame_out
  have e : accB (grid0.coords t) x0 x1 x2 x3 x4 x5 (k0_pay3 (F := Ideal)) (ix4 h 0 ⟨k.val, by omega⟩ l) = 0 + incB (grid0.coords t) x0 x1 x2 x3 x4 x5 h k.val l := by
    unfold accB
    pointwise [k0_pay3]
  rw [← e]
  exact View.canon_append_of_piecesOf (Val := Elt Ideal) (e := .f32) (accB (grid0.coords t) x0 x1 x2 x3 x4 x5 (k0_pay3 (F := Ideal)))
    [⟨Rect.unit ![0, 0, 0, 0] ![2, 1, 8, 704] inb_S2x1x8x704_S2x1x8x704_0_0_0_0, k0_pay3 (F := Ideal)⟩]
    (pieces8 (grid0.coords t) x0 x1 x2 x3 x4 x5 (k0_pay3 (F := Ideal))) (pieces8_of _ _ _ _ _ _ _ _) _ (cover8 _ _ _ _ _ _ _ _ h k l)

set_option maxHeartbeats 1000000 in
theorem out8_B (c : Dev nD) (t : Fin cfg0.N) (h0 : ¬t.val % 16 = 0) (h : Fin 2) (k : Fin 4) (l : Fin 704) :
    (outsAt0 m c t.val t.isLt).2 (ix4 h 0 ⟨k.val, by omega⟩ l)
      = (outsAt0 m c (t.val - 1) (Nat.lt_of_le_of_lt (Nat.sub_le _ _) t.isLt)).2 (ix4 h 0 ⟨k.val, by omega⟩ l)
        + incB (grid0.coords t) (iblk m c 0 t) (iblk m c 1 t) (iblk m c 2 t) (iblk m c 3 t) (iblk m c 4 t) (iblk m c 5 t) h k.val l := by
  rw [outsAt0_B m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize (outsAt0 m c (t.val - 1) _).2 = x8
  frame_open
  simp (disch := decide) only [↓ View.readCov_skip, ↓ View.readCov_cons_toLoadRect, ↓ View.readCov_fill]
  frame_out
  exact View.read_writes_apply_of_pieces _ _ (accB (grid0.coords t) x0 x1 x2 x3 x4 x5 x8) (pieces8 (grid0.coords t) x0 x1 x2 x3 x4 x5 x8)
    (pieces8_of _ _ _ _ _ _ _ _).mem _ (cover8 _ _ _ _ _ _ _ _ h k l)

end Cert.KernelIdeal.Hand
end
-- ==== Proof.Arr.lean ====
/- The gradient kernel's input arrays, as the host lines before its call leave them, at an index of the arguments. -/
module

public import proofs.«01_k».proof.Proof.Block
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen

variable (m : (ℓ : Loc nD τ sig) → Buf (Elt Ideal) ℓ)

/-- The kernel's arguments. -/
abbrev a0 (c : Dev nD) : Cert.Spec.U := m ((c : Thread nD τ).loc main_arg0)
abbrev a1 (c : Dev nD) : Cert.Spec.W := m ((c : Thread nD τ).loc main_arg1)
abbrev a2 (c : Dev nD) : Cert.Spec.B := m ((c : Thread nD τ).loc main_arg2)
abbrev a3 (c : Dev nD) : Cert.Spec.WD := m ((c : Thread nD τ).loc main_arg3)
abbrev a4 (c : Dev nD) : Cert.Spec.CT := m ((c : Thread nD τ).loc main_arg4)

theorem V30 (c : Dev nD) (T : Fin 8192) (k : Fin 1024) :
    (V m c main_v30 : S8192x1024.Idx → EReal) (ix2 T k) = a4 m c (ix3 ⟨T.val / 2048, by omega⟩ ⟨T.val % 2048, by omega⟩ k) := by
  unfold V
  after_reads_at

theorem V29 (c : Dev nD) (j : Fin 4) (l : Fin 704) (k : Fin 1024) :
    (V m c main_v29 : S4x704x1024.Idx → EReal) (ix3 j l k) = a3 m c (ix2 ⟨j.val * 704 + l.val, by omega⟩ k) := by
  unfold V
  after_reads_at

theorem V32 (c : Dev nD) (h : Fin 2) (j : Fin 4) (T : Fin 8192) (l : Fin 704) :
    (V m c main_v32 : S2x4x8192x704.Idx → EReal) (ix4 h j T l)
      = a0 m c (ix3 ⟨T.val / 2048, by omega⟩ ⟨T.val % 2048, by omega⟩ ⟨h.val * 2816 + j.val * 704 + l.val, by omega⟩) := by
  unfold V
  after_reads_at

theorem V27 (c : Dev nD) (h : Fin 2) (j : Fin 4) (k : Fin 3) (l : Fin 704) :
    (V m c main_v27 : S2x4x3x704.Idx → EReal) (ix4 h j k l) = a1 m c (ix2 k ⟨h.val * 2816 + j.val * 704 + l.val, by omega⟩) := by
  unfold V
  after_reads_at

theorem U1 (c : Dev nD) (j : S4x2x5632.Idx) :
    (StableHlo.upto [hostOps0].flatten (fun b => m (c, b)) 3 (Proc.tc.devRef main_v1) : S4x2x5632.Idx → EReal) j = (0 : EReal) := by
  unfold StableHlo.upto
  after_reads_at

theorem U0 (c : Dev nD) : (StableHlo.upto [hostOps0].flatten (fun b => m (c, b)) 3 (Proc.tc.devRef main_arg0) : Cert.Spec.U) = a0 m c := by
  unfold StableHlo.upto
  after_reads_at

theorem V34 (c : Dev nD) (h : Fin 2) (j : Fin 4) (T : Fin 8192) (l : Fin 704) :
    (V m c main_v34 : S2x4x8192x704.Idx → EReal) (ix4 h j T l)
      = Cert.Spec.cv (a0 m c) (a1 m c) (a2 m c) ⟨T.val / 2048, by omega⟩ (T.val % 2048) ⟨h.val * 2816 + j.val * 704 + l.val, by omega⟩ := by
  unfold V
  after_reads_at
  refine congrArg₂ (· + ·) (congrArg₂ (· + ·) (congrArg₂ (· + ·) (congrArg₂ (· * ·) rfl ?_) (congrArg₂ (· * ·) rfl ?_)) (congrArg₂ (· * ·) rfl ?_)) rfl
  · split_ifs with h1
    · exact (U1 m c _).trans (Cert.Spec.up_lt _ _ h1).symm
    · exact (congrFun (U0 m c) _).trans (Cert.Spec.up_ge _ _ h1 _).symm
    · exact (congrFun (U0 m c) _).trans (Cert.Spec.up_ge _ _ h1 _).symm
  · split_ifs with h1
    · exact (U1 m c _).trans (Cert.Spec.up_lt _ _ h1).symm
    · exact (congrFun (U0 m c) _).trans (Cert.Spec.up_ge _ _ h1 _).symm
    · exact (congrFun (U0 m c) _).trans (Cert.Spec.up_ge _ _ h1 _).symm
  · exact (congrFun (U0 m c) _).trans (Cert.Spec.up_two _ _ _).symm

/-! ## The blocks at a point -/

theorem idx : ∀ t : Fin cfg0.N,
    win0_0.index t = ![t.val % 16, 0] ∧ win0_1.index t = ![min ((t.val % 16 + 1) * 64) 1023, 0] ∧ win0_2.index t = ![t.val / 16, 0, 0]
      ∧ win0_3.index t = ![0, t.val / 16, t.val % 16, 0] ∧ win0_4.index t = ![0, t.val / 16, t.val % 16, 0]
      ∧ win0_5.index t = ![0, t.val / 16, min ((t.val % 16 + 1) * 64) 1023, 0] ∧ win0_6.index t = ![0, t.val / 16, 0, 0]
      ∧ win0_7.index t = ![0, t.val / 16, t.val % 16, 0] ∧ win0_8.index t = ![0, t.val / 16, 0, 0] :=
  (by decide +kernel : ∀ t : Fin grid0.N, _)

theorem crd : ∀ t : Fin cfg0.N, ((grid0.coords t) 1).val = t.val % 16 ∧ ((grid0.coords t) 0).val = t.val / 16 :=
  (by decide +kernel : ∀ t : Fin grid0.N, _)

theorem ib0 (c : Dev nD) (t : Fin cfg0.N) (r : Fin 512) (k : Fin 1024) :
    iblk m c 0 t (ix2 r k) = (V m c main_v30 : S8192x1024.Idx → EReal) (ix2 ⟨t.val % 16 * 512 + r.val, by omega⟩ k) := by
  blk_ext [iblk, idx t]

theorem ib1 (c : Dev nD) (t : Fin cfg0.N) (r : Fin 8) (k : Fin 1024) :
    iblk m c 1 t (ix2 r k) = (V m c main_v30 : S8192x1024.Idx → EReal) (ix2 ⟨min ((t.val % 16 + 1) * 64) 1023 * 8 + r.val, by omega⟩ k) := by
  blk_ext [iblk, idx t]

theorem ib2 (c : Dev nD) (t : Fin cfg0.N) (l : Fin 704) (k : Fin 1024) :
    iblk m c 2 t (ix3 0 l k) = (V m c main_v29 : S4x704x1024.Idx → EReal) (ix3 ⟨t.val / 16, by have := t.isLt; change _ < 64 at this; omega⟩ l k) := by
  blk_ext [iblk, idx t]

theorem ib3 (c : Dev nD) (t : Fin cfg0.N) (h : Fin 2) (r : Fin 512) (l : Fin 704) :
    iblk m c 3 t (ix4 h 0 r l) = (V m c main_v32 : S2x4x8192x704.Idx → EReal) (ix4 h ⟨t.val / 16, by have := t.isLt; change _ < 64 at this; omega⟩ ⟨t.val % 16 * 512 + r.val, by omega⟩ l) := by
  blk_ext [iblk, idx t]

theorem ib4 (c : Dev nD) (t : Fin cfg0.N) (h : Fin 2) (r : Fin 512) (l : Fin 704) :
    iblk m c 4 t (ix4 h 0 r l) = (V m c main_v34 : S2x4x8192x704.Idx → EReal) (ix4 h ⟨t.val / 16, by have := t.isLt; change _ < 64 at this; omega⟩ ⟨t.val % 16 * 512 + r.val, by omega⟩ l) := by
  blk_ext [iblk, idx t]

theorem ib5 (c : Dev nD) (t : Fin cfg0.N) (h : Fin 2) (r : Fin 8) (l : Fin 704) :
    iblk m c 5 t (ix4 h 0 r l) = (V m c main_v34 : S2x4x8192x704.Idx → EReal) (ix4 h ⟨t.val / 16, by have := t.isLt; change _ < 64 at this; omega⟩ ⟨min ((t.val % 16 + 1) * 64) 1023 * 8 + r.val, by omega⟩ l) := by
  blk_ext [iblk, idx t]

theorem ib6 (c : Dev nD) (t : Fin cfg0.N) (h : Fin 2) (k : Fin 3) (l : Fin 704) :
    iblk m c 6 t (ix4 h 0 k l) = (V m c main_v27 : S2x4x3x704.Idx → EReal) (ix4 h ⟨t.val / 16, by have := t.isLt; change _ < 64 at this; omega⟩ k l) := by
  blk_ext [iblk, idx t]

end Cert.KernelIdeal.Hand
end
-- ==== Proof.Stage.lean ====
/- The rows that a grid point computes are rows of the gradient of the whole array. -/
module

public import proofs.«01_k».proof.Proof.Arr

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Cert.Spec

variable (m : (ℓ : Loc nD τ sig) → Buf (Elt Ideal) ℓ)

/-- A point's sequence, and its row of blocks and its block of columns. -/
abbrev bq (t : Fin cfg0.N) : Fin 4 := ⟨t.val % 16 / 4, by omega⟩
abbrev gq (t : Fin cfg0.N) (l : Fin 704) : Fin 2816 := ⟨t.val / 16 * 704 + l.val, by have := t.isLt; change _ < 64 at this; omega⟩

theorem dhr_eq (c : Dev nD) (t : Fin cfg0.N) (r : ℕ) (l : Fin 704) (hr : r < 514) (hs : t.val % 16 % 4 * 512 + r < 2048) :
    dhr (grid0.coords t) (iblk m c 0 t) (iblk m c 1 t) (iblk m c 2 t) r l
      = dh (a3 m c) (a4 m c) (bq t) ⟨t.val % 16 % 4 * 512 + r, hs⟩ (gq t l) := by
  unfold dhr dh
  refine Finset.sum_congr rfl fun k _ => congrArg₂ (· * ·) ?_ ?_
  · unfold dxr
    rw [(crd t).1]
    split_ifs with h1 h2 h3
    · refine (ib0 m c t ⟨r, h1⟩ k).trans ((V30 m c _ _).trans (congrArg (a4 m c) (ix3_eq ?_ ?_ rfl)))
      · show (t.val % 16 * 512 + r) / 2048 = t.val % 16 / 4
        omega
      · show (t.val % 16 * 512 + r) % 2048 = t.val % 16 % 4 * 512 + r
        omega
    · omega
    · refine (ib1 m c t ⟨r - 512, h3⟩ k).trans ((V30 m c _ _).trans (congrArg (a4 m c) (ix3_eq ?_ ?_ rfl)))
      · show (min ((t.val % 16 + 1) * 64) 1023 * 8 + (r - 512)) / 2048 = t.val % 16 / 4
        omega
      · show (min ((t.val % 16 + 1) * 64) 1023 * 8 + (r - 512)) % 2048 = t.val % 16 % 4 * 512 + r
        omega
    · omega
  · exact (ib2 m c t l k).trans (V29 m c _ _ _)

theorem cr_eq (c : Dev nD) (t : Fin cfg0.N) (h : Fin 2) (r : ℕ) (l : Fin 704) (hr : r < 514) (hs : t.val % 16 % 4 * 512 + r < 2048) :
    cr (iblk m c 4 t) (iblk m c 5 t) h r l
      = cv (a0 m c) (a1 m c) (a2 m c) (bq t) (t.val % 16 % 4 * 512 + r) (col h (gq t l)) := by
  unfold cr
  split_ifs with h1 h2
  · refine (ib4 m c t h ⟨r, h1⟩ l).trans ((V34 m c _ _ _ _).trans (cv_eq _ _ _ ?_ ?_ ?_))
    · show (t.val % 16 * 512 + r) / 2048 = t.val % 16 / 4
      omega
    · show (t.val % 16 * 512 + r) % 2048 = t.val % 16 % 4 * 512 + r
      omega
    · show h.val * 2816 + t.val / 16 * 704 + l.val = h.val * 2816 + (t.val / 16 * 704 + l.val)
      omega
  · refine (ib5 m c t h ⟨r - 512, h2⟩ l).trans ((V34 m c _ _ _ _).trans (cv_eq _ _ _ ?_ ?_ ?_))
    · show (min ((t.val % 16 + 1) * 64) 1023 * 8 + (r - 512)) / 2048 = t.val % 16 / 4
      omega
    · show (min ((t.val % 16 + 1) * 64) 1023 * 8 + (r - 512)) % 2048 = t.val % 16 % 4 * 512 + r
      omega
    · show h.val * 2816 + t.val / 16 * 704 + l.val = h.val * 2816 + (t.val / 16 * 704 + l.val)
      omega
  · omega

theorem dhr_zero (c : Dev nD) (t : Fin cfg0.N) (r : ℕ) (l : Fin 704) (hr : 512 ≤ r) (h3 : t.val % 16 % 4 = 3) :
    dhr (grid0.coords t) (iblk m c 0 t) (iblk m c 1 t) (iblk m c 2 t) r l = 0 := by
  unfold dhr
  refine Finset.sum_eq_zero fun k _ => ?_
  unfold dxr
  rw [dif_neg (by omega), (crd t).1, if_pos h3, zero_mul]

theorem stage (c : Dev nD) (t : Fin cfg0.N) (h : Fin 2) (r : ℕ) (l : Fin 704) (hr : r < 514) :
    dcr (grid0.coords t) (iblk m c 0 t) (iblk m c 1 t) (iblk m c 2 t) (iblk m c 4 t) (iblk m c 5 t) h r l
      = dcs (a0 m c) (a1 m c) (a2 m c) (a3 m c) (a4 m c) (bq t) (t.val % 16 % 4 * 512 + r) h (gq t l) := by
  unfold dcr dcs
  by_cases hs : t.val % 16 % 4 * 512 + r < 2048
  · rw [dif_pos hs]
    by_cases h0 : h = 0
    · rw [if_pos h0, if_pos h0, dhr_eq m c t r l hr hs, cr_eq m c t 0 r l hr hs, cr_eq m c t 1 r l hr hs]
    · rw [if_neg h0, if_neg h0, dhr_eq m c t r l hr hs, cr_eq m c t 0 r l hr hs]
  · rw [dif_neg hs, dhr_zero m c t r l (by omega) (by omega)]
    unfold gate0 gate1
    rw [zero_mul, zero_mul, zero_mul, ite_self]

theorem w_eq (c : Dev nD) (t : Fin cfg0.N) (h : Fin 2) (k : Fin 3) (l : Fin 704) :
    iblk m c 6 t (ix4 h 0 k l) = a1 m c (ix2 k (col h (gq t l))) :=
  (ib6 m c t h k l).trans ((V27 m c _ _ _ _).trans (congrArg (a1 m c) (ix2_eq rfl (by
    show h.val * 2816 + t.val / 16 * 704 + l.val = h.val * 2816 + (t.val / 16 * 704 + l.val)
    omega))))

theorem u_eq (c : Dev nD) (t : Fin cfg0.N) (h : Fin 2) (r : Fin 512) (l : Fin 704) :
    iblk m c 3 t (ix4 h 0 r l) = a0 m c (ix3 (bq t) ⟨t.val % 16 % 4 * 512 + r.val, by omega⟩ (col h (gq t l))) :=
  (ib3 m c t h r l).trans ((V32 m c _ _ _ _).trans (congrArg (a0 m c) (ix3_eq (by
    show (t.val % 16 * 512 + r.val) / 2048 = t.val % 16 / 4
    omega) (by
    show (t.val % 16 * 512 + r.val) % 2048 = t.val % 16 % 4 * 512 + r.val
    omega) (by
    show h.val * 2816 + t.val / 16 * 704 + l.val = h.val * 2816 + (t.val / 16 * 704 + l.val)
    omega))))

end Cert.KernelIdeal.Hand
end
-- ==== Proof.Out.lean ====
/- What the two result arrays hold after the run. -/
module

public import proofs.«01_k».proof.Proof.Stage

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Cert.Spec

variable (m : (ℓ : Loc nD τ sig) → Buf (Elt Ideal) ℓ)

/-- The sequence gradient, at the layout that the kernel writes. -/
def G7 (c : Dev nD) (i : S2x4x8192x704.Idx) : EReal :=
  dus (a0 m c) (a1 m c) (a2 m c) (a3 m c) (a4 m c) ⟨(i 2).val / 2048, Nat.div_lt_of_lt_mul (i 2).isLt⟩ ((i 2).val % 2048) (i 0)
    ⟨(i 1).val * 704 + (i 3).val, by have h1 : (i 1).val < 4 := (i 1).isLt; have h3 : (i 3).val < 704 := (i 3).isLt; omega⟩

theorem dus_eq (u : U) (w : W) (b : B) (wd : WD) (ct : CT) {bb bb' : Fin 4} {s s' : ℕ} (h : Fin 2) {g g' : Fin 2816} (hb : bb.val = bb'.val)
    (hs : s = s') (hg : g.val = g'.val) : dus u w b wd ct bb s h g = dus u w b wd ct bb' s' h g' := by
  obtain rfl := Fin.ext hb
  obtain rfl := Fin.ext hg
  rw [hs]

theorem out7 (c : Dev nD) (t : Fin cfg0.N) : (outsAt0 m c t.val t.isLt).1
    = duB (grid0.coords t) (iblk m c 0 t) (iblk m c 1 t) (iblk m c 2 t) (iblk m c 4 t) (iblk m c 5 t) (iblk m c 6 t) := by
  by_cases h0 : t.val % 16 = 0
  · exact out7_A m c t h0
  · exact out7_B m c t h0

theorem duB_eq (c : Dev nD) (t : Fin cfg0.N) (h : Fin 2) (r : Fin 512) (l : Fin 704) :
    duB (grid0.coords t) (iblk m c 0 t) (iblk m c 1 t) (iblk m c 2 t) (iblk m c 4 t) (iblk m c 5 t) (iblk m c 6 t) (ix4 h 0 r l)
      = dus (a0 m c) (a1 m c) (a2 m c) (a3 m c) (a4 m c) (bq t) (t.val % 16 % 4 * 512 + r.val) h (gq t l) := by
  unfold duB dus
  refine congrArg₂ (· + ·) (congrArg₂ (· + ·) (congrArg₂ (· * ·) (w_eq m c t h 2 l) (stage m c t h r.val l (by omega)))
    (congrArg₂ (· * ·) (w_eq m c t h 1 l) ((stage m c t h (1 + r.val) l (by omega)).trans ?_)))
    (congrArg₂ (· * ·) (w_eq m c t h 0 l) ((stage m c t h (2 + r.val) l (by omega)).trans ?_))
  · rw [Nat.add_left_comm 1]
  · rw [Nat.add_left_comm 2]

theorem jlt (t : Fin cfg0.N) : t.val / 16 < 4 := by have := t.isLt; change _ < 64 at this; omega

theorem outEmb7 (t : Fin cfg0.N) (y : S2x1x512x704.Idx) : ((win0_7.blk t).view.emb y : S2x4x8192x704.Idx)
    = ix4 (y 0) ⟨t.val / 16, jlt t⟩ ⟨t.val % 16 * 512 + (y 2).val, by have : (y 2).val < 512 := (y 2).isLt; omega⟩ (y 3) := by
  blk_ext [idx t]

theorem outEmb8 (t : Fin cfg0.N) (y : S2x1x8x704.Idx) : ((win0_8.blk t).view.emb y : S2x4x8x704.Idx)
    = ix4 (y 0) ⟨t.val / 16, jlt t⟩ (y 2) (y 3) := by
  blk_ext [idx t]

theorem pt7 (c : Dev nD) (t : Fin cfg0.N) (y : S2x1x512x704.Idx) :
    duB (grid0.coords t) (iblk m c 0 t) (iblk m c 1 t) (iblk m c 2 t) (iblk m c 4 t) (iblk m c 5 t) (iblk m c 6 t) y
      = G7 m c (ix4 (y 0) ⟨t.val / 16, jlt t⟩ ⟨t.val % 16 * 512 + (y 2).val, by have : (y 2).val < 512 := (y 2).isLt; omega⟩ (y 3)) := by
  have e1 : y 1 = (0 : Fin 1) := Subsingleton.elim (α := Fin 1) _ _
  have e : y = ix4 (y 0) 0 (y 2) (y 3) := (ix4_eta y).symm.trans (by rw [e1]; rfl)
  have h2 : (y 2).val < 512 := (y 2).isLt
  rw [e]
  refine (duB_eq m c t (y 0) (y 2) (y 3)).trans (dus_eq _ _ _ _ _ _ ?_ ?_ rfl)
  · show t.val % 16 / 4 = (t.val % 16 * 512 + (y 2).val) / 2048
    omega
  · show t.val % 16 % 4 * 512 + (y 2).val = (t.val % 16 * 512 + (y 2).val) % 2048
    omega

theorem arr7 (c : Dev nD) : (dats m 0 c).arrAt 7 (cfgs 0).N = G7 m c := by
  refine (dats m 0 c).arrAt_eq_of_covers 7 _ (by decide +kernel) fun t hf y => ?_
  blk_simp
  rw [after0_7, out7]
  exact (pt7 m c t y).trans (congrArg (G7 m c) (outEmb7 t y).symm)

/-! ## The taps' and the bias' gradient -/

/-- What a row of the sequence adds to row `k` of the block of tap gradients (row 3 holds the bias gradient). -/
def term (c : Dev nD) (h : Fin 2) (k : ℕ) (g : Fin 2816) (bb s : ℕ) : EReal :=
  if hb : bb < 4 ∧ s < 2048 then
    (if k = 3 then dcs (a0 m c) (a1 m c) (a2 m c) (a3 m c) (a4 m c) ⟨bb, hb.1⟩ s h g
      else dcs (a0 m c) (a1 m c) (a2 m c) (a3 m c) (a4 m c) ⟨bb, hb.1⟩ (2 - k + s) h g * a0 m c (ix3 ⟨bb, hb.1⟩ ⟨s, hb.2⟩ (col h g)))
  else 0

theorem incB_eq (c : Dev nD) (t : Fin cfg0.N) (h : Fin 2) (k : Fin 4) (l : Fin 704) :
    incB (grid0.coords t) (iblk m c 0 t) (iblk m c 1 t) (iblk m c 2 t) (iblk m c 3 t) (iblk m c 4 t) (iblk m c 5 t) h k.val l
      = ∑ r : Fin 512, term m c h k.val (gq t l) (t.val % 16 / 4) (t.val % 16 % 4 * 512 + r.val) := by
  unfold incB
  have hb : ∀ r : Fin 512, t.val % 16 / 4 < 4 ∧ t.val % 16 % 4 * 512 + r.val < 2048 := fun r => by omega
  by_cases h3 : k.val = 3
  · rw [if_pos h3]
    refine Finset.sum_congr rfl fun r _ => ?_
    unfold term
    rw [dif_pos (hb r), if_pos h3, stage m c t h _ l (by omega)]
  · rw [if_neg h3]
    refine Finset.sum_congr rfl fun r _ => ?_
    unfold term
    rw [dif_pos (hb r), if_neg h3, u_eq]
    refine congrArg (· * _) ?_
    by_cases h2 : k.val = 2
    · rw [if_pos h2, stage m c t h _ l (by omega), h2, Nat.sub_self, Nat.zero_add]
    · rw [if_neg h2, stage m c t h _ l (by omega), Nat.add_left_comm]

/-- A step's addition, zero behind the grid. -/
def inc (c : Dev nD) (n : ℕ) (q : Fin 2 × Fin 4 × Fin 704) : EReal :=
  if hn : n < 64 then ∑ r : Fin 512, term m c q.1 q.2.1.val (gq ⟨n, hn⟩ q.2.2) (n % 16 / 4) (n % 16 % 4 * 512 + r.val) else 0

theorem inc_pos (c : Dev nD) (t : Fin cfg0.N) (q : Fin 2 × Fin 4 × Fin 704) :
    inc m c t.val q = ∑ r : Fin 512, term m c q.1 q.2.1.val (gq t q.2.2) (t.val % 16 / 4) (t.val % 16 % 4 * 512 + r.val) :=
  dif_pos (show t.val < 64 from t.isLt)

theorem acc (c : Dev nD) (t : Fin cfg0.N) (ht : t.val % 16 = 15) (h : Fin 2) (k : Fin 4) (l : Fin 704) :
    (outsAt0 m c t.val t.isLt).2 (ix4 h 0 ⟨k.val, by omega⟩ l)
      = ∑ a : Fin 4, ∑ s : Fin 2048, term m c h k.val (gq t l) a.val s.val := by
  have key := Pipeline.eq_sum_of_reset_step_apply_of_mod
    (fun n hn (q : Fin 2 × Fin 4 × Fin 704) => ((outsAt0 m c n hn).2 (ix4 q.1 0 ⟨q.2.1.val, by omega⟩ q.2.2) : EReal)) 16 (fun _ => (0 : EReal)) (inc m c)
    (fun t h0 q => by
      refine (out8_A m c t h0 q.1 q.2.1 q.2.2).trans (congrArg (0 + ·) ?_)
      rw [incB_eq]
      exact (inc_pos m c t q).symm)
    (fun t h0 q => by
      refine (out8_B m c t h0 q.1 q.2.1 q.2.2).trans (congrArg (_ + ·) ?_)
      rw [incB_eq]
      exact (inc_pos m c t q).symm)
    t ht (h, k, l)
  refine key.trans ?_
  rw [zero_add, Finset.sum_range]
  refine (Finset.sum_congr rfl fun n _ => ?_).trans
    (Fin.sum_points_lanes 4 4 512 fun a s => term m c h k.val (gq t l) a s)
  have hN : t.val < 64 := t.isLt
  have hn : n.val < 16 := n.isLt
  unfold inc
  rw [dif_pos (show 16 * (t.val / 16) + n.val < 64 by omega)]
  have e : gq (⟨16 * (t.val / 16) + n.val, by show _ < 64; omega⟩ : Fin cfg0.N) l = gq t l := Fin.ext (by
    show (16 * (t.val / 16) + n.val) / 16 * 704 + l.val = t.val / 16 * 704 + l.val
    omega)
  have e' : (16 * (t.val / 16) + n.val) % 16 = n.val := by omega
  refine Finset.sum_congr rfl fun r _ => ?_
  rw [e']
  exact congrArg (fun g => term m c h k.val g (n.val / 4) (n.val % 4 * 512 + r.val)) e

theorem arr8 (c : Dev nD) (h : Fin 2) (j : Fin 4) (k : Fin 4) (l : Fin 704) (g : Fin 2816) (hg : j.val * 704 + l.val = g.val) :
    ((dats m 0 c).arrAt 8 (cfgs 0).N : S2x4x8x704.Idx → EReal) (ix4 h j ⟨k.val, by omega⟩ l)
      = ∑ a : Fin 4, ∑ s : Fin 2048, term m c h k.val g a.val s.val := by
  refine (dats m 0 c).arrAt_forall_of_covers 8 (fun i v => i = ix4 h j ⟨k.val, by omega⟩ l → v = ∑ a : Fin 4, ∑ s : Fin 2048, term m c h k.val g a.val s.val)
    (by decide +kernel) (fun t hf y => ?_) (ix4 h j ⟨k.val, by omega⟩ l) (Memref.isWhole_whole _) rfl
  blk_simp
  rw [after0_8]
  intro hy
  have hy' := (outEmb8 t y).symm.trans hy
  have i0 : y 0 = h := congrFun hy' 0
  have i1 : (⟨t.val / 16, jlt t⟩ : Fin 4) = j := congrFun hy' 1
  have i2 : y 2 = (⟨k.val, by omega⟩ : Fin 8) := congrFun hy' 2
  have i3 : y 3 = l := congrFun hy' 3
  have e1 : y 1 = (0 : Fin 1) := Subsingleton.elim (α := Fin 1) _ _
  have e : y = ix4 h 0 ⟨k.val, by omega⟩ l := (ix4_eta y).symm.trans (by rw [e1, i0, i2, i3])
  rw [e]
  refine (acc m c t ((flush0_8 t).mp hf) h k l).trans ?_
  have eg : gq t l = g := Fin.ext (by
    have := congrArg Fin.val i1
    show t.val / 16 * 704 + l.val = g.val
    simp only at this
    omega)
  rw [eg]

/-! ## The host's tail -/

theorem T38 (Z : Valuation τ sig (Elt Ideal)) (bb : Fin 4) (s : Fin 2048) (h : Fin 2) (g : Fin 2816) :
    (StableHlo.after [hostOps1].flatten Z (Proc.devRef .tc main_v38) : S4x2048x5632.Idx → EReal) (ix3 bb s (col h g))
      = (Z (Proc.devRef .tc main_v35_0) : S2x4x8192x704.Idx → EReal) (ix4 h ⟨g.val / 704, by omega⟩ ⟨bb.val * 2048 + s.val, by omega⟩ ⟨g.val % 704, by omega⟩) := by
  after_reads_at
  exact congrArg _ (ix4_eq (by show (h.val * 2816 + g.val) / 2816 = h.val; omega) (by show (h.val * 2816 + g.val) / 704 % 4 = g.val / 704; omega) rfl
    (by show (h.val * 2816 + g.val) % 704 = g.val % 704; omega))

theorem T41 (Z : Valuation τ sig (Elt Ideal)) (k : Fin 3) (h : Fin 2) (g : Fin 2816) :
    (StableHlo.after [hostOps1].flatten Z (Proc.devRef .tc main_v41) : S3x5632.Idx → EReal) (ix2 k (col h g))
      = (Z (Proc.devRef .tc main_v35_1) : S2x4x8x704.Idx → EReal) (ix4 h ⟨g.val / 704, by omega⟩ ⟨k.val, by omega⟩ ⟨g.val % 704, by omega⟩) := by
  after_reads_at
  exact congrArg _ (ix4_eq (by show (h.val * 2816 + g.val) / 2816 = h.val; omega) (by show (h.val * 2816 + g.val) / 704 % 4 = g.val / 704; omega) rfl
    (by show (h.val * 2816 + g.val) % 704 = g.val % 704; omega))

theorem T44 (Z : Valuation τ sig (Elt Ideal)) (h : Fin 2) (g : Fin 2816) :
    (StableHlo.after [hostOps1].flatten Z (Proc.devRef .tc main_v44) : S5632.Idx → EReal) (ix1 (col h g))
      = (Z (Proc.devRef .tc main_v35_1) : S2x4x8x704.Idx → EReal) (ix4 h ⟨g.val / 704, by omega⟩ ⟨(3 : Fin 4).val, by decide⟩ ⟨g.val % 704, by omega⟩) := by
  after_reads_at
  exact congrArg _ (ix4_eq (by show (h.val * 2816 + g.val) / 2816 = h.val; omega) (by show (h.val * 2816 + g.val) / 704 % 4 = g.val / 704; omega) rfl
    (by show (h.val * 2816 + g.val) % 704 = g.val % 704; omega))

end Cert.KernelIdeal.Hand
end
-- ==== Proof.Math.lean ====
/- The kernel's gate gradient and the derivative of x times its sigmoid agree on real numbers; finite arrays stay finite. -/
module

public import proofs.«01_k».proof.Proof.Spec

@[expose] public section

noncomputable section

open Idealize.ShloMosaic

namespace Cert.Spec

/-- The value is a real number. -/
def IsR (x : EReal) : Prop := ∃ r : ℝ, x = (r : EReal)

theorem IsR.zero : IsR 0 := ⟨0, rfl⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.sum {ι : Type*} (s : Finset ι) (f : ι → EReal) (h : ∀ i ∈ s, IsR (f i)) : IsR (∑ i ∈ s, f i) :=
  Finset.sum_induction f IsR (fun _ _ => IsR.add) IsR.zero h

variable {u : U} {w : W} {b : B} {wd : WD} {ct : CT}

theorem cv_isR (hu : ∀ i, IsR (u i)) (hw : ∀ i, IsR (w i)) (hb : ∀ i, IsR (b i)) (bb : Fin 4) (s : ℕ) (f : Fin 5632) : IsR (cv u w b bb s f) := by
  have hup : ∀ t, IsR (up u bb t f) := fun t => by
    unfold up
    split_ifs
    · exact IsR.zero
    · exact hu _
    · exact IsR.zero
  unfold cv
  exact ((((hw _).mul (hup _)).add ((hw _).mul (hup _))).add ((hw _).mul (hup _))).add (hb _)

theorem dh_isR (hwd : ∀ i, IsR (wd i)) (hct : ∀ i, IsR (ct i)) (bb : Fin 4) (s : Fin 2048) (g : Fin 2816) : IsR (dh wd ct bb s g) :=
  IsR.sum _ _ fun _ _ => (hct _).mul (hwd _)

theorem hf_eq : hf = ((1 / 2 : ℝ) : EReal) := by
  unfold hf
  simp [Ideal.ofBits, Ideal.ieee, -EReal.coe_mul]; norm_num

/-- The sigmoid as the reference writes it. -/
def sigm (z : EReal) : EReal := Ideal.div 1 (1 + Ideal.exp (-z))

theorem sigR (x : ℝ) : (1 / 2 : ℝ) * Real.tanh (1 / 2 * x) + 1 / 2 = 1 / (1 + Real.exp (-x)) := by
  have e1 : Real.exp (-x) = Real.exp (-(1 / 2 * x)) * Real.exp (-(1 / 2 * x)) := by rw [← Real.exp_add]; congr 1; ring
  have e2 : Real.exp (1 / 2 * x) * Real.exp (-(1 / 2 * x)) = 1 := by rw [← Real.exp_add, add_neg_cancel, Real.exp_zero]
  rw [Real.tanh_eq, e1]
  have p1 := Real.exp_pos (1 / 2 * x)
  have p2 := Real.exp_pos (-(1 / 2 * x))
  generalize Real.exp (1 / 2 * x) = a at *
  generalize Real.exp (-(1 / 2 * x)) = c at *
  have h1 : a + c ≠ 0 := by positivity
  have h2 : 1 + c * c ≠ 0 := by positivity
  have h3 : 1 / 2 * ((a - c) / (a + c)) + 1 / 2 = a / (a + c) := by
    field_simp
    ring
  rw [h3, div_eq_div_iff h1 h2]
  linear_combination c * e2

theorem sgt_coe (x : ℝ) : sgt (x : EReal) = ((1 / (1 + Real.exp (-x)) : ℝ) : EReal) := by
  unfold sgt
  rw [hf_eq, ← EReal.coe_mul, Ideal.tanh_coe, ← EReal.coe_mul, ← EReal.coe_add, sigR]

theorem sig_coe (x : ℝ) : sigm (x : EReal) = ((1 / (1 + Real.exp (-x)) : ℝ) : EReal) := by
  unfold sigm
  have h : (1 : ℝ) + Real.exp (-x) ≠ 0 := by positivity
  rw [← EReal.coe_neg, Ideal.exp_coe, ← EReal.coe_one, ← EReal.coe_add, Ideal.div_coe h, ← EReal.coe_mul, one_mul]

theorem gate0_eq {d z y : EReal} (hd : IsR d) (hz : IsR z) (hy : IsR y) :
    d * y * sigm z + z * (d * y) * (sigm z * (1 - sigm z)) = gate0 d z y := by
  obtain ⟨d, rfl⟩ := hd
  obtain ⟨z, rfl⟩ := hz
  obtain ⟨y, rfl⟩ := hy
  unfold gate0
  rw [sig_coe, sgt_coe]
  generalize (1 / (1 + Real.exp (-z)) : ℝ) = q
  rw [← EReal.coe_one]
  norm_cast
  ring

theorem gate1_eq {d z : EReal} (hz : IsR z) : z * sigm z * d = gate1 d z := by
  obtain ⟨z, rfl⟩ := hz
  unfold gate1
  rw [sig_coe, sgt_coe, mul_comm]

/-- Reading `n` rows behind is the same sum as reading `n` rows ahead, where nothing is left behind the end. -/
theorem sum_shift (N n : ℕ) (hn : n ≤ N) (D x y : ℕ → EReal) (hD : ∀ s, N ≤ s → D s = 0) (h0 : ∀ s, s < n → y s = 0) (h1 : ∀ s, n + s < N → y (n + s) = x s) :
    ∑ s ∈ Finset.range N, D s * y s = ∑ s ∈ Finset.range N, D (n + s) * x s := by
  obtain ⟨k, rfl⟩ := Nat.exists_eq_add_of_le hn
  have hl : ∑ s ∈ Finset.range (n + k), D s * y s = ∑ s ∈ Finset.range k, D (n + s) * x s := by
    rw [Finset.sum_range_add, Finset.sum_eq_zero (fun s hs => by rw [h0 s (Finset.mem_range.mp hs), mul_zero]), zero_add]
    exact Finset.sum_congr rfl fun s hs => by rw [h1 s (by have := Finset.mem_range.mp hs; omega)]
  rw [hl, Nat.add_comm n k, Finset.sum_range_add]
  refine (add_zero _).symm.trans (congrArg (_ + ·) (Finset.sum_eq_zero fun s hs => ?_).symm)
  rw [hD _ (by omega), zero_mul]

end Cert.Spec
end
-- ==== Proof.Ref.lean ====
/- The reference's results in plain sums. -/
module

public import proofs.«01_k».proof.Proof.Math
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read
open Cert.Spec

variable (u : U) (w : W) (b : B) (wd : WD) (ct : CT)

theorem R26 (bb : Fin 4) (s : Fin 2048) (f : Fin 5632) : val_main_v26 (F := Ideal) u w b (ix3 bb s f) = cv u w b bb s.val f := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_v2, val_main_v1, val_main_cst]
  refine congrArg₂ (· + ·) (congrArg₂ (· + ·) (congrArg₂ (· + ·) (congrArg₂ (· * ·) rfl ?_) (congrArg₂ (· * ·) rfl ?_)) (congrArg₂ (· * ·) rfl ?_)) rfl
  · by_cases h1 : s.val < 2
    · exact (dif_pos h1).trans (up_lt _ _ h1).symm
    · exact (dif_neg h1).trans (up_ge _ _ h1 _).symm
  · by_cases h1 : 1 + s.val < 2
    · exact (dif_pos h1).trans (up_lt _ _ h1).symm
    · exact (dif_neg h1).trans (up_ge _ _ h1 _).symm
  · exact (up_two _ _ s.isLt).symm

theorem R32 (bb : Fin 4) (s : Fin 2048) (g : Fin 2816) : val_main_v32 (F := Ideal) wd ct (ix3 bb s g) = dh wd ct bb s g := by
  pointwise [val_main_v32]
  rfl

theorem dcs_lt (bb : Fin 4) (s : Fin 2048) (h : Fin 2) (g : Fin 2816) : dcs u w b wd ct bb s.val h g
    = if h = 0 then gate0 (dh wd ct bb s g) (cv u w b bb s.val (col 0 g)) (cv u w b bb s.val (col 1 g))
      else gate1 (dh wd ct bb s g) (cv u w b bb s.val (col 0 g)) := dif_pos s.isLt

/-- The arguments are real numbers. -/
structure Fins : Prop where
  u : ∀ i, IsR (u i)
  w : ∀ i, IsR (w i)
  b : ∀ i, IsR (b i)
  wd : ∀ i, IsR (wd i)
  ct : ∀ i, IsR (ct i)

theorem P38 (bb : Fin 4) (s : Fin 2048) (f : Fin 5632) : val_main_v38 (F := Ideal) u w b wd ct (ix3 bb s f)
    = (if h : 2816 ≤ f.val then val_main_v26 (F := Ideal) u w b (ix3 bb s ⟨f.val - 2816, by omega⟩) * sigm (val_main_v26 (F := Ideal) u w b (ix3 bb s ⟨f.val - 2816, by omega⟩))
        * val_main_v32 (F := Ideal) wd ct (ix3 bb s ⟨f.val - 2816, by omega⟩) else 0)
      + (if h : f.val < 2816 then
          val_main_v32 (F := Ideal) wd ct (ix3 bb s ⟨f.val, h⟩) * val_main_v26 (F := Ideal) u w b (ix3 bb s ⟨2816 + f.val, by omega⟩) * sigm (val_main_v26 (F := Ideal) u w b (ix3 bb s f))
          + val_main_v26 (F := Ideal) u w b (ix3 bb s f) * (val_main_v32 (F := Ideal) wd ct (ix3 bb s ⟨f.val, h⟩) * val_main_v26 (F := Ideal) u w b (ix3 bb s ⟨2816 + f.val, by omega⟩))
            * (sigm (val_main_v26 (F := Ideal) u w b (ix3 bb s f)) * (1 - sigm (val_main_v26 (F := Ideal) u w b (ix3 bb s f))))
        else 0) := by
  pointwise [val_main_v38, val_main_v37, val_main_v36, val_main_v35, val_main_v34, val_main_v33, val_main_v29, val_main_v28_0, val_main_v28_1, val_main_v28_2, val_main_v27,
    val_main_call0_v0, val_main_call0_v1, val_main_call0_v2, val_main_call0_v3, val_main_call0_v4, val_main_call0_v6, val_main_call0_v7, val_main_call0_cst, val_main_call0_cst_0,
    val_main_call0_cst_1, val_main_call1_v0, val_main_call1_v1, val_main_call1_v2, val_main_cst_1, val_main_cst_2]
  refine congrArg₂ (· + ·) ?_ rfl
  by_cases h : 2816 ≤ f.val
  · refine (dif_pos ⟨h, by omega⟩).trans ?_
    rw [dif_pos h]
    rfl
  · refine (dif_neg fun hh => h hh.1).trans ?_
    rw [dif_neg h]

theorem R38 (hF : Fins u w b wd ct) (bb : Fin 4) (s : Fin 2048) (h : Fin 2) (g : Fin 2816) :
    val_main_v38 (F := Ideal) u w b wd ct (ix3 bb s (col h g)) = dcs u w b wd ct bb s.val h g := by
  refine (P38 u w b wd ct bb s (col h g)).trans ?_
  rw [dcs_lt]
  have hz := cv_isR hF.u hF.w hF.b bb s.val (col 0 g)
  have hy := cv_isR hF.u hF.w hF.b bb s.val (col 1 g)
  have hd := dh_isR hF.wd hF.ct bb s g
  by_cases h0 : h = 0
  · subst h0
    have n0 : (0 : Fin 2).val = 0 := rfl
    have hlt : (col 0 g).val < 2816 := by show 0 * 2816 + g.val < 2816; omega
    have e0 : (⟨(col 0 g).val, hlt⟩ : Fin 2816) = g := Fin.ext (by show 0 * 2816 + g.val = g.val; omega)
    have e1 : (⟨2816 + (col 0 g).val, by omega⟩ : Fin 5632) = col 1 g := Fin.ext (by show 2816 + (0 * 2816 + g.val) = 1 * 2816 + g.val; omega)
    rw [dif_neg (Nat.not_le.mpr hlt), dif_pos hlt, zero_add, if_pos rfl, ← gate0_eq hd hz hy, e0, e1, R26, R26, R32]
  · have h1 : h = 1 := by omega
    subst h1
    have hge : 2816 ≤ (col 1 g).val := by show 2816 ≤ 1 * 2816 + g.val; omega
    have e0 : (⟨(col 1 g).val - 2816, by show 1 * 2816 + g.val - 2816 < 2816; omega⟩ : Fin 2816) = g := Fin.ext (by show 1 * 2816 + g.val - 2816 = g.val; omega)
    have e1 : (⟨(col 1 g).val - 2816, by omega⟩ : Fin 5632) = col 0 g := Fin.ext (by show 1 * 2816 + g.val - 2816 = 0 * 2816 + g.val; omega)
    rw [dif_pos hge, dif_neg (Nat.not_lt.mpr hge), add_zero, if_neg h0, ← gate1_eq hz, e0, e1, R26, R32]

/-! ## Sums over the sequences and their rows -/

/-- A host sum over the first two axes of three. -/
theorem hostSum01 {n0 n1 n2 : ℕ} (h : (⟨3, ![n0, n1, n2]⟩ : Shape).ReducesTo [0, 1] ⟨1, ![n2]⟩) (v : (⟨3, ![n0, n1, n2]⟩ : Shape).Idx → EReal) (init : EReal)
    (f : Fin n2) : Ideal.hostReduceAdd h v init (ix1 f) = init + ∑ a : Fin n0, ∑ c : Fin n1, v (ix3 a c f) := by
  refine congrArg (init + ·) ?_
  refine (Finset.sum_filter_eq_sum_of_fiber _ (fun k : Fin n0 × Fin n1 => ix3 k.1 k.2 f)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b'
      apply Fin.ext
      match b' with
      | ⟨0, _⟩ => rfl
  · simp only [Fintype.sum_prod_type]

theorem red2 (x : S4x2048x5632.Idx → EReal) (f : Fin 5632) :
    Ideal.hostReduceAdd reducesTo_S1x1x5632_S5632_d0_1
      (shapeCast S1x1x5632
        (Host.reduceAdd (F := Ideal) (φ := .f32) x (constant S_ FTy.f32 0#32) reducesTo_S4x2048x5632_S5632_d0_1 h_S_)
        shapeCasts_S5632_S1x1x5632)
      0 (ix1 f) = ∑ bb : Fin 4, ∑ s : Fin 2048, x (ix3 bb s f) := by
  rw [hostSum01, zero_add, Fin.sum_univ_one, Fin.sum_univ_one]
  pointwise
  rw [hostSum01, zero_add]

theorem R41 (hF : Fins u w b wd ct) (h : Fin 2) (g : Fin 2816) : val_main_v41 (F := Ideal) u w b wd ct (ix1 (col h g)) = dbs u w b wd ct h g := by
  pointwise [val_main_v41, val_main_v40, val_main_v39, val_main_cst_3, val_main_cst_4]
  refine (red2 _ _).trans (Finset.sum_congr rfl fun bb _ => Finset.sum_congr rfl fun s _ => R38 u w b wd ct hF bb s h g)

theorem P74 (bb : Fin 4) (s : Fin 2048) (f : Fin 5632) :
    val_main_v74 (F := Ideal) u w b wd ct (ix3 bb s f) = w (ix2 2 f) * val_main_v38 (F := Ideal) u w b wd ct (ix3 bb s f)
      + (if h : 1 + s.val < 2048 then w (ix2 1 f) * val_main_v38 (F := Ideal) u w b wd ct (ix3 bb ⟨1 + s.val, h⟩ f) else 0)
      + (if h : 2 + s.val < 2048 then w (ix2 0 f) * val_main_v38 (F := Ideal) u w b wd ct (ix3 bb ⟨2 + s.val, h⟩ f) else 0) := by
  pointwise [val_main_v74, val_main_v69, val_main_v68, val_main_v63, val_main_v62, val_main_v58, val_main_v57, val_main_v52, val_main_v51, val_main_v48, val_main_v43, val_main_v42,
    val_main_v20, val_main_v18, val_main_v17, val_main_v13, val_main_v11, val_main_v10, val_main_v7, val_main_v5, val_main_v4, val_main_cst_7, val_main_cst_11, val_main_cst_15]
  refine congrArg₂ (· + ·) (congrArg₂ (· + ·) rfl ?_) rfl
  by_cases hs : 1 + s.val < 2048
  · refine (dif_pos ⟨by omega, by omega⟩).trans (Eq.trans ?_ (dif_pos hs).symm)
    exact congrArg (fun a => w (ix2 1 f) * val_main_v38 (F := Ideal) u w b wd ct a) (ix3_eq rfl (by show 2 + s.val - 1 = 1 + s.val; omega) rfl)
  · refine (dif_neg (fun hh => hs (by have := hh.2; omega))).trans ?_
    rw [dif_neg hs]

theorem R74 (hF : Fins u w b wd ct) (bb : Fin 4) (s : Fin 2048) (h : Fin 2) (g : Fin 2816) :
    val_main_v74 (F := Ideal) u w b wd ct (ix3 bb s (col h g)) = dus u w b wd ct bb s.val h g := by
  refine (P74 u w b wd ct bb s (col h g)).trans ?_
  unfold dus
  refine congrArg₂ (· + ·) (congrArg₂ (· + ·) ?_ ?_) ?_
  · rw [R38 u w b wd ct hF]
  · by_cases hs : 1 + s.val < 2048
    · rw [dif_pos hs, R38 u w b wd ct hF]
    · rw [dif_neg hs, show dcs u w b wd ct bb (1 + s.val) h g = 0 from dif_neg hs, mul_zero]
  · by_cases hs : 2 + s.val < 2048
    · rw [dif_pos hs, R38 u w b wd ct hF]
    · rw [dif_neg hs, show dcs u w b wd ct bb (2 + s.val) h g = 0 from dif_neg hs, mul_zero]

/-- The tap sums: rows of the gradient against the input `2 - k` rows behind. -/
theorem tap (hF : Fins u w b wd ct) (x : S4x2048x5632.Idx → EReal) (k : ℕ) (hk : k ≤ 2) (h : Fin 2) (g : Fin 2816)
    (hx : ∀ bb s, x (ix3 bb s (col h g)) = val_main_v38 (F := Ideal) u w b wd ct (ix3 bb s (col h g)) * up u bb (k + s.val) (col h g)) :
    ∑ bb : Fin 4, ∑ s : Fin 2048, x (ix3 bb s (col h g)) = dws u w b wd ct k h g := by
  refine Finset.sum_congr rfl fun bb _ => ?_
  have e1 : ∑ s : Fin 2048, x (ix3 bb s (col h g)) = ∑ s ∈ Finset.range 2048, dcs u w b wd ct bb s h g * up u bb (k + s) (col h g) := by
    rw [Finset.sum_range]
    exact Finset.sum_congr rfl fun s _ => by rw [hx, R38 u w b wd ct hF]
  have e2 : ∑ s : Fin 2048, dcs u w b wd ct bb (2 - k + s.val) h g * u (ix3 bb s (col h g))
      = ∑ s ∈ Finset.range 2048, dcs u w b wd ct bb (2 - k + s) h g * up u bb (2 + s) (col h g) := by
    rw [Finset.sum_range]
    exact Finset.sum_congr rfl fun s _ => by rw [up_two u (col h g) s.isLt]
  rw [e1, e2]
  refine sum_shift 2048 (2 - k) (by omega) _ _ _ (fun s hs => dif_neg (by omega)) (fun s hs => up_lt u _ (by omega)) (fun s _ => ?_)
  show up u bb (k + (2 - k + s)) (col h g) = up u bb (2 + s) (col h g)
  rw [show k + (2 - k + s) = 2 + s by omega]

/-- The sum over the sequences and their rows. -/
def tot (x : S4x2048x5632.Idx → EReal) (f : Fin 5632) : EReal := ∑ bb : Fin 4, ∑ s : Fin 2048, x (ix3 bb s f)

theorem P72 (k : Fin 3) (f : Fin 5632) : val_main_v72 (F := Ideal) u w b wd ct (ix2 k f)
    = (if k.val = 2 then tot (val_main_v44 (F := Ideal) u w b wd ct) f else 0) + (if k.val = 1 then tot (val_main_v53 (F := Ideal) u w b wd ct) f else 0)
      + (if k.val = 0 then tot (val_main_v64 (F := Ideal) u w b wd ct) f else 0) := by
  pointwise [val_main_v72, val_main_v71, val_main_v70, val_main_v67, val_main_v66, val_main_v65, val_main_v61, val_main_v60, val_main_v59, val_main_v56, val_main_v55, val_main_v54,
    val_main_v50, val_main_v49, val_main_v47, val_main_v46, val_main_v45, val_main_cst_5, val_main_cst_6, val_main_cst_8, val_main_cst_9,
    val_main_cst_10, val_main_cst_12, val_main_cst_13, val_main_cst_14, val_main_cst_16]
  refine congrArg₂ (· + ·) (congrArg₂ (· + ·) ?_ ?_) ?_
  · by_cases hk : k.val = 2
    · exact (dif_pos (by omega)).trans ((red2 _ f).trans (if_pos hk).symm)
    · exact (dif_neg (by omega)).trans (if_neg hk).symm
  · by_cases hk : k.val = 1
    · exact (dif_pos (by omega)).trans ((red2 _ f).trans (if_pos hk).symm)
    · exact (dif_neg (by omega)).trans (if_neg hk).symm
  · by_cases hk : k.val = 0
    · exact (dif_pos (by omega)).trans ((red2 _ f).trans (if_pos hk).symm)
    · exact (dif_neg (by omega)).trans (if_neg hk).symm

theorem P64 (bb : Fin 4) (s : Fin 2048) (f : Fin 5632) : val_main_v64 (F := Ideal) u w b wd ct (ix3 bb s f)
    = val_main_v38 (F := Ideal) u w b wd ct (ix3 bb s f) * up u bb (0 + s.val) f := by
  rw [Nat.zero_add]
  pointwise [val_main_v64, val_main_v6, val_main_v2, val_main_v1, val_main_cst]
  refine congrArg₂ (· * ·) rfl ?_
  by_cases h1 : s.val < 2
  · exact (dif_pos h1).trans (up_lt _ _ h1).symm
  · exact (dif_neg h1).trans (up_ge _ _ h1 _).symm

theorem P53 (bb : Fin 4) (s : Fin 2048) (f : Fin 5632) : val_main_v53 (F := Ideal) u w b wd ct (ix3 bb s f)
    = val_main_v38 (F := Ideal) u w b wd ct (ix3 bb s f) * up u bb (1 + s.val) f := by
  pointwise [val_main_v53, val_main_v12, val_main_v2, val_main_v1, val_main_cst]
  refine congrArg₂ (· * ·) rfl ?_
  by_cases h1 : 1 + s.val < 2
  · exact (dif_pos h1).trans (up_lt _ _ h1).symm
  · exact (dif_neg h1).trans (up_ge _ _ h1 _).symm

theorem P44 (bb : Fin 4) (s : Fin 2048) (f : Fin 5632) : val_main_v44 (F := Ideal) u w b wd ct (ix3 bb s f)
    = val_main_v38 (F := Ideal) u w b wd ct (ix3 bb s f) * up u bb (2 + s.val) f := by
  pointwise [val_main_v44, val_main_v19, val_main_v2, val_main_v1, val_main_cst]
  exact congrArg₂ (· * ·) rfl (up_two _ _ s.isLt).symm

theorem R72 (hF : Fins u w b wd ct) (k : Fin 3) (h : Fin 2) (g : Fin 2816) : val_main_v72 (F := Ideal) u w b wd ct (ix2 k (col h g)) = dws u w b wd ct k.val h g := by
  have t2 : tot (val_main_v44 (F := Ideal) u w b wd ct) (col h g) = dws u w b wd ct 2 h g := tap u w b wd ct hF _ 2 (le_refl _) h g fun bb s => P44 u w b wd ct bb s _
  have t1 : tot (val_main_v53 (F := Ideal) u w b wd ct) (col h g) = dws u w b wd ct 1 h g := tap u w b wd ct hF _ 1 (by omega) h g fun bb s => P53 u w b wd ct bb s _
  have t0 : tot (val_main_v64 (F := Ideal) u w b wd ct) (col h g) = dws u w b wd ct 0 h g := tap u w b wd ct hF _ 0 (by omega) h g fun bb s => P64 u w b wd ct bb s _
  refine (P72 u w b wd ct k (col h g)).trans ?_
  rw [t2, t1, t0]
  match k with
  | ⟨0, _⟩ => simp
  | ⟨1, _⟩ => simp
  | ⟨2, _⟩ => simp

end Cert.ReferenceIdeal.Hand
end
-- ==== Proof.Pre.lean ====
/- Arguments that meet the precondition are real numbers. -/
module

public import proofs.«01_k».proof.Proof.Ref
public import proofs.«01_k».proof.Proof.Gen.Pre_finite
public import Idealize.ShloMosaic.Lib.ReduceAll

@[expose] public section

noncomputable section

open Idealize.ShloMosaic

namespace Cert.Pre_finite.Hand

open Cert.Pre_finite Cert.Pre_finite.Gen
open Cert.Spec

theorem isR_of_lt {x : EReal} (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  have h' : max x (-x) < ⊤ := by
    by_contra hn
    simp [Ideal.cmp, hn] at h
  induction x using EReal.rec with
  | bot => simp at h'
  | top => simp at h'
  | coe r => exact ⟨r, rfl⟩

theorem fins (u : U) (w : W) (b : B) (wd : WD) (ct : CT) (h : fn (F := Ideal) u w b wd ct = fun _ => 1#1) : Cert.ReferenceIdeal.Hand.Fins u w b wd ct := by
  have h := congrFun h (fun a => a.elim0)
  dsimp only [fn, fn_part1] at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun i => isR_of_lt (Host.reduce_andi_all _ _ _ _ _ h0 i), fun i => isR_of_lt (Host.reduce_andi_all _ _ _ _ _ h1 i),
    fun i => isR_of_lt (Host.reduce_andi_all _ _ _ _ _ h2 i), fun i => isR_of_lt (Host.reduce_andi_all _ _ _ _ _ h3 i),
    fun i => isR_of_lt (Host.reduce_andi_all _ _ _ _ _ h4 i)⟩

end Cert.Pre_finite.Hand
end
-- ==== Proof.Final.lean ====
/- The three arrays that the kernel's program returns, and the run that leaves them. -/
module

public import proofs.«01_k».proof.Proof.Out
public import proofs.«01_k».proof.Proof.Ref
public import proofs.«01_k».proof.Proof.Pre
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Cert.Spec

variable (m : (ℓ : Loc nD τ sig) → Buf (Elt Ideal) ℓ)

/-- The buffers as the region leaves them. -/
abbrev Zr (c : Dev nD) : Valuation τ sig (Elt Ideal) :=
  Pipeline.withArrays (cfgs 0).spec c (V0 m c) fun w => (dats m 0 c).arrAt w (cfgs 0).N

theorem Z7 (c : Dev nD) : Zr m c (Proc.devRef .tc main_v35_0) = (dats m 0 c).arrAt 7 (cfgs 0).N :=
  Dat.withArrays_arrAt (dats m 0 c) sharedIn0 (V0 m c) (A_eq m c) 7

theorem Z8 (c : Dev nD) : Zr m c (Proc.devRef .tc main_v35_1) = (dats m 0 c).arrAt 8 (cfgs 0).N :=
  Dat.withArrays_arrAt (dats m 0 c) sharedIn0 (V0 m c) (A_eq m c) 8

theorem K38 (c : Dev nD) (bb : Fin 4) (s : Fin 2048) (h : Fin 2) (g : Fin 2816) :
    (Pipeline.afterTail₀ cfgs (dats m) 0 (V0 m) [hostOps1] c main_v38 : S4x2048x5632.Idx → EReal) (ix3 bb s (col h g))
      = dus (a0 m c) (a1 m c) (a2 m c) (a3 m c) (a4 m c) bb s.val h g := by
  refine (T38 (Zr m c) bb s h g).trans ?_
  rw [Z7, arr7]
  exact dus_eq _ _ _ _ _ h (by show (bb.val * 2048 + s.val) / 2048 = bb.val; omega) (by show (bb.val * 2048 + s.val) % 2048 = s.val; omega)
    (by show g.val / 704 * 704 + g.val % 704 = g.val; omega)

theorem K41 (c : Dev nD) (k : Fin 3) (h : Fin 2) (g : Fin 2816) :
    (Pipeline.afterTail₀ cfgs (dats m) 0 (V0 m) [hostOps1] c main_v41 : S3x5632.Idx → EReal) (ix2 k (col h g))
      = dws (a0 m c) (a1 m c) (a2 m c) (a3 m c) (a4 m c) k.val h g := by
  refine (T41 (Zr m c) k h g).trans ?_
  rw [Z8]
  refine Eq.trans (α := EReal) (arr8 m c h ⟨g.val / 704, by omega⟩ ⟨k.val, by omega⟩ ⟨g.val % 704, by omega⟩ g (by show g.val / 704 * 704 + g.val % 704 = g.val; omega)) ?_
  refine Finset.sum_congr rfl fun a _ => Finset.sum_congr rfl fun s _ => ?_
  have hk : ¬ k.val = 3 := by omega
  exact (dif_pos ⟨a.isLt, s.isLt⟩).trans (if_neg hk)

theorem K44 (c : Dev nD) (h : Fin 2) (g : Fin 2816) :
    (Pipeline.afterTail₀ cfgs (dats m) 0 (V0 m) [hostOps1] c main_v44 : S5632.Idx → EReal) (ix1 (col h g))
      = dbs (a0 m c) (a1 m c) (a2 m c) (a3 m c) (a4 m c) h g := by
  refine (T44 (Zr m c) h g).trans ?_
  rw [Z8]
  refine Eq.trans (α := EReal) (arr8 m c h ⟨g.val / 704, by omega⟩ 3 ⟨g.val % 704, by omega⟩ g (by show g.val / 704 * 704 + g.val % 704 = g.val; omega)) ?_
  refine Finset.sum_congr rfl fun a _ => Finset.sum_congr rfl fun s _ => ?_
  exact (dif_pos ⟨a.isLt, s.isLt⟩).trans (if_pos rfl)

/-- Each of the 5632 channels is a half and a place in it. -/
theorem eq_col (f : Fin 5632) : f = col ⟨f.val / 2816, by omega⟩ ⟨f.val % 2816, by omega⟩ :=
  Fin.ext (by show f.val = f.val / 2816 * 2816 + f.val % 2816; omega)

theorem E38 (c : Dev nD) (hF : Cert.ReferenceIdeal.Hand.Fins (a0 m c) (a1 m c) (a2 m c) (a3 m c) (a4 m c)) :
    (Pipeline.afterTail₀ cfgs (dats m) 0 (V0 m) [hostOps1] c main_v38 : S4x2048x5632.Idx → EReal)
      = Cert.ReferenceIdeal.Read.val_main_v74 (F := Ideal) (a0 m c) (a1 m c) (a2 m c) (a3 m c) (a4 m c) := by
  funext i
  rw [eq_ix3 i, eq_col (i 2)]
  exact (K38 m c _ _ _ _).trans (Cert.ReferenceIdeal.Hand.R74 _ _ _ _ _ hF _ _ _ _).symm

theorem E41 (c : Dev nD) (hF : Cert.ReferenceIdeal.Hand.Fins (a0 m c) (a1 m c) (a2 m c) (a3 m c) (a4 m c)) :
    (Pipeline.afterTail₀ cfgs (dats m) 0 (V0 m) [hostOps1] c main_v41 : S3x5632.Idx → EReal)
      = Cert.ReferenceIdeal.Read.val_main_v72 (F := Ideal) (a0 m c) (a1 m c) (a2 m c) (a3 m c) (a4 m c) := by
  funext i
  rw [eq_ix2 i, eq_col (i 1)]
  exact (K41 m c _ _ _).trans (Cert.ReferenceIdeal.Hand.R72 _ _ _ _ _ hF _ _ _).symm

theorem E44 (c : Dev nD) (hF : Cert.ReferenceIdeal.Hand.Fins (a0 m c) (a1 m c) (a2 m c) (a3 m c) (a4 m c)) :
    (Pipeline.afterTail₀ cfgs (dats m) 0 (V0 m) [hostOps1] c main_v44 : S5632.Idx → EReal)
      = Cert.ReferenceIdeal.Read.val_main_v41 (F := Ideal) (a0 m c) (a1 m c) (a2 m c) (a3 m c) (a4 m c) := by
  funext i
  rw [eq_ix1 i, eq_col (i 0)]
  exact (K44 m c _ _).trans (Cert.ReferenceIdeal.Hand.R41 _ _ _ _ _ hF _ _).symm

/-- The run: the three results at the lines after the region, the arguments unchanged. -/
theorem run_results (ρ : Dev nD → PrngReg) :
    θ_run defs (onTc (τ := τ) (main (F := Ideal))) ⟨m, fun _ => 0, ρ⟩ (fun r => ∀ c : Dev nD,
      r.2.mem ((c.tc : Thread nD τ).loc main_v38) = Pipeline.afterTail₀ cfgs (dats m) 0 (V0 m) [hostOps1] c main_v38
      ∧ r.2.mem ((c.tc : Thread nD τ).loc main_v41) = Pipeline.afterTail₀ cfgs (dats m) 0 (V0 m) [hostOps1] c main_v41
      ∧ r.2.mem ((c.tc : Thread nD τ).loc main_v44) = Pipeline.afterTail₀ cfgs (dats m) 0 (V0 m) [hostOps1] c main_v44) :=
  (θ_run defs _ _).mono (fun _ h c => ⟨(h c).2 main_v38 (Pipeline.mem_restRefs_of main_v38 (by decide) (by decide)),
    (h c).2 main_v41 (Pipeline.mem_restRefs_of main_v41 (by decide) (by decide)),
    (h c).2 main_v44 (Pipeline.mem_restRefs_of main_v44 (by decide) (by decide))⟩) (run_main m ρ)

end Cert.KernelIdeal.Hand
-- ==== Proof.UpSpec.lean ====
/- The gradient of a norm and the product behind it, in plain sums over the argument arrays: what both programs compute. -/
module

public import proofs.«01_k».proof.Proof.Math

@[expose] public section

noncomputable section

open Idealize.ShloMosaic

namespace Cert.Spec.Up

/-- The row's length and the norm's constant, as both programs write them. -/
def nn : EReal := Ideal.ofBits .f32 1149239296#32
def ee : EReal := Ideal.ofBits .f32 897988541#32

/-- The mean square of a row, with the norm's constant. -/
def ms (x : Fin 1024 → EReal) : EReal := Ideal.div (∑ k, x k * x k) nn + ee
/-- What the norm multiplies a row by. -/
def rr (x : Fin 1024 → EReal) : EReal := Ideal.rsqrt (ms x)
/-- The gradient at a row, from the gradient `d` behind the norm, the norm's weights `g` and the residual's gradient `t`. -/
def dx (x d g t : Fin 1024 → EReal) (k : Fin 1024) : EReal :=
  t k + rr x * (d k * g k - x k * rr x * Ideal.div (∑ q, d q * g q * (x q * rr x)) nn)
/-- What a row adds to the gradient of the norm's weights. -/
def dg (x d : Fin 1024 → EReal) (k : Fin 1024) : EReal := d k * (x k * rr x)

/-- The same gradient as the reference writes it. -/
def dxRef (x d g t : Fin 1024 → EReal) (k : Fin 1024) : EReal :=
  let q := Ideal.div ((∑ q, x q * (d q * g q)) * (Ideal.ofBits .f32 0xBF000000#32 * Ideal.div (rr x) (ms x))) nn
  t k + d k * g k * rr x + x k * q + q * x k

theorem nn_eq : nn = ((1024 : ℝ) : EReal) := by
  unfold nn
  simp [Ideal.ofBits, Ideal.ieee, -EReal.coe_mul]; norm_num

theorem ee_eq : ∃ e : ℝ, 0 < e ∧ ee = (e : EReal) := by
  refine ⟨(8388608 + 407485) * 2 ^ (-43 : ℤ), by norm_num, ?_⟩
  unfold ee
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

theorem coe_sum' {ι : Type} [Fintype ι] (f : ι → ℝ) : (∑ i, (f i : EReal)) = ((∑ i, f i : ℝ) : EReal) := by
  classical
  induction (Finset.univ : Finset ι) using Finset.induction_on with
  | empty => rfl
  | insert a s ha ih => rw [Finset.sum_insert ha, Finset.sum_insert ha, ih, EReal.coe_add]

theorem rsqrt_coe' {v : ℝ} (h : 0 < v) : Ideal.rsqrt (v : EReal) = (((Real.sqrt v)⁻¹ : ℝ) : EReal) := by
  rw [Ideal.rsqrt_coe, if_neg h.not_gt, if_neg h.ne']

/-- A real factor of either sign, taken twice. -/
theorem twice (c : ℝ) (S : EReal) : (c : EReal) * S + c * S = ((2 * c : ℝ) : EReal) * S := by
  have e : (((2 * c : ℝ)) : EReal) = (c : EReal) + c := by rw [← EReal.coe_add, two_mul]
  rcases le_total 0 c with h | h
  · rw [e]
    exact (EReal.right_distrib_of_nonneg (by exact_mod_cast h) (by exact_mod_cast h)).symm
  · rcases h.eq_or_lt with h | h
    · subst h
      simp
    · have h2 : 2 * c < 0 := by linarith
      induction S using EReal.rec with
      | bot => rw [EReal.coe_mul_bot_of_neg h, EReal.coe_mul_bot_of_neg h2]; rfl
      | top => rw [EReal.coe_mul_top_of_neg h, EReal.coe_mul_top_of_neg h2]; rfl
      | coe s =>
        rw [← EReal.coe_mul, ← EReal.coe_mul, ← EReal.coe_add]
        exact congrArg _ (by ring)

theorem sum_mul_real {ι : Type} [Fintype ι] (f : ι → EReal) {r : ℝ} (hr : 0 ≤ r) : ∑ i, f i * (r : EReal) = (∑ i, f i) * r := by
  classical
  induction (Finset.univ : Finset ι) using Finset.induction_on with
  | empty => simp
  | insert a s ha ih =>
    rw [Finset.sum_insert ha, Finset.sum_insert ha, ih,
      EReal.right_distrib_of_nonneg_of_ne_top (by exact_mod_cast hr) (EReal.coe_ne_top r)]

/-- A row with an infinite entry has an infinite mean square. -/
theorem ms_top {x : Fin 1024 → EReal} {j : Fin 1024} (hj : x j = ⊤ ∨ x j = ⊥) : ms x = ⊤ := by
  obtain ⟨e, _, hee⟩ := ee_eq
  have h1 : x j * x j = ⊤ := by rcases hj with h | h <;> rw [h] <;> rfl
  have h0 : ∀ k, 0 ≤ x k * x k := fun k => by
    rcases le_total 0 (x k) with h | h
    · exact mul_nonneg h h
    · exact EReal.mul_nonneg_iff.mpr (.inr ⟨h, h⟩)
  have hs : ∑ k, x k * x k = ⊤ := by
    refine top_le_iff.mp (h1 ▸ ?_)
    exact Finset.single_le_sum (f := fun k => x k * x k) (fun k _ => h0 k) (Finset.mem_univ j)
  have hN : (1024 : ℝ) ≠ 0 := by norm_num
  unfold ms
  rw [hs, nn_eq, hee, Ideal.div_coe hN, EReal.top_mul_coe_of_pos (by norm_num), EReal.top_add_coe]

theorem dx_eq (x d g t : Fin 1024 → EReal) (k : Fin 1024) : dxRef x d g t k = dx x d g t k := by
  have hN : (1024 : ℝ) ≠ 0 := by norm_num
  by_cases hx : ∃ j, x j = ⊤ ∨ x j = ⊥
  · obtain ⟨j, hj⟩ := hx
    have hm := ms_top hj
    have hr : rr x = 0 := by
      unfold rr
      rw [hm]
      rfl
    have hd : Ideal.div 0 ⊤ = 0 := by simp [Ideal.div]
    unfold dxRef dx
    rw [hr, hm, nn_eq, hd]
    simp only [Ideal.div_coe hN, mul_zero, zero_mul, add_zero]
  have hx' : ∀ j, ∃ r : ℝ, x j = (r : EReal) := fun j => by
    refine ⟨(x j).toReal, (EReal.coe_toReal ?_ ?_).symm⟩
    · exact fun h => hx ⟨j, .inl h⟩
    · exact fun h => hx ⟨j, .inr h⟩
  choose x' ex using hx'
  obtain rfl : x = fun k => (x' k : EReal) := funext ex
  obtain ⟨e, he, hee⟩ := ee_eq
  have hS : 0 ≤ ∑ k, x' k * x' k := Finset.sum_nonneg fun k _ => mul_self_nonneg _
  have hms : ms (fun k => (x' k : EReal)) = (((∑ k, x' k * x' k) * (1 / 1024) + e : ℝ) : EReal) := by
    unfold ms
    simp only [← EReal.coe_mul]
    rw [coe_sum', nn_eq, hee, Ideal.div_coe hN, ← EReal.coe_mul, ← EReal.coe_add]
  generalize hv : (∑ k, x' k * x' k) * (1 / 1024 : ℝ) + e = v at hms
  have hvp : 0 < v := by rw [← hv]; positivity
  have hr : rr (fun k => (x' k : EReal)) = (((Real.sqrt v)⁻¹ : ℝ) : EReal) := by
    unfold rr
    rw [hms, rsqrt_coe' hvp]
  have hsq : (Real.sqrt v)⁻¹ * (Real.sqrt v)⁻¹ = 1 / v := by
    rw [← mul_inv, Real.mul_self_sqrt hvp.le, one_div]
  have hrp : 0 ≤ (Real.sqrt v)⁻¹ := by positivity
  unfold dxRef dx
  rw [hms, hr, nn_eq, half_eq, Ideal.div_coe hvp.ne']
  generalize (Real.sqrt v)⁻¹ = r at *
  have h1 : 1 / v = r * r := hsq.symm
  have hs1 : ∑ q, d q * g q * ((x' q : EReal) * (r : EReal)) = (∑ q, (x' q : EReal) * (d q * g q)) * r := by
    rw [← sum_mul_real _ hrp]
    exact Finset.sum_congr rfl fun q _ => by rw [← mul_assoc, mul_comm (d q * g q)]
  rw [hs1, h1]
  dsimp only
  generalize ∑ q, (x' q : EReal) * (d q * g q) = S
  generalize d k * g k = D
  simp only [Ideal.div_coe hN]
  have hq : (x' k : EReal) * (S * (((-(1 / 2) : ℝ) : EReal) * ((r : EReal) * ((r * r : ℝ) : EReal))) * ((1 / 1024 : ℝ) : EReal))
      = ((x' k * (-(1 / 2) * (r * (r * r))) * (1 / 1024) : ℝ) : EReal) * S := by
    simp only [EReal.coe_mul]
    ac_rfl
  have hk : (r : EReal) * (D - (x' k : EReal) * r * (S * r * ((1 / 1024 : ℝ) : EReal)))
      = r * D + ((2 * (x' k * (-(1 / 2) * (r * (r * r))) * (1 / 1024)) : ℝ) : EReal) * S := by
    rw [sub_eq_add_neg, EReal.left_distrib_of_nonneg_of_ne_top (by exact_mod_cast hrp) (EReal.coe_ne_top r)]
    refine congrArg (fun y : EReal => (r : EReal) * D + y) ?_
    have e1 : (2 * (x' k * (-(1 / 2) * (r * (r * r))) * (1 / 1024)) : ℝ) = -(r * (x' k * r * (r * (1 / 1024)))) := by ring
    rw [e1, EReal.coe_neg, EReal.neg_mul, mul_neg]
    refine congrArg _ ?_
    simp only [EReal.coe_mul]
    ac_rfl
  rw [mul_comm _ (x' k : EReal), hq, hk, ← twice, add_assoc, add_assoc, mul_comm D]

/-! ## Over the arrays -/

abbrev X3 := (⟨3, ![4, 2048, 1024]⟩ : Shape).Idx → EReal
abbrev G1 := (⟨1, ![1024]⟩ : Shape).Idx → EReal
abbrev WU := (⟨2, ![1024, 5632]⟩ : Shape).Idx → EReal
abbrev DU := (⟨3, ![4, 2048, 5632]⟩ : Shape).Idx → EReal

/-- A row of the norm's input. -/
abbrev row (x : X3) (b : Fin 4) (s : Fin 2048) (k : Fin 1024) : EReal := x (ix3 b s k)
/-- The gradient behind the norm: the product's gradient times the weights. -/
def dh (w : WU) (du : DU) (b : Fin 4) (s : Fin 2048) (k : Fin 1024) : EReal := ∑ f : Fin 5632, du (ix3 b s f) * w (ix2 k f)

end Cert.Spec.Up
end
-- ==== Proof.UpBlock.lean ====
/- What one grid point of the norm's gradient leaves in its two output blocks, at an index, as a function of the five input
   blocks at the point. -/
module

public import proofs.«01_k».proof.Proof.Gen.Kernel2Ideal.Frame
public import proofs.«01_k».proof.Proof.UpSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Hand
open Cert.Kernel2Ideal Cert.Kernel2Ideal.Gen
open Cert.Spec.Up

/-- One of the eight products: half `h`, block of columns `j`. -/
def prod (y : Vec Ideal S2x4x256x704 .bf16) (w : Vec Ideal S2x4x1024x704 .bf16) (h : Fin 2) (j : Fin 4) (r : Fin 256) (k : Fin 1024) : EReal :=
  ∑ l : Fin 704, y (ix4 h j r l) * w (ix4 h j k l)
/-- Their sum, in the kernel's order. -/
def dhB (y : Vec Ideal S2x4x256x704 .bf16) (w : Vec Ideal S2x4x1024x704 .bf16) (r : Fin 256) (k : Fin 1024) : EReal :=
  prod y w 0 0 r k + prod y w 1 0 r k + prod y w 0 1 r k + prod y w 1 1 r k + prod y w 0 2 r k + prod y w 1 2 r k
    + prod y w 0 3 r k + prod y w 1 3 r k

variable (m : (ℓ : Loc nD τ sig) → Buf (Elt Ideal) ℓ)

theorem ldY (x : Vec Ideal S2x4x256x704 .bf16) (h : Fin 2) (j : Fin 4) (r : Fin 256) (l : Fin 704) (inb) :
    View.ld x (Rect.unit (s := S2x4x256x704) ![h.val, j.val, 0, 0] ![1, 1, 256, 704] inb) (ix4 0 0 r l) = x (ix4 h j r l) := by
  refine View.ld_unit_apply_of _ _ _ _ _ _ fun a => ?_
  match a with
  | ⟨0, _⟩ => simp
  | ⟨1, _⟩ => simp
  | ⟨2, _⟩ => simp
  | ⟨3, _⟩ => simp

theorem ldW (x : Vec Ideal S2x4x1024x704 .bf16) (h : Fin 2) (j : Fin 4) (r : Fin 1024) (l : Fin 704) (inb) :
    View.ld x (Rect.unit (s := S2x4x1024x704) ![h.val, j.val, 0, 0] ![1, 1, 1024, 704] inb) (ix4 0 0 r l) = x (ix4 h j r l) := by
  refine View.ld_unit_apply_of _ _ _ _ _ _ fun a => ?_
  match a with
  | ⟨0, _⟩ => simp
  | ⟨1, _⟩ => simp
  | ⟨2, _⟩ => simp
  | ⟨3, _⟩ => simp

/-- The eight loads and products of the body, at an index. -/
theorem pay6_apply (x0 : Vec Ideal S2x4x256x704 .bf16) (x1 : Vec Ideal S2x4x1024x704 .bf16) (r : Fin 256) (k : Fin 1024) :
    k0_pay6 (k0_pay4 (k0_pay2 (F := Ideal) (View.ld x0 (Rect.unit (s := S2x4x256x704) ![0, 0, 0, 0] ![1, 1, 256, 704] inb_S2x4x256x704_S1x1x256x704_0_0_0_0))
      (View.ld x1 (Rect.unit (s := S2x4x1024x704) ![0, 0, 0, 0] ![1, 1, 1024, 704] inb_S2x4x1024x704_S1x1x1024x704_0_0_0_0))
      (View.ld x0 (Rect.unit (s := S2x4x256x704) ![1, 0, 0, 0] ![1, 1, 256, 704] inb_S2x4x256x704_S1x1x256x704_1_0_0_0))
      (View.ld x1 (Rect.unit (s := S2x4x1024x704) ![1, 0, 0, 0] ![1, 1, 1024, 704] inb_S2x4x1024x704_S1x1x1024x704_1_0_0_0))
      (View.ld x0 (Rect.unit (s := S2x4x256x704) ![0, 1, 0, 0] ![1, 1, 256, 704] inb_S2x4x256x704_S1x1x256x704_0_1_0_0))
      (View.ld x1 (Rect.unit (s := S2x4x1024x704) ![0, 1, 0, 0] ![1, 1, 1024, 704] inb_S2x4x1024x704_S1x1x1024x704_0_1_0_0)))
      (k0_pay3 (View.ld x0 (Rect.unit (s := S2x4x256x704) ![1, 1, 0, 0] ![1, 1, 256, 704] inb_S2x4x256x704_S1x1x256x704_1_1_0_0)))
      (View.ld x1 (Rect.unit (s := S2x4x1024x704) ![1, 1, 0, 0] ![1, 1, 1024, 704] inb_S2x4x1024x704_S1x1x1024x704_1_1_0_0))
      (View.ld x0 (Rect.unit (s := S2x4x256x704) ![0, 2, 0, 0] ![1, 1, 256, 704] inb_S2x4x256x704_S1x1x256x704_0_2_0_0))
      (View.ld x1 (Rect.unit (s := S2x4x1024x704) ![0, 2, 0, 0] ![1, 1, 1024, 704] inb_S2x4x1024x704_S1x1x1024x704_0_2_0_0))
      (View.ld x0 (Rect.unit (s := S2x4x256x704) ![1, 2, 0, 0] ![1, 1, 256, 704] inb_S2x4x256x704_S1x1x256x704_1_2_0_0))
      (View.ld x1 (Rect.unit (s := S2x4x1024x704) ![1, 2, 0, 0] ![1, 1, 1024, 704] inb_S2x4x1024x704_S1x1x1024x704_1_2_0_0))
      (View.ld x0 (Rect.unit (s := S2x4x256x704) ![0, 3, 0, 0] ![1, 1, 256, 704] inb_S2x4x256x704_S1x1x256x704_0_3_0_0))
      (View.ld x1 (Rect.unit (s := S2x4x1024x704) ![0, 3, 0, 0] ![1, 1, 1024, 704] inb_S2x4x1024x704_S1x1x1024x704_0_3_0_0)))
      (k0_pay5 (View.ld x0 (Rect.unit (s := S2x4x256x704) ![1, 3, 0, 0] ![1, 1, 256, 704] inb_S2x4x256x704_S1x1x256x704_1_3_0_0)))
      (View.ld x1 (Rect.unit (s := S2x4x1024x704) ![1, 3, 0, 0] ![1, 1, 1024, 704] inb_S2x4x1024x704_S1x1x1024x704_1_3_0_0)) (ix2 r k) = dhB x0 x1 r k := by
  pointwise [k0_pay6, k0_pay5, k0_pay4, k0_pay3, k0_pay2]
  rfl

theorem pay10_apply (v43 : Vec Ideal S256x1024 .f32) (v45 : Vec Ideal S256x704 .bf16) (v46 : Vec Ideal S1x1x1024x704 .bf16)
    (x g t) (d : Fin 1024 → EReal) (r : Fin 256) (k : Fin 1024) (h : ∀ q, k0_pay6 (F := Ideal) v43 v45 v46 (ix2 r q) = d q) :
    k0_pay10 (F := Ideal) v43 v45 v46 x g t (ix2 r k)
      = dx (fun q => x (ix2 r q)) d (fun q => g (ix2 0 q)) (fun q => t (ix2 r q)) k := by
  unfold k0_pay10 k0_pay9 k0_pay8 k0_pay7
  generalize k0_pay6 (F := Ideal) v43 v45 v46 = D at h
  pointwise
  simp only [h]
  rfl

theorem pay11_apply (v43 : Vec Ideal S256x1024 .f32) (v45 : Vec Ideal S256x704 .bf16) (v46 : Vec Ideal S1x1x1024x704 .bf16)
    (x a) (d : Fin 256 → Fin 1024 → EReal) (k : Fin 1024) (h : ∀ r q, k0_pay6 (F := Ideal) v43 v45 v46 (ix2 r q) = d r q) :
    k0_pay11 (F := Ideal) v43 v45 v46 x a (ix2 0 k) = a (ix2 0 k) + ∑ r : Fin 256, dg (fun q => x (ix2 r q)) (d r) k := by
  unfold k0_pay11 k0_pay9 k0_pay8 k0_pay7
  generalize k0_pay6 (F := Ideal) v43 v45 v46 = D at h
  pointwise
  simp only [h]
  rfl

set_option maxHeartbeats 1000000 in
theorem out5_A (c : Dev nD) (t : Fin cfg0.N) (h0 : t.val % 32 = 0) (r : Fin 256) (k : Fin 1024) :
    (outsAt0 m c t.val t.isLt).1 (ix2 r k) = dx (fun q => iblk m c 2 t (ix2 r q)) (dhB (iblk m c 0 t) (iblk m c 1 t) r)
      (fun q => iblk m c 3 t (ix2 0 q)) (fun q => iblk m c 4 t (ix2 r q)) k := by
  rw [outsAt0_A m c t h0]
  dsimp only
  generalize iblk m c 0 t = x0
  generalize iblk m c 1 t = x1
  generalize iblk m c 2 t = x2
  generalize iblk m c 3 t = x3
  generalize iblk m c 4 t = x4
  frame_open
  simp (disch := decide) only [↓ View.readCov_skip, ↓ View.readCov_cons_toLoadRect, ↓ View.readCov_fill]
  frame_out
  exact pay10_apply _ _ _ _ _ _ _ r k (fun q => pay6_apply x0 x1 r q)

set_option maxHeartbeats 1000000 in
theorem out5_B (c : Dev nD) (t : Fin cfg0.N) (h0 : ¬ t.val % 32 = 0) (r : Fin 256) (k : Fin 1024) :
    (outsAt0 m c t.val t.isLt).1 (ix2 r k) = dx (fun q => iblk m c 2 t (ix2 r q)) (dhB (iblk m c 0 t) (iblk m c 1 t) r)
      (fun q => iblk m c 3 t (ix2 0 q)) (fun q => iblk m c 4 t (ix2 r q)) k := by
  rw [outsAt0_B m c t h0]
  dsimp only
  generalize iblk m c 0 t = x0
  generalize iblk m c 1 t = x1
  generalize iblk m c 2 t = x2
  generalize iblk m c 3 t = x3
  generalize iblk m c 4 t = x4
  frame_open
  simp (disch := decide) only [↓ View.readCov_skip, ↓ View.readCov_cons_toLoadRect, ↓ View.readCov_fill]
  frame_out
  exact pay10_apply _ _ _ _ _ _ _ r k (fun q => pay6_apply x0 x1 r q)

set_option maxHeartbeats 1000000 in
theorem out6_A (c : Dev nD) (t : Fin cfg0.N) (h0 : t.val % 32 = 0) (k : Fin 1024) :
    (outsAt0 m c t.val t.isLt).2 (ix2 0 k) =
      ∑ r : Fin 256, dg (fun q => iblk m c 2 t (ix2 r q)) (dhB (iblk m c 0 t) (iblk m c 1 t) r) k := by
  rw [outsAt0_A m c t h0]
  dsimp only
  generalize iblk m c 0 t = x0
  generalize iblk m c 1 t = x1
  generalize iblk m c 2 t = x2
  generalize iblk m c 3 t = x3
  generalize iblk m c 4 t = x4
  frame_open
  simp (disch := decide) only [↓ View.readCov_skip, ↓ View.readCov_cons_toLoadRect, ↓ View.readCov_fill]
  frame_out
  refine Eq.trans (α := EReal) (pay11_apply _ _ _ _ _ _ k (fun r q => pay6_apply x0 x1 r q)) ?_
  have hz : k0_pay1 (F := Ideal) (ix2 0 k) = (0 : EReal) := by
    pointwise [k0_pay1]
  rw [hz, zero_add]

set_option maxHeartbeats 1000000 in
theorem out6_B (c : Dev nD) (t : Fin cfg0.N) (h0 : ¬ t.val % 32 = 0) (k : Fin 1024) :
    (outsAt0 m c t.val t.isLt).2 (ix2 0 k) =
      (outsAt0 m c (t.val - 1) (Nat.lt_of_le_of_lt (Nat.sub_le _ _) t.isLt)).2 (ix2 0 k) + ∑ r : Fin 256, dg (fun q => iblk m c 2 t (ix2 r q)) (dhB (iblk m c 0 t) (iblk m c 1 t) r) k := by
  rw [outsAt0_B m c t h0]
  dsimp only
  generalize iblk m c 0 t = x0
  generalize iblk m c 1 t = x1
  generalize iblk m c 2 t = x2
  generalize iblk m c 3 t = x3
  generalize iblk m c 4 t = x4
  frame_open
  simp (disch := decide) only [↓ View.readCov_skip, ↓ View.readCov_cons_toLoadRect, ↓ View.readCov_fill]
  frame_out
  exact pay11_apply _ _ _ _ _ _ k (fun r q => pay6_apply x0 x1 r q)

end Cert.Kernel2Ideal.Hand
end
-- ==== Proof.UpArr.lean ====
/- The input arrays of the norm's gradient, as the host lines before its call leave them, and its two output arrays. -/
module

public import proofs.«01_k».proof.Proof.UpBlock
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel2Ideal.Hand
open Cert.Kernel2Ideal Cert.Kernel2Ideal.Gen
open Cert.Spec.Up

variable (m : (ℓ : Loc nD τ sig) → Buf (Elt Ideal) ℓ)

/-- The kernel's arguments. -/
abbrev a0 (c : Dev nD) : X3 := m ((c : Thread nD τ).loc main_arg0)
abbrev a1 (c : Dev nD) : G1 := m ((c : Thread nD τ).loc main_arg1)
abbrev a2 (c : Dev nD) : WU := m ((c : Thread nD τ).loc main_arg2)
abbrev a3 (c : Dev nD) : X3 := m ((c : Thread nD τ).loc main_arg3)
abbrev a4 (c : Dev nD) : DU := m ((c : Thread nD τ).loc main_arg4)

theorem V2 (c : Dev nD) (h : Fin 2) (j : Fin 4) (T : Fin 8192) (l : Fin 704) :
    (V m c main_v2 : S2x4x8192x704.Idx → EReal) (ix4 h j T l)
      = a4 m c (ix3 ⟨T.val / 2048, by omega⟩ ⟨T.val % 2048, by omega⟩ ⟨h.val * 2816 + j.val * 704 + l.val, by omega⟩) := by
  unfold V
  after_reads_at

theorem V5 (c : Dev nD) (h : Fin 2) (j : Fin 4) (k : Fin 1024) (l : Fin 704) :
    (V m c main_v5 : S2x4x1024x704.Idx → EReal) (ix4 h j k l) = a2 m c (ix2 k ⟨h.val * 2816 + j.val * 704 + l.val, by omega⟩) := by
  unfold V
  after_reads_at

theorem V6 (c : Dev nD) (T : Fin 8192) (k : Fin 1024) :
    (V m c main_v6 : S8192x1024.Idx → EReal) (ix2 T k) = a0 m c (ix3 ⟨T.val / 2048, by omega⟩ ⟨T.val % 2048, by omega⟩ k) := by
  unfold V
  after_reads_at

theorem V7 (c : Dev nD) (k : Fin 1024) : (V m c main_v7 : S1x1024.Idx → EReal) (ix2 0 k) = a1 m c (ix1 k) := by
  unfold V
  after_reads_at

theorem V8 (c : Dev nD) (T : Fin 8192) (k : Fin 1024) :
    (V m c main_v8 : S8192x1024.Idx → EReal) (ix2 T k) = a3 m c (ix3 ⟨T.val / 2048, by omega⟩ ⟨T.val % 2048, by omega⟩ k) := by
  unfold V
  after_reads_at

/-! ## The blocks at a point -/

theorem idx : ∀ t : Fin cfg0.N,
    win0_0.index t = ![0, 0, t.val, 0] ∧ win0_1.index t = ![0, 0, 0, 0] ∧ win0_2.index t = ![t.val, 0] ∧ win0_3.index t = ![0, 0]
      ∧ win0_4.index t = ![t.val, 0] ∧ win0_5.index t = ![t.val, 0] ∧ win0_6.index t = ![0, 0] :=
  (by decide +kernel : ∀ t : Fin grid0.N, _)

theorem tlt (t : Fin cfg0.N) : t.val < 32 := t.isLt

/-- The row of the batch that a point's row is. -/
abbrev rb (t : Fin cfg0.N) (r : Fin 256) : Fin 8192 := ⟨t.val * 256 + r.val, by have := tlt t; omega⟩
abbrev bq (T : Fin 8192) : Fin 4 := ⟨T.val / 2048, by omega⟩
abbrev sq (T : Fin 8192) : Fin 2048 := ⟨T.val % 2048, by omega⟩

theorem ib0 (c : Dev nD) (t : Fin cfg0.N) (h : Fin 2) (j : Fin 4) (r : Fin 256) (l : Fin 704) :
    iblk m c 0 t (ix4 h j r l) = (V m c main_v2 : S2x4x8192x704.Idx → EReal) (ix4 h j (rb t r) l) := by
  blk_ext [iblk, idx t]

theorem ib1 (c : Dev nD) (t : Fin cfg0.N) (h : Fin 2) (j : Fin 4) (k : Fin 1024) (l : Fin 704) :
    iblk m c 1 t (ix4 h j k l) = (V m c main_v5 : S2x4x1024x704.Idx → EReal) (ix4 h j k l) := by
  blk_ext [iblk, idx t]

theorem ib2 (c : Dev nD) (t : Fin cfg0.N) (r : Fin 256) (k : Fin 1024) :
    iblk m c 2 t (ix2 r k) = (V m c main_v6 : S8192x1024.Idx → EReal) (ix2 (rb t r) k) := by
  blk_ext [iblk, idx t]

theorem ib3 (c : Dev nD) (t : Fin cfg0.N) (k : Fin 1024) :
    iblk m c 3 t (ix2 0 k) = (V m c main_v7 : S1x1024.Idx → EReal) (ix2 0 k) := by
  blk_ext [iblk, idx t]

theorem ib4 (c : Dev nD) (t : Fin cfg0.N) (r : Fin 256) (k : Fin 1024) :
    iblk m c 4 t (ix2 r k) = (V m c main_v8 : S8192x1024.Idx → EReal) (ix2 (rb t r) k) := by
  blk_ext [iblk, idx t]

/-! ## A point's rows -/

theorem prod_eq (c : Dev nD) (t : Fin cfg0.N) (h : Fin 2) (j : Fin 4) (r : Fin 256) (k : Fin 1024) :
    prod (iblk m c 0 t) (iblk m c 1 t) h j r k
      = ∑ l : Fin 704, a4 m c (ix3 (bq (rb t r)) (sq (rb t r)) ⟨h.val * 2816 + j.val * 704 + l.val, by omega⟩)
          * a2 m c (ix2 k ⟨h.val * 2816 + j.val * 704 + l.val, by omega⟩) := by
  unfold prod
  refine Finset.sum_congr rfl fun l _ => ?_
  exact congrArg₂ (fun a b : EReal => a * b) ((ib0 m c t h j r l).trans (V2 m c h j _ l)) ((ib1 m c t h j k l).trans (V5 m c h j k l))

/-- A sum over the columns, as the kernel orders it. -/
theorem sum_cols (f : Fin 5632 → EReal) :
    ∑ q, f q = (∑ l : Fin 704, f ⟨0 * 2816 + 0 * 704 + l.val, by omega⟩) + (∑ l : Fin 704, f ⟨1 * 2816 + 0 * 704 + l.val, by omega⟩)
      + (∑ l : Fin 704, f ⟨0 * 2816 + 1 * 704 + l.val, by omega⟩) + (∑ l : Fin 704, f ⟨1 * 2816 + 1 * 704 + l.val, by omega⟩)
      + (∑ l : Fin 704, f ⟨0 * 2816 + 2 * 704 + l.val, by omega⟩) + (∑ l : Fin 704, f ⟨1 * 2816 + 2 * 704 + l.val, by omega⟩)
      + (∑ l : Fin 704, f ⟨0 * 2816 + 3 * 704 + l.val, by omega⟩) + (∑ l : Fin 704, f ⟨1 * 2816 + 3 * 704 + l.val, by omega⟩) := by
  have key := Fin.sum_points_lanes 1 8 704 fun a s => if h : a * 5632 + s < 5632 then f ⟨a * 5632 + s, h⟩ else 0
  have hr : ∑ q, f q = ∑ a : Fin 1, ∑ s : Fin (8 * 704), if h : a.val * 5632 + s.val < 5632 then f ⟨a.val * 5632 + s.val, h⟩ else 0 := by
    rw [Fin.sum_univ_one]
    refine Finset.sum_congr rfl fun q _ => ?_
    rw [dif_pos (by show 0 * 5632 + q.val < 5632; omega)]
    exact congrArg f (Fin.ext (by show q.val = 0 * 5632 + q.val; omega))
  refine (hr.trans key.symm).trans ?_
  have hl : ∀ n : Fin (1 * 8), (∑ r : Fin 704, if h : n.val / 8 * 5632 + (n.val % 8 * 704 + r.val) < 5632
      then f ⟨n.val / 8 * 5632 + (n.val % 8 * 704 + r.val), h⟩ else 0) = ∑ r : Fin 704, f ⟨n.val * 704 + r.val, by omega⟩ := by
    intro n
    refine Finset.sum_congr rfl fun r _ => ?_
    rw [dif_pos (by omega)]
    exact congrArg f (Fin.ext (by show n.val / 8 * 5632 + (n.val % 8 * 704 + r.val) = n.val * 704 + r.val; omega))
  refine (Finset.sum_congr rfl fun n _ => hl n).trans ?_
  refine (Fin.sum_univ_eight (fun n : Fin 8 => ∑ r : Fin 704, f ⟨n.val * 704 + r.val, by omega⟩)).trans ?_
  have e : ∀ (n a : ℕ) (hn : n < 8) (ha : a = n * 704), (∑ r : Fin 704, f ⟨n * 704 + r.val, by omega⟩) = ∑ r : Fin 704, f ⟨a + r.val, by omega⟩ := by
    intro n a hn ha
    subst ha
    rfl
  have e0 := e 0 (0 * 2816 + 0 * 704) (by decide) (by decide)
  have e1 := e 1 (0 * 2816 + 1 * 704) (by decide) (by decide)
  have e2 := e 2 (0 * 2816 + 2 * 704) (by decide) (by decide)
  have e3 := e 3 (0 * 2816 + 3 * 704) (by decide) (by decide)
  have e4 := e 4 (1 * 2816 + 0 * 704) (by decide) (by decide)
  have e5 := e 5 (1 * 2816 + 1 * 704) (by decide) (by decide)
  have e6 := e 6 (1 * 2816 + 2 * 704) (by decide) (by decide)
  have e7 := e 7 (1 * 2816 + 3 * 704) (by decide) (by decide)
  rw [← e0, ← e1, ← e2, ← e3, ← e4, ← e5, ← e6, ← e7]
  show _ + _ + _ + _ + _ + _ + _ + _ = _
  generalize (∑ r : Fin 704, f ⟨0 * 704 + r.val, _⟩) = A0
  generalize (∑ r : Fin 704, f ⟨1 * 704 + r.val, _⟩) = A1
  generalize (∑ r : Fin 704, f ⟨2 * 704 + r.val, _⟩) = A2
  generalize (∑ r : Fin 704, f ⟨3 * 704 + r.val, _⟩) = A3
  generalize (∑ r : Fin 704, f ⟨4 * 704 + r.val, _⟩) = A4
  generalize (∑ r : Fin 704, f ⟨5 * 704 + r.val, _⟩) = A5
  generalize (∑ r : Fin 704, f ⟨6 * 704 + r.val, _⟩) = A6
  generalize (∑ r : Fin 704, f ⟨7 * 704 + r.val, _⟩) = A7
  ac_rfl

theorem dhB_eq (c : Dev nD) (t : Fin cfg0.N) (r : Fin 256) (k : Fin 1024) :
    dhB (iblk m c 0 t) (iblk m c 1 t) r k = dh (a2 m c) (a4 m c) (bq (rb t r)) (sq (rb t r)) k := by
  unfold dhB dh
  simp only [prod_eq]
  exact (sum_cols fun f => a4 m c (ix3 (bq (rb t r)) (sq (rb t r)) f) * a2 m c (ix2 k f)).symm

theorem x_eq (c : Dev nD) (t : Fin cfg0.N) (r : Fin 256) :
    (fun q => iblk m c 2 t (ix2 r q)) = row (a0 m c) (bq (rb t r)) (sq (rb t r)) := funext fun q => (ib2 m c t r q).trans (V6 m c _ q)

theorem t_eq (c : Dev nD) (t : Fin cfg0.N) (r : Fin 256) :
    (fun q => iblk m c 4 t (ix2 r q)) = row (a3 m c) (bq (rb t r)) (sq (rb t r)) := funext fun q => (ib4 m c t r q).trans (V8 m c _ q)

theorem g_eq (c : Dev nD) (t : Fin cfg0.N) :
    (fun q => iblk m c 3 t (ix2 0 q)) = fun q : Fin 1024 => a1 m c (ix1 q) := funext fun q => (ib3 m c t q).trans (V7 m c q)

theorem d_eq (c : Dev nD) (t : Fin cfg0.N) (r : Fin 256) :
    dhB (iblk m c 0 t) (iblk m c 1 t) r = dh (a2 m c) (a4 m c) (bq (rb t r)) (sq (rb t r)) := funext fun k => dhB_eq m c t r k

/-! ## The two output arrays -/

/-- The gradient of the norm's input, at the layout that the kernel writes. -/
def G5 (c : Dev nD) (i : S8192x1024.Idx) : EReal :=
  dx (row (a0 m c) (bq (i 0)) (sq (i 0))) (dh (a2 m c) (a4 m c) (bq (i 0)) (sq (i 0))) (fun q => a1 m c (ix1 q))
    (row (a3 m c) (bq (i 0)) (sq (i 0))) (i 1)

theorem out5 (c : Dev nD) (t : Fin cfg0.N) (r : Fin 256) (k : Fin 1024) :
    (outsAt0 m c t.val t.isLt).1 (ix2 r k) = G5 m c (ix2 (rb t r) k) := by
  have h : (outsAt0 m c t.val t.isLt).1 (ix2 r k) = dx (fun q => iblk m c 2 t (ix2 r q)) (dhB (iblk m c 0 t) (iblk m c 1 t) r)
      (fun q => iblk m c 3 t (ix2 0 q)) (fun q => iblk m c 4 t (ix2 r q)) k := by
    by_cases h0 : t.val % 32 = 0
    · exact out5_A m c t h0 r k
    · exact out5_B m c t h0 r k
  refine h.trans ?_
  rw [x_eq, t_eq, g_eq, d_eq]
  rfl

theorem outEmb5 (t : Fin cfg0.N) (y : S256x1024.Idx) : ((win0_5.blk t).view.emb y : S8192x1024.Idx) = ix2 (rb t (y 0)) (y 1) := by
  blk_ext [idx t]

theorem outEmb6 (t : Fin cfg0.N) (y : S1x1024.Idx) : ((win0_6.blk t).view.emb y : S1x1024.Idx) = ix2 0 (y 1) := by
  blk_ext [idx t]

theorem arr5 (c : Dev nD) : (dats m 0 c).arrAt 5 (cfgs 0).N = G5 m c := by
  refine (dats m 0 c).arrAt_eq_of_covers 5 _ (by decide +kernel) fun t hf y => ?_
  blk_simp
  rw [after0_5]
  exact (congrArg _ (eq_ix2 y)).trans ((out5 m c t (y 0) (y 1)).trans (congrArg (G5 m c) (outEmb5 t y).symm))

/-- A row's part of the gradient of the norm's weights. -/
def term (c : Dev nD) (k : Fin 1024) (b s : ℕ) : EReal :=
  if h : b < 4 ∧ s < 2048 then dg (row (a0 m c) ⟨b, h.1⟩ ⟨s, h.2⟩) (dh (a2 m c) (a4 m c) ⟨b, h.1⟩ ⟨s, h.2⟩) k else 0

theorem term_eq (c : Dev nD) (k : Fin 1024) (b : Fin 4) (s : Fin 2048) {b' s' : ℕ} (hb : b' = b.val) (hs : s' = s.val) :
    term m c k b' s' = dg (row (a0 m c) b s) (dh (a2 m c) (a4 m c) b s) k := by
  subst hb
  subst hs
  exact dif_pos ⟨b.isLt, s.isLt⟩

/-- A step's addition, zero behind the grid. -/
def inc (c : Dev nD) (n : ℕ) (k : Fin 1024) : EReal :=
  if n < 32 then ∑ r : Fin 256, term m c k (n / 8) (n % 8 * 256 + r.val) else 0

theorem inc_eq (c : Dev nD) (t : Fin cfg0.N) (k : Fin 1024) :
    ∑ r : Fin 256, dg (fun q => iblk m c 2 t (ix2 r q)) (dhB (iblk m c 0 t) (iblk m c 1 t) r) k = inc m c t.val k := by
  unfold inc
  rw [if_pos (tlt t)]
  refine Finset.sum_congr rfl fun r _ => ?_
  rw [x_eq, d_eq]
  exact (term_eq m c k _ _ (by show t.val / 8 = (t.val * 256 + r.val) / 2048; omega)
    (by show t.val % 8 * 256 + r.val = (t.val * 256 + r.val) % 2048; omega)).symm

theorem acc (c : Dev nD) (t : Fin cfg0.N) (ht : t.val % 32 = 31) (k : Fin 1024) :
    (outsAt0 m c t.val t.isLt).2 (ix2 0 k)
      = ∑ b : Fin 4, ∑ s : Fin 2048, dg (row (a0 m c) b s) (dh (a2 m c) (a4 m c) b s) k := by
  have key := Pipeline.eq_sum_of_reset_step_apply_of_mod
    (fun n hn (q : Fin 1024) => ((outsAt0 m c n hn).2 (ix2 0 q) : EReal)) 32 (fun _ => (0 : EReal)) (inc m c)
    (fun t h0 q => by
      refine (out6_A m c t h0 q).trans ?_
      rw [inc_eq, zero_add])
    (fun t h0 q => by
      refine (out6_B m c t h0 q).trans ?_
      rw [inc_eq])
    t ht k
  refine key.trans ?_
  rw [zero_add, Finset.sum_range]
  refine (Finset.sum_congr rfl fun n _ => ?_).trans ((Fin.sum_points_lanes 4 8 256 fun a s => term m c k a s).trans ?_)
  · have hN := tlt t
    have hn : n.val < 32 := n.isLt
    have e : 32 * (t.val / 32) + n.val = n.val := by omega
    rw [e]
    exact if_pos hn
  · exact Finset.sum_congr rfl fun b _ => Finset.sum_congr rfl fun s _ => term_eq m c k b s rfl rfl

theorem arr6 (c : Dev nD) (k : Fin 1024) :
    ((dats m 0 c).arrAt 6 (cfgs 0).N : S1x1024.Idx → EReal) (ix2 0 k)
      = ∑ b : Fin 4, ∑ s : Fin 2048, dg (row (a0 m c) b s) (dh (a2 m c) (a4 m c) b s) k := by
  refine (dats m 0 c).arrAt_forall_of_covers 6
    (fun i v => i = ix2 0 k → v = ∑ b : Fin 4, ∑ s : Fin 2048, dg (row (a0 m c) b s) (dh (a2 m c) (a4 m c) b s) k)
    (by decide +kernel) (fun t hf y => ?_) (ix2 0 k) (Memref.isWhole_whole _) rfl
  blk_simp
  rw [after0_6]
  intro hy
  have i1 : y 1 = k := congrFun ((outEmb6 t y).symm.trans hy) 1
  have e0 : y 0 = (0 : Fin 1) := Subsingleton.elim (α := Fin 1) _ _
  have e : y = ix2 0 k := (eq_ix2 y).trans (by rw [e0, i1])
  rw [e]
  exact acc m c t ((flush0_6 t).mp hf) k

end Cert.Kernel2Ideal.Hand
end
-- ==== Proof.UpRef.lean ====
/- What the reference of the norm's gradient computes, at an index. -/
module

public import proofs.«01_k».proof.Proof.UpSpec
public import proofs.«01_k».proof.Proof.Ref
public import proofs.«01_k».proof.Proof.Gen.Reference2Ideal.Run
public import proofs.«01_k».proof.Proof.Gen.Reference2Ideal.Read
public import proofs.«01_k».proof.Proof.Pre

@[expose] public section

set_option maxRecDepth 16384

noncomputable section

open Idealize.ShloMosaic

namespace Cert.Reference2Ideal.Hand

open Cert.Reference2Ideal Cert.Reference2Ideal.Gen Cert.Reference2Ideal.Read
open Cert.Spec Cert.Spec.Up

variable (x : X3) (g : G1) (w : WU) (t : X3) (du : DU)

theorem R17 (b : Fin 4) (s : Fin 2048) (k : Fin 1024) : val_main_v17 (F := Ideal) w du (ix3 b s k) = dh w du b s k := by
  pointwise [val_main_v17]
  rfl

theorem P38 (b : Fin 4) (s : Fin 2048) (k : Fin 1024) :
    val_main_v38 (F := Ideal) x g w t du (ix3 b s k)
      = dxRef (row x b s) (fun q => val_main_v17 (F := Ideal) w du (ix3 b s q)) (fun q => g (ix1 q)) (row t b s) k := by
  unfold dxRef rr ms nn ee
  pointwise [val_main_v38, val_main_v37, val_main_v36, val_main_v35, val_main_v34, val_main_v33, val_main_v32, val_main_v31, val_main_v30,
    val_main_v29, val_main_v28, val_main_v27, val_main_v26, val_main_v25, val_main_v24, val_main_v22, val_main_v21, val_main_v13, val_main_v10,
    val_main_v9, val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7]
  rw [Fin.sum_univ_one]

theorem R38 (b : Fin 4) (s : Fin 2048) (k : Fin 1024) :
    val_main_v38 (F := Ideal) x g w t du (ix3 b s k) = dx (row x b s) (dh w du b s) (fun q => g (ix1 q)) (row t b s) k := by
  refine (P38 x g w t du b s k).trans ?_
  simp only [R17]
  exact dx_eq _ _ _ _ k

theorem P18 (b : Fin 4) (s : Fin 2048) (k : Fin 1024) :
    val_main_v18 (F := Ideal) x w du (ix3 b s k) = row x b s k * rr (row x b s) * val_main_v17 (F := Ideal) w du (ix3 b s k) := by
  unfold rr ms nn ee
  pointwise [val_main_v18, val_main_v12, val_main_v11, val_main_v7, val_main_v6, val_main_v5, val_main_v4, val_main_v3, val_main_v2, val_main_v1, val_main_v0,
    val_main_cst, val_main_cst_0, val_main_cst_1]

theorem red2 (v : S4x2048x1024.Idx → EReal) (k : Fin 1024) :
    Ideal.hostReduceAdd reducesTo_S1x1x1024_S1024_d0_1
      (shapeCast S1x1x1024
        (Host.reduceAdd (F := Ideal) (φ := .f32) v (constant S_ FTy.f32 0#32) reducesTo_S4x2048x1024_S1024_d0_1 h_S_)
        shapeCasts_S1024_S1x1x1024)
      0 (ix1 k) = ∑ b : Fin 4, ∑ s : Fin 2048, v (ix3 b s k) := by
  rw [Cert.ReferenceIdeal.Hand.hostSum01, zero_add, Fin.sum_univ_one, Fin.sum_univ_one]
  pointwise
  rw [Cert.ReferenceIdeal.Hand.hostSum01, zero_add]

theorem R23 (k : Fin 1024) :
    val_main_v23 (F := Ideal) x w du (ix1 k) = ∑ b : Fin 4, ∑ s : Fin 2048, dg (row x b s) (dh w du b s) k := by
  pointwise [val_main_v23, val_main_v20, val_main_v19, val_main_cst_3, val_main_cst_4]
  refine (red2 _ _).trans (Finset.sum_congr rfl fun b _ => Finset.sum_congr rfl fun s _ => (P18 x w du b s k).trans ?_)
  rw [R17, mul_comm]
  rfl

end Cert.Reference2Ideal.Hand
end
-- ==== Proof.UpFinal.lean ====
/- The two arrays that the program of the norm's gradient returns, and the run that leaves them. -/
module

public import proofs.«01_k».proof.Proof.UpArr
public import proofs.«01_k».proof.Proof.UpRef
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem
open Idealize.ShloMosaic.Pipeline (Dat)

namespace Cert.Kernel2Ideal.Hand
open Cert.Kernel2Ideal Cert.Kernel2Ideal.Gen
open Cert.Spec.Up

variable (m : (ℓ : Loc nD τ sig) → Buf (Elt Ideal) ℓ)

theorem T10 (Z : Valuation τ sig (Elt Ideal)) (b : Fin 4) (s : Fin 2048) (k : Fin 1024) :
    (StableHlo.after [hostOps1].flatten Z (Proc.devRef .tc main_v10) : S4x2048x1024.Idx → EReal) (ix3 b s k)
      = (Z (Proc.devRef .tc main_v9_0) : S8192x1024.Idx → EReal) (ix2 ⟨b.val * 2048 + s.val, by omega⟩ k) := by
  after_reads_at

theorem T11 (Z : Valuation τ sig (Elt Ideal)) (k : Fin 1024) :
    (StableHlo.after [hostOps1].flatten Z (Proc.devRef .tc main_v11) : S1024.Idx → EReal) (ix1 k)
      = (Z (Proc.devRef .tc main_v9_1) : S1x1024.Idx → EReal) (ix2 0 k) := by
  after_reads_at

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z5 (c : Dev nD) : Zr m c (Proc.devRef .tc main_v9_0) = (dats m 0 c).arrAt 5 (cfgs 0).N :=
  Dat.withArrays_arrAt (dats m 0 c) sharedIn0 (V0 m c) (A_eq m c) 5

theorem Z6 (c : Dev nD) : Zr m c (Proc.devRef .tc main_v9_1) = (dats m 0 c).arrAt 6 (cfgs 0).N :=
  Dat.withArrays_arrAt (dats m 0 c) sharedIn0 (V0 m c) (A_eq m c) 6

theorem E10 (c : Dev nD) :
    (Pipeline.afterTail₀ cfgs (dats m) 0 (V0 m) [hostOps1] c main_v10 : S4x2048x1024.Idx → EReal)
      = Cert.Reference2Ideal.Read.val_main_v38 (F := Ideal) (a0 m c) (a1 m c) (a2 m c) (a3 m c) (a4 m c) := by
  funext i
  obtain ⟨b, s, k, rfl⟩ : ∃ (b : Fin 4) (s : Fin 2048) (k : Fin 1024), i = ix3 b s k := ⟨i 0, i 1, i 2, eq_ix3 i⟩
  refine (T10 (Zr m c) b s k).trans (Eq.trans ?_ (Cert.Reference2Ideal.Hand.R38 _ _ _ _ _ b s k).symm)
  rw [Z5, arr5]
  have hb : bq ⟨b.val * 2048 + s.val, by omega⟩ = b := Fin.ext (by show (b.val * 2048 + s.val) / 2048 = b.val; omega)
  have hs : sq ⟨b.val * 2048 + s.val, by omega⟩ = s := Fin.ext (by show (b.val * 2048 + s.val) % 2048 = s.val; omega)
  show dx (row (a0 m c) (bq ⟨b.val * 2048 + s.val, by omega⟩) (sq ⟨b.val * 2048 + s.val, by omega⟩))
    (dh (a2 m c) (a4 m c) (bq ⟨b.val * 2048 + s.val, by omega⟩) (sq ⟨b.val * 2048 + s.val, by omega⟩)) _
    (row (a3 m c) (bq ⟨b.val * 2048 + s.val, by omega⟩) (sq ⟨b.val * 2048 + s.val, by omega⟩)) k = _
  rw [hb, hs]

theorem E11 (c : Dev nD) :
    (Pipeline.afterTail₀ cfgs (dats m) 0 (V0 m) [hostOps1] c main_v11 : S1024.Idx → EReal)
      = Cert.Reference2Ideal.Read.val_main_v23 (F := Ideal) (a0 m c) (a2 m c) (a4 m c) := by
  funext i
  obtain ⟨k, rfl⟩ : ∃ k : Fin 1024, i = ix1 k := ⟨i 0, eq_ix1 i⟩
  refine (T11 (Zr m c) k).trans (Eq.trans ?_ (Cert.Reference2Ideal.Hand.R23 _ _ _ k).symm)
  rw [Z6]
  exact arr6 m c k

/-- The run: the two results at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v10) = Pipeline.afterTail₀ cfgs (dats m) 0 (V0 m) [hostOps1] c main_v10
      ∧ r.2.mem ((c.tc : Thread nD τ).loc main_v11) = Pipeline.afterTail₀ cfgs (dats m) 0 (V0 m) [hostOps1] c main_v11) :=
  (θ_run defs _ _).mono (fun _ h c => ⟨(h c).2 main_v10 (Pipeline.mem_restRefs_of main_v10 (by decide) (by decide)),
    (h c).2 main_v11 (Pipeline.mem_restRefs_of main_v11 (by decide) (by decide))⟩) (run_main m ρ)

end Cert.Kernel2Ideal.Hand
end
-- ==== Proof.WuBlock.lean ====
/- What one grid point of the up projection's weights' gradient leaves in its accumulator and its output block, at an index, as a
   function of the two input blocks at the point. -/
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Hand
open Cert.Kernel3Ideal Cert.Kernel3Ideal.Gen

variable (m : (ℓ : Loc nD τ sig) → Buf (Elt Ideal) ℓ)

/-- What a point adds to one entry: the product over the block's positions. -/
def incB (x0 : Vec Ideal S4x1024x704 .bf16) (x1 : Vec Ideal S1x1024x1024 .bf16) (h : Fin 4) (l : Fin 704) (k : Fin 1024) : EReal :=
  ∑ r : Fin 1024, x0 (ix3 h r l) * x1 (ix3 0 r k)

/-- The accumulator after a point, over what it was. -/
def accB (x0 : Vec Ideal S4x1024x704 .bf16) (x1 : Vec Ideal S1x1024x1024 .bf16) (b : Vec Ideal S4x1x704x1024 .f32) (i : S4x1x704x1024.Idx) : EReal :=
  b i + incB x0 x1 (i 0) (i 2) (i 3)

/-- The four stores of a point, the last one first. -/
def pieces (x0 : Vec Ideal S4x1024x704 .bf16) (x1 : Vec Ideal S1x1024x1024 .bf16) (b : Vec Ideal S4x1x704x1024 .f32) :
    List (View.Piece (Elt Ideal) S4x1x704x1024 .f32) :=
  [⟨Rect.unit ![3, 0, 0, 0] ![1, 1, 704, 1024] inb_S4x1x704x1024_S1x1x704x1024_3_0_0_0,
    k0_pay2 (F := Ideal) (k0_pay5 x1)
      (View.ld x0 (Rect.unit ![3, 0, 0] ![1, 1024, 704] inb_S4x1024x704_S1x1024x704_3_0_0))
      (View.ld b (Rect.unit ![3, 0, 0, 0] ![1, 1, 704, 1024] inb_S4x1x704x1024_S1x1x704x1024_3_0_0_0))⟩,
   ⟨Rect.unit ![2, 0, 0, 0] ![1, 1, 704, 1024] inb_S4x1x704x1024_S1x1x704x1024_2_0_0_0,
    k0_pay1 (F := Ideal) (k0_pay5 x1)
      (View.ld x0 (Rect.unit ![2, 0, 0] ![1, 1024, 704] inb_S4x1024x704_S1x1024x704_2_0_0))
      (View.ld b (Rect.unit ![2, 0, 0, 0] ![1, 1, 704, 1024] inb_S4x1x704x1024_S1x1x704x1024_2_0_0_0))⟩,
   ⟨Rect.unit ![1, 0, 0, 0] ![1, 1, 704, 1024] inb_S4x1x704x1024_S1x1x704x1024_1_0_0_0,
    k0_pay7 (F := Ideal) x1
      (View.ld x0 (Rect.unit ![1, 0, 0] ![1, 1024, 704] inb_S4x1024x704_S1x1024x704_1_0_0))
      (View.ld b (Rect.unit ![1, 0, 0, 0] ![1, 1, 704, 1024] inb_S4x1x704x1024_S1x1x704x1024_1_0_0_0))⟩,
   ⟨Rect.unit ![0, 0, 0, 0] ![1, 1, 704, 1024] inb_S4x1x704x1024_S1x1x704x1024_0_0_0_0,
    k0_pay6 (F := Ideal) x1
      (View.ld x0 (Rect.unit ![0, 0, 0] ![1, 1024, 704] inb_S4x1024x704_S1x1024x704_0_0_0))
      (View.ld b (Rect.unit ![0, 0, 0, 0] ![1, 1, 704, 1024] inb_S4x1x704x1024_S1x1x704x1024_0_0_0_0))⟩]

theorem emb (h : Fin 4) (l : Fin 704) (k : Fin 1024) (inb) :
    (Rect.unit (s := S4x1x704x1024) ![h.val, 0, 0, 0] ![1, 1, 704, 1024] inb).emb (ix4 0 0 l k) = ix4 h 0 l k := by
  funext a
  apply Fin.ext
  match a with
  | ⟨0, _⟩ => simp
  | ⟨1, _⟩ => simp
  | ⟨2, _⟩ => simp
  | ⟨3, _⟩ => simp

theorem eta (x : S1x1x704x1024.Idx) : x = ix4 0 0 (x 2) (x 3) := by
  have e0 : x 0 = (0 : Fin 1) := Subsingleton.elim (α := Fin 1) _ _
  have e1 : x 1 = (0 : Fin 1) := Subsingleton.elim (α := Fin 1) _ _
  funext a
  match a with
  | ⟨0, _⟩ => exact e0
  | ⟨1, _⟩ => exact e1
  | ⟨2, _⟩ => rfl
  | ⟨3, _⟩ => rfl

theorem eta4 (x : S4x1x704x1024.Idx) : x = ix4 (x 0) 0 (x 2) (x 3) := by
  have e1 : x 1 = (0 : Fin 1) := Subsingleton.elim (α := Fin 1) _ _
  funext a
  match a with
  | ⟨0, _⟩ => rfl
  | ⟨1, _⟩ => exact e1
  | ⟨2, _⟩ => rfl
  | ⟨3, _⟩ => rfl

theorem w2 : ((2 : Fin 4) : ℕ) = 2 := rfl
theorem w3 : ((3 : Fin 4) : ℕ) = 3 := rfl

theorem pieces_of (x0 : Vec Ideal S4x1024x704 .bf16) (x1 : Vec Ideal S1x1024x1024 .bf16) (b : Vec Ideal S4x1x704x1024 .f32) :
    View.PiecesOf (Val := Elt Ideal) (e := .f32) (accB x0 x1 b) (pieces x0 x1 b) := by
  refine ⟨fun x => ?_, fun x => ?_, fun x => ?_, fun x => ?_, trivial⟩
  · obtain ⟨l, k, rfl⟩ : ∃ (l : Fin 704) (k : Fin 1024), x = ix4 0 0 l k := ⟨x 2, x 3, eta x⟩
    have e := emb 3 l k inb_S4x1x704x1024_S1x1x704x1024_3_0_0_0
    simp only [Fin.isValue, w3] at e
    rw [e]
    unfold accB incB
    pointwise [k0_pay2, k0_pay5]
  · obtain ⟨l, k, rfl⟩ : ∃ (l : Fin 704) (k : Fin 1024), x = ix4 0 0 l k := ⟨x 2, x 3, eta x⟩
    have e := emb 2 l k inb_S4x1x704x1024_S1x1x704x1024_2_0_0_0
    simp only [Fin.isValue, w2] at e
    rw [e]
    unfold accB incB
    pointwise [k0_pay1, k0_pay5]
  · obtain ⟨l, k, rfl⟩ : ∃ (l : Fin 704) (k : Fin 1024), x = ix4 0 0 l k := ⟨x 2, x 3, eta x⟩
    have e := emb 1 l k inb_S4x1x704x1024_S1x1x704x1024_1_0_0_0
    simp only [Fin.isValue, Fin.val_one] at e
    rw [e]
    unfold accB incB
    pointwise [k0_pay7, k0_pay5]
  · obtain ⟨l, k, rfl⟩ : ∃ (l : Fin 704) (k : Fin 1024), x = ix4 0 0 l k := ⟨x 2, x 3, eta x⟩
    have e := emb 0 l k inb_S4x1x704x1024_S1x1x704x1024_0_0_0_0
    simp only [Fin.isValue, Fin.val_zero] at e
    rw [e]
    unfold accB incB
    pointwise [k0_pay6, k0_pay5]

theorem coverG (p3 p2 p1 p0 : S1x1x704x1024.Idx → EReal) (y : S4x1x704x1024.Idx) :
    ∃ p ∈ ([⟨Rect.unit ![3, 0, 0, 0] ![1, 1, 704, 1024] inb_S4x1x704x1024_S1x1x704x1024_3_0_0_0, p3⟩,
      ⟨Rect.unit ![2, 0, 0, 0] ![1, 1, 704, 1024] inb_S4x1x704x1024_S1x1x704x1024_2_0_0_0, p2⟩,
      ⟨Rect.unit ![1, 0, 0, 0] ![1, 1, 704, 1024] inb_S4x1x704x1024_S1x1x704x1024_1_0_0_0, p1⟩,
      ⟨Rect.unit ![0, 0, 0, 0] ![1, 1, 704, 1024] inb_S4x1x704x1024_S1x1x704x1024_0_0_0_0, p0⟩] :
      List (View.Piece (Elt Ideal) S4x1x704x1024 .f32)), y ∈ p.1.set := by
  obtain ⟨h, l, k, rfl⟩ : ∃ (h : Fin 4) (l : Fin 704) (k : Fin 1024), y = ix4 h 0 l k := ⟨y 0, y 2, y 3, eta4 y⟩
  have key : ∀ h' : Fin 4, h' = h → ∀ inb,
      (ix4 h 0 l k : S4x1x704x1024.Idx) ∈ (Rect.unit (s := S4x1x704x1024) ![h'.val, 0, 0, 0] ![1, 1, 704, 1024] inb).set := by
    intro h' e inb
    subst e
    rw [← emb h' l k inb, ← Rect.map_emb_univ]
    exact Finset.mem_map_of_mem _ (Finset.mem_univ _)
  fin_cases h
  · exact ⟨_, List.mem_cons_of_mem _ (List.mem_cons_of_mem _ (List.mem_cons_of_mem _ List.mem_cons_self)), key 0 rfl inb_S4x1x704x1024_S1x1x704x1024_0_0_0_0⟩
  · exact ⟨_, List.mem_cons_of_mem _ (List.mem_cons_of_mem _ List.mem_cons_self), key 1 rfl inb_S4x1x704x1024_S1x1x704x1024_1_0_0_0⟩
  · exact ⟨_, List.mem_cons_of_mem _ List.mem_cons_self, key 2 rfl inb_S4x1x704x1024_S1x1x704x1024_2_0_0_0⟩
  · exact ⟨_, List.mem_cons_self, key 3 rfl inb_S4x1x704x1024_S1x1x704x1024_3_0_0_0⟩

theorem cover (x0 : Vec Ideal S4x1024x704 .bf16) (x1 : Vec Ideal S1x1024x1024 .bf16) (b : Vec Ideal S4x1x704x1024 .f32) (y : S4x1x704x1024.Idx) :
    ∃ p ∈ pieces x0 x1 b, y ∈ p.1.set := coverG _ _ _ _ y

/-- The output block is the accumulator, rounded. -/
theorem pay3_apply (v : Vec Ideal S4x1x704x1024 .f32) (i : S4x1x704x1024.Idx) : (k0_pay3 (F := Ideal) v i : EReal) = v i := by
  pointwise [k0_pay3]

set_option maxHeartbeats 1000000 in
theorem acc_A (c : Dev nD) (t : Fin cfg0.N) (h0 : t.val % 8 = 0) (h1 : ¬t.val % 8 = 7) (h : Fin 4) (l : Fin 704) (k : Fin 1024) :
    (outsAt0 m c t.val t.isLt).2 (ix4 h 0 l k) = 0 + incB (iblk m c 0 t) (iblk m c 1 t) h l k := by
  rw [outsAt0_A m c t h0 h1]
  dsimp only
  generalize iblk m c 0 t = x0
  generalize iblk m c 1 t = x1
  frame_open
  simp (disch := decide) only [↓ View.readCov_skip, ↓ View.readCov_cons_toLoadRect, ↓ View.readCov_fill]
  frame_out
  have e : accB x0 x1 (k0_pay4 (F := Ideal)) (ix4 h 0 l k) = 0 + incB x0 x1 h l k := by
    unfold accB
    pointwise [k0_pay4]
  rw [← e]
  exact View.canon_append_of_piecesOf (Val := Elt Ideal) (e := .f32) (accB x0 x1 (k0_pay4 (F := Ideal)))
    [⟨Rect.unit ![0, 0, 0, 0] ![4, 1, 704, 1024] inb_S4x1x704x1024_S4x1x704x1024_0_0_0_0, k0_pay4 (F := Ideal)⟩]
    (pieces x0 x1 (k0_pay4 (F := Ideal))) (pieces_of _ _ _) _ (cover _ _ _ _)

set_option maxHeartbeats 1000000 in
theorem acc_B (c : Dev nD) (t : Fin cfg0.N) (h0 : ¬t.val % 8 = 0) (h1 : ¬t.val % 8 = 7) (h : Fin 4) (l : Fin 704) (k : Fin 1024) :
    (outsAt0 m c t.val t.isLt).2 (ix4 h 0 l k) = (outsAt0 m c (t.val - 1) (Nat.lt_of_le_of_lt (Nat.sub_le _ _) t.isLt)).2 (ix4 h 0 l k)
      + incB (iblk m c 0 t) (iblk m c 1 t) h l k := by
  rw [outsAt0_B m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  simp only [read_unread_whole]
  exact View.canon_append_of_piecesOf (Val := Elt Ideal) (e := .f32) (accB x0 x1 x3) [] (pieces x0 x1 x3) (pieces_of _ _ _) _ (cover _ _ _ _)

set_option maxHeartbeats 1000000 in
theorem acc_C (c : Dev nD) (t : Fin cfg0.N) (h0 : ¬t.val % 8 = 0) (h1 : t.val % 8 = 7) (h : Fin 4) (l : Fin 704) (k : Fin 1024) :
    (outsAt0 m c t.val t.isLt).2 (ix4 h 0 l k) = (outsAt0 m c (t.val - 1) (Nat.lt_of_le_of_lt (Nat.sub_le _ _) t.isLt)).2 (ix4 h 0 l k)
      + incB (iblk m c 0 t) (iblk m c 1 t) h l k := by
  rw [outsAt0_C m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  simp only [read_unread_whole]
  exact View.canon_append_of_piecesOf (Val := Elt Ideal) (e := .f32) (accB x0 x1 x3) [] (pieces x0 x1 x3) (pieces_of _ _ _) _ (cover _ _ _ _)

set_option maxHeartbeats 1000000 in
theorem out_C (c : Dev nD) (t : Fin cfg0.N) (h0 : ¬t.val % 8 = 0) (h1 : t.val % 8 = 7) (h : Fin 4) (l : Fin 704) (k : Fin 1024) :
    ((outsAt0 m c t.val t.isLt).1 (ix4 h 0 l k) : EReal) = (outsAt0 m c (t.val - 1) (Nat.lt_of_le_of_lt (Nat.sub_le _ _) t.isLt)).2 (ix4 h 0 l k)
      + incB (iblk m c 0 t) (iblk m c 1 t) h l k := by
  rw [outsAt0_C m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  rw [View.readCov_eq_canon_ld _ _ _ (coverG _ _ _ _)]
  frame_out
  simp only [read_unread_whole]
  refine Eq.trans (α := EReal) (pay3_apply _ _) ?_
  exact View.canon_append_of_piecesOf (Val := Elt Ideal) (e := .f32) (accB x0 x1 x3) [] (pieces x0 x1 x3) (pieces_of _ _ _) _ (cover _ _ _ _)

end Cert.Kernel3Ideal.Hand
end
-- ==== Proof.WuSpec.lean ====
/- The gradient of the up projection's weights, at an index. -/
module

public import proofs.«01_k».proof.Proof.UpSpec

@[expose] public section

noncomputable section

open Idealize.ShloMosaic

namespace Cert.Spec.Wu
open Cert.Spec.Up

/-- The norm's output. -/
def hh (x : X3) (g : G1) (b : Fin 4) (s : Fin 2048) (k : Fin 1024) : EReal := x (ix3 b s k) * rr (row x b s) * g (ix1 k)
/-- Row `k`, column `f` of the gradient. -/
def dw (x : X3) (g : G1) (du : DU) (k : Fin 1024) (f : Fin 5632) : EReal :=
  ∑ b : Fin 4, ∑ s : Fin 2048, du (ix3 b s f) * hh x g b s k

end Cert.Spec.Wu
end
-- ==== Proof.WuArr.lean ====
/- The input arrays of the up projection's weights' gradient, as the host lines before its call leave them, and its output array. -/
module

public import proofs.«01_k».proof.Proof.WuBlock
public import proofs.«01_k».proof.Proof.WuSpec
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel3Ideal.Hand
open Cert.Kernel3Ideal Cert.Kernel3Ideal.Gen
open Cert.Spec.Up Cert.Spec.Wu

variable (m : (ℓ : Loc nD τ sig) → Buf (Elt Ideal) ℓ)

/-- The kernel's arguments. -/
abbrev a0 (c : Dev nD) : X3 := m ((c : Thread nD τ).loc main_arg0)
abbrev a1 (c : Dev nD) : G1 := m ((c : Thread nD τ).loc main_arg1)
abbrev a3 (c : Dev nD) : DU := m ((c : Thread nD τ).loc main_arg3)

/-- The two arrays, at a group, a sequence, a position in it and a column. -/
def fA (c : Dev nD) (a : Fin 8) (b : Fin 4) (s : Fin 2048) (l : Fin 704) : EReal := a3 m c (ix3 b s ⟨a.val * 704 + l.val, by omega⟩)
def fB (c : Dev nD) (b : Fin 4) (s : Fin 2048) (k : Fin 1024) : EReal := hh (a0 m c) (a1 m c) b s k

abbrev bq (T : Fin 8192) : Fin 4 := ⟨T.val / 2048, by omega⟩
abbrev sq (T : Fin 8192) : Fin 2048 := ⟨T.val % 2048, by omega⟩

theorem VA (c : Dev nD) (a : Fin 8) (T : Fin 8192) (l : Fin 704) :
    (V m c main_v18 : S8x8192x704.Idx → EReal) (ix3 a T l) = fA m c a (bq T) (sq T) l := by
  unfold fA
  unfold V
  after_reads_at
  exact congrArg (fun f : Fin 5632 => a3 m c (ix3 (bq T) (sq T) f)) (Fin.ext (by show a.val / 4 * 2816 + a.val % 4 * 704 + l.val = a.val * 704 + l.val; omega))

theorem VB (c : Dev nD) (T : Fin 8192) (k : Fin 1024) :
    (V m c main_v14 : S1x8192x1024.Idx → EReal) (ix3 0 T k) = fB m c (bq T) (sq T) k := by
  unfold fB
  unfold hh rr ms nn ee V
  after_reads_at

/-! ## The blocks at a point -/

theorem idx : ∀ t : Fin cfg0.N,
    win0_0.index t = ![t.val / 8, t.val % 8, 0] ∧ win0_1.index t = ![0, t.val % 8, 0] ∧ win0_2.index t = ![t.val / 8, 0, 0, 0] :=
  (by decide +kernel : ∀ t : Fin grid0.N, _)

theorem tlt (t : Fin cfg0.N) : t.val < 16 := t.isLt

/-- The position and the group that a block's row and group are. -/
abbrev rb (t : Fin cfg0.N) (r : Fin 1024) : Fin 8192 := ⟨t.val % 8 * 1024 + r.val, by omega⟩
abbrev gb (t : Fin cfg0.N) (h : Fin 4) : Fin 8 := ⟨t.val / 8 * 4 + h.val, by have := tlt t; omega⟩

theorem ib0 (c : Dev nD) (t : Fin cfg0.N) (h : Fin 4) (r : Fin 1024) (l : Fin 704) :
    iblk m c 0 t (ix3 h r l) = (V m c main_v18 : S8x8192x704.Idx → EReal) (ix3 (gb t h) (rb t r) l) := by
  blk_ext [iblk, idx t]

theorem ib1 (c : Dev nD) (t : Fin cfg0.N) (r : Fin 1024) (k : Fin 1024) :
    iblk m c 1 t (ix3 0 r k) = (V m c main_v14 : S1x8192x1024.Idx → EReal) (ix3 0 (rb t r) k) := by
  blk_ext [iblk, idx t]

/-! ## The accumulator -/

/-- A position's part of an entry. -/
def term (c : Dev nD) (a : Fin 8) (l : Fin 704) (k : Fin 1024) (b s : ℕ) : EReal :=
  if h : b < 4 ∧ s < 2048 then fA m c a ⟨b, h.1⟩ ⟨s, h.2⟩ l * fB m c ⟨b, h.1⟩ ⟨s, h.2⟩ k else 0

theorem term_eq (c : Dev nD) (a : Fin 8) (l : Fin 704) (k : Fin 1024) (b : Fin 4) (s : Fin 2048) {b' s' : ℕ} (hb : b' = b.val) (hs : s' = s.val) :
    term m c a l k b' s' = fA m c a b s l * fB m c b s k := by
  subst hb
  subst hs
  exact dif_pos ⟨b.isLt, s.isLt⟩

/-- A step's addition, zero behind the grid. -/
def inc (c : Dev nD) (n : ℕ) (q : Fin 4 × Fin 704 × Fin 1024) : EReal :=
  if h : n < 16 then ∑ r : Fin 1024, term m c ⟨n / 8 * 4 + q.1.val, by omega⟩ q.2.1 q.2.2 (n % 8 / 2) (n % 8 % 2 * 1024 + r.val) else 0

theorem inc_eq (c : Dev nD) (t : Fin cfg0.N) (h : Fin 4) (l : Fin 704) (k : Fin 1024) :
    incB (iblk m c 0 t) (iblk m c 1 t) h l k = inc m c t.val (h, l, k) := by
  unfold inc incB
  rw [dif_pos (tlt t)]
  refine Finset.sum_congr rfl fun r _ => ?_
  refine Eq.trans (α := EReal) (congrArg₂ (fun a b : EReal => a * b) ((ib0 m c t h r l).trans (VA m c _ _ _)) ((ib1 m c t r k).trans (VB m c _ _))) ?_
  exact (term_eq m c _ l k _ _ (by show t.val % 8 / 2 = (t.val % 8 * 1024 + r.val) / 2048; omega)
    (by show t.val % 8 % 2 * 1024 + r.val = (t.val % 8 * 1024 + r.val) % 2048; omega)).symm

/-- An entry of the gradient. -/
def G (c : Dev nD) (a : Fin 8) (l : Fin 704) (k : Fin 1024) : EReal :=
  ∑ b : Fin 4, ∑ s : Fin 2048, fA m c a b s l * fB m c b s k

theorem acc (c : Dev nD) (t : Fin cfg0.N) (ht : t.val % 8 = 7) (h : Fin 4) (l : Fin 704) (k : Fin 1024) :
    (outsAt0 m c t.val t.isLt).2 (ix4 h 0 l k) = G m c (gb t h) l k := by
  have key := Pipeline.eq_sum_of_reset_step_apply_of_mod
    (fun n hn (q : Fin 4 × Fin 704 × Fin 1024) => ((outsAt0 m c n hn).2 (ix4 q.1 0 q.2.1 q.2.2) : EReal)) 8 (fun _ => (0 : EReal)) (inc m c)
    (fun t h0 q => by
      refine (acc_A m c t h0 (by omega) q.1 q.2.1 q.2.2).trans ?_
      rw [inc_eq])
    (fun t h0 q => by
      by_cases h1 : t.val % 8 = 7
      · refine (acc_C m c t h0 h1 q.1 q.2.1 q.2.2).trans ?_
        rw [inc_eq]
      · refine (acc_B m c t h0 h1 q.1 q.2.1 q.2.2).trans ?_
        rw [inc_eq])
    t ht (h, l, k)
  refine key.trans ?_
  rw [zero_add, Finset.sum_range]
  refine (Finset.sum_congr rfl fun n _ => ?_).trans ((Fin.sum_points_lanes 4 2 1024 fun a s => term m c (gb t h) l k a s).trans ?_)
  · have hN := tlt t
    have hn : n.val < 8 := n.isLt
    unfold inc
    rw [dif_pos (by omega)]
    have e : (8 * (t.val / 8) + n.val) % 8 = n.val := by omega
    have e' : (⟨(8 * (t.val / 8) + n.val) / 8 * 4 + h.val, by omega⟩ : Fin 8) = gb t h :=
      Fin.ext (by show (8 * (t.val / 8) + n.val) / 8 * 4 + h.val = t.val / 8 * 4 + h.val; omega)
    dsimp only
    rw [e', e]
  · exact Finset.sum_congr rfl fun b _ => Finset.sum_congr rfl fun s _ => term_eq m c _ l k b s rfl rfl

/-! ## The output array -/

def G2 (c : Dev nD) (i : S8x1x704x1024.Idx) : EReal := G m c (i 0) (i 2) (i 3)

theorem out2 (c : Dev nD) (t : Fin cfg0.N) (ht : t.val % 8 = 7) (h : Fin 4) (l : Fin 704) (k : Fin 1024) :
    ((outsAt0 m c t.val t.isLt).1 (ix4 h 0 l k) : EReal) = G2 m c (ix4 (gb t h) 0 l k) :=
  (out_C m c t (by omega) ht h l k).trans ((acc_C m c t (by omega) ht h l k).symm.trans (acc m c t ht h l k))

theorem outEmb (t : Fin cfg0.N) (y : S4x1x704x1024.Idx) :
    ((win0_2.blk t).view.emb y : S8x1x704x1024.Idx) = ix4 (gb t (y 0)) 0 (y 2) (y 3) := by
  have e1 : y 1 = (0 : Fin 1) := Subsingleton.elim (α := Fin 1) _ _
  blk_ext [idx t]

theorem arr2 (c : Dev nD) : (dats m 0 c).arrAt 2 (cfgs 0).N = G2 m c := by
  refine (dats m 0 c).arrAt_eq_of_covers 2 _ (by decide +kernel) fun t hf y => ?_
  blk_simp
  rw [after0_2]
  exact (congrArg _ (eta4 y)).trans ((out2 m c t ((flush0_2 t).mp hf) (y 0) (y 2) (y 3)).trans (congrArg (G2 m c) (outEmb t y).symm))

end Cert.Kernel3Ideal.Hand
end
-- ==== Proof.WuRef.lean ====
/- What the reference of the up projection's weights' gradient computes, at an index. -/
module

public import proofs.«01_k».proof.Proof.WuSpec
public import proofs.«01_k».proof.Proof.Gen.Reference3Ideal.Run
public import proofs.«01_k».proof.Proof.Gen.Reference3Ideal.Read
public import Idealize.ShloMosaic.Lib.Pointwise

@[expose] public section

set_option maxRecDepth 16384

noncomputable section

open Idealize.ShloMosaic

namespace Cert.Reference3Ideal.Hand

open Cert.Reference3Ideal Cert.Reference3Ideal.Gen Cert.Reference3Ideal.Read
open Cert.Spec.Up Cert.Spec.Wu

variable (x : X3) (g : G1) (du : DU)

theorem R12 (b : Fin 4) (s : Fin 2048) (k : Fin 1024) : val_main_v12 (F := Ideal) x g (ix3 b s k) = hh x g b s k := by
  unfold hh rr ms nn ee
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem R15 (k : Fin 1024) (f : Fin 5632) : val_main_v15 (F := Ideal) x g du (ix2 k f) = dw x g du k f := by
  unfold val_main_v15 val_main_v14
  generalize hy : val_main_v12 (F := Ideal) x g = y
  pointwise
  subst hy
  unfold dw
  exact Finset.sum_congr rfl fun b _ => Finset.sum_congr rfl fun s _ => congrArg (fun z : EReal => du (ix3 b s f) * z) (R12 x g b s k)

end Cert.Reference3Ideal.Hand
end
-- ==== Proof.WuFinal.lean ====
/- The array that the program of the up projection's weights' gradient returns, and the run that leaves it. -/
module

public import proofs.«01_k».proof.Proof.WuArr
public import proofs.«01_k».proof.Proof.WuRef
public import proofs.«01_k».proof.Proof.Gen.Reference3Ideal.Run
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

namespace Cert.Kernel3Ideal.Hand
open Cert.Kernel3Ideal Cert.Kernel3Ideal.Gen
open Cert.Spec.Up Cert.Spec.Wu

variable (m : (ℓ : Loc nD τ sig) → Buf (Elt Ideal) ℓ)

theorem T (Z : Valuation τ sig (Elt Ideal)) (k : Fin 1024) (f : Fin 5632) :
    (StableHlo.after [hostOps1].flatten Z (Proc.devRef .tc main_v23) : S1024x5632.Idx → EReal) (ix2 k f)
      = (Z (Proc.devRef .tc main_v19) : S8x1x704x1024.Idx → EReal) (ix4 ⟨f.val / 704, by omega⟩ 0 ⟨f.val % 704, by omega⟩ k) := by
  after_reads_at

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z2 (c : Dev nD) : Zr m c (Proc.devRef .tc main_v19) = (dats m 0 c).arrAt 2 (cfgs 0).N :=
  Dat.withArrays_arrAt (dats m 0 c) sharedIn0 (V0 m c) (A_eq m c) 2

theorem E23 (c : Dev nD) :
    (Pipeline.afterTail₀ cfgs (dats m) 0 (V0 m) [hostOps1] c main_v23 : S1024x5632.Idx → EReal)
      = Cert.Reference3Ideal.Read.val_main_v15 (F := Ideal) (a0 m c) (a1 m c) (a3 m c) := by
  funext i
  obtain ⟨k, f, rfl⟩ : ∃ (k : Fin 1024) (f : Fin 5632), i = ix2 k f := ⟨i 0, i 1, eq_ix2 i⟩
  refine (T (Zr m c) k f).trans (Eq.trans ?_ (Cert.Reference3Ideal.Hand.R15 _ _ _ k f).symm)
  rw [Z2, arr2]
  have hf : (⟨f.val / 704 * 704 + f.val % 704, by omega⟩ : Fin 5632) = f := Fin.ext (by show f.val / 704 * 704 + f.val % 704 = f.val; omega)
  show G m c ⟨f.val / 704, by omega⟩ ⟨f.val % 704, by omega⟩ k = _
  unfold G fA fB dw
  dsimp only
  rw [hf]

/-- The run: the result at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v23) = Pipeline.afterTail₀ cfgs (dats m) 0 (V0 m) [hostOps1] c main_v23) :=
  (θ_run defs _ _).mono (fun _ h c => (h c).2 main_v23 (Pipeline.mem_restRefs_of main_v23 (by decide) (by decide))) (run_main m ρ)

end Cert.Kernel3Ideal.Hand
end
-- ==== Proof.WdBlock.lean ====
/- What one grid point of the down projection's weights' gradient leaves in its accumulator and its output block, at an index, as a
   function of the two input blocks at the point. -/
module

public import proofs.«01_k».proof.Proof.Gen.Kernel4Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Hand
open Cert.Kernel4Ideal Cert.Kernel4Ideal.Gen

variable (m : (ℓ : Loc nD τ sig) → Buf (Elt Ideal) ℓ)

/-- What a point adds to one entry: the product over the block's positions. -/
def incB (x0 : Vec Ideal S4x1024x704 .bf16) (x1 : Vec Ideal S1x1024x1024 .f32) (h : Fin 4) (l : Fin 704) (k : Fin 1024) : EReal :=
  ∑ r : Fin 1024, x0 (ix3 h r l) * x1 (ix3 0 r k)

/-- The accumulator after a point, over what it was. -/
def accB (x0 : Vec Ideal S4x1024x704 .bf16) (x1 : Vec Ideal S1x1024x1024 .f32) (b : Vec Ideal S4x1x704x1024 .f32) (i : S4x1x704x1024.Idx) : EReal :=
  b i + incB x0 x1 (i 0) (i 2) (i 3)

/-- The four stores of a point, the last one first. -/
def pieces (x0 : Vec Ideal S4x1024x704 .bf16) (x1 : Vec Ideal S1x1024x1024 .f32) (b : Vec Ideal S4x1x704x1024 .f32) :
    List (View.Piece (Elt Ideal) S4x1x704x1024 .f32) :=
  [⟨Rect.unit ![3, 0, 0, 0] ![1, 1, 704, 1024] inb_S4x1x704x1024_S1x1x704x1024_3_0_0_0,
    k0_pay2 (F := Ideal) (k0_pay5 x1)
      (View.ld x0 (Rect.unit ![3, 0, 0] ![1, 1024, 704] inb_S4x1024x704_S1x1024x704_3_0_0))
      (View.ld b (Rect.unit ![3, 0, 0, 0] ![1, 1, 704, 1024] inb_S4x1x704x1024_S1x1x704x1024_3_0_0_0))⟩,
   ⟨Rect.unit ![2, 0, 0, 0] ![1, 1, 704, 1024] inb_S4x1x704x1024_S1x1x704x1024_2_0_0_0,
    k0_pay1 (F := Ideal) (k0_pay5 x1)
      (View.ld x0 (Rect.unit ![2, 0, 0] ![1, 1024, 704] inb_S4x1024x704_S1x1024x704_2_0_0))
      (View.ld b (Rect.unit ![2, 0, 0, 0] ![1, 1, 704, 1024] inb_S4x1x704x1024_S1x1x704x1024_2_0_0_0))⟩,
   ⟨Rect.unit ![1, 0, 0, 0] ![1, 1, 704, 1024] inb_S4x1x704x1024_S1x1x704x1024_1_0_0_0,
    k0_pay7 (F := Ideal) x1
      (View.ld x0 (Rect.unit ![1, 0, 0] ![1, 1024, 704] inb_S4x1024x704_S1x1024x704_1_0_0))
      (View.ld b (Rect.unit ![1, 0, 0, 0] ![1, 1, 704, 1024] inb_S4x1x704x1024_S1x1x704x1024_1_0_0_0))⟩,
   ⟨Rect.unit ![0, 0, 0, 0] ![1, 1, 704, 1024] inb_S4x1x704x1024_S1x1x704x1024_0_0_0_0,
    k0_pay6 (F := Ideal) x1
      (View.ld x0 (Rect.unit ![0, 0, 0] ![1, 1024, 704] inb_S4x1024x704_S1x1024x704_0_0_0))
      (View.ld b (Rect.unit ![0, 0, 0, 0] ![1, 1, 704, 1024] inb_S4x1x704x1024_S1x1x704x1024_0_0_0_0))⟩]

theorem emb (h : Fin 4) (l : Fin 704) (k : Fin 1024) (inb) :
    (Rect.unit (s := S4x1x704x1024) ![h.val, 0, 0, 0] ![1, 1, 704, 1024] inb).emb (ix4 0 0 l k) = ix4 h 0 l k := by
  funext a
  apply Fin.ext
  match a with
  | ⟨0, _⟩ => simp
  | ⟨1, _⟩ => simp
  | ⟨2, _⟩ => simp
  | ⟨3, _⟩ => simp

theorem eta (x : S1x1x704x1024.Idx) : x = ix4 0 0 (x 2) (x 3) := by
  have e0 : x 0 = (0 : Fin 1) := Subsingleton.elim (α := Fin 1) _ _
  have e1 : x 1 = (0 : Fin 1) := Subsingleton.elim (α := Fin 1) _ _
  funext a
  match a with
  | ⟨0, _⟩ => exact e0
  | ⟨1, _⟩ => exact e1
  | ⟨2, _⟩ => rfl
  | ⟨3, _⟩ => rfl

theorem eta4 (x : S4x1x704x1024.Idx) : x = ix4 (x 0) 0 (x 2) (x 3) := by
  have e1 : x 1 = (0 : Fin 1) := Subsingleton.elim (α := Fin 1) _ _
  funext a
  match a with
  | ⟨0, _⟩ => rfl
  | ⟨1, _⟩ => exact e1
  | ⟨2, _⟩ => rfl
  | ⟨3, _⟩ => rfl

theorem w2 : ((2 : Fin 4) : ℕ) = 2 := rfl
theorem w3 : ((3 : Fin 4) : ℕ) = 3 := rfl

theorem pieces_of (x0 : Vec Ideal S4x1024x704 .bf16) (x1 : Vec Ideal S1x1024x1024 .f32) (b : Vec Ideal S4x1x704x1024 .f32) :
    View.PiecesOf (Val := Elt Ideal) (e := .f32) (accB x0 x1 b) (pieces x0 x1 b) := by
  refine ⟨fun x => ?_, fun x => ?_, fun x => ?_, fun x => ?_, trivial⟩
  · obtain ⟨l, k, rfl⟩ : ∃ (l : Fin 704) (k : Fin 1024), x = ix4 0 0 l k := ⟨x 2, x 3, eta x⟩
    have e := emb 3 l k inb_S4x1x704x1024_S1x1x704x1024_3_0_0_0
    simp only [Fin.isValue, w3] at e
    rw [e]
    unfold accB incB
    pointwise [k0_pay2, k0_pay5]
  · obtain ⟨l, k, rfl⟩ : ∃ (l : Fin 704) (k : Fin 1024), x = ix4 0 0 l k := ⟨x 2, x 3, eta x⟩
    have e := emb 2 l k inb_S4x1x704x1024_S1x1x704x1024_2_0_0_0
    simp only [Fin.isValue, w2] at e
    rw [e]
    unfold accB incB
    pointwise [k0_pay1, k0_pay5]
  · obtain ⟨l, k, rfl⟩ : ∃ (l : Fin 704) (k : Fin 1024), x = ix4 0 0 l k := ⟨x 2, x 3, eta x⟩
    have e := emb 1 l k inb_S4x1x704x1024_S1x1x704x1024_1_0_0_0
    simp only [Fin.isValue, Fin.val_one] at e
    rw [e]
    unfold accB incB
    pointwise [k0_pay7, k0_pay5]
  · obtain ⟨l, k, rfl⟩ : ∃ (l : Fin 704) (k : Fin 1024), x = ix4 0 0 l k := ⟨x 2, x 3, eta x⟩
    have e := emb 0 l k inb_S4x1x704x1024_S1x1x704x1024_0_0_0_0
    simp only [Fin.isValue, Fin.val_zero] at e
    rw [e]
    unfold accB incB
    pointwise [k0_pay6, k0_pay5]

theorem coverG (p3 p2 p1 p0 : S1x1x704x1024.Idx → EReal) (y : S4x1x704x1024.Idx) :
    ∃ p ∈ ([⟨Rect.unit ![3, 0, 0, 0] ![1, 1, 704, 1024] inb_S4x1x704x1024_S1x1x704x1024_3_0_0_0, p3⟩,
      ⟨Rect.unit ![2, 0, 0, 0] ![1, 1, 704, 1024] inb_S4x1x704x1024_S1x1x704x1024_2_0_0_0, p2⟩,
      ⟨Rect.unit ![1, 0, 0, 0] ![1, 1, 704, 1024] inb_S4x1x704x1024_S1x1x704x1024_1_0_0_0, p1⟩,
      ⟨Rect.unit ![0, 0, 0, 0] ![1, 1, 704, 1024] inb_S4x1x704x1024_S1x1x704x1024_0_0_0_0, p0⟩] :
      List (View.Piece (Elt Ideal) S4x1x704x1024 .f32)), y ∈ p.1.set := by
  obtain ⟨h, l, k, rfl⟩ : ∃ (h : Fin 4) (l : Fin 704) (k : Fin 1024), y = ix4 h 0 l k := ⟨y 0, y 2, y 3, eta4 y⟩
  have key : ∀ h' : Fin 4, h' = h → ∀ inb,
      (ix4 h 0 l k : S4x1x704x1024.Idx) ∈ (Rect.unit (s := S4x1x704x1024) ![h'.val, 0, 0, 0] ![1, 1, 704, 1024] inb).set := by
    intro h' e inb
    subst e
    rw [← emb h' l k inb, ← Rect.map_emb_univ]
    exact Finset.mem_map_of_mem _ (Finset.mem_univ _)
  fin_cases h
  · exact ⟨_, List.mem_cons_of_mem _ (List.mem_cons_of_mem _ (List.mem_cons_of_mem _ List.mem_cons_self)), key 0 rfl inb_S4x1x704x1024_S1x1x704x1024_0_0_0_0⟩
  · exact ⟨_, List.mem_cons_of_mem _ (List.mem_cons_of_mem _ List.mem_cons_self), key 1 rfl inb_S4x1x704x1024_S1x1x704x1024_1_0_0_0⟩
  · exact ⟨_, List.mem_cons_of_mem _ List.mem_cons_self, key 2 rfl inb_S4x1x704x1024_S1x1x704x1024_2_0_0_0⟩
  · exact ⟨_, List.mem_cons_self, key 3 rfl inb_S4x1x704x1024_S1x1x704x1024_3_0_0_0⟩

theorem cover (x0 : Vec Ideal S4x1024x704 .bf16) (x1 : Vec Ideal S1x1024x1024 .f32) (b : Vec Ideal S4x1x704x1024 .f32) (y : S4x1x704x1024.Idx) :
    ∃ p ∈ pieces x0 x1 b, y ∈ p.1.set := coverG _ _ _ _ y

/-- The output block is the accumulator, rounded. -/
theorem pay3_apply (v : Vec Ideal S4x1x704x1024 .f32) (i : S4x1x704x1024.Idx) : (k0_pay3 (F := Ideal) v i : EReal) = v i := by
  pointwise [k0_pay3]

set_option maxHeartbeats 1000000 in
theorem acc_A (c : Dev nD) (t : Fin cfg0.N) (h0 : t.val % 8 = 0) (h1 : ¬t.val % 8 = 7) (h : Fin 4) (l : Fin 704) (k : Fin 1024) :
    (outsAt0 m c t.val t.isLt).2 (ix4 h 0 l k) = 0 + incB (iblk m c 0 t) (iblk m c 1 t) h l k := by
  rw [outsAt0_A m c t h0 h1]
  dsimp only
  generalize iblk m c 0 t = x0
  generalize iblk m c 1 t = x1
  frame_open
  simp (disch := decide) only [↓ View.readCov_skip, ↓ View.readCov_cons_toLoadRect, ↓ View.readCov_fill]
  frame_out
  have e : accB x0 x1 (k0_pay4 (F := Ideal)) (ix4 h 0 l k) = 0 + incB x0 x1 h l k := by
    unfold accB
    pointwise [k0_pay4]
  rw [← e]
  exact View.canon_append_of_piecesOf (Val := Elt Ideal) (e := .f32) (accB x0 x1 (k0_pay4 (F := Ideal)))
    [⟨Rect.unit ![0, 0, 0, 0] ![4, 1, 704, 1024] inb_S4x1x704x1024_S4x1x704x1024_0_0_0_0, k0_pay4 (F := Ideal)⟩]
    (pieces x0 x1 (k0_pay4 (F := Ideal))) (pieces_of _ _ _) _ (cover _ _ _ _)

set_option maxHeartbeats 1000000 in
theorem acc_B (c : Dev nD) (t : Fin cfg0.N) (h0 : ¬t.val % 8 = 0) (h1 : ¬t.val % 8 = 7) (h : Fin 4) (l : Fin 704) (k : Fin 1024) :
    (outsAt0 m c t.val t.isLt).2 (ix4 h 0 l k) = (outsAt0 m c (t.val - 1) (Nat.lt_of_le_of_lt (Nat.sub_le _ _) t.isLt)).2 (ix4 h 0 l k)
      + incB (iblk m c 0 t) (iblk m c 1 t) h l k := by
  rw [outsAt0_B m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  simp only [read_unread_whole]
  exact View.canon_append_of_piecesOf (Val := Elt Ideal) (e := .f32) (accB x0 x1 x3) [] (pieces x0 x1 x3) (pieces_of _ _ _) _ (cover _ _ _ _)

set_option maxHeartbeats 1000000 in
theorem acc_C (c : Dev nD) (t : Fin cfg0.N) (h0 : ¬t.val % 8 = 0) (h1 : t.val % 8 = 7) (h : Fin 4) (l : Fin 704) (k : Fin 1024) :
    (outsAt0 m c t.val t.isLt).2 (ix4 h 0 l k) = (outsAt0 m c (t.val - 1) (Nat.lt_of_le_of_lt (Nat.sub_le _ _) t.isLt)).2 (ix4 h 0 l k)
      + incB (iblk m c 0 t) (iblk m c 1 t) h l k := by
  rw [outsAt0_C m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  simp only [read_unread_whole]
  exact View.canon_append_of_piecesOf (Val := Elt Ideal) (e := .f32) (accB x0 x1 x3) [] (pieces x0 x1 x3) (pieces_of _ _ _) _ (cover _ _ _ _)

set_option maxHeartbeats 1000000 in
theorem out_C (c : Dev nD) (t : Fin cfg0.N) (h0 : ¬t.val % 8 = 0) (h1 : t.val % 8 = 7) (h : Fin 4) (l : Fin 704) (k : Fin 1024) :
    ((outsAt0 m c t.val t.isLt).1 (ix4 h 0 l k) : EReal) = (outsAt0 m c (t.val - 1) (Nat.lt_of_le_of_lt (Nat.sub_le _ _) t.isLt)).2 (ix4 h 0 l k)
      + incB (iblk m c 0 t) (iblk m c 1 t) h l k := by
  rw [outsAt0_C m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  rw [View.readCov_eq_canon_ld _ _ _ (coverG _ _ _ _)]
  frame_out
  simp only [read_unread_whole]
  refine Eq.trans (α := EReal) (pay3_apply _ _) ?_
  exact View.canon_append_of_piecesOf (Val := Elt Ideal) (e := .f32) (accB x0 x1 x3) [] (pieces x0 x1 x3) (pieces_of _ _ _) _ (cover _ _ _ _)

end Cert.Kernel4Ideal.Hand
end
-- ==== Proof.WdSpec.lean ====
/- The gradient of the down projection's weights, at an index. -/
module

public import proofs.«01_k».proof.Proof.Spec
public import proofs.«01_k».proof.Proof.Math

@[expose] public section

noncomputable section

open Idealize.ShloMosaic

namespace Cert.Spec.Wd

/-- The gate's output. -/
def hid (u : U) (w : W) (b : B) (bb : Fin 4) (s : Fin 2048) (g : Fin 2816) : EReal :=
  cv u w b bb s.val ⟨g.val, by omega⟩ * sigm (cv u w b bb s.val ⟨g.val, by omega⟩) * cv u w b bb s.val ⟨2816 + g.val, by omega⟩
/-- Row `g`, column `k` of the gradient. -/
def dw (u : U) (w : W) (b : B) (ct : CT) (g : Fin 2816) (k : Fin 1024) : EReal :=
  ∑ bb : Fin 4, ∑ s : Fin 2048, hid u w b bb s g * ct (ix3 bb s k)

/-- The convolution as three reads of the array behind two rows of zeros. -/
theorem cv_form (u : U) (w : W) (b : B) (Z : (⟨3, ![4, 2, 5632]⟩ : Shape).Idx → EReal) (hZ : ∀ j, Z j = 0)
    (Y : U) (hY : Y = u) (bb : Fin 4) (s : ℕ) (hs : s < 2048) (f : Fin 5632) :
    w (ix2 0 f) * (if h : s < 2 then Z (ix3 bb ⟨s, h⟩ f) else Y (ix3 bb ⟨s - 2, by omega⟩ f))
      + w (ix2 1 f) * (if h : 1 + s < 2 then Z (ix3 bb ⟨1 + s, h⟩ f) else Y (ix3 bb ⟨1 + s - 2, by omega⟩ f))
      + w (ix2 2 f) * Y (ix3 bb ⟨s, hs⟩ f) + b (ix1 f) = cv u w b bb s f := by
  subst hY
  refine congrArg₂ (· + ·) (congrArg₂ (· + ·) (congrArg₂ (· + ·) (congrArg₂ (· * ·) rfl ?_) (congrArg₂ (· * ·) rfl ?_)) (congrArg₂ (· * ·) rfl ?_)) rfl
  · split_ifs with h1
    · exact (hZ _).trans (up_lt _ _ h1).symm
    · exact (up_ge _ _ h1 _).symm
  · split_ifs with h1
    · exact (hZ _).trans (up_lt _ _ h1).symm
    · exact (up_ge _ _ h1 _).symm
  · exact (up_two _ _ hs).symm

end Cert.Spec.Wd
end
-- ==== Proof.WdArr.lean ====
/- The input arrays of the down projection's weights' gradient, as the host lines before its call leave them, and its output array. -/
module

public import proofs.«01_k».proof.Proof.WdBlock
public import proofs.«01_k».proof.Proof.WdSpec
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel4Ideal.Hand
open Cert.Kernel4Ideal Cert.Kernel4Ideal.Gen
open Cert.Spec Cert.Spec.Wd

variable (m : (ℓ : Loc nD τ sig) → Buf (Elt Ideal) ℓ)

/-- The kernel's arguments. -/
abbrev a0 (c : Dev nD) : U := m ((c : Thread nD τ).loc main_arg0)
abbrev a1 (c : Dev nD) : W := m ((c : Thread nD τ).loc main_arg1)
abbrev a2 (c : Dev nD) : B := m ((c : Thread nD τ).loc main_arg2)
abbrev a4 (c : Dev nD) : CT := m ((c : Thread nD τ).loc main_arg4)

theorem U1 (c : Dev nD) (j : S4x2x5632.Idx) :
    (StableHlo.upto [hostOps0, hostOps0_1, hostOps0_2].flatten (fun b => m (c, b)) 3 (Proc.tc.devRef main_v1) : S4x2x5632.Idx → EReal) j = (0 : EReal) := by
  unfold StableHlo.upto
  after_reads_at

theorem U0 (c : Dev nD) : (StableHlo.upto [hostOps0, hostOps0_1, hostOps0_2].flatten (fun b => m (c, b)) 3 (Proc.tc.devRef main_arg0) : U) = a0 m c := by
  unfold StableHlo.upto
  after_reads_at

/-- The two arrays, at a group, a sequence, a position in it and a column. -/
def fA (c : Dev nD) (a : Fin 4) (b : Fin 4) (s : Fin 2048) (l : Fin 704) : EReal := hid (a0 m c) (a1 m c) (a2 m c) b s ⟨a.val * 704 + l.val, by omega⟩
def fB (c : Dev nD) (b : Fin 4) (s : Fin 2048) (k : Fin 1024) : EReal := a4 m c (ix3 b s k)

abbrev bq (T : Fin 8192) : Fin 4 := ⟨T.val / 2048, by omega⟩
abbrev sq (T : Fin 8192) : Fin 2048 := ⟨T.val % 2048, by omega⟩

theorem VA (c : Dev nD) (a : Fin 4) (T : Fin 8192) (l : Fin 704) :
    (V m c main_v32 : S4x8192x704.Idx → EReal) (ix3 a T l) = fA m c a (bq T) (sq T) l := by
  unfold fA
  unfold V
  after_reads_at
  exact congrArg₂ (fun x y : EReal => x * y)
    (congrArg₂ (fun x y : EReal => x * y) (cv_form _ (a1 m c) (a2 m c) _ (U1 m c) _ (U0 m c) (bq T) (T.val % 2048) (by omega) ⟨a.val * 704 + l.val, by omega⟩)
      (congrArg Cert.Spec.sigm (cv_form _ (a1 m c) (a2 m c) _ (U1 m c) _ (U0 m c) (bq T) (T.val % 2048) (by omega) ⟨a.val * 704 + l.val, by omega⟩)))
    (cv_form _ (a1 m c) (a2 m c) _ (U1 m c) _ (U0 m c) (bq T) (T.val % 2048) (by omega) ⟨2816 + (a.val * 704 + l.val), by omega⟩)

theorem VB (c : Dev nD) (T : Fin 8192) (k : Fin 1024) :
    (V m c main_v33 : S1x8192x1024.Idx → EReal) (ix3 0 T k) = fB m c (bq T) (sq T) k := by
  unfold fB
  unfold V
  after_reads_at

/-! ## The blocks at a point -/

theorem idx : ∀ t : Fin cfg0.N,
    win0_0.index t = ![t.val / 8, t.val % 8, 0] ∧ win0_1.index t = ![0, t.val % 8, 0] ∧ win0_2.index t = ![t.val / 8, 0, 0, 0] :=
  (by decide +kernel : ∀ t : Fin grid0.N, _)

theorem tlt (t : Fin cfg0.N) : t.val < 8 := t.isLt

/-- The position and the group that a block's row and group are. -/
abbrev rb (t : Fin cfg0.N) (r : Fin 1024) : Fin 8192 := ⟨t.val % 8 * 1024 + r.val, by omega⟩
abbrev gb (t : Fin cfg0.N) (h : Fin 4) : Fin 4 := ⟨t.val / 8 * 4 + h.val, by have := tlt t; omega⟩

theorem ib0 (c : Dev nD) (t : Fin cfg0.N) (h : Fin 4) (r : Fin 1024) (l : Fin 704) :
    iblk m c 0 t (ix3 h r l) = (V m c main_v32 : S4x8192x704.Idx → EReal) (ix3 (gb t h) (rb t r) l) := by
  blk_ext [iblk, idx t]

theorem ib1 (c : Dev nD) (t : Fin cfg0.N) (r : Fin 1024) (k : Fin 1024) :
    iblk m c 1 t (ix3 0 r k) = (V m c main_v33 : S1x8192x1024.Idx → EReal) (ix3 0 (rb t r) k) := by
  blk_ext [iblk, idx t]

/-! ## The accumulator -/

/-- A position's part of an entry. -/
def term (c : Dev nD) (a : Fin 4) (l : Fin 704) (k : Fin 1024) (b s : ℕ) : EReal :=
  if h : b < 4 ∧ s < 2048 then fA m c a ⟨b, h.1⟩ ⟨s, h.2⟩ l * fB m c ⟨b, h.1⟩ ⟨s, h.2⟩ k else 0

theorem term_eq (c : Dev nD) (a : Fin 4) (l : Fin 704) (k : Fin 1024) (b : Fin 4) (s : Fin 2048) {b' s' : ℕ} (hb : b' = b.val) (hs : s' = s.val) :
    term m c a l k b' s' = fA m c a b s l * fB m c b s k := by
  subst hb
  subst hs
  exact dif_pos ⟨b.isLt, s.isLt⟩

/-- A step's addition, zero behind the grid. -/
def inc (c : Dev nD) (n : ℕ) (q : Fin 4 × Fin 704 × Fin 1024) : EReal :=
  if h : n < 8 then ∑ r : Fin 1024, term m c ⟨n / 8 * 4 + q.1.val, by omega⟩ q.2.1 q.2.2 (n % 8 / 2) (n % 8 % 2 * 1024 + r.val) else 0

theorem inc_eq (c : Dev nD) (t : Fin cfg0.N) (h : Fin 4) (l : Fin 704) (k : Fin 1024) :
    incB (iblk m c 0 t) (iblk m c 1 t) h l k = inc m c t.val (h, l, k) := by
  unfold inc incB
  rw [dif_pos (tlt t)]
  refine Finset.sum_congr rfl fun r _ => ?_
  refine Eq.trans (α := EReal) (congrArg₂ (fun a b : EReal => a * b) ((ib0 m c t h r l).trans (VA m c _ _ _)) ((ib1 m c t r k).trans (VB m c _ _))) ?_
  exact (term_eq m c _ l k _ _ (by show t.val % 8 / 2 = (t.val % 8 * 1024 + r.val) / 2048; omega)
    (by show t.val % 8 % 2 * 1024 + r.val = (t.val % 8 * 1024 + r.val) % 2048; omega)).symm

/-- An entry of the gradient. -/
def G (c : Dev nD) (a : Fin 4) (l : Fin 704) (k : Fin 1024) : EReal :=
  ∑ b : Fin 4, ∑ s : Fin 2048, fA m c a b s l * fB m c b s k

theorem acc (c : Dev nD) (t : Fin cfg0.N) (ht : t.val % 8 = 7) (h : Fin 4) (l : Fin 704) (k : Fin 1024) :
    (outsAt0 m c t.val t.isLt).2 (ix4 h 0 l k) = G m c (gb t h) l k := by
  have key := Pipeline.eq_sum_of_reset_step_apply_of_mod
    (fun n hn (q : Fin 4 × Fin 704 × Fin 1024) => ((outsAt0 m c n hn).2 (ix4 q.1 0 q.2.1 q.2.2) : EReal)) 8 (fun _ => (0 : EReal)) (inc m c)
    (fun t h0 q => by
      refine (acc_A m c t h0 (by omega) q.1 q.2.1 q.2.2).trans ?_
      rw [inc_eq])
    (fun t h0 q => by
      by_cases h1 : t.val % 8 = 7
      · refine (acc_C m c t h0 h1 q.1 q.2.1 q.2.2).trans ?_
        rw [inc_eq]
      · refine (acc_B m c t h0 h1 q.1 q.2.1 q.2.2).trans ?_
        rw [inc_eq])
    t ht (h, l, k)
  refine key.trans ?_
  rw [zero_add, Finset.sum_range]
  refine (Finset.sum_congr rfl fun n _ => ?_).trans ((Fin.sum_points_lanes 4 2 1024 fun a s => term m c (gb t h) l k a s).trans ?_)
  · have hN := tlt t
    have hn : n.val < 8 := n.isLt
    unfold inc
    rw [dif_pos (by omega)]
    have e : (8 * (t.val / 8) + n.val) % 8 = n.val := by omega
    have e' : (⟨(8 * (t.val / 8) + n.val) / 8 * 4 + h.val, by omega⟩ : Fin 4) = gb t h :=
      Fin.ext (by show (8 * (t.val / 8) + n.val) / 8 * 4 + h.val = t.val / 8 * 4 + h.val; omega)
    dsimp only
    rw [e', e]
  · exact Finset.sum_congr rfl fun b _ => Finset.sum_congr rfl fun s _ => term_eq m c _ l k b s rfl rfl

/-! ## The output array -/

def G2 (c : Dev nD) (i : S4x1x704x1024.Idx) : EReal := G m c (i 0) (i 2) (i 3)

theorem out2 (c : Dev nD) (t : Fin cfg0.N) (ht : t.val % 8 = 7) (h : Fin 4) (l : Fin 704) (k : Fin 1024) :
    ((outsAt0 m c t.val t.isLt).1 (ix4 h 0 l k) : EReal) = G2 m c (ix4 (gb t h) 0 l k) :=
  (out_C m c t (by omega) ht h l k).trans ((acc_C m c t (by omega) ht h l k).symm.trans (acc m c t ht h l k))

theorem outEmb (t : Fin cfg0.N) (y : S4x1x704x1024.Idx) :
    ((win0_2.blk t).view.emb y : S4x1x704x1024.Idx) = ix4 (gb t (y 0)) 0 (y 2) (y 3) := by
  have e1 : y 1 = (0 : Fin 1) := Subsingleton.elim (α := Fin 1) _ _
  blk_ext [idx t]

theorem arr2 (c : Dev nD) : (dats m 0 c).arrAt 2 (cfgs 0).N = G2 m c := by
  refine (dats m 0 c).arrAt_eq_of_covers 2 _ (by decide +kernel) fun t hf y => ?_
  blk_simp
  rw [after0_2]
  exact (congrArg _ (eta4 y)).trans ((out2 m c t ((flush0_2 t).mp hf) (y 0) (y 2) (y 3)).trans (congrArg (G2 m c) (outEmb t y).symm))

end Cert.Kernel4Ideal.Hand
end
-- ==== Proof.WdRef.lean ====
/- What the reference of the down projection's weights' gradient computes, at an index. -/
module

public import proofs.«01_k».proof.Proof.WdSpec
public import proofs.«01_k».proof.Proof.Gen.Reference4Ideal.Run
public import proofs.«01_k».proof.Proof.Gen.Reference4Ideal.Read
public import Idealize.ShloMosaic.Lib.Pointwise

@[expose] public section

set_option maxRecDepth 16384

noncomputable section

open Idealize.ShloMosaic

namespace Cert.Reference4Ideal.Hand

open Cert.Reference4Ideal Cert.Reference4Ideal.Gen Cert.Reference4Ideal.Read
open Cert.Spec Cert.Spec.Wd

variable (u : U) (w : W) (b : B) (ct : CT)

theorem R25 (bb : Fin 4) (s : Fin 2048) (f : Fin 5632) : val_main_v25 (F := Ideal) u w b (ix3 bb s f) = cv u w b bb s.val f := by
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_cst]
  refine congrArg₂ (· + ·) (congrArg₂ (· + ·) (congrArg₂ (· + ·) (congrArg₂ (· * ·) rfl ?_) (congrArg₂ (· * ·) rfl ?_)) (congrArg₂ (· * ·) rfl ?_)) rfl
  · by_cases h1 : s.val < 2
    · exact (dif_pos h1).trans (up_lt _ _ h1).symm
    · exact (dif_neg h1).trans (up_ge _ _ h1 _).symm
  · by_cases h1 : 1 + s.val < 2
    · exact (dif_pos h1).trans (up_lt _ _ h1).symm
    · exact (dif_neg h1).trans (up_ge _ _ h1 _).symm
  · exact (up_two _ _ s.isLt).symm

theorem R29 (bb : Fin 4) (s : Fin 2048) (g : Fin 2816) : val_main_v29 (F := Ideal) u w b (ix3 bb s g) = hid u w b bb s g := by
  unfold hid sigm
  simp only [← R25]
  pointwise [val_main_v29, val_main_v28, val_main_v27, val_main_v26, val_main_call0_v0, val_main_call0_v1, val_main_call0_v2, val_main_call0_v3,
    val_main_call0_v4, val_main_call0_v5, val_main_call0_cst, val_main_call0_cst_0]

theorem R32 (g : Fin 2816) (k : Fin 1024) : val_main_v32 (F := Ideal) u w b ct (ix2 g k) = dw u w b ct g k := by
  unfold val_main_v32 val_main_v31
  generalize hy : val_main_v29 (F := Ideal) u w b = y
  pointwise
  subst hy
  unfold dw
  refine Finset.sum_congr rfl fun bb _ => Finset.sum_congr rfl fun s _ => ?_
  rw [R29, mul_comm]

end Cert.Reference4Ideal.Hand
end
-- ==== Proof.WdFinal.lean ====
/- The array that the program of the down projection's weights' gradient returns, and the run that leaves it. -/
module

public import proofs.«01_k».proof.Proof.WdArr
public import proofs.«01_k».proof.Proof.WdRef
public import proofs.«01_k».proof.Proof.Gen.Reference4Ideal.Run
public import proofs.«01_k».proof.Proof.Gen.Reference4Ideal.Read

@[expose] public section

set_option maxRecDepth 16384

noncomputable section

open Idealize.ShloMosaic Idealize.ShloMosaic.TcCoe Idealize.SL.Sem
open Idealize.ShloMosaic.Pipeline (Dat)

namespace Cert.Kernel4Ideal.Hand
open Cert.Kernel4Ideal Cert.Kernel4Ideal.Gen
open Cert.Spec Cert.Spec.Wd

variable (m : (ℓ : Loc nD τ sig) → Buf (Elt Ideal) ℓ)

theorem T (Z : Valuation τ sig (Elt Ideal)) (f : Fin 2816) (k : Fin 1024) :
    (StableHlo.after [hostOps1].flatten Z (Proc.devRef .tc main_v37) : S2816x1024.Idx → EReal) (ix2 f k)
      = (Z (Proc.devRef .tc main_v34) : S4x1x704x1024.Idx → EReal) (ix4 ⟨f.val / 704, by omega⟩ 0 ⟨f.val % 704, by omega⟩ k) := by
  after_reads_at

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z2 (c : Dev nD) : Zr m c (Proc.devRef .tc main_v34) = (dats m 0 c).arrAt 2 (cfgs 0).N :=
  Dat.withArrays_arrAt (dats m 0 c) sharedIn0 (V0 m c) (A_eq m c) 2

theorem E37 (c : Dev nD) :
    (Pipeline.afterTail₀ cfgs (dats m) 0 (V0 m) [hostOps1] c main_v37 : S2816x1024.Idx → EReal)
      = Cert.Reference4Ideal.Read.val_main_v32 (F := Ideal) (a0 m c) (a1 m c) (a2 m c) (a4 m c) := by
  funext i
  obtain ⟨f, k, rfl⟩ : ∃ (f : Fin 2816) (k : Fin 1024), i = ix2 f k := ⟨i 0, i 1, eq_ix2 i⟩
  refine (T (Zr m c) f k).trans (Eq.trans ?_ (Cert.Reference4Ideal.Hand.R32 _ _ _ _ f k).symm)
  rw [Z2, arr2]
  have hf : (⟨f.val / 704 * 704 + f.val % 704, by omega⟩ : Fin 2816) = f := Fin.ext (by show f.val / 704 * 704 + f.val % 704 = f.val; omega)
  show G m c ⟨f.val / 704, by omega⟩ ⟨f.val % 704, by omega⟩ k = _
  unfold G fA fB dw
  dsimp only
  rw [hf]

/-- The run: the result at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v37) = Pipeline.afterTail₀ cfgs (dats m) 0 (V0 m) [hostOps1] c main_v37) :=
  (θ_run defs _ _).mono (fun _ h c => (h c).2 main_v37 (Pipeline.mem_restRefs_of main_v37 (by decide) (by decide))) (run_main m ρ)

end Cert.Kernel4Ideal.Hand
end
-- ==== Proof.InSpec.lean ====
/- The columns of the combined input projection in the order that the call takes them, behind them columns of zeros, and a sum over
   them. -/
module

public import proofs.«01_k».proof.Proof.UpSpec

@[expose] public section

noncomputable section

open Idealize.ShloMosaic

namespace Cert.Spec.In
open Cert.Spec.Up

abbrev WI := (⟨2, ![1024, 2822]⟩ : Shape).Idx → EReal
abbrev DI := (⟨3, ![4, 2048, 2822]⟩ : Shape).Idx → EReal

/-- Column `q` of the call's order: the first 1152 columns, the last 1664, the six between them, zeros. -/
def pd (f : Fin 2822 → EReal) (q : ℕ) : EReal :=
  if h : q < 1152 then f ⟨q, by omega⟩
  else if h1 : q < 2816 then f ⟨q + 6, by omega⟩
  else if h2 : q < 2822 then f ⟨q - 1664, by omega⟩ else 0

theorem pd_a (f : Fin 2822 → EReal) {q : ℕ} (h : q < 1152) (h' : q < 2822) : pd f q = f ⟨q, h'⟩ := dif_pos h
theorem pd_b (f : Fin 2822 → EReal) {q : ℕ} (h : ¬q < 1152) (h1 : q < 2816) : pd f q = f ⟨q + 6, by omega⟩ := (dif_neg h).trans (dif_pos h1)
theorem pd_c (f : Fin 2822 → EReal) {q : ℕ} (h : ¬q < 2816) (h1 : q < 2822) : pd f q = f ⟨q - 1664, by omega⟩ :=
  (dif_neg (by omega)).trans ((dif_neg h).trans (dif_pos h1))
theorem pd_d (f : Fin 2822 → EReal) {q : ℕ} (h : ¬q < 2822) : pd f q = 0 :=
  (dif_neg (by omega)).trans ((dif_neg (by omega)).trans (dif_neg h))

theorem sum_pd (a w : Fin 2822 → EReal) : ∑ q : Fin 3072, pd a q.val * pd w q.val = ∑ f, a f * w f := by
  have hA : ∑ f, a f * w f = ∑ n ∈ Finset.range (1152 + 6 + 1664), if h : n < 2822 then a ⟨n, h⟩ * w ⟨n, h⟩ else 0 := by
    rw [Finset.sum_range]
    refine Finset.sum_congr rfl fun f _ => ?_
    have h : f.val < 2822 := f.isLt
    rw [dif_pos h]
  have hP : ∑ q : Fin 3072, pd a q.val * pd w q.val = ∑ n ∈ Finset.range (1152 + 1664 + 6 + 250), pd a n * pd w n := by
    rw [Finset.sum_range]
  rw [hA, hP, Finset.sum_range_add, Finset.sum_range_add, Finset.sum_range_add, Finset.sum_range_add, Finset.sum_range_add]
  have hz : ∑ x ∈ Finset.range 250, pd a (1152 + 1664 + 6 + x) * pd w (1152 + 1664 + 6 + x) = 0 :=
    Finset.sum_eq_zero fun x _ => by rw [pd_d a (by omega), zero_mul]
  rw [hz, add_zero, add_assoc, add_assoc, add_comm (∑ x ∈ Finset.range 6, if h : 1152 + x < 2822 then _ else _)]
  refine congrArg₂ (· + ·) ?_ (congrArg₂ (· + ·) ?_ ?_)
  · refine Finset.sum_congr rfl fun x hx => ?_
    have := Finset.mem_range.mp hx
    rw [dif_pos (by omega), pd_a a this (by omega), pd_a w this (by omega)]
  · refine Finset.sum_congr rfl fun x hx => ?_
    have := Finset.mem_range.mp hx
    have e : 1152 + x + 6 = 1152 + 6 + x := by omega
    rw [dif_pos (by omega), pd_b a (by omega) (by omega), pd_b w (by omega) (by omega)]
    simp only [e]
  · refine Finset.sum_congr rfl fun x hx => ?_
    have := Finset.mem_range.mp hx
    have e : 1152 + 1664 + x - 1664 = 1152 + x := by omega
    rw [dif_pos (by omega), pd_c a (by omega) (by omega), pd_c w (by omega) (by omega)]
    simp only [e]

/-- The gradient behind the norm: the product's gradient times the weights. -/
def dhI (w : WI) (du : DI) (b : Fin 4) (s : Fin 2048) (k : Fin 1024) : EReal := ∑ f : Fin 2822, du (ix3 b s f) * w (ix2 k f)

/-- Four pieces behind one another, read at a column. -/
theorem pd_form (f : Fin 2822 → EReal) (A : Fin 1152 → EReal) (B : Fin 1664 → EReal) (C : Fin 6 → EReal) (Z : Fin 250 → EReal)
    (hA : ∀ q, A q = f ⟨q.val, by omega⟩) (hB : ∀ q, B q = f ⟨1158 + q.val, by omega⟩) (hC : ∀ q, C q = f ⟨1152 + q.val, by omega⟩)
    (hZ : ∀ q, Z q = 0) (q : ℕ) (hq : q < 3072) :
    (if h : q < 1152 then A ⟨q, h⟩ else if h : q - 1152 < 1664 then B ⟨q - 1152, h⟩
      else if h : q - 1152 - 1664 < 6 then C ⟨q - 1152 - 1664, h⟩ else Z ⟨q - 1152 - 1664 - 6, by omega⟩) = pd f q := by
  by_cases h : q < 1152
  · rw [dif_pos h, hA, pd_a f h (by omega)]
  rw [dif_neg h]
  by_cases h1 : q - 1152 < 1664
  · have e : 1158 + (q - 1152) = q + 6 := by omega
    rw [dif_pos h1, hB, pd_b f h (by omega)]
    simp only [e]
  rw [dif_neg h1]
  by_cases h2 : q - 1152 - 1664 < 6
  · have e : 1152 + (q - 1152 - 1664) = q - 1664 := by omega
    rw [dif_pos h2, hC, pd_c f (by omega) (by omega)]
    simp only [e]
  rw [dif_neg h2, hZ, pd_d f (by omega)]

end Cert.Spec.In
end
-- ==== Proof.InBlock.lean ====
/- What one grid point of the first norm's gradient leaves in its two output blocks, at an index, as a function of the five input
   blocks at the point. -/
module

public import proofs.«01_k».proof.Proof.Gen.Kernel5Ideal.Frame
public import proofs.«01_k».proof.Proof.InSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Hand
open Cert.Kernel5Ideal Cert.Kernel5Ideal.Gen
open Cert.Spec.Up Cert.Spec.In

/-- The product of a row of the gradient and a row of the weights, over all columns. -/
def dhB (y : Vec Ideal S512x3072 .bf16) (w : Vec Ideal S1024x3072 .bf16) (r : Fin 512) (k : Fin 1024) : EReal :=
  ∑ l : Fin 3072, y (ix2 r l) * w (ix2 k l)

variable (m : (ℓ : Loc nD τ sig) → Buf (Elt Ideal) ℓ)

theorem pay4_apply (y : Vec Ideal S512x3072 .bf16) (w : Vec Ideal S1024x3072 .bf16) (r : Fin 512) (k : Fin 1024) :
    (k0_pay4 (F := Ideal) y w (ix2 r k) : EReal) = dhB y w r k := by
  unfold dhB
  pointwise [k0_pay4]

theorem pay1_apply (y : Vec Ideal S512x3072 .bf16) (w : Vec Ideal S1024x3072 .bf16) (x g t) (r : Fin 512) (k : Fin 1024) :
    (k0_pay1 (F := Ideal) (k0_pay9 y w x g) (k0_pay10 t) (ix2 r k) : EReal)
      = dx (fun q => x (ix2 r q)) (dhB y w r) (fun q => g (ix2 0 q)) (fun q => t (ix2 r q)) k := by
  have h : ∀ q, (k0_pay4 (F := Ideal) y w (ix2 r q) : EReal) = dhB y w r q := fun q => pay4_apply y w r q
  unfold k0_pay1 k0_pay10 k0_pay9 k0_pay7 k0_pay6 k0_pay5
  generalize k0_pay4 (F := Ideal) y w = D at h
  pointwise
  simp only [h]
  rfl

theorem pay2_apply (y : Vec Ideal S512x3072 .bf16) (w : Vec Ideal S1024x3072 .bf16) (x a) (k : Fin 1024) :
    (k0_pay2 (F := Ideal) (k0_pay8 y w x) a (ix2 0 k) : EReal) = a (ix2 0 k) + ∑ r : Fin 512, dg (fun q => x (ix2 r q)) (dhB y w r) k := by
  have h : ∀ r q, (k0_pay4 (F := Ideal) y w (ix2 r q) : EReal) = dhB y w r q := fun r q => pay4_apply y w r q
  unfold k0_pay2 k0_pay8 k0_pay7 k0_pay6 k0_pay5
  generalize k0_pay4 (F := Ideal) y w = D at h
  pointwise
  simp only [h]
  rfl

set_option maxHeartbeats 1000000 in
theorem out5_A (c : Dev nD) (t : Fin cfg0.N) (h0 : t.val % 16 = 0) (r : Fin 512) (k : Fin 1024) :
    (outsAt0 m c t.val t.isLt).1 (ix2 r k) = dx (fun q => iblk m c 2 t (ix2 r q)) (dhB (iblk m c 0 t) (iblk m c 1 t) r)
      (fun q => iblk m c 3 t (ix2 0 q)) (fun q => iblk m c 4 t (ix2 r q)) k := by
  rw [outsAt0_A m c t h0]
  dsimp only
  generalize iblk m c 0 t = x0
  generalize iblk m c 1 t = x1
  generalize iblk m c 2 t = x2
  generalize iblk m c 3 t = x3
  generalize iblk m c 4 t = x4
  frame_open
  simp (disch := decide) only [↓ View.readCov_skip, ↓ View.readCov_cons_toLoadRect, ↓ View.readCov_fill]
  frame_out
  exact pay1_apply _ _ _ _ _ r k

set_option maxHeartbeats 1000000 in
theorem out5_B (c : Dev nD) (t : Fin cfg0.N) (h0 : ¬ t.val % 16 = 0) (r : Fin 512) (k : Fin 1024) :
    (outsAt0 m c t.val t.isLt).1 (ix2 r k) = dx (fun q => iblk m c 2 t (ix2 r q)) (dhB (iblk m c 0 t) (iblk m c 1 t) r)
      (fun q => iblk m c 3 t (ix2 0 q)) (fun q => iblk m c 4 t (ix2 r q)) k := by
  rw [outsAt0_B m c t h0]
  dsimp only
  generalize iblk m c 0 t = x0
  generalize iblk m c 1 t = x1
  generalize iblk m c 2 t = x2
  generalize iblk m c 3 t = x3
  generalize iblk m c 4 t = x4
  frame_open
  simp (disch := decide) only [↓ View.readCov_skip, ↓ View.readCov_cons_toLoadRect, ↓ View.readCov_fill]
  frame_out
  exact pay1_apply _ _ _ _ _ r k

set_option maxHeartbeats 1000000 in
theorem out6_A (c : Dev nD) (t : Fin cfg0.N) (h0 : t.val % 16 = 0) (k : Fin 1024) :
    (outsAt0 m c t.val t.isLt).2 (ix2 0 k) =
      ∑ r : Fin 512, dg (fun q => iblk m c 2 t (ix2 r q)) (dhB (iblk m c 0 t) (iblk m c 1 t) r) k := by
  rw [outsAt0_A m c t h0]
  dsimp only
  generalize iblk m c 0 t = x0
  generalize iblk m c 1 t = x1
  generalize iblk m c 2 t = x2
  generalize iblk m c 3 t = x3
  generalize iblk m c 4 t = x4
  frame_open
  simp (disch := decide) only [↓ View.readCov_skip, ↓ View.readCov_cons_toLoadRect, ↓ View.readCov_fill]
  frame_out
  refine Eq.trans (α := EReal) (pay2_apply _ _ _ _ k) ?_
  have hz : k0_pay3 (F := Ideal) (ix2 0 k) = (0 : EReal) := by
    pointwise [k0_pay3]
  rw [hz, zero_add]

set_option maxHeartbeats 1000000 in
theorem out6_B (c : Dev nD) (t : Fin cfg0.N) (h0 : ¬ t.val % 16 = 0) (k : Fin 1024) :
    (outsAt0 m c t.val t.isLt).2 (ix2 0 k) =
      (outsAt0 m c (t.val - 1) (Nat.lt_of_le_of_lt (Nat.sub_le _ _) t.isLt)).2 (ix2 0 k) + ∑ r : Fin 512, dg (fun q => iblk m c 2 t (ix2 r q)) (dhB (iblk m c 0 t) (iblk m c 1 t) r) k := by
  rw [outsAt0_B m c t h0]
  dsimp only
  generalize iblk m c 0 t = x0
  generalize iblk m c 1 t = x1
  generalize iblk m c 2 t = x2
  generalize iblk m c 3 t = x3
  generalize iblk m c 4 t = x4
  frame_open
  simp (disch := decide) only [↓ View.readCov_skip, ↓ View.readCov_cons_toLoadRect, ↓ View.readCov_fill]
  frame_out
  exact pay2_apply _ _ _ _ k

end Cert.Kernel5Ideal.Hand
end
-- ==== Proof.InArr.lean ====
/- The input arrays of the first norm's gradient, as the host lines before its call leave them, and its two output arrays. -/
module

public import proofs.«01_k».proof.Proof.InBlock
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel5Ideal.Hand
open Cert.Kernel5Ideal Cert.Kernel5Ideal.Gen
open Cert.Spec.Up Cert.Spec.In

variable (m : (ℓ : Loc nD τ sig) → Buf (Elt Ideal) ℓ)

/-- The kernel's arguments. -/
abbrev a0 (c : Dev nD) : X3 := m ((c : Thread nD τ).loc main_arg0)
abbrev a1 (c : Dev nD) : G1 := m ((c : Thread nD τ).loc main_arg1)
abbrev a2 (c : Dev nD) : WI := m ((c : Thread nD τ).loc main_arg2)
abbrev a3 (c : Dev nD) : X3 := m ((c : Thread nD τ).loc main_arg3)
abbrev a4 (c : Dev nD) : DI := m ((c : Thread nD τ).loc main_arg4)

theorem PA (c : Dev nD) (T : Fin 8192) (q : Fin 1152) :
    (StableHlo.upto [hostOps0].flatten (fun b => m (c, b)) 6 (Proc.tc.devRef main_v2) : S8192x1152.Idx → EReal) (ix2 T q) = a4 m c (ix3 ⟨T.val / 2048, by omega⟩ ⟨T.val % 2048, by omega⟩ ⟨q.val, by omega⟩) := by
  unfold StableHlo.upto
  after_reads_at

theorem PB (c : Dev nD) (T : Fin 8192) (q : Fin 1664) :
    (StableHlo.upto [hostOps0].flatten (fun b => m (c, b)) 6 (Proc.tc.devRef main_v3) : S8192x1664.Idx → EReal) (ix2 T q) = a4 m c (ix3 ⟨T.val / 2048, by omega⟩ ⟨T.val % 2048, by omega⟩ ⟨1158 + q.val, by omega⟩) := by
  unfold StableHlo.upto
  after_reads_at

theorem PC (c : Dev nD) (T : Fin 8192) (q : Fin 6) :
    (StableHlo.upto [hostOps0].flatten (fun b => m (c, b)) 6 (Proc.tc.devRef main_v4) : S8192x6.Idx → EReal) (ix2 T q) = a4 m c (ix3 ⟨T.val / 2048, by omega⟩ ⟨T.val % 2048, by omega⟩ ⟨1152 + q.val, by omega⟩) := by
  unfold StableHlo.upto
  after_reads_at

theorem PZ (c : Dev nD) (T : Fin 8192) (q : Fin 250) :
    (StableHlo.upto [hostOps0].flatten (fun b => m (c, b)) 6 (Proc.tc.devRef main_v1) : S8192x250.Idx → EReal) (ix2 T q) = (0 : EReal) := by
  unfold StableHlo.upto
  after_reads_at

theorem QA (c : Dev nD) (k : Fin 1024) (q : Fin 1152) :
    (StableHlo.upto [hostOps0].flatten (fun b => m (c, b)) 13 (Proc.tc.devRef main_v8) : S1024x1152.Idx → EReal) (ix2 k q) = a2 m c (ix2 k ⟨q.val, by omega⟩) := by
  unfold StableHlo.upto
  after_reads_at

theorem QB (c : Dev nD) (k : Fin 1024) (q : Fin 1664) :
    (StableHlo.upto [hostOps0].flatten (fun b => m (c, b)) 13 (Proc.tc.devRef main_v9) : S1024x1664.Idx → EReal) (ix2 k q) = a2 m c (ix2 k ⟨1158 + q.val, by omega⟩) := by
  unfold StableHlo.upto
  after_reads_at

theorem QC (c : Dev nD) (k : Fin 1024) (q : Fin 6) :
    (StableHlo.upto [hostOps0].flatten (fun b => m (c, b)) 13 (Proc.tc.devRef main_v10) : S1024x6.Idx → EReal) (ix2 k q) = a2 m c (ix2 k ⟨1152 + q.val, by omega⟩) := by
  unfold StableHlo.upto
  after_reads_at

theorem QZ (c : Dev nD) (k : Fin 1024) (q : Fin 250) :
    (StableHlo.upto [hostOps0].flatten (fun b => m (c, b)) 13 (Proc.tc.devRef main_v7) : S1024x250.Idx → EReal) (ix2 k q) = (0 : EReal) := by
  unfold StableHlo.upto
  after_reads_at

theorem V2 (c : Dev nD) (T : Fin 8192) (l : Fin 3072) :
    (V m c main_v6 : S8192x3072.Idx → EReal) (ix2 T l)
      = pd (fun f => a4 m c (ix3 ⟨T.val / 2048, by omega⟩ ⟨T.val % 2048, by omega⟩ f)) l.val := by
  unfold V
  after_reads_at
  exact pd_form (fun f => a4 m c (ix3 ⟨T.val / 2048, by omega⟩ ⟨T.val % 2048, by omega⟩ f)) _ _ _ _ (fun q => PA m c T q) (fun q => PB m c T q) (fun q => PC m c T q)
    (fun q => PZ m c T q) l.val l.isLt

theorem V5 (c : Dev nD) (k : Fin 1024) (l : Fin 3072) :
    (V m c main_v12 : S1024x3072.Idx → EReal) (ix2 k l) = pd (fun f => a2 m c (ix2 k f)) l.val := by
  unfold V
  after_reads_at
  exact pd_form (fun f => a2 m c (ix2 k f)) _ _ _ _ (fun q => QA m c k q) (fun q => QB m c k q) (fun q => QC m c k q)
    (fun q => QZ m c k q) l.val l.isLt

theorem V6 (c : Dev nD) (T : Fin 8192) (k : Fin 1024) :
    (V m c main_v13 : S8192x1024.Idx → EReal) (ix2 T k) = a0 m c (ix3 ⟨T.val / 2048, by omega⟩ ⟨T.val % 2048, by omega⟩ k) := by
  unfold V
  after_reads_at

theorem V7 (c : Dev nD) (k : Fin 1024) : (V m c main_v14 : S1x1024.Idx → EReal) (ix2 0 k) = a1 m c (ix1 k) := by
  unfold V
  after_reads_at

theorem V8 (c : Dev nD) (T : Fin 8192) (k : Fin 1024) :
    (V m c main_v15 : S8192x1024.Idx → EReal) (ix2 T k) = a3 m c (ix3 ⟨T.val / 2048, by omega⟩ ⟨T.val % 2048, by omega⟩ k) := by
  unfold V
  after_reads_at

/-! ## The blocks at a point -/

theorem idx : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![t.val, 0] ∧ win0_6.index t = ![0, 0] :=
  (by decide +kernel : ∀ t : Fin grid0.N, _)

theorem tlt (t : Fin cfg0.N) : t.val < 16 := t.isLt

/-- The row of the batch that a point's row is. -/
abbrev rb (t : Fin cfg0.N) (r : Fin 512) : Fin 8192 := ⟨t.val * 512 + r.val, by have := tlt t; omega⟩
abbrev bq (T : Fin 8192) : Fin 4 := ⟨T.val / 2048, by omega⟩
abbrev sq (T : Fin 8192) : Fin 2048 := ⟨T.val % 2048, by omega⟩

theorem ib0 (c : Dev nD) (t : Fin cfg0.N) (r : Fin 512) (l : Fin 3072) :
    iblk m c 0 t (ix2 r l) = (V m c main_v6 : S8192x3072.Idx → EReal) (ix2 (rb t r) l) := by
  blk_ext [iblk, idx t]

theorem ib1 (c : Dev nD) (t : Fin cfg0.N) (k : Fin 1024) (l : Fin 3072) :
    iblk m c 1 t (ix2 k l) = (V m c main_v12 : S1024x3072.Idx → EReal) (ix2 k l) := by
  blk_ext [iblk, idx t]

theorem ib2 (c : Dev nD) (t : Fin cfg0.N) (r : Fin 512) (k : Fin 1024) :
    iblk m c 2 t (ix2 r k) = (V m c main_v13 : S8192x1024.Idx → EReal) (ix2 (rb t r) k) := by
  blk_ext [iblk, idx t]

theorem ib3 (c : Dev nD) (t : Fin cfg0.N) (k : Fin 1024) :
    iblk m c 3 t (ix2 0 k) = (V m c main_v14 : S1x1024.Idx → EReal) (ix2 0 k) := by
  blk_ext [iblk, idx t]

theorem ib4 (c : Dev nD) (t : Fin cfg0.N) (r : Fin 512) (k : Fin 1024) :
    iblk m c 4 t (ix2 r k) = (V m c main_v15 : S8192x1024.Idx → EReal) (ix2 (rb t r) k) := by
  blk_ext [iblk, idx t]

/-! ## A point's rows -/

theorem dhB_eq (c : Dev nD) (t : Fin cfg0.N) (r : Fin 512) (k : Fin 1024) :
    dhB (iblk m c 0 t) (iblk m c 1 t) r k = dhI (a2 m c) (a4 m c) (bq (rb t r)) (sq (rb t r)) k := by
  unfold dhB dhI
  refine Eq.trans (α := EReal) (Finset.sum_congr rfl fun l _ => ?_)
    (sum_pd (fun f => a4 m c (ix3 (bq (rb t r)) (sq (rb t r)) f)) (fun f => a2 m c (ix2 k f)))
  exact congrArg₂ (fun a b : EReal => a * b) ((ib0 m c t r l).trans (V2 m c _ l)) ((ib1 m c t k l).trans (V5 m c k l))

theorem x_eq (c : Dev nD) (t : Fin cfg0.N) (r : Fin 512) :
    (fun q => iblk m c 2 t (ix2 r q)) = row (a0 m c) (bq (rb t r)) (sq (rb t r)) := funext fun q => (ib2 m c t r q).trans (V6 m c _ q)

theorem t_eq (c : Dev nD) (t : Fin cfg0.N) (r : Fin 512) :
    (fun q => iblk m c 4 t (ix2 r q)) = row (a3 m c) (bq (rb t r)) (sq (rb t r)) := funext fun q => (ib4 m c t r q).trans (V8 m c _ q)

theorem g_eq (c : Dev nD) (t : Fin cfg0.N) :
    (fun q => iblk m c 3 t (ix2 0 q)) = fun q : Fin 1024 => a1 m c (ix1 q) := funext fun q => (ib3 m c t q).trans (V7 m c q)

theorem d_eq (c : Dev nD) (t : Fin cfg0.N) (r : Fin 512) :
    dhB (iblk m c 0 t) (iblk m c 1 t) r = dhI (a2 m c) (a4 m c) (bq (rb t r)) (sq (rb t r)) := funext fun k => dhB_eq m c t r k

/-! ## The two output arrays -/

/-- The gradient of the norm's input, at the layout that the kernel writes. -/
def G5 (c : Dev nD) (i : S8192x1024.Idx) : EReal :=
  dx (row (a0 m c) (bq (i 0)) (sq (i 0))) (dhI (a2 m c) (a4 m c) (bq (i 0)) (sq (i 0))) (fun q => a1 m c (ix1 q))
    (row (a3 m c) (bq (i 0)) (sq (i 0))) (i 1)

theorem out5 (c : Dev nD) (t : Fin cfg0.N) (r : Fin 512) (k : Fin 1024) :
    (outsAt0 m c t.val t.isLt).1 (ix2 r k) = G5 m c (ix2 (rb t r) k) := by
  have h : (outsAt0 m c t.val t.isLt).1 (ix2 r k) = dx (fun q => iblk m c 2 t (ix2 r q)) (dhB (iblk m c 0 t) (iblk m c 1 t) r)
      (fun q => iblk m c 3 t (ix2 0 q)) (fun q => iblk m c 4 t (ix2 r q)) k := by
    by_cases h0 : t.val % 16 = 0
    · exact out5_A m c t h0 r k
    · exact out5_B m c t h0 r k
  refine h.trans ?_
  rw [x_eq, t_eq, g_eq, d_eq]
  rfl

theorem outEmb5 (t : Fin cfg0.N) (y : S512x1024.Idx) : ((win0_5.blk t).view.emb y : S8192x1024.Idx) = ix2 (rb t (y 0)) (y 1) := by
  blk_ext [idx t]

theorem outEmb6 (t : Fin cfg0.N) (y : S1x1024.Idx) : ((win0_6.blk t).view.emb y : S1x1024.Idx) = ix2 0 (y 1) := by
  blk_ext [idx t]

theorem arr5 (c : Dev nD) : (dats m 0 c).arrAt 5 (cfgs 0).N = G5 m c := by
  refine (dats m 0 c).arrAt_eq_of_covers 5 _ (by decide +kernel) fun t hf y => ?_
  blk_simp
  rw [after0_5]
  exact (congrArg _ (eq_ix2 y)).trans ((out5 m c t (y 0) (y 1)).trans (congrArg (G5 m c) (outEmb5 t y).symm))

/-- A row's part of the gradient of the norm's weights. -/
def term (c : Dev nD) (k : Fin 1024) (b s : ℕ) : EReal :=
  if h : b < 4 ∧ s < 2048 then dg (row (a0 m c) ⟨b, h.1⟩ ⟨s, h.2⟩) (dhI (a2 m c) (a4 m c) ⟨b, h.1⟩ ⟨s, h.2⟩) k else 0

theorem term_eq (c : Dev nD) (k : Fin 1024) (b : Fin 4) (s : Fin 2048) {b' s' : ℕ} (hb : b' = b.val) (hs : s' = s.val) :
    term m c k b' s' = dg (row (a0 m c) b s) (dhI (a2 m c) (a4 m c) b s) k := by
  subst hb
  subst hs
  exact dif_pos ⟨b.isLt, s.isLt⟩

/-- A step's addition, zero behind the grid. -/
def inc (c : Dev nD) (n : ℕ) (k : Fin 1024) : EReal :=
  if n < 16 then ∑ r : Fin 512, term m c k (n / 4) (n % 4 * 512 + r.val) else 0

theorem inc_eq (c : Dev nD) (t : Fin cfg0.N) (k : Fin 1024) :
    ∑ r : Fin 512, dg (fun q => iblk m c 2 t (ix2 r q)) (dhB (iblk m c 0 t) (iblk m c 1 t) r) k = inc m c t.val k := by
  unfold inc
  rw [if_pos (tlt t)]
  refine Finset.sum_congr rfl fun r _ => ?_
  rw [x_eq, d_eq]
  exact (term_eq m c k _ _ (by show t.val / 4 = (t.val * 512 + r.val) / 2048; omega)
    (by show t.val % 4 * 512 + r.val = (t.val * 512 + r.val) % 2048; omega)).symm

theorem acc (c : Dev nD) (t : Fin cfg0.N) (ht : t.val % 16 = 15) (k : Fin 1024) :
    (outsAt0 m c t.val t.isLt).2 (ix2 0 k)
      = ∑ b : Fin 4, ∑ s : Fin 2048, dg (row (a0 m c) b s) (dhI (a2 m c) (a4 m c) b s) k := by
  have key := Pipeline.eq_sum_of_reset_step_apply_of_mod
    (fun n hn (q : Fin 1024) => ((outsAt0 m c n hn).2 (ix2 0 q) : EReal)) 16 (fun _ => (0 : EReal)) (inc m c)
    (fun t h0 q => by
      refine (out6_A m c t h0 q).trans ?_
      rw [inc_eq, zero_add])
    (fun t h0 q => by
      refine (out6_B m c t h0 q).trans ?_
      rw [inc_eq])
    t ht k
  refine key.trans ?_
  rw [zero_add, Finset.sum_range]
  refine (Finset.sum_congr rfl fun n _ => ?_).trans ((Fin.sum_points_lanes 4 4 512 fun a s => term m c k a s).trans ?_)
  · have hN := tlt t
    have hn : n.val < 16 := n.isLt
    have e : 16 * (t.val / 16) + n.val = n.val := by omega
    rw [e]
    exact if_pos hn
  · exact Finset.sum_congr rfl fun b _ => Finset.sum_congr rfl fun s _ => term_eq m c k b s rfl rfl

theorem arr6 (c : Dev nD) (k : Fin 1024) :
    ((dats m 0 c).arrAt 6 (cfgs 0).N : S1x1024.Idx → EReal) (ix2 0 k)
      = ∑ b : Fin 4, ∑ s : Fin 2048, dg (row (a0 m c) b s) (dhI (a2 m c) (a4 m c) b s) k := by
  refine (dats m 0 c).arrAt_forall_of_covers 6
    (fun i v => i = ix2 0 k → v = ∑ b : Fin 4, ∑ s : Fin 2048, dg (row (a0 m c) b s) (dhI (a2 m c) (a4 m c) b s) k)
    (by decide +kernel) (fun t hf y => ?_) (ix2 0 k) (Memref.isWhole_whole _) rfl
  blk_simp
  rw [after0_6]
  intro hy
  have i1 : y 1 = k := congrFun ((outEmb6 t y).symm.trans hy) 1
  have e0 : y 0 = (0 : Fin 1) := Subsingleton.elim (α := Fin 1) _ _
  have e : y = ix2 0 k := (eq_ix2 y).trans (by rw [e0, i1])
  rw [e]
  exact acc m c t ((flush0_6 t).mp hf) k

end Cert.Kernel5Ideal.Hand
end
-- ==== Proof.InRef.lean ====
/- What the reference of the first norm's gradient computes, at an index. -/
module

public import proofs.«01_k».proof.Proof.InSpec
public import proofs.«01_k».proof.Proof.Ref
public import proofs.«01_k».proof.Proof.Gen.Reference5Ideal.Run
public import proofs.«01_k».proof.Proof.Gen.Reference5Ideal.Read
public import proofs.«01_k».proof.Proof.Pre

@[expose] public section

set_option maxRecDepth 16384

noncomputable section

open Idealize.ShloMosaic

namespace Cert.Reference5Ideal.Hand

open Cert.Reference5Ideal Cert.Reference5Ideal.Gen Cert.Reference5Ideal.Read
open Cert.Spec Cert.Spec.Up Cert.Spec.In

variable (x : X3) (g : G1) (w : WI) (t : X3) (du : DI)

theorem R17 (b : Fin 4) (s : Fin 2048) (k : Fin 1024) : val_main_v17 (F := Ideal) w du (ix3 b s k) = dhI w du b s k := by
  pointwise [val_main_v17]
  rfl

theorem P38 (b : Fin 4) (s : Fin 2048) (k : Fin 1024) :
    val_main_v38 (F := Ideal) x g w t du (ix3 b s k)
      = dxRef (row x b s) (fun q => val_main_v17 (F := Ideal) w du (ix3 b s q)) (fun q => g (ix1 q)) (row t b s) k := by
  unfold dxRef rr ms nn ee
  pointwise [val_main_v38, val_main_v37, val_main_v36, val_main_v35, val_main_v34, val_main_v33, val_main_v32, val_main_v31, val_main_v30,
    val_main_v29, val_main_v28, val_main_v27, val_main_v26, val_main_v25, val_main_v24, val_main_v22, val_main_v21, val_main_v13, val_main_v10,
    val_main_v9, val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7]
  rw [Fin.sum_univ_one]

theorem R38 (b : Fin 4) (s : Fin 2048) (k : Fin 1024) :
    val_main_v38 (F := Ideal) x g w t du (ix3 b s k) = dx (row x b s) (dhI w du b s) (fun q => g (ix1 q)) (row t b s) k := by
  refine (P38 x g w t du b s k).trans ?_
  simp only [R17]
  exact dx_eq _ _ _ _ k

theorem P18 (b : Fin 4) (s : Fin 2048) (k : Fin 1024) :
    val_main_v18 (F := Ideal) x w du (ix3 b s k) = row x b s k * rr (row x b s) * val_main_v17 (F := Ideal) w du (ix3 b s k) := by
  unfold rr ms nn ee
  pointwise [val_main_v18, val_main_v12, val_main_v11, val_main_v7, val_main_v6, val_main_v5, val_main_v4, val_main_v3, val_main_v2, val_main_v1, val_main_v0,
    val_main_cst, val_main_cst_0, val_main_cst_1]

theorem red2 (v : S4x2048x1024.Idx → EReal) (k : Fin 1024) :
    Ideal.hostReduceAdd reducesTo_S1x1x1024_S1024_d0_1
      (shapeCast S1x1x1024
        (Host.reduceAdd (F := Ideal) (φ := .f32) v (constant S_ FTy.f32 0#32) reducesTo_S4x2048x1024_S1024_d0_1 h_S_)
        shapeCasts_S1024_S1x1x1024)
      0 (ix1 k) = ∑ b : Fin 4, ∑ s : Fin 2048, v (ix3 b s k) := by
  rw [Cert.ReferenceIdeal.Hand.hostSum01, zero_add, Fin.sum_univ_one, Fin.sum_univ_one]
  pointwise
  rw [Cert.ReferenceIdeal.Hand.hostSum01, zero_add]

theorem R23 (k : Fin 1024) :
    val_main_v23 (F := Ideal) x w du (ix1 k) = ∑ b : Fin 4, ∑ s : Fin 2048, dg (row x b s) (dhI w du b s) k := by
  pointwise [val_main_v23, val_main_v20, val_main_v19, val_main_cst_3, val_main_cst_4]
  refine (red2 _ _).trans (Finset.sum_congr rfl fun b _ => Finset.sum_congr rfl fun s _ => (P18 x w du b s k).trans ?_)
  rw [R17, mul_comm]
  rfl

end Cert.Reference5Ideal.Hand
end
-- ==== Proof.InFinal.lean ====
/- The two arrays that the program of the first norm's gradient returns, and the run that leaves them. -/
module

public import proofs.«01_k».proof.Proof.InArr
public import proofs.«01_k».proof.Proof.InRef
public import proofs.«01_k».proof.Proof.Gen.Reference5Ideal.Run
public import proofs.«01_k».proof.Proof.Gen.Reference5Ideal.Read

@[expose] public section

set_option maxRecDepth 16384

noncomputable section

open Idealize.ShloMosaic Idealize.ShloMosaic.TcCoe Idealize.SL.Sem
open Idealize.ShloMosaic.Pipeline (Dat)

namespace Cert.Kernel5Ideal.Hand
open Cert.Kernel5Ideal Cert.Kernel5Ideal.Gen
open Cert.Spec.Up Cert.Spec.In

variable (m : (ℓ : Loc nD τ sig) → Buf (Elt Ideal) ℓ)

theorem T17 (Z : Valuation τ sig (Elt Ideal)) (b : Fin 4) (s : Fin 2048) (k : Fin 1024) :
    (StableHlo.after [hostOps1].flatten Z (Proc.devRef .tc main_v17) : S4x2048x1024.Idx → EReal) (ix3 b s k)
      = (Z (Proc.devRef .tc main_v16_0) : S8192x1024.Idx → EReal) (ix2 ⟨b.val * 2048 + s.val, by omega⟩ k) := by
  after_reads_at

theorem T18 (Z : Valuation τ sig (Elt Ideal)) (k : Fin 1024) :
    (StableHlo.after [hostOps1].flatten Z (Proc.devRef .tc main_v18) : S1024.Idx → EReal) (ix1 k)
      = (Z (Proc.devRef .tc main_v16_1) : S1x1024.Idx → EReal) (ix2 0 k) := by
  after_reads_at

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z5 (c : Dev nD) : Zr m c (Proc.devRef .tc main_v16_0) = (dats m 0 c).arrAt 5 (cfgs 0).N :=
  Dat.withArrays_arrAt (dats m 0 c) sharedIn0 (V0 m c) (A_eq m c) 5

theorem Z6 (c : Dev nD) : Zr m c (Proc.devRef .tc main_v16_1) = (dats m 0 c).arrAt 6 (cfgs 0).N :=
  Dat.withArrays_arrAt (dats m 0 c) sharedIn0 (V0 m c) (A_eq m c) 6

theorem E17 (c : Dev nD) :
    (Pipeline.afterTail₀ cfgs (dats m) 0 (V0 m) [hostOps1] c main_v17 : S4x2048x1024.Idx → EReal)
      = Cert.Reference5Ideal.Read.val_main_v38 (F := Ideal) (a0 m c) (a1 m c) (a2 m c) (a3 m c) (a4 m c) := by
  funext i
  obtain ⟨b, s, k, rfl⟩ : ∃ (b : Fin 4) (s : Fin 2048) (k : Fin 1024), i = ix3 b s k := ⟨i 0, i 1, i 2, eq_ix3 i⟩
  refine (T17 (Zr m c) b s k).trans (Eq.trans ?_ (Cert.Reference5Ideal.Hand.R38 _ _ _ _ _ b s k).symm)
  rw [Z5, arr5]
  have hb : bq ⟨b.val * 2048 + s.val, by omega⟩ = b := Fin.ext (by show (b.val * 2048 + s.val) / 2048 = b.val; omega)
  have hs : sq ⟨b.val * 2048 + s.val, by omega⟩ = s := Fin.ext (by show (b.val * 2048 + s.val) % 2048 = s.val; omega)
  show dx (row (a0 m c) (bq ⟨b.val * 2048 + s.val, by omega⟩) (sq ⟨b.val * 2048 + s.val, by omega⟩))
    (dhI (a2 m c) (a4 m c) (bq ⟨b.val * 2048 + s.val, by omega⟩) (sq ⟨b.val * 2048 + s.val, by omega⟩)) _
    (row (a3 m c) (bq ⟨b.val * 2048 + s.val, by omega⟩) (sq ⟨b.val * 2048 + s.val, by omega⟩)) k = _
  rw [hb, hs]

theorem E18 (c : Dev nD) :
    (Pipeline.afterTail₀ cfgs (dats m) 0 (V0 m) [hostOps1] c main_v18 : S1024.Idx → EReal)
      = Cert.Reference5Ideal.Read.val_main_v23 (F := Ideal) (a0 m c) (a2 m c) (a4 m c) := by
  funext i
  obtain ⟨k, rfl⟩ : ∃ k : Fin 1024, i = ix1 k := ⟨i 0, eq_ix1 i⟩
  refine (T18 (Zr m c) k).trans (Eq.trans ?_ (Cert.Reference5Ideal.Hand.R23 _ _ _ k).symm)
  rw [Z6]
  exact arr6 m c k

/-- The run: the two results at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v17) = Pipeline.afterTail₀ cfgs (dats m) 0 (V0 m) [hostOps1] c main_v17
      ∧ r.2.mem ((c.tc : Thread nD τ).loc main_v18) = Pipeline.afterTail₀ cfgs (dats m) 0 (V0 m) [hostOps1] c main_v18) :=
  (θ_run defs _ _).mono (fun _ h c => ⟨(h c).2 main_v17 (Pipeline.mem_restRefs_of main_v17 (by decide) (by decide)),
    (h c).2 main_v18 (Pipeline.mem_restRefs_of main_v18 (by decide) (by decide))⟩) (run_main m ρ)

end Cert.Kernel5Ideal.Hand
end
-- ==== Proof.WiBlock.lean ====
/- What one grid point of the input projection's weights' gradient leaves in its accumulator and its output block, at an index, as a
   function of the two input blocks at the point. -/
module

public import proofs.«01_k».proof.Proof.Gen.Kernel6Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Hand
open Cert.Kernel6Ideal Cert.Kernel6Ideal.Gen

variable (m : (ℓ : Loc nD τ sig) → Buf (Elt Ideal) ℓ)

/-- What a point adds to one entry: the product over the block's positions. -/
def incB (x0 : Vec Ideal S1x1024x1024 .bf16) (x1 : Vec Ideal S1x1024x3072 .bf16) (l : Fin 1024) (k : Fin 3072) : EReal :=
  ∑ r : Fin 1024, x0 (ix3 0 r l) * x1 (ix3 0 r k)

theorem pay1_apply (l : Fin 1024) (k : Fin 3072) : (k0_pay1 (F := Ideal) (ix4 0 0 l k) : EReal) = 0 := by
  pointwise [k0_pay1]

/-- The stored sum. -/
theorem pay2_apply (x0 : Vec Ideal S1x1024x1024 .bf16) (x1 : Vec Ideal S1x1024x3072 .bf16) (b : Vec Ideal S1x1x1024x3072 .f32) (l : Fin 1024) (k : Fin 3072) :
    (k0_pay2 (F := Ideal) x1 x0 b (ix4 0 0 l k) : EReal) = b (ix4 0 0 l k) + incB x0 x1 l k := by
  unfold incB
  pointwise [k0_pay2]

/-- The output block is the accumulator, rounded. -/
theorem pay3_apply (v : Vec Ideal S1x1x1024x3072 .f32) (i : S1x1x1024x3072.Idx) : (k0_pay3 (F := Ideal) v i : EReal) = v i := by
  pointwise [k0_pay3]

set_option maxHeartbeats 1000000 in
theorem acc_A (c : Dev nD) (t : Fin cfg0.N) (h0 : t.val % 8 = 0) (h1 : ¬t.val % 8 = 7) (l : Fin 1024) (k : Fin 3072) :
    (outsAt0 m c t.val t.isLt).2 (ix4 0 0 l k) = 0 + incB (iblk m c 0 t) (iblk m c 1 t) l k := by
  rw [outsAt0_A m c t h0 h1]
  dsimp only
  generalize iblk m c 0 t = x0
  generalize iblk m c 1 t = x1
  frame_open
  simp (disch := decide) only [↓ View.readCov_skip, ↓ View.readCov_cons_toLoadRect, ↓ View.readCov_fill]
  frame_out
  refine Eq.trans (α := EReal) (pay2_apply _ _ _ l k) ?_
  rw [pay1_apply]

set_option maxHeartbeats 1000000 in
theorem acc_B (c : Dev nD) (t : Fin cfg0.N) (h0 : ¬t.val % 8 = 0) (h1 : ¬t.val % 8 = 7) (l : Fin 1024) (k : Fin 3072) :
    (outsAt0 m c t.val t.isLt).2 (ix4 0 0 l k) = (outsAt0 m c (t.val - 1) (Nat.lt_of_le_of_lt (Nat.sub_le _ _) t.isLt)).2 (ix4 0 0 l k)
      + incB (iblk m c 0 t) (iblk m c 1 t) l k := by
  rw [outsAt0_B m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  try simp only [read_unread_whole]
  exact pay2_apply _ _ _ l k

set_option maxHeartbeats 1000000 in
theorem acc_C (c : Dev nD) (t : Fin cfg0.N) (h0 : ¬t.val % 8 = 0) (h1 : t.val % 8 = 7) (l : Fin 1024) (k : Fin 3072) :
    (outsAt0 m c t.val t.isLt).2 (ix4 0 0 l k) = (outsAt0 m c (t.val - 1) (Nat.lt_of_le_of_lt (Nat.sub_le _ _) t.isLt)).2 (ix4 0 0 l k)
      + incB (iblk m c 0 t) (iblk m c 1 t) l k := by
  rw [outsAt0_C m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  try simp only [read_unread_whole]
  exact pay2_apply _ _ _ l k

set_option maxHeartbeats 1000000 in
theorem out_C (c : Dev nD) (t : Fin cfg0.N) (h0 : ¬t.val % 8 = 0) (h1 : t.val % 8 = 7) (l : Fin 1024) (k : Fin 3072) :
    ((outsAt0 m c t.val t.isLt).1 (ix4 0 0 l k) : EReal) = (outsAt0 m c (t.val - 1) (Nat.lt_of_le_of_lt (Nat.sub_le _ _) t.isLt)).2 (ix4 0 0 l k)
      + incB (iblk m c 0 t) (iblk m c 1 t) l k := by
  rw [outsAt0_C m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  try simp only [read_unread_whole]
  refine Eq.trans (α := EReal) (pay3_apply _ _) ?_
  exact pay2_apply _ _ _ l k

end Cert.Kernel6Ideal.Hand
end
-- ==== Proof.WiFinal.lean ====
/- The input arrays of the input projection's weights' gradient, as the host lines before its call leave them, its output array, what
   the reference computes, and the run that leaves the result. -/
module

public import proofs.«01_k».proof.Proof.WiBlock
public import proofs.«01_k».proof.Proof.WuSpec
public import proofs.«01_k».proof.Proof.InSpec
public import proofs.«01_k».proof.Proof.Gen.Reference6Ideal.Run
public import proofs.«01_k».proof.Proof.Gen.Reference6Ideal.Read
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel6Ideal.Hand
open Cert.Kernel6Ideal Cert.Kernel6Ideal.Gen
open Cert.Spec.Up Cert.Spec.In
open Cert.Spec.Wu (hh)

variable (m : (ℓ : Loc nD τ sig) → Buf (Elt Ideal) ℓ)

/-- The kernel's arguments. -/
abbrev a0 (c : Dev nD) : X3 := m ((c : Thread nD τ).loc main_arg0)
abbrev a1 (c : Dev nD) : G1 := m ((c : Thread nD τ).loc main_arg1)
abbrev a3 (c : Dev nD) : DI := m ((c : Thread nD τ).loc main_arg3)

/-- Row `l`, column `k` of the gradient. -/
def dw (x : X3) (g : G1) (dp : DI) (l : Fin 1024) (k : Fin 2822) : EReal :=
  ∑ b : Fin 4, ∑ s : Fin 2048, hh x g b s l * dp (ix3 b s k)

/-- The product's gradient as the call takes it: the columns in its order, zeros behind them. -/
def pdp (c : Dev nD) (b : Fin 4) (s : Fin 2048) (q : ℕ) : EReal := pd (fun f => a3 m c (ix3 b s f)) q

/-- The gradient in that order of columns. -/
def dq (c : Dev nD) (l : Fin 1024) (q : ℕ) : EReal :=
  ∑ b : Fin 4, ∑ s : Fin 2048, hh (a0 m c) (a1 m c) b s l * pdp m c b s q

/-- Where a column stands in it. -/
def col (f : Fin 2822) : Fin 3072 :=
  if h : f.val < 1152 then ⟨f.val, by omega⟩ else if h1 : f.val < 1158 then ⟨f.val + 1664, by omega⟩ else ⟨f.val - 6, by omega⟩

theorem pd_col (f : Fin 2822 → EReal) (q : Fin 2822) : pd f (col q).val = f q := by
  unfold col
  split_ifs with h h1
  · exact pd_a f h _
  · refine (pd_c f (q := q.val + 1664) (by omega) (by omega)).trans (congrArg f (Fin.ext ?_))
    show q.val + 1664 - 1664 = q.val
    omega
  · refine (pd_b f (q := q.val - 6) (by omega) (by omega)).trans (congrArg f (Fin.ext ?_))
    show q.val - 6 + 6 = q.val
    omega

/-- Three pieces behind one another, read at a column. -/
theorem unpad (g : Fin 3072 → EReal) (A : Fin 1152 → EReal) (B : Fin 6 → EReal) (C : Fin 1664 → EReal)
    (hA : ∀ q, A q = g ⟨q.val, by omega⟩) (hB : ∀ q, B q = g ⟨2816 + q.val, by omega⟩) (hC : ∀ q, C q = g ⟨1152 + q.val, by omega⟩)
    (q : Fin 2822) :
    (if h : q.val < 1152 then A ⟨q.val, h⟩ else if h : q.val - 1152 < 6 then B ⟨q.val - 1152, h⟩
      else C ⟨q.val - 1152 - 6, by omega⟩) = g (col q) := by
  unfold col
  by_cases h : q.val < 1152
  · rw [dif_pos h, dif_pos h, hA]
  rw [dif_neg h, dif_neg h]
  by_cases h1 : q.val - 1152 < 6
  · rw [dif_pos h1, dif_pos (show q.val < 1158 by omega), hB]
    exact congrArg g (Fin.ext (by show 2816 + (q.val - 1152) = q.val + 1664; omega))
  · rw [dif_neg h1, dif_neg (show ¬q.val < 1158 by omega), hC]
    exact congrArg g (Fin.ext (by show 1152 + (q.val - 1152 - 6) = q.val - 6; omega))

abbrev bq (T : Fin 8192) : Fin 4 := ⟨T.val / 2048, by omega⟩
abbrev sq (T : Fin 8192) : Fin 2048 := ⟨T.val % 2048, by omega⟩

theorem VA (c : Dev nD) (T : Fin 8192) (l : Fin 1024) :
    (V m c main_v14 : S1x8192x1024.Idx → EReal) (ix3 0 T l) = hh (a0 m c) (a1 m c) (bq T) (sq T) l := by
  unfold hh rr ms nn ee V
  after_reads_at

theorem PA (c : Dev nD) (T : Fin 8192) (q : Fin 1152) :
    (StableHlo.upto [hostOps0].flatten (fun b => m (c, b)) 24 (Proc.tc.devRef main_v17) : S8192x1152.Idx → EReal) (ix2 T q)
      = a3 m c (ix3 (bq T) (sq T) ⟨q.val, by omega⟩) := by
  unfold StableHlo.upto
  after_reads_at

theorem PB (c : Dev nD) (T : Fin 8192) (q : Fin 1664) :
    (StableHlo.upto [hostOps0].flatten (fun b => m (c, b)) 24 (Proc.tc.devRef main_v18) : S8192x1664.Idx → EReal) (ix2 T q)
      = a3 m c (ix3 (bq T) (sq T) ⟨1158 + q.val, by omega⟩) := by
  unfold StableHlo.upto
  after_reads_at

theorem PC (c : Dev nD) (T : Fin 8192) (q : Fin 6) :
    (StableHlo.upto [hostOps0].flatten (fun b => m (c, b)) 24 (Proc.tc.devRef main_v19) : S8192x6.Idx → EReal) (ix2 T q)
      = a3 m c (ix3 (bq T) (sq T) ⟨1152 + q.val, by omega⟩) := by
  unfold StableHlo.upto
  after_reads_at

theorem PZ (c : Dev nD) (T : Fin 8192) (q : Fin 250) :
    (StableHlo.upto [hostOps0].flatten (fun b => m (c, b)) 24 (Proc.tc.devRef main_v16) : S8192x250.Idx → EReal) (ix2 T q) = (0 : EReal) := by
  unfold StableHlo.upto
  after_reads_at

theorem VB (c : Dev nD) (T : Fin 8192) (k : Fin 3072) :
    (V m c main_v22 : S1x8192x3072.Idx → EReal) (ix3 0 T k) = pdp m c (bq T) (sq T) k.val := by
  unfold pdp
  unfold V
  after_reads_at
  exact pd_form (fun f => a3 m c (ix3 (bq T) (sq T) f)) _ _ _ _ (fun q => PA m c T q) (fun q => PB m c T q) (fun q => PC m c T q)
    (fun q => PZ m c T q) k.val k.isLt

/-! ## The blocks at a point -/

theorem idx : ∀ t : Fin cfg0.N,
    win0_0.index t = ![0, t.val, 0] ∧ win0_1.index t = ![0, t.val, 0] ∧ win0_2.index t = ![0, 0, 0, 0] :=
  (by decide +kernel : ∀ t : Fin grid0.N, _)

theorem tlt (t : Fin cfg0.N) : t.val < 8 := t.isLt

/-- The position that a block's row is. -/
abbrev rb (t : Fin cfg0.N) (r : Fin 1024) : Fin 8192 := ⟨t.val * 1024 + r.val, by have := tlt t; omega⟩

theorem ib0 (c : Dev nD) (t : Fin cfg0.N) (r : Fin 1024) (l : Fin 1024) :
    iblk m c 0 t (ix3 0 r l) = (V m c main_v14 : S1x8192x1024.Idx → EReal) (ix3 0 (rb t r) l) := by
  blk_ext [iblk, idx t]

theorem ib1 (c : Dev nD) (t : Fin cfg0.N) (r : Fin 1024) (k : Fin 3072) :
    iblk m c 1 t (ix3 0 r k) = (V m c main_v22 : S1x8192x3072.Idx → EReal) (ix3 0 (rb t r) k) := by
  blk_ext [iblk, idx t]

/-! ## The accumulator -/

/-- A position's part of an entry. -/
def term (c : Dev nD) (l : Fin 1024) (k : Fin 3072) (b s : ℕ) : EReal :=
  if h : b < 4 ∧ s < 2048 then hh (a0 m c) (a1 m c) ⟨b, h.1⟩ ⟨s, h.2⟩ l * pdp m c ⟨b, h.1⟩ ⟨s, h.2⟩ k.val else 0

theorem term_eq (c : Dev nD) (l : Fin 1024) (k : Fin 3072) (b : Fin 4) (s : Fin 2048) {b' s' : ℕ} (hb : b' = b.val) (hs : s' = s.val) :
    term m c l k b' s' = hh (a0 m c) (a1 m c) b s l * pdp m c b s k.val := by
  subst hb
  subst hs
  exact dif_pos ⟨b.isLt, s.isLt⟩

/-- A step's addition, zero behind the grid. -/
def inc (c : Dev nD) (n : ℕ) (q : Fin 1024 × Fin 3072) : EReal :=
  if n < 8 then ∑ r : Fin 1024, term m c q.1 q.2 (n / 2) (n % 2 * 1024 + r.val) else 0

theorem inc_eq (c : Dev nD) (t : Fin cfg0.N) (l : Fin 1024) (k : Fin 3072) :
    incB (iblk m c 0 t) (iblk m c 1 t) l k = inc m c t.val (l, k) := by
  unfold inc incB
  rw [if_pos (tlt t)]
  refine Finset.sum_congr rfl fun r _ => ?_
  refine Eq.trans (α := EReal) (congrArg₂ (fun a b : EReal => a * b) ((ib0 m c t r l).trans (VA m c _ _)) ((ib1 m c t r k).trans (VB m c _ _))) ?_
  exact (term_eq m c l k _ _ (by show t.val / 2 = (t.val * 1024 + r.val) / 2048; omega)
    (by show t.val % 2 * 1024 + r.val = (t.val * 1024 + r.val) % 2048; omega)).symm

theorem acc (c : Dev nD) (t : Fin cfg0.N) (ht : t.val % 8 = 7) (l : Fin 1024) (k : Fin 3072) :
    (outsAt0 m c t.val t.isLt).2 (ix4 0 0 l k) = dq m c l k.val := by
  have key := Pipeline.eq_sum_of_reset_step_apply_of_mod
    (fun n hn (q : Fin 1024 × Fin 3072) => ((outsAt0 m c n hn).2 (ix4 0 0 q.1 q.2) : EReal)) 8 (fun _ => (0 : EReal)) (inc m c)
    (fun t h0 q => by
      refine (acc_A m c t h0 (by omega) q.1 q.2).trans ?_
      rw [inc_eq])
    (fun t h0 q => by
      by_cases h1 : t.val % 8 = 7
      · refine (acc_C m c t h0 h1 q.1 q.2).trans ?_
        rw [inc_eq]
      · refine (acc_B m c t h0 h1 q.1 q.2).trans ?_
        rw [inc_eq])
    t ht (l, k)
  refine key.trans ?_
  rw [zero_add, Finset.sum_range]
  refine (Finset.sum_congr rfl fun n _ => ?_).trans ((Fin.sum_points_lanes 4 2 1024 fun a s => term m c l k a s).trans ?_)
  · have hN := tlt t
    have hn : n.val < 8 := n.isLt
    have e : 8 * (t.val / 8) + n.val = n.val := by omega
    rw [e]
    exact if_pos hn
  · exact Finset.sum_congr rfl fun b _ => Finset.sum_congr rfl fun s _ => term_eq m c l k b s rfl rfl

/-! ## The output array -/

def G2 (c : Dev nD) (i : S1x1x1024x3072.Idx) : EReal := dq m c (i 2) (i 3).val

theorem eta (x : S1x1x1024x3072.Idx) : x = ix4 0 0 (x 2) (x 3) := by
  have e0 : x 0 = (0 : Fin 1) := Subsingleton.elim (α := Fin 1) _ _
  have e1 : x 1 = (0 : Fin 1) := Subsingleton.elim (α := Fin 1) _ _
  funext a
  match a with
  | ⟨0, _⟩ => exact e0
  | ⟨1, _⟩ => exact e1
  | ⟨2, _⟩ => rfl
  | ⟨3, _⟩ => rfl

theorem out2 (c : Dev nD) (t : Fin cfg0.N) (ht : t.val % 8 = 7) (l : Fin 1024) (k : Fin 3072) :
    ((outsAt0 m c t.val t.isLt).1 (ix4 0 0 l k) : EReal) = G2 m c (ix4 0 0 l k) :=
  (out_C m c t (by omega) ht l k).trans ((acc_C m c t (by omega) ht l k).symm.trans (acc m c t ht l k))

theorem outEmb (t : Fin cfg0.N) (y : S1x1x1024x3072.Idx) :
    ((win0_2.blk t).view.emb y : S1x1x1024x3072.Idx) = ix4 0 0 (y 2) (y 3) := by
  have e0 : y 0 = (0 : Fin 1) := Subsingleton.elim (α := Fin 1) _ _
  have e1 : y 1 = (0 : Fin 1) := Subsingleton.elim (α := Fin 1) _ _
  blk_ext [idx t]

theorem arr2 (c : Dev nD) : (dats m 0 c).arrAt 2 (cfgs 0).N = G2 m c := by
  refine (dats m 0 c).arrAt_eq_of_covers 2 _ (by decide +kernel) fun t hf y => ?_
  blk_simp
  rw [after0_2]
  exact (congrArg _ (eta y)).trans ((out2 m c t ((flush0_2 t).mp hf) (y 2) (y 3)).trans (congrArg (G2 m c) (outEmb t y).symm))

/-! ## The result -/

theorem UA (Z : Valuation τ sig (Elt Ideal)) (l : Fin 1024) (q : Fin 1152) :
    (StableHlo.upto [hostOps1].flatten Z 5 (Proc.tc.devRef main_v26) : S1024x1152.Idx → EReal) (ix2 l q)
      = (Z (Proc.devRef .tc main_v23) : S1x1x1024x3072.Idx → EReal) (ix4 0 0 l ⟨q.val, by omega⟩) := by
  unfold StableHlo.upto
  after_reads_at

theorem UB (Z : Valuation τ sig (Elt Ideal)) (l : Fin 1024) (q : Fin 6) :
    (StableHlo.upto [hostOps1].flatten Z 5 (Proc.tc.devRef main_v27) : S1024x6.Idx → EReal) (ix2 l q)
      = (Z (Proc.devRef .tc main_v23) : S1x1x1024x3072.Idx → EReal) (ix4 0 0 l ⟨2816 + q.val, by omega⟩) := by
  unfold StableHlo.upto
  after_reads_at

theorem UC (Z : Valuation τ sig (Elt Ideal)) (l : Fin 1024) (q : Fin 1664) :
    (StableHlo.upto [hostOps1].flatten Z 5 (Proc.tc.devRef main_v28) : S1024x1664.Idx → EReal) (ix2 l q)
      = (Z (Proc.devRef .tc main_v23) : S1x1x1024x3072.Idx → EReal) (ix4 0 0 l ⟨1152 + q.val, by omega⟩) := by
  unfold StableHlo.upto
  after_reads_at

theorem T (Z : Valuation τ sig (Elt Ideal)) (l : Fin 1024) (k : Fin 2822) :
    (StableHlo.after [hostOps1].flatten Z (Proc.devRef .tc main_v29) : S1024x2822.Idx → EReal) (ix2 l k)
      = (Z (Proc.devRef .tc main_v23) : S1x1x1024x3072.Idx → EReal) (ix4 0 0 l (col k)) := by
  after_reads_at
  exact unpad (fun q => (Z (Proc.devRef .tc main_v23) : S1x1x1024x3072.Idx → EReal) (ix4 0 0 l q)) _ _ _ (fun q => UA Z l q)
    (fun q => UB Z l q) (fun q => UC Z l q) k

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z2 (c : Dev nD) : Zr m c (Proc.devRef .tc main_v23) = (dats m 0 c).arrAt 2 (cfgs 0).N :=
  Dat.withArrays_arrAt (dats m 0 c) sharedIn0 (V0 m c) (A_eq m c) 2

theorem R12 (x : X3) (g : G1) (b : Fin 4) (s : Fin 2048) (k : Fin 1024) :
    Cert.Reference6Ideal.Read.val_main_v12 (F := Ideal) x g (ix3 b s k) = hh x g b s k := by
  unfold hh rr ms nn ee
  open Cert.Reference6Ideal.Read in
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem R15 (x : X3) (g : G1) (dp : DI) (l : Fin 1024) (k : Fin 2822) :
    Cert.Reference6Ideal.Read.val_main_v15 (F := Ideal) x g dp (ix2 l k) = dw x g dp l k := by
  unfold Cert.Reference6Ideal.Read.val_main_v15 Cert.Reference6Ideal.Read.val_main_v14
  generalize hy : Cert.Reference6Ideal.Read.val_main_v12 (F := Ideal) x g = y
  refine Eq.trans (α := EReal) (b := ∑ b : Fin 4, ∑ s : Fin 2048, dp (ix3 b s k) * y (ix3 b s l)) ?_ ?_
  · pointwise
  subst hy
  unfold dw
  refine Finset.sum_congr rfl fun b _ => Finset.sum_congr rfl fun s _ => ?_
  rw [R12]
  exact mul_comm _ _

theorem E29 (c : Dev nD) :
    (Pipeline.afterTail₀ cfgs (dats m) 0 (V0 m) [hostOps1] c main_v29 : S1024x2822.Idx → EReal)
      = Cert.Reference6Ideal.Read.val_main_v15 (F := Ideal) (a0 m c) (a1 m c) (a3 m c) := by
  funext i
  obtain ⟨l, k, rfl⟩ : ∃ (l : Fin 1024) (k : Fin 2822), i = ix2 l k := ⟨i 0, i 1, eq_ix2 i⟩
  refine (T (Zr m c) l k).trans (Eq.trans ?_ (R15 _ _ _ l k).symm)
  rw [Z2, arr2]
  show dq m c l (col k).val = _
  unfold dq dw pdp
  refine Finset.sum_congr rfl fun b _ => Finset.sum_congr rfl fun s _ => ?_
  rw [pd_col]

/-- The run: the result at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v29) = Pipeline.afterTail₀ cfgs (dats m) 0 (V0 m) [hostOps1] c main_v29) :=
  (θ_run defs _ _).mono (fun _ h c => (h c).2 main_v29 (Pipeline.mem_restRefs_of main_v29 (by decide) (by decide))) (run_main m ρ)

end Cert.Kernel6Ideal.Hand
end
-- ==== Proof.UfBlock.lean ====
/- What one grid point of the up projection's kernel leaves in its three output blocks, at an index, as a function of the five
   input blocks at the point. -/
module

public import proofs.«01_k».proof.Proof.Gen.Kernel7Ideal.Frame
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Hand
open Cert.Kernel7Ideal Cert.Kernel7Ideal.Gen
open Cert.Spec (hf sgt)

/-! ## The values -/

/-- A row of the norm's scratch: the tile's rows, then the previous tile's last rows, zero before a sequence's first tile. -/
def hrw (i : grid0.Coords) (x0 : Vec Ideal S512x1024 .bf16) (x1 : Vec Ideal S8x1024 .bf16) (r : ℕ) (k : Fin 1024) : EReal :=
  if h : r < 512 then x0 (ix2 ⟨r, h⟩ k) else if (i 1).val % 4 = 0 then 0 else if h' : r - 512 < 8 then x1 (ix2 ⟨r - 512, h'⟩ k) else 0
/-- A row of one half of the product. -/
def uar (i : grid0.Coords) (x0 : Vec Ideal S512x1024 .bf16) (x1 : Vec Ideal S8x1024 .bf16) (x2 : Vec Ideal S2x1x1024x704 .bf16) (h : Fin 2)
    (r : ℕ) (l : Fin 704) : EReal := ∑ k : Fin 1024, hrw i x0 x1 r k * x2 (ix4 h 0 k l)
/-- A row of the convolution's scratch: eight rows from before the tile, then the tile's. -/
def bfr (i : grid0.Coords) (x0 : Vec Ideal S512x1024 .bf16) (x1 : Vec Ideal S8x1024 .bf16) (x2 : Vec Ideal S2x1x1024x704 .bf16) (h : Fin 2)
    (p : ℕ) (l : Fin 704) : EReal := if p < 8 then uar i x0 x1 x2 h (512 + p) l else uar i x0 x1 x2 h (p - 8) l

/-! ## The scratch of the norm's rows -/

/-- The scratch of the norm's rows, read whole after its two stores. -/
def HB (i : grid0.Coords) (x0 : Vec Ideal S512x1024 .bf16) (x1 : Vec Ideal S8x1024 .bf16) : Vec Ideal S520x1024 .bf16 :=
  (View.whole cc0_scratch1).readCov (Val := Elt Ideal)
    [⟨Rect.unit ![512, 0] ![8, 1024] inb_S520x1024_S8x1024_512_0, k0_pay6 (F := Ideal) i x1⟩,
      ⟨Rect.unit ![0, 0] ![512, 1024] inb_S520x1024_S512x1024_0_0, k0_pay5 (F := Ideal) x0⟩]
    (Rect.unit (s := S520x1024) ![0, 0] ![520, 1024] inb_S520x1024_S520x1024_0_0).toLoadRect

/-- The body's test for a sequence's first tile, at every tile. -/
theorem first_bit : ∀ n : Fin 16, Scalar.cmpi .eq (Scalar.select (Scalar.andi (Scalar.xori
      (Scalar.cmpi .slt (Scalar.remsi (BitVec.ofNat 32 n.val) (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi (BitVec.ofNat 32 n.val) (Scalar.select (Scalar.cmpi .eq 4#32 0#32) 1#32 4#32)) 0#32))
      (Scalar.addi (Scalar.remsi (BitVec.ofNat 32 n.val) (Scalar.select (Scalar.cmpi .eq 4#32 0#32) 1#32 4#32)) (Scalar.select (Scalar.cmpi .eq 4#32 0#32) 1#32 4#32))
      (Scalar.remsi (BitVec.ofNat 32 n.val) (Scalar.select (Scalar.cmpi .eq 4#32 0#32) 1#32 4#32))) 0#32 = if n.val % 4 = 0 then 1#1 else 0#1 := by
  decide +kernel

theorem pay6_apply (i : grid0.Coords) (x1 : Vec Ideal S8x1024 .bf16) (r : Fin 8) (k : Fin 1024) :
    k0_pay6 (F := Ideal) i x1 (ix2 r k) = if (i 1).val % 4 = 0 then 0 else x1 (ix2 r k) := by
  unfold k0_pay6
  dsimp only
  rw [first_bit (i 1)]
  by_cases h : (i 1).val % 4 = 0
  · rw [if_pos h, if_pos h]; pointwise []
  · rw [if_neg h, if_neg h]; pointwise []

theorem HB_apply (i : grid0.Coords) (x0 : Vec Ideal S512x1024 .bf16) (x1 : Vec Ideal S8x1024 .bf16) (r : Fin 520) (k : Fin 1024) :
    HB i x0 x1 (ix2 r k) = hrw i x0 x1 r.val k := by
  unfold HB
  rw [View.readCov_eq_canon']
  have hl : (Rect.unit (s := S520x1024) ![0, 0] ![520, 1024] inb_S520x1024_S520x1024_0_0).toLoadRect.idx (ix2 r k) = ix2 r k := by
    funext a
    apply Fin.ext
    match a with
    | ⟨0, _⟩ => simp
    | ⟨1, _⟩ => simp
  beta_reduce
  rw [hl]
  by_cases hr : r.val < 512
  · have e : (ix2 r k : S520x1024.Idx) = (Rect.unit (s := S520x1024) ![0, 0] ![512, 1024] inb_S520x1024_S512x1024_0_0).emb (ix2 ⟨r.val, hr⟩ k) := by
      funext a
      apply Fin.ext
      match a with
      | ⟨0, _⟩ => simp
      | ⟨1, _⟩ => simp
    rw [View.canon_cons_of_not_mem, e, View.canon_cons_emb]
    · unfold hrw
      rw [dif_pos hr]
      pointwise [k0_pay5]
    · rw [Rect.mem_set_unit]
      intro hh
      have := (hh ⟨0, by decide⟩).1
      simp at this
      omega
  · have hr2 : r.val - 512 < 8 := by omega
    have e : (ix2 r k : S520x1024.Idx) = (Rect.unit (s := S520x1024) ![512, 0] ![8, 1024] inb_S520x1024_S8x1024_512_0).emb (ix2 ⟨r.val - 512, hr2⟩ k) := by
      funext a
      apply Fin.ext
      match a with
      | ⟨0, _⟩ => simp; omega
      | ⟨1, _⟩ => simp
    rw [e, View.canon_cons_emb]
    unfold hrw
    rw [dif_neg hr, dif_pos hr2]
    exact pay6_apply i x1 _ _

/-! ## The payloads at an index -/

theorem ld2 (x : Vec Ideal S2x1x1024x704 .bf16) (h : Fin 2) (k : Fin 1024) (l : Fin 704) (inb) :
    View.ld x (Rect.unit (s := S2x1x1024x704) ![h.val, 0, 0, 0] ![1, 1, 1024, 704] inb) (ix4 0 0 k l) = x (ix4 h 0 k l) := by
  refine View.ld_unit_apply_of _ _ _ _ _ _ fun a => ?_
  match a with
  | ⟨0, _⟩ => simp
  | ⟨1, _⟩ => simp
  | ⟨2, _⟩ => simp
  | ⟨3, _⟩ => simp

theorem ld3 (x : Vec Ideal S2x1x3x704 .f32) (h : Fin 2) (k : Fin 3) (l : Fin 704) (inb) :
    View.ld x (Rect.unit (s := S2x1x3x704) ![h.val, 0, 0, 0] ![1, 1, 3, 704] inb) (ix4 0 0 k l) = x (ix4 h 0 k l) := by
  refine View.ld_unit_apply_of _ _ _ _ _ _ fun a => ?_
  match a with
  | ⟨0, _⟩ => simp
  | ⟨1, _⟩ => simp
  | ⟨2, _⟩ => simp
  | ⟨3, _⟩ => simp

theorem ld4 (x : Vec Ideal S2x1x1x704 .f32) (h : Fin 2) (k : Fin 1) (l : Fin 704) (inb) :
    View.ld x (Rect.unit (s := S2x1x1x704) ![h.val, 0, 0, 0] ![1, 1, 1, 704] inb) (ix4 0 0 k l) = x (ix4 h 0 k l) := by
  refine View.ld_unit_apply_of _ _ _ _ _ _ fun a => ?_
  match a with
  | ⟨0, _⟩ => simp
  | ⟨1, _⟩ => simp
  | ⟨2, _⟩ => simp
  | ⟨3, _⟩ => simp

section
variable (i : grid0.Coords) (x0 : Vec Ideal S512x1024 .bf16) (x1 : Vec Ideal S8x1024 .bf16) (x2 : Vec Ideal S2x1x1024x704 .bf16)
  (x3 : Vec Ideal S2x1x3x704 .f32) (x4 : Vec Ideal S2x1x1x704 .f32)

/-- The weights' two halves. -/
abbrev W0 : Vec Ideal S1x1x1024x704 .bf16 := View.ld x2 (Rect.unit ![0, 0, 0, 0] ![1, 1, 1024, 704] inb_S2x1x1024x704_S1x1x1024x704_0_0_0_0)
abbrev W1 : Vec Ideal S1x1x1024x704 .bf16 := View.ld x2 (Rect.unit ![1, 0, 0, 0] ![1, 1, 1024, 704] inb_S2x1x1024x704_S1x1x1024x704_1_0_0_0)

theorem W0_apply (k : Fin 1024) (l : Fin 704) : W0 x2 (ix4 0 0 k l) = x2 (ix4 0 0 k l) := ld2 x2 0 k l _
theorem W1_apply (k : Fin 1024) (l : Fin 704) : W1 x2 (ix4 0 0 k l) = x2 (ix4 1 0 k l) := ld2 x2 1 k l _

theorem p7_apply (r : Fin 520) (l : Fin 704) : k0_pay7 (F := Ideal) (HB i x0 x1) (W0 x2) (ix2 r l) = uar i x0 x1 x2 0 r.val l := by
  unfold uar
  generalize hw : W0 x2 = w
  pointwise [k0_pay7]
  subst hw
  simp only [HB_apply]
  exact Finset.sum_congr rfl fun k _ => congrArg (fun z : EReal => hrw i x0 x1 r.val k * z) (W0_apply x2 k l)

theorem p13_apply (r : Fin 520) (l : Fin 704) : k0_pay13 (F := Ideal) (HB i x0 x1) (W1 x2) (ix2 r l) = uar i x0 x1 x2 1 r.val l := by
  unfold uar
  generalize hw : W1 x2 = w
  pointwise [k0_pay13]
  subst hw
  simp only [HB_apply]
  exact Finset.sum_congr rfl fun k _ => congrArg (fun z : EReal => hrw i x0 x1 r.val k * z) (W1_apply x2 k l)

/-- The tile's rows of the two halves of the product, and the rows from before it. -/
abbrev U0 : FVec Ideal S512x704 .f32 := k0_pay8 (F := Ideal) (HB i x0 x1) (W0 x2)
abbrev U1 : FVec Ideal S512x704 .f32 := k0_pay14 (F := Ideal) (HB i x0 x1) (W1 x2)

theorem U0_apply (r : Fin 512) (l : Fin 704) : U0 i x0 x1 x2 (ix2 r l) = uar i x0 x1 x2 0 r.val l := by
  refine Eq.trans (α := EReal) ?_ (p7_apply i x0 x1 x2 ⟨r.val, by omega⟩ l)
  unfold U0
  generalize HB i x0 x1 = y
  pointwise [k0_pay8]

theorem U1_apply (r : Fin 512) (l : Fin 704) : U1 i x0 x1 x2 (ix2 r l) = uar i x0 x1 x2 1 r.val l := by
  refine Eq.trans (α := EReal) ?_ (p13_apply i x0 x1 x2 ⟨r.val, by omega⟩ l)
  unfold U1
  generalize HB i x0 x1 = y
  pointwise [k0_pay14]

theorem p10_apply (r : Fin 8) (l : Fin 704) :
    k0_pay10 (F := Ideal) (k0_pay7 (F := Ideal) (HB i x0 x1) (W0 x2)) (ix3 0 r l) = uar i x0 x1 x2 0 (512 + r.val) l := by
  refine Eq.trans (α := EReal) ?_ (p7_apply i x0 x1 x2 ⟨512 + r.val, by omega⟩ l)
  generalize k0_pay7 (F := Ideal) (HB i x0 x1) (W0 x2) = y
  pointwise [k0_pay10]

theorem p16_apply (r : Fin 8) (l : Fin 704) :
    k0_pay16 (F := Ideal) (HB i x0 x1) (W1 x2) (ix3 0 r l) = uar i x0 x1 x2 1 (512 + r.val) l := by
  refine Eq.trans (α := EReal) ?_ (p13_apply i x0 x1 x2 ⟨512 + r.val, by omega⟩ l)
  unfold k0_pay16
  generalize k0_pay13 (F := Ideal) (HB i x0 x1) (W1 x2) = y
  pointwise

theorem p11_apply (r : Fin 512) (l : Fin 704) : k0_pay11 (F := Ideal) (U0 i x0 x1 x2) (ix3 0 r l) = uar i x0 x1 x2 0 r.val l := by
  refine Eq.trans (α := EReal) ?_ (U0_apply i x0 x1 x2 r l)
  generalize U0 i x0 x1 x2 = y
  pointwise [k0_pay11]

theorem p17_apply (r : Fin 512) (l : Fin 704) : k0_pay17 (F := Ideal) (HB i x0 x1) (W1 x2) (ix3 0 r l) = uar i x0 x1 x2 1 r.val l := by
  refine Eq.trans (α := EReal) ?_ (U1_apply i x0 x1 x2 r l)
  unfold k0_pay17
  show _ = k0_pay14 (F := Ideal) (HB i x0 x1) (W1 x2) (ix2 r l)
  generalize k0_pay14 (F := Ideal) (HB i x0 x1) (W1 x2) = y
  pointwise

/-! ## The convolution's scratch -/

/-- The stores into the scratch of the first half, and those of both. -/
def S0 : List (View.Piece (Elt Ideal) S2x520x704 .f32) :=
  [⟨Rect.unit ![0, 8, 0] ![1, 512, 704] inb_S2x520x704_S1x512x704_0_8_0, k0_pay11 (F := Ideal) (U0 i x0 x1 x2)⟩,
    ⟨Rect.unit ![0, 0, 0] ![1, 8, 704] inb_S2x520x704_S1x8x704_0_0_0, k0_pay10 (F := Ideal) (k0_pay7 (F := Ideal) (HB i x0 x1) (W0 x2))⟩]
def S1 : List (View.Piece (Elt Ideal) S2x520x704 .f32) :=
  ⟨Rect.unit ![1, 8, 0] ![1, 512, 704] inb_S2x520x704_S1x512x704_1_8_0, k0_pay17 (F := Ideal) (HB i x0 x1) (W1 x2)⟩ ::
    ⟨Rect.unit ![1, 0, 0] ![1, 8, 704] inb_S2x520x704_S1x8x704_1_0_0, k0_pay16 (F := Ideal) (HB i x0 x1) (W1 x2)⟩ :: S0 i x0 x1 x2

theorem emb8r (h : Fin 2) (r : Fin 512) (l : Fin 704) (inb) :
    (Rect.unit (s := S2x520x704) ![h.val, 8, 0] ![1, 512, 704] inb).emb (ix3 0 r l) = ix3 h ⟨8 + r.val, by omega⟩ l := by
  funext a
  apply Fin.ext
  match a with
  | ⟨0, _⟩ => simp
  | ⟨1, _⟩ => simp
  | ⟨2, _⟩ => simp

theorem emb0r (h : Fin 2) (r : Fin 8) (l : Fin 704) (inb) :
    (Rect.unit (s := S2x520x704) ![h.val, 0, 0] ![1, 8, 704] inb).emb (ix3 0 r l) = ix3 h ⟨r.val, by omega⟩ l := by
  funext a
  apply Fin.ext
  match a with
  | ⟨0, _⟩ => simp
  | ⟨1, _⟩ => simp
  | ⟨2, _⟩ => simp

theorem canon_pair (L : List (View.Piece (Elt Ideal) S2x520x704 .f32)) (h : Fin 2) (inb1) (inb2) (P : Vec Ideal S1x512x704 .f32) (Q : Vec Ideal S1x8x704 .f32)
    (hP : ∀ r l, P (ix3 0 r l) = uar i x0 x1 x2 h r.val l) (hQ : ∀ r l, Q (ix3 0 r l) = uar i x0 x1 x2 h (512 + r.val) l) (p : Fin 520) (l : Fin 704) :
    View.canon (⟨Rect.unit ![h.val, 8, 0] ![1, 512, 704] inb1, P⟩ :: ⟨Rect.unit ![h.val, 0, 0] ![1, 8, 704] inb2, Q⟩ :: L) (ix3 h p l)
      = bfr i x0 x1 x2 h p.val l := by
  by_cases hp : p.val < 8
  · have e : (ix3 h p l : S2x520x704.Idx) = (Rect.unit (s := S2x520x704) ![h.val, 0, 0] ![1, 8, 704] inb2).emb (ix3 0 ⟨p.val, hp⟩ l) :=
      (emb0r h ⟨p.val, hp⟩ l inb2).symm
    rw [View.canon_cons_of_not_mem]
    · rw [e, View.canon_cons_emb, hQ]
      unfold bfr
      rw [if_pos hp]
    · rw [Rect.mem_set_unit]
      intro hh
      have := (hh ⟨1, by decide⟩).1
      simp at this
      omega
  · have e : (ix3 h p l : S2x520x704.Idx) = (Rect.unit (s := S2x520x704) ![h.val, 8, 0] ![1, 512, 704] inb1).emb (ix3 0 ⟨p.val - 8, by omega⟩ l) := by
      rw [emb8r]
      exact congrArg (fun q : Fin 520 => (ix3 h q l : S2x520x704.Idx)) (Fin.ext (by show p.val = 8 + (p.val - 8); omega))
    rw [e, View.canon_cons_emb, hP]
    unfold bfr
    rw [if_neg hp]

/-- The scratch read from row `d` on, first half and second. -/
def B0 (d : ℕ) (inb : ∀ a, ![0, d, 0] a + ![1, 512, 704] a ≤ S2x520x704.size a) : Vec Ideal S1x512x704 .f32 :=
  (View.whole cc0_scratch0).readCov (Val := Elt Ideal) (S0 i x0 x1 x2) (Rect.unit (s := S2x520x704) ![0, d, 0] ![1, 512, 704] inb).toLoadRect
def B1 (d : ℕ) (inb : ∀ a, ![1, d, 0] a + ![1, 512, 704] a ≤ S2x520x704.size a) : Vec Ideal S1x512x704 .f32 :=
  (View.whole cc0_scratch0).readCov (Val := Elt Ideal) (S1 i x0 x1 x2) (Rect.unit (s := S2x520x704) ![1, d, 0] ![1, 512, 704] inb).toLoadRect

theorem idxr (h : Fin 2) (d : ℕ) (hd : d < 9) (r : Fin 512) (l : Fin 704) (inb) :
    (Rect.unit (s := S2x520x704) ![h.val, d, 0] ![1, 512, 704] inb).toLoadRect.idx (ix3 0 r l) = ix3 h ⟨d + r.val, by omega⟩ l := by
  funext a
  apply Fin.ext
  match a with
  | ⟨0, _⟩ => simp
  | ⟨1, _⟩ => simp
  | ⟨2, _⟩ => simp

theorem B0_apply (d : ℕ) (hd : d < 9) (inb) (r : Fin 512) (l : Fin 704) : B0 i x0 x1 x2 d inb (ix3 0 r l) = bfr i x0 x1 x2 0 (d + r.val) l := by
  unfold B0
  rw [View.readCov_eq_canon']
  beta_reduce
  have e := idxr 0 d hd r l inb
  simp only [Fin.val_zero] at e
  rw [e]
  exact canon_pair i x0 x1 x2 [] 0 _ _ _ _ (p11_apply i x0 x1 x2) (p10_apply i x0 x1 x2) _ l

theorem B1_apply (d : ℕ) (hd : d < 9) (inb) (r : Fin 512) (l : Fin 704) : B1 i x0 x1 x2 d inb (ix3 0 r l) = bfr i x0 x1 x2 1 (d + r.val) l := by
  unfold B1
  rw [View.readCov_eq_canon']
  beta_reduce
  have e := idxr 1 d hd r l inb
  simp only [Fin.val_one] at e
  rw [e]
  exact canon_pair i x0 x1 x2 (S0 i x0 x1 x2) 1 _ _ _ _ (p17_apply i x0 x1 x2) (p16_apply i x0 x1 x2) _ l

/-! ## The convolution -/

/-- The convolution at a row of the tile. -/
def cB (h : Fin 2) (r : ℕ) (l : Fin 704) : EReal :=
  x4 (ix4 h 0 0 l) + x3 (ix4 h 0 0 l) * bfr i x0 x1 x2 h (6 + r) l + x3 (ix4 h 0 1 l) * bfr i x0 x1 x2 h (7 + r) l + x3 (ix4 h 0 2 l) * uar i x0 x1 x2 h r l

/-- The two halves of the convolution, as the run's terms spell them. -/
def C0 : FVec Ideal S512x704 .f32 :=
  k0_pay12 (F := Ideal) (U0 i x0 x1 x2) (View.ld x3 (Rect.unit ![0, 0, 0, 0] ![1, 1, 3, 704] inb_S2x1x3x704_S1x1x3x704_0_0_0_0)) (View.ld x4 (Rect.unit ![0, 0, 0, 0] ![1, 1, 1, 704] inb_S2x1x1x704_S1x1x1x704_0_0_0_0)) (B0 i x0 x1 x2 6 inb_S2x520x704_S1x512x704_0_6_0) (B0 i x0 x1 x2 7 inb_S2x520x704_S1x512x704_0_7_0)
def C1 : FVec Ideal S512x704 .f32 :=
  k0_pay19 (F := Ideal) (View.ld x3 (Rect.unit ![1, 0, 0, 0] ![1, 1, 3, 704] inb_S2x1x3x704_S1x1x3x704_1_0_0_0)) (View.ld x4 (Rect.unit ![1, 0, 0, 0] ![1, 1, 1, 704] inb_S2x1x1x704_S1x1x1x704_1_0_0_0)) (B1 i x0 x1 x2 6 inb_S2x520x704_S1x512x704_1_6_0) (B1 i x0 x1 x2 7 inb_S2x520x704_S1x512x704_1_7_0)
def C2 : FVec Ideal S1x704 .f32 := k0_pay20 (F := Ideal) (View.ld x3 (Rect.unit ![1, 0, 0, 0] ![1, 1, 3, 704] inb_S2x1x3x704_S1x1x3x704_1_0_0_0))

theorem C0_apply (r : Fin 512) (l : Fin 704) : C0 i x0 x1 x2 x3 x4 (ix2 r l) = cB i x0 x1 x2 x3 x4 0 r.val l := by
  unfold C0 cB
  rw [← U0_apply, ← B0_apply i x0 x1 x2 6 (by omega) inb_S2x520x704_S1x512x704_0_6_0, ← B0_apply i x0 x1 x2 7 (by omega) inb_S2x520x704_S1x512x704_0_7_0]
  generalize U0 i x0 x1 x2 = y
  generalize B0 i x0 x1 x2 6 inb_S2x520x704_S1x512x704_0_6_0 = y6
  generalize B0 i x0 x1 x2 7 inb_S2x520x704_S1x512x704_0_7_0 = y7
  pointwise [k0_pay12]

theorem C1_apply (r : Fin 512) (l : Fin 704) :
    k0_pay1 (F := Ideal) (U1 i x0 x1 x2) (C1 i x0 x1 x2 x3 x4) (C2 x3) (ix2 r l) = cB i x0 x1 x2 x3 x4 1 r.val l := by
  unfold C1 C2 cB
  rw [← U1_apply, ← B1_apply i x0 x1 x2 6 (by omega) inb_S2x520x704_S1x512x704_1_6_0, ← B1_apply i x0 x1 x2 7 (by omega) inb_S2x520x704_S1x512x704_1_7_0]
  generalize U1 i x0 x1 x2 = y
  generalize B1 i x0 x1 x2 6 inb_S2x520x704_S1x512x704_1_6_0 = y6
  generalize B1 i x0 x1 x2 7 inb_S2x520x704_S1x512x704_1_7_0 = y7
  pointwise [k0_pay1, k0_pay19, k0_pay20, k0_pay18]

/-! ## The stores -/

/-- The blocks of the product, of the convolution and of the gate. -/
def uB (y : S2x1x512x704.Idx) : EReal := uar i x0 x1 x2 (y 0) (y 2).val (y 3)
def cBB (y : S2x1x512x704.Idx) : EReal := cB i x0 x1 x2 x3 x4 (y 0) (y 2).val (y 3)
def hB (y : S1x512x704.Idx) : EReal :=
  cB i x0 x1 x2 x3 x4 0 (y 1).val (y 2) * sgt (cB i x0 x1 x2 x3 x4 0 (y 1).val (y 2)) * cB i x0 x1 x2 x3 x4 1 (y 1).val (y 2)

def pieces5 : List (View.Piece (Elt Ideal) S2x1x512x704 .f32) :=
  [⟨Rect.unit ![1, 0, 0, 0] ![1, 1, 512, 704] inb_S2x1x512x704_S1x1x512x704_1_0_0_0, k0_pay15 (F := Ideal) (HB i x0 x1) (W1 x2)⟩,
    ⟨Rect.unit ![0, 0, 0, 0] ![1, 1, 512, 704] inb_S2x1x512x704_S1x1x512x704_0_0_0_0, k0_pay9 (F := Ideal) (U0 i x0 x1 x2)⟩]
def pieces6 : List (View.Piece (Elt Ideal) S2x1x512x704 .f32) :=
  [⟨Rect.unit ![1, 0, 0, 0] ![1, 1, 512, 704] inb_S2x1x512x704_S1x1x512x704_1_0_0_0, k0_pay3 (F := Ideal) (U1 i x0 x1 x2) (C1 i x0 x1 x2 x3 x4) (C2 x3)⟩,
    ⟨Rect.unit ![0, 0, 0, 0] ![1, 1, 512, 704] inb_S2x1x512x704_S1x1x512x704_0_0_0_0, k0_pay2 (F := Ideal) (C0 i x0 x1 x2 x3 x4)⟩]

theorem emb7 (h : Fin 2) (r : Fin 512) (l : Fin 704) (inb) :
    (Rect.unit (s := S2x1x512x704) ![h.val, 0, 0, 0] ![1, 1, 512, 704] inb).emb (ix4 0 0 r l) = ix4 h 0 r l := by
  funext a
  apply Fin.ext
  match a with
  | ⟨0, _⟩ => simp
  | ⟨1, _⟩ => simp
  | ⟨2, _⟩ => simp
  | ⟨3, _⟩ => simp

theorem eta7 (x : S1x1x512x704.Idx) : x = ix4 0 0 (x 2) (x 3) := by
  have e0 : x 0 = (0 : Fin 1) := Subsingleton.elim (α := Fin 1) _ _
  have e1 : x 1 = (0 : Fin 1) := Subsingleton.elim (α := Fin 1) _ _
  funext a
  match a with
  | ⟨0, _⟩ => exact e0
  | ⟨1, _⟩ => exact e1
  | ⟨2, _⟩ => rfl
  | ⟨3, _⟩ => rfl

theorem pieces5_of : View.PiecesOf (Val := Elt Ideal) (e := .f32) (uB i x0 x1 x2) (pieces5 i x0 x1 x2) := by
  refine ⟨fun x => ?_, fun x => ?_, trivial⟩
  · obtain ⟨r, l, rfl⟩ : ∃ (r : Fin 512) (l : Fin 704), x = ix4 0 0 r l := ⟨x 2, x 3, eta7 x⟩
    have e := emb7 1 r l inb_S2x1x512x704_S1x1x512x704_1_0_0_0
    simp only [Fin.val_one] at e
    rw [e]
    refine Eq.trans (α := EReal) ?_ (U1_apply i x0 x1 x2 r l)
    show k0_pay15 (F := Ideal) (HB i x0 x1) (W1 x2) (ix4 0 0 r l) = k0_pay14 (F := Ideal) (HB i x0 x1) (W1 x2) (ix2 r l)
    unfold k0_pay15
    generalize k0_pay14 (F := Ideal) (HB i x0 x1) (W1 x2) = y
    pointwise
  · obtain ⟨r, l, rfl⟩ : ∃ (r : Fin 512) (l : Fin 704), x = ix4 0 0 r l := ⟨x 2, x 3, eta7 x⟩
    have e := emb7 0 r l inb_S2x1x512x704_S1x1x512x704_0_0_0_0
    simp only [Fin.val_zero] at e
    rw [e]
    refine Eq.trans (α := EReal) ?_ (U0_apply i x0 x1 x2 r l)
    generalize U0 i x0 x1 x2 = y
    pointwise [k0_pay9]

theorem pieces6_of : View.PiecesOf (Val := Elt Ideal) (e := .f32) (cBB i x0 x1 x2 x3 x4) (pieces6 i x0 x1 x2 x3 x4) := by
  refine ⟨fun x => ?_, fun x => ?_, trivial⟩
  · obtain ⟨r, l, rfl⟩ : ∃ (r : Fin 512) (l : Fin 704), x = ix4 0 0 r l := ⟨x 2, x 3, eta7 x⟩
    have e := emb7 1 r l inb_S2x1x512x704_S1x1x512x704_1_0_0_0
    simp only [Fin.val_one] at e
    rw [e]
    refine Eq.trans (α := EReal) ?_ (C1_apply i x0 x1 x2 x3 x4 r l)
    show k0_pay3 (F := Ideal) (U1 i x0 x1 x2) (C1 i x0 x1 x2 x3 x4) (C2 x3) (ix4 0 0 r l) = _
    unfold k0_pay3
    generalize k0_pay1 (F := Ideal) (U1 i x0 x1 x2) (C1 i x0 x1 x2 x3 x4) (C2 x3) = y
    pointwise
  · obtain ⟨r, l, rfl⟩ : ∃ (r : Fin 512) (l : Fin 704), x = ix4 0 0 r l := ⟨x 2, x 3, eta7 x⟩
    have e := emb7 0 r l inb_S2x1x512x704_S1x1x512x704_0_0_0_0
    simp only [Fin.val_zero] at e
    rw [e]
    refine Eq.trans (α := EReal) ?_ (C0_apply i x0 x1 x2 x3 x4 r l)
    generalize C0 i x0 x1 x2 x3 x4 = y
    pointwise [k0_pay2]

/-- The gate's store. -/
theorem p4_apply (r : Fin 512) (l : Fin 704) :
    (k0_pay4 (F := Ideal) (C0 i x0 x1 x2 x3 x4) (U1 i x0 x1 x2) (C1 i x0 x1 x2 x3 x4) (C2 x3) (ix3 0 r l) : EReal) = hB i x0 x1 x2 x3 x4 (ix3 0 r l) := by
  show _ = cB i x0 x1 x2 x3 x4 0 r.val l * sgt (cB i x0 x1 x2 x3 x4 0 r.val l) * cB i x0 x1 x2 x3 x4 1 r.val l
  unfold sgt hf
  rw [← C0_apply, ← C1_apply]
  unfold k0_pay4
  generalize k0_pay1 (F := Ideal) (U1 i x0 x1 x2) (C1 i x0 x1 x2 x3 x4) (C2 x3) = y1
  generalize C0 i x0 x1 x2 x3 x4 = y
  pointwise

theorem cover5 (y : S2x1x512x704.Idx) :
    ∃ p ∈ pieces5 i x0 x1 x2, y ∈ p.1.set := by
  have key : ∀ (h : Fin 2), y 0 = h → ∀ inb, y ∈ (Rect.unit (s := S2x1x512x704) ![h.val, 0, 0, 0] ![1, 1, 512, 704] inb).set := by
    intro h e inb
    rw [Rect.mem_set_unit]
    intro a
    have hy := (y a).isLt
    match a with
    | ⟨0, _⟩ => subst e; exact ⟨le_refl _, Nat.lt_succ_self _⟩
    | ⟨1, _⟩ => exact ⟨Nat.zero_le _, by simpa using hy⟩
    | ⟨2, _⟩ => exact ⟨Nat.zero_le _, by simpa using hy⟩
    | ⟨3, _⟩ => exact ⟨Nat.zero_le _, by simpa using hy⟩
  have h01 : y 0 = (1 : Fin 2) ∨ y 0 = (0 : Fin 2) := by
    have : ∀ h : Fin 2, h = 1 ∨ h = 0 := by decide
    exact this (y 0)
  unfold pieces5
  rcases h01 with e | e
  · exact ⟨_, List.mem_cons_self, key 1 e inb_S2x1x512x704_S1x1x512x704_1_0_0_0⟩
  · exact ⟨_, List.mem_cons_of_mem _ List.mem_cons_self, key 0 e inb_S2x1x512x704_S1x1x512x704_0_0_0_0⟩

theorem cover6 (y : S2x1x512x704.Idx) :
    ∃ p ∈ pieces6 i x0 x1 x2 x3 x4, y ∈ p.1.set := by
  have key : ∀ (h : Fin 2), y 0 = h → ∀ inb, y ∈ (Rect.unit (s := S2x1x512x704) ![h.val, 0, 0, 0] ![1, 1, 512, 704] inb).set := by
    intro h e inb
    rw [Rect.mem_set_unit]
    intro a
    have hy := (y a).isLt
    match a with
    | ⟨0, _⟩ => subst e; exact ⟨le_refl _, Nat.lt_succ_self _⟩
    | ⟨1, _⟩ => exact ⟨Nat.zero_le _, by simpa using hy⟩
    | ⟨2, _⟩ => exact ⟨Nat.zero_le _, by simpa using hy⟩
    | ⟨3, _⟩ => exact ⟨Nat.zero_le _, by simpa using hy⟩
  have h01 : y 0 = (1 : Fin 2) ∨ y 0 = (0 : Fin 2) := by
    have : ∀ h : Fin 2, h = 1 ∨ h = 0 := by decide
    exact this (y 0)
  unfold pieces6
  rcases h01 with e | e
  · exact ⟨_, List.mem_cons_self, key 1 e inb_S2x1x512x704_S1x1x512x704_1_0_0_0⟩
  · exact ⟨_, List.mem_cons_of_mem _ List.mem_cons_self, key 0 e inb_S2x1x512x704_S1x1x512x704_0_0_0_0⟩

end

/-! ## The output blocks after a point -/

variable (m : (ℓ : Loc nD τ sig) → Buf (Elt Ideal) ℓ)

set_option maxHeartbeats 1000000 in
theorem out5 (c : Dev nD) (t : Fin cfg0.N) : (outsAt0 m c t).1 = uB (grid0.coords t) (iblk m c 0 t) (iblk m c 1 t) (iblk m c 2 t) := by
  unfold outsAt0
  dsimp only
  generalize iblk m c 0 t = x0
  generalize iblk m c 1 t = x1
  generalize iblk m c 2 t = x2
  generalize iblk m c 3 t = x3
  generalize iblk m c 4 t = x4
  unfold out0_A_5
  frame_open
  simp (disch := decide) only [↓ View.readCov_skip, ↓ View.readCov_cons_toLoadRect, ↓ View.readCov_fill]
  frame_out
  funext y
  exact View.canon_append_of_piecesOf (Val := Elt Ideal) (e := .f32) _ [] (pieces5 (grid0.coords t) x0 x1 x2) (pieces5_of _ _ _ _) y (cover5 _ _ _ _ y)

set_option maxHeartbeats 1000000 in
theorem out6 (c : Dev nD) (t : Fin cfg0.N) : (outsAt0 m c t).2.1 = cBB (grid0.coords t) (iblk m c 0 t) (iblk m c 1 t) (iblk m c 2 t) (iblk m c 3 t) (iblk m c 4 t) := by
  unfold outsAt0
  dsimp only
  generalize iblk m c 0 t = x0
  generalize iblk m c 1 t = x1
  generalize iblk m c 2 t = x2
  generalize iblk m c 3 t = x3
  generalize iblk m c 4 t = x4
  unfold out0_A_6
  frame_open
  simp (disch := decide) only [↓ View.readCov_skip, ↓ View.readCov_cons_toLoadRect, ↓ View.readCov_fill]
  frame_out
  funext y
  exact View.canon_append_of_piecesOf (Val := Elt Ideal) (e := .f32) _ [] (pieces6 (grid0.coords t) x0 x1 x2 x3 x4) (pieces6_of _ _ _ _ _ _) y (cover6 _ _ _ _ _ _ y)

set_option maxHeartbeats 1000000 in
theorem out7 (c : Dev nD) (t : Fin cfg0.N) (r : Fin 512) (l : Fin 704) :
    ((outsAt0 m c t).2.2 (ix3 0 r l) : EReal) = hB (grid0.coords t) (iblk m c 0 t) (iblk m c 1 t) (iblk m c 2 t) (iblk m c 3 t) (iblk m c 4 t) (ix3 0 r l) := by
  unfold outsAt0
  dsimp only
  generalize iblk m c 0 t = x0
  generalize iblk m c 1 t = x1
  generalize iblk m c 2 t = x2
  generalize iblk m c 3 t = x3
  generalize iblk m c 4 t = x4
  unfold out0_A_7
  frame_open
  simp (disch := decide) only [↓ View.readCov_skip, ↓ View.readCov_cons_toLoadRect, ↓ View.readCov_fill]
  frame_out
  exact p4_apply (grid0.coords t) x0 x1 x2 x3 x4 r l

end Cert.Kernel7Ideal.Hand
end
-- ==== Proof.UfSpec.lean ====
/- The forward pass of the gated MLP up to its gate: the norm, the up projection, the convolution and the gate, at an index. -/
module

public import proofs.«01_k».proof.Proof.WuSpec
public import proofs.«01_k».proof.Proof.WdSpec

@[expose] public section

noncomputable section

open Idealize.ShloMosaic

namespace Cert.Spec.Uf
open Cert.Spec Cert.Spec.Up
open Cert.Spec.Wu (hh)

abbrev WU := (⟨2, ![1024, 5632]⟩ : Shape).Idx → EReal

/-- The up projection. -/
def uu (x : X3) (g : G1) (wu : WU) (b : Fin 4) (s : Fin 2048) (f : Fin 5632) : EReal := ∑ k : Fin 1024, hh x g b s k * wu (ix2 k f)
/-- The up projection as an array. -/
def uA (x : X3) (g : G1) (wu : WU) : U := fun i => uu x g wu (i 0) (i 1) (i 2)

/-- The two spellings of the sigmoid agree at every extended real. -/
theorem sgt_eq (z : EReal) : sgt z = sigm z := by
  induction z using EReal.rec with
  | bot =>
    unfold sgt sigm
    rw [hf_eq, EReal.coe_mul_bot_of_pos (by norm_num), Ideal.tanh_bot, EReal.neg_bot, Ideal.exp_top, EReal.add_top_of_ne_bot (by decide)]
    unfold Ideal.div
    rw [if_neg (by decide), EReal.inv_top, mul_zero, mul_neg, mul_one, ← EReal.coe_neg, ← EReal.coe_add]
    norm_num
  | coe x => rw [sgt_coe, sig_coe]
  | top =>
    unfold sgt sigm
    rw [hf_eq, EReal.coe_mul_top_of_pos (by norm_num), Ideal.tanh_top, EReal.neg_top, Ideal.exp_bot, add_zero]
    unfold Ideal.div
    rw [if_neg one_ne_zero, mul_one, ← EReal.coe_add]
    norm_num

end Cert.Spec.Uf
end
-- ==== Proof.UfArr.lean ====
/- The input arrays of the up projection's call, as the host lines before it leave them, and its output arrays. -/
module

public import proofs.«01_k».proof.Proof.UfBlock
public import proofs.«01_k».proof.Proof.UfSpec
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel7Ideal.Hand
open Cert.Kernel7Ideal Cert.Kernel7Ideal.Gen
open Cert.Spec Cert.Spec.Uf
open Cert.Spec.Up (X3 G1 rr ms nn ee)
open Cert.Spec.Wu (hh)

variable (m : (ℓ : Loc nD τ sig) → Buf (Elt Ideal) ℓ)

/-- The kernel's arguments. -/
abbrev a0 (c : Dev nD) : X3 := m ((c : Thread nD τ).loc main_arg0)
abbrev a1 (c : Dev nD) : G1 := m ((c : Thread nD τ).loc main_arg1)
abbrev a2 (c : Dev nD) : WU := m ((c : Thread nD τ).loc main_arg2)
abbrev a3 (c : Dev nD) : Cert.Spec.W := m ((c : Thread nD τ).loc main_arg3)
abbrev a4 (c : Dev nD) : Cert.Spec.B := m ((c : Thread nD τ).loc main_arg4)
/-- The up projection as an array. -/
abbrev ua (c : Dev nD) : U := uA (a0 m c) (a1 m c) (a2 m c)

theorem V14 (c : Dev nD) (T : Fin 8192) (k : Fin 1024) :
    (V m c main_v14 : S8192x1024.Idx → EReal) (ix2 T k) = hh (a0 m c) (a1 m c) ⟨T.val / 2048, by omega⟩ ⟨T.val % 2048, by omega⟩ k := by
  unfold hh rr ms nn ee V
  after_reads_at

theorem V17 (c : Dev nD) (h : Fin 2) (j : Fin 4) (k : Fin 1024) (l : Fin 704) :
    (V m c main_v17 : S2x4x1024x704.Idx → EReal) (ix4 h j k l) = a2 m c (ix2 k ⟨h.val * 2816 + j.val * 704 + l.val, by omega⟩) := by
  unfold V
  after_reads_at

theorem V19 (c : Dev nD) (h : Fin 2) (j : Fin 4) (k : Fin 3) (l : Fin 704) :
    (V m c main_v19 : S2x4x3x704.Idx → EReal) (ix4 h j k l) = a3 m c (ix2 k ⟨h.val * 2816 + j.val * 704 + l.val, by omega⟩) := by
  unfold V
  after_reads_at

theorem V20 (c : Dev nD) (h : Fin 2) (j : Fin 4) (l : Fin 704) :
    (V m c main_v20 : S2x4x1x704.Idx → EReal) (ix4 h j 0 l) = a4 m c (ix1 ⟨h.val * 2816 + j.val * 704 + l.val, by omega⟩) := by
  unfold V
  after_reads_at

/-! ## The blocks at a point -/

theorem idx : ∀ t : Fin cfg0.N,
    win0_0.index t = ![t.val % 16, 0] ∧ win0_1.index t = ![t.val % 16 * 64 - 1, 0] ∧ win0_2.index t = ![0, t.val / 16, 0, 0]
      ∧ win0_3.index t = ![0, t.val / 16, 0, 0] ∧ win0_4.index t = ![0, t.val / 16, 0, 0] ∧ win0_5.index t = ![0, t.val / 16, t.val % 16, 0]
      ∧ win0_6.index t = ![0, t.val / 16, t.val % 16, 0] ∧ win0_7.index t = ![t.val / 16, t.val % 16, 0] :=
  (by decide +kernel : ∀ t : Fin grid0.N, _)

theorem crd : ∀ t : Fin cfg0.N, ((grid0.coords t) 1).val = t.val % 16 ∧ ((grid0.coords t) 0).val = t.val / 16 :=
  (by decide +kernel : ∀ t : Fin grid0.N, _)

theorem jlt (t : Fin cfg0.N) : t.val / 16 < 4 := by have := t.isLt; change _ < 64 at this; omega

theorem ib0 (c : Dev nD) (t : Fin cfg0.N) (r : Fin 512) (k : Fin 1024) :
    iblk m c 0 t (ix2 r k) = (V m c main_v14 : S8192x1024.Idx → EReal) (ix2 ⟨t.val % 16 * 512 + r.val, by omega⟩ k) := by
  blk_ext [iblk, idx t]

theorem ib1 (c : Dev nD) (t : Fin cfg0.N) (r : Fin 8) (k : Fin 1024) :
    iblk m c 1 t (ix2 r k) = (V m c main_v14 : S8192x1024.Idx → EReal) (ix2 ⟨(t.val % 16 * 64 - 1) * 8 + r.val, by omega⟩ k) := by
  blk_ext [iblk, idx t]

theorem ib2 (c : Dev nD) (t : Fin cfg0.N) (h : Fin 2) (k : Fin 1024) (l : Fin 704) :
    iblk m c 2 t (ix4 h 0 k l) = (V m c main_v17 : S2x4x1024x704.Idx → EReal) (ix4 h ⟨t.val / 16, jlt t⟩ k l) := by
  blk_ext [iblk, idx t]

theorem ib3 (c : Dev nD) (t : Fin cfg0.N) (h : Fin 2) (k : Fin 3) (l : Fin 704) :
    iblk m c 3 t (ix4 h 0 k l) = (V m c main_v19 : S2x4x3x704.Idx → EReal) (ix4 h ⟨t.val / 16, jlt t⟩ k l) := by
  blk_ext [iblk, idx t]

theorem ib4 (c : Dev nD) (t : Fin cfg0.N) (h : Fin 2) (l : Fin 704) :
    iblk m c 4 t (ix4 h 0 0 l) = (V m c main_v20 : S2x4x1x704.Idx → EReal) (ix4 h ⟨t.val / 16, jlt t⟩ 0 l) := by
  blk_ext [iblk, idx t]

/-! ## The values at a point -/

/-- A point's sequence, and its block of columns. -/
abbrev bq (t : Fin cfg0.N) : Fin 4 := ⟨t.val % 16 / 4, by omega⟩
abbrev gq (t : Fin cfg0.N) (l : Fin 704) : Fin 2816 := ⟨t.val / 16 * 704 + l.val, by have := jlt t; omega⟩

theorem hh_eq (x : X3) (g : G1) {b b' : Fin 4} {s s' : Fin 2048} (k : Fin 1024) (hb : b.val = b'.val) (hs : s.val = s'.val) :
    hh x g b s k = hh x g b' s' k := by
  obtain rfl := Fin.ext hb
  obtain rfl := Fin.ext hs
  rfl

theorem hcol (t : Fin cfg0.N) (h : Fin 2) (l : Fin 704) :
    (⟨h.val * 2816 + t.val / 16 * 704 + l.val, by have := jlt t; omega⟩ : Fin 5632) = col h (gq t l) :=
  Fin.ext (by show h.val * 2816 + t.val / 16 * 704 + l.val = h.val * 2816 + (t.val / 16 * 704 + l.val); omega)

theorem w2 (c : Dev nD) (t : Fin cfg0.N) (h : Fin 2) (k : Fin 1024) (l : Fin 704) :
    iblk m c 2 t (ix4 h 0 k l) = a2 m c (ix2 k (col h (gq t l))) :=
  (ib2 m c t h k l).trans ((V17 m c _ _ _ _).trans (congrArg (fun f => a2 m c (ix2 k f)) (hcol t h l)))

theorem w3 (c : Dev nD) (t : Fin cfg0.N) (h : Fin 2) (k : Fin 3) (l : Fin 704) :
    iblk m c 3 t (ix4 h 0 k l) = a3 m c (ix2 k (col h (gq t l))) :=
  (ib3 m c t h k l).trans ((V19 m c _ _ _ _).trans (congrArg (fun f => a3 m c (ix2 k f)) (hcol t h l)))

theorem w4 (c : Dev nD) (t : Fin cfg0.N) (h : Fin 2) (l : Fin 704) :
    iblk m c 4 t (ix4 h 0 0 l) = a4 m c (ix1 (col h (gq t l))) :=
  (ib4 m c t h l).trans ((V20 m c _ _ _).trans (congrArg (fun f => a4 m c (ix1 f)) (hcol t h l)))

/-- A row of the product: the tile's rows. -/
theorem uar_lt (c : Dev nD) (t : Fin cfg0.N) (h : Fin 2) (r : ℕ) (hr : r < 512) (l : Fin 704) :
    uar (grid0.coords t) (iblk m c 0 t) (iblk m c 1 t) (iblk m c 2 t) h r l
      = ua m c (ix3 (bq t) ⟨t.val % 16 % 4 * 512 + r, by omega⟩ (col h (gq t l))) := by
  show _ = uu _ _ _ (bq t) ⟨t.val % 16 % 4 * 512 + r, by omega⟩ (col h (gq t l))
  unfold uar uu
  refine Finset.sum_congr rfl fun k _ => congrArg₂ (· * ·) ?_ (w2 m c t h k l)
  unfold hrw
  rw [dif_pos hr]
  refine (ib0 m c t ⟨r, hr⟩ k).trans ((V14 m c _ _).trans (hh_eq _ _ k ?_ ?_))
  · show (t.val % 16 * 512 + r) / 2048 = t.val % 16 / 4
    omega
  · show (t.val % 16 * 512 + r) % 2048 = t.val % 16 % 4 * 512 + r
    omega

/-- The rows from before the tile, in the middle of a sequence. -/
theorem uar_ge (c : Dev nD) (t : Fin cfg0.N) (h : Fin 2) (p : ℕ) (hp : p < 8) (ht : ¬t.val % 16 % 4 = 0) (l : Fin 704) :
    uar (grid0.coords t) (iblk m c 0 t) (iblk m c 1 t) (iblk m c 2 t) h (512 + p) l
      = ua m c (ix3 (bq t) ⟨t.val % 16 % 4 * 512 + p - 8, by omega⟩ (col h (gq t l))) := by
  show _ = uu _ _ _ (bq t) ⟨t.val % 16 % 4 * 512 + p - 8, by omega⟩ (col h (gq t l))
  unfold uar uu
  refine Finset.sum_congr rfl fun k _ => congrArg₂ (· * ·) ?_ (w2 m c t h k l)
  unfold hrw
  have hp' : 512 + p - 512 < 8 := by omega
  rw [dif_neg (by omega), (crd t).1, if_neg ht, dif_pos hp']
  refine (ib1 m c t ⟨512 + p - 512, hp'⟩ k).trans ((V14 m c _ _).trans (hh_eq _ _ k ?_ ?_))
  · show ((t.val % 16 * 64 - 1) * 8 + (512 + p - 512)) / 2048 = t.val % 16 / 4
    omega
  · show ((t.val % 16 * 64 - 1) * 8 + (512 + p - 512)) % 2048 = t.val % 16 % 4 * 512 + p - 8
    omega

/-- The rows from before a sequence's first tile. -/
theorem uar_zero (c : Dev nD) (t : Fin cfg0.N) (h : Fin 2) (p : ℕ) (ht : t.val % 16 % 4 = 0) (l : Fin 704) :
    uar (grid0.coords t) (iblk m c 0 t) (iblk m c 1 t) (iblk m c 2 t) h (512 + p) l = 0 := by
  unfold uar
  refine Finset.sum_eq_zero fun k _ => ?_
  unfold hrw
  rw [dif_neg (by omega), (crd t).1, if_pos ht, zero_mul]

/-- The convolution's scratch holds the sequence behind two rows of zeros. -/
theorem bfr_eq (c : Dev nD) (t : Fin cfg0.N) (h : Fin 2) (p s : ℕ) (hp : 6 ≤ p) (hp' : p < 520) (hs : t.val % 16 % 4 * 512 + p = s + 6) (l : Fin 704) :
    bfr (grid0.coords t) (iblk m c 0 t) (iblk m c 1 t) (iblk m c 2 t) h p l = up (ua m c) (bq t) s (col h (gq t l)) := by
  unfold bfr
  by_cases h8 : p < 8
  · rw [if_pos h8]
    by_cases ht : t.val % 16 % 4 = 0
    · exact (uar_zero m c t h p ht l).trans (up_lt _ _ (by omega)).symm
    · refine (uar_ge m c t h p h8 ht l).trans (Eq.trans ?_ (up_ge _ _ (by omega) (by omega)).symm)
      exact congrArg (ua m c) (ix3_eq rfl (by show t.val % 16 % 4 * 512 + p - 8 = s - 2; omega) rfl)
  · rw [if_neg h8]
    refine (uar_lt m c t h (p - 8) (by omega) l).trans (Eq.trans ?_ (up_ge _ _ (by omega) (by omega)).symm)
    exact congrArg (ua m c) (ix3_eq rfl (by show t.val % 16 % 4 * 512 + (p - 8) = s - 2; omega) rfl)

theorem cB_eq (c : Dev nD) (t : Fin cfg0.N) (h : Fin 2) (r : ℕ) (hr : r < 512) (l : Fin 704) :
    cB (grid0.coords t) (iblk m c 0 t) (iblk m c 1 t) (iblk m c 2 t) (iblk m c 3 t) (iblk m c 4 t) h r l
      = cv (ua m c) (a3 m c) (a4 m c) (bq t) (t.val % 16 % 4 * 512 + r) (col h (gq t l)) := by
  unfold cB cv
  refine Eq.trans (α := EReal) (congrArg₂ (· + ·) (congrArg₂ (· + ·) (congrArg₂ (· + ·) (w4 m c t h l)
    (congrArg₂ (· * ·) (w3 m c t h 0 l) (bfr_eq m c t h (6 + r) (t.val % 16 % 4 * 512 + r) (by omega) (by omega) (by omega) l)))
    (congrArg₂ (· * ·) (w3 m c t h 1 l) (bfr_eq m c t h (7 + r) (1 + (t.val % 16 % 4 * 512 + r)) (by omega) (by omega) (by omega) l)))
    (congrArg₂ (· * ·) (w3 m c t h 2 l) ((uar_lt m c t h r hr l).trans (up_two _ _ _).symm))) ?_
  rw [add_assoc, add_assoc, add_comm, ← add_assoc]

/-! ## The output arrays -/

abbrev bT (T : Fin 8192) : Fin 4 := ⟨T.val / 2048, by omega⟩
abbrev fT (j : Fin 4) (l : Fin 704) : Fin 2816 := ⟨j.val * 704 + l.val, by omega⟩

def G5 (c : Dev nD) (i : S2x4x8192x704.Idx) : EReal :=
  ua m c (ix3 (bT (i 2)) ⟨(i 2).val % 2048, Nat.mod_lt _ (by decide)⟩ (col (i 0) (fT (i 1) (i 3))))
def G6 (c : Dev nD) (i : S2x4x8192x704.Idx) : EReal :=
  cv (ua m c) (a3 m c) (a4 m c) (bT (i 2)) ((i 2).val % 2048) (col (i 0) (fT (i 1) (i 3)))
def G7 (c : Dev nD) (i : S4x8192x704.Idx) : EReal :=
  cv (ua m c) (a3 m c) (a4 m c) (bT (i 1)) ((i 1).val % 2048) (col 0 (fT (i 0) (i 2)))
    * sgt (cv (ua m c) (a3 m c) (a4 m c) (bT (i 1)) ((i 1).val % 2048) (col 0 (fT (i 0) (i 2))))
    * cv (ua m c) (a3 m c) (a4 m c) (bT (i 1)) ((i 1).val % 2048) (col 1 (fT (i 0) (i 2)))

abbrev rT (t : Fin cfg0.N) (r : Fin 512) : Fin 8192 := ⟨t.val % 16 * 512 + r.val, by omega⟩

theorem outEmb5 (t : Fin cfg0.N) (y : S2x1x512x704.Idx) :
    ((win0_5.blk t).view.emb y : S2x4x8192x704.Idx) = ix4 (y 0) ⟨t.val / 16, jlt t⟩ (rT t (y 2)) (y 3) := by
  blk_ext [idx t]

theorem outEmb6 (t : Fin cfg0.N) (y : S2x1x512x704.Idx) :
    ((win0_6.blk t).view.emb y : S2x4x8192x704.Idx) = ix4 (y 0) ⟨t.val / 16, jlt t⟩ (rT t (y 2)) (y 3) := by
  blk_ext [idx t]

theorem outEmb7 (t : Fin cfg0.N) (y : S1x512x704.Idx) :
    ((win0_7.blk t).view.emb y : S4x8192x704.Idx) = ix3 ⟨t.val / 16, jlt t⟩ (rT t (y 1)) (y 2) := by
  have e0 : y 0 = (0 : Fin 1) := Subsingleton.elim (α := Fin 1) _ _
  blk_ext [idx t]

theorem rT1 (t : Fin cfg0.N) (r : Fin 512) : (bq t).val = (bT (rT t r)).val := by
  show t.val % 16 / 4 = (t.val % 16 * 512 + r.val) / 2048
  omega
theorem rT2 (t : Fin cfg0.N) (r : Fin 512) : t.val % 16 % 4 * 512 + r.val = (rT t r).val % 2048 := by
  show t.val % 16 % 4 * 512 + r.val = (t.val % 16 * 512 + r.val) % 2048
  omega

theorem pt5 (c : Dev nD) (t : Fin cfg0.N) (h : Fin 2) (r : Fin 512) (l : Fin 704) :
    uar (grid0.coords t) (iblk m c 0 t) (iblk m c 1 t) (iblk m c 2 t) h r.val l = G5 m c (ix4 h ⟨t.val / 16, jlt t⟩ (rT t r) l) :=
  (uar_lt m c t h r.val r.isLt l).trans (congrArg (ua m c) (ix3_eq (rT1 t r) (rT2 t r) rfl))

theorem pt6 (c : Dev nD) (t : Fin cfg0.N) (h : Fin 2) (r : Fin 512) (l : Fin 704) :
    cB (grid0.coords t) (iblk m c 0 t) (iblk m c 1 t) (iblk m c 2 t) (iblk m c 3 t) (iblk m c 4 t) h r.val l
      = G6 m c (ix4 h ⟨t.val / 16, jlt t⟩ (rT t r) l) :=
  (cB_eq m c t h r.val r.isLt l).trans (cv_eq _ _ _ (rT1 t r) (rT2 t r) rfl)

theorem arr5 (c : Dev nD) : (dats m 0 c).arrAt 5 (cfgs 0).N = G5 m c := by
  refine (dats m 0 c).arrAt_eq_of_covers 5 _ (by decide +kernel) fun t hf y => ?_
  blk_simp
  rw [after0_5, out5]
  exact (pt5 m c t (y 0) (y 2) (y 3)).trans (congrArg (G5 m c) (outEmb5 t y).symm)

theorem arr6 (c : Dev nD) : (dats m 0 c).arrAt 6 (cfgs 0).N = G6 m c := by
  refine (dats m 0 c).arrAt_eq_of_covers 6 _ (by decide +kernel) fun t hf y => ?_
  blk_simp
  rw [after0_6, out6]
  exact (pt6 m c t (y 0) (y 2) (y 3)).trans (congrArg (G6 m c) (outEmb6 t y).symm)

theorem eta8 (x : S1x512x704.Idx) : x = ix3 0 (x 1) (x 2) := by
  have e0 : x 0 = (0 : Fin 1) := Subsingleton.elim (α := Fin 1) _ _
  funext a
  match a with
  | ⟨0, _⟩ => exact e0
  | ⟨1, _⟩ => rfl
  | ⟨2, _⟩ => rfl

theorem pt7 (c : Dev nD) (t : Fin cfg0.N) (r : Fin 512) (l : Fin 704) :
    ((outsAt0 m c t).2.2 (ix3 0 r l) : EReal) = G7 m c (ix3 ⟨t.val / 16, jlt t⟩ (rT t r) l) := by
  refine (out7 m c t r l).trans ?_
  refine congrArg₂ (· * ·) (congrArg₂ (· * ·) ?_ (congrArg sgt ?_)) ?_
  · exact pt6 m c t 0 r l
  · exact pt6 m c t 0 r l
  · exact pt6 m c t 1 r l

theorem arr7 (c : Dev nD) : (dats m 0 c).arrAt 7 (cfgs 0).N = G7 m c := by
  refine (dats m 0 c).arrAt_eq_of_covers 7 _ (by decide +kernel) fun t hf y => ?_
  blk_simp
  rw [after0_7]
  exact (congrArg _ (eta8 y)).trans ((pt7 m c t (y 1) (y 2)).trans (congrArg (G7 m c) (outEmb7 t y).symm))

end Cert.Kernel7Ideal.Hand
end
-- ==== Proof.UfRef.lean ====
/- What the reference of the gated MLP's forward pass computes, at an index. -/
module

public import proofs.«01_k».proof.Proof.UfSpec
public import proofs.«01_k».proof.Proof.Gen.Reference7Ideal.Run
public import proofs.«01_k».proof.Proof.Gen.Reference7Ideal.Read
public import Idealize.ShloMosaic.Lib.Pointwise

@[expose] public section

set_option maxRecDepth 16384

noncomputable section

open Idealize.ShloMosaic

namespace Cert.Reference7Ideal.Hand

open Cert.Reference7Ideal Cert.Reference7Ideal.Gen Cert.Reference7Ideal.Read
open Cert.Spec Cert.Spec.Uf
open Cert.Spec.Up (X3 G1 rr ms nn ee)
open Cert.Spec.Wu (hh)

variable (x : X3) (g : G1) (wu : WU) (w : Cert.Spec.W) (b : Cert.Spec.B)

theorem R12 (bb : Fin 4) (s : Fin 2048) (k : Fin 1024) : val_main_v12 (F := Ideal) x g (ix3 bb s k) = hh x g bb s k := by
  unfold hh rr ms nn ee
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem R13 (bb : Fin 4) (s : Fin 2048) (f : Fin 5632) : val_main_v13 (F := Ideal) x g wu (ix3 bb s f) = uA x g wu (ix3 bb s f) := by
  show _ = uu x g wu bb s f
  unfold val_main_v13
  generalize hy : val_main_v12 (F := Ideal) x g = y
  pointwise
  subst hy
  unfold uu
  exact Finset.sum_congr rfl fun k _ => congrArg (fun z : EReal => z * wu (ix2 k f)) (R12 x g bb s k)

theorem R13' : val_main_v13 (F := Ideal) x g wu = uA x g wu := by
  funext i
  rw [eq_ix3 i]
  exact R13 x g wu _ _ _

theorem R39 (bb : Fin 4) (s : Fin 2048) (f : Fin 5632) : val_main_v39 (F := Ideal) x g wu w b (ix3 bb s f) = cv (uA x g wu) w b bb s.val f := by
  unfold val_main_v39 val_main_v36 val_main_v29 val_main_v22 val_main_v28 val_main_v35 val_main_v19 val_main_v25 val_main_v32 val_main_v16
  rw [R13']
  generalize uA x g wu = u
  pointwise [val_main_v38, val_main_v37, val_main_v34, val_main_v33, val_main_v31, val_main_v30, val_main_v27, val_main_v26, val_main_v24, val_main_v23,
    val_main_v21, val_main_v20, val_main_v18, val_main_v17, val_main_v15, val_main_cst_2]
  refine congrArg₂ (· + ·) (congrArg₂ (· + ·) (congrArg₂ (· + ·) (congrArg₂ (· * ·) rfl ?_) (congrArg₂ (· * ·) rfl ?_)) (congrArg₂ (· * ·) rfl ?_)) rfl
  · by_cases h1 : s.val < 2
    · exact (dif_pos h1).trans (up_lt _ _ h1).symm
    · exact (dif_neg h1).trans (up_ge _ _ h1 _).symm
  · by_cases h1 : 1 + s.val < 2
    · exact (dif_pos h1).trans (up_lt _ _ h1).symm
    · exact (dif_neg h1).trans (up_ge _ _ h1 _).symm
  · exact (up_two _ _ s.isLt).symm

theorem R43 (bb : Fin 4) (s : Fin 2048) (f : Fin 2816) :
    val_main_v43 (F := Ideal) x g wu w b (ix3 bb s f) = Cert.Spec.Wd.hid (uA x g wu) w b bb s f := by
  unfold Cert.Spec.Wd.hid sigm
  simp only [← R39]
  unfold val_main_v43 val_main_v42 val_main_v41 val_main_call0_v5 val_main_call0_v3 val_main_call0_v1 val_main_call0_v0 val_main_v40
  generalize val_main_v39 (F := Ideal) x g wu w b = y
  pointwise [val_main_call0_v4, val_main_call0_v2, val_main_call0_cst, val_main_call0_cst_0]

end Cert.Reference7Ideal.Hand
end
-- ==== Proof.UfFinal.lean ====
/- The lines after the call, and the run that leaves its three results. -/
module

public import proofs.«01_k».proof.Proof.UfArr
public import proofs.«01_k».proof.Proof.UfRef
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel7Ideal.Hand
open Cert.Kernel7Ideal Cert.Kernel7Ideal.Gen
open Cert.Spec Cert.Spec.Uf
open Cert.Spec.Up (X3 G1 rr ms nn ee)
open Cert.Spec.Wu (hh)

variable (m : (ℓ : Loc nD τ sig) → Buf (Elt Ideal) ℓ)

theorem T23 (Z : Valuation τ sig (Elt Ideal)) (bb : Fin 4) (s : Fin 2048) (h : Fin 2) (g : Fin 2816) :
    (StableHlo.after [hostOps1].flatten Z (Proc.devRef .tc main_v23) : S4x2048x5632.Idx → EReal) (ix3 bb s (col h g))
      = (Z (Proc.devRef .tc main_v21_0) : S2x4x8192x704.Idx → EReal) (ix4 h ⟨g.val / 704, by omega⟩ ⟨bb.val * 2048 + s.val, by omega⟩ ⟨g.val % 704, by omega⟩) := by
  after_reads_at
  exact congrArg _ (ix4_eq (by show (h.val * 2816 + g.val) / 2816 = h.val; omega) (by show (h.val * 2816 + g.val) / 704 % 4 = g.val / 704; omega) (by first | rfl | (simp; omega))
    (by show (h.val * 2816 + g.val) % 704 = g.val % 704; omega))

theorem T25 (Z : Valuation τ sig (Elt Ideal)) (bb : Fin 4) (s : Fin 2048) (h : Fin 2) (g : Fin 2816) :
    (StableHlo.after [hostOps1].flatten Z (Proc.devRef .tc main_v25) : S4x2048x5632.Idx → EReal) (ix3 bb s (col h g))
      = (Z (Proc.devRef .tc main_v21_1) : S2x4x8192x704.Idx → EReal) (ix4 h ⟨g.val / 704, by omega⟩ ⟨bb.val * 2048 + s.val, by omega⟩ ⟨g.val % 704, by omega⟩) := by
  after_reads_at
  exact congrArg _ (ix4_eq (by show (h.val * 2816 + g.val) / 2816 = h.val; omega) (by show (h.val * 2816 + g.val) / 704 % 4 = g.val / 704; omega) (by first | rfl | (simp; omega))
    (by show (h.val * 2816 + g.val) % 704 = g.val % 704; omega))

theorem T28 (Z : Valuation τ sig (Elt Ideal)) (bb : Fin 4) (s : Fin 2048) (g : Fin 2816) :
    (StableHlo.after [hostOps1].flatten Z (Proc.devRef .tc main_v28) : S4x2048x2816.Idx → EReal) (ix3 bb s g)
      = (Z (Proc.devRef .tc main_v21_2) : S4x8192x704.Idx → EReal) (ix3 ⟨g.val / 704, by omega⟩ ⟨bb.val * 2048 + s.val, by omega⟩ ⟨g.val % 704, by omega⟩) := by
  after_reads_at

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z5 (c : Dev nD) : Zr m c (Proc.devRef .tc main_v21_0) = (dats m 0 c).arrAt 5 (cfgs 0).N :=
  Dat.withArrays_arrAt (dats m 0 c) sharedIn0 (V0 m c) (A_eq m c) 5
theorem Z6 (c : Dev nD) : Zr m c (Proc.devRef .tc main_v21_1) = (dats m 0 c).arrAt 6 (cfgs 0).N :=
  Dat.withArrays_arrAt (dats m 0 c) sharedIn0 (V0 m c) (A_eq m c) 6
theorem Z7 (c : Dev nD) : Zr m c (Proc.devRef .tc main_v21_2) = (dats m 0 c).arrAt 7 (cfgs 0).N :=
  Dat.withArrays_arrAt (dats m 0 c) sharedIn0 (V0 m c) (A_eq m c) 7

/-- Each of the 5632 channels is a half and a place in it. -/
theorem eq_col (f : Fin 5632) : f = col ⟨f.val / 2816, by omega⟩ ⟨f.val % 2816, by omega⟩ :=
  Fin.ext (by show f.val = f.val / 2816 * 2816 + f.val % 2816; omega)

theorem posb (bb : Fin 4) (s : Fin 2048) : (bb.val * 2048 + s.val) / 2048 = bb.val := by omega
theorem poss (bb : Fin 4) (s : Fin 2048) : (bb.val * 2048 + s.val) % 2048 = s.val := by omega
theorem posg (h : Fin 2) (g : Fin 2816) : h.val * 2816 + (g.val / 704 * 704 + g.val % 704) = h.val * 2816 + g.val := by omega

theorem E23 (c : Dev nD) :
    (Pipeline.afterTail₀ cfgs (dats m) 0 (V0 m) [hostOps1] c main_v23 : S4x2048x5632.Idx → EReal)
      = Cert.Reference7Ideal.Read.val_main_v13 (F := Ideal) (a0 m c) (a1 m c) (a2 m c) := by
  funext i
  obtain ⟨bb, s, f, rfl⟩ : ∃ (bb : Fin 4) (s : Fin 2048) (f : Fin 5632), i = ix3 bb s f := ⟨i 0, i 1, i 2, eq_ix3 i⟩
  refine Eq.trans (α := EReal) ?_ (Cert.Reference7Ideal.Hand.R13 _ _ _ bb s f).symm
  rw [eq_col f]
  refine (T23 (Zr m c) bb s _ _).trans ?_
  rw [Z5, arr5]
  exact congrArg (ua m c) (ix3_eq (posb bb s) (poss bb s) (posg _ _))

theorem E25 (c : Dev nD) :
    (Pipeline.afterTail₀ cfgs (dats m) 0 (V0 m) [hostOps1] c main_v25 : S4x2048x5632.Idx → EReal)
      = Cert.Reference7Ideal.Read.val_main_v39 (F := Ideal) (a0 m c) (a1 m c) (a2 m c) (a3 m c) (a4 m c) := by
  funext i
  obtain ⟨bb, s, f, rfl⟩ : ∃ (bb : Fin 4) (s : Fin 2048) (f : Fin 5632), i = ix3 bb s f := ⟨i 0, i 1, i 2, eq_ix3 i⟩
  refine Eq.trans (α := EReal) ?_ (Cert.Reference7Ideal.Hand.R39 _ _ _ _ _ bb s f).symm
  rw [eq_col f]
  refine (T25 (Zr m c) bb s _ _).trans ?_
  rw [Z6, arr6]
  exact cv_eq _ _ _ (posb bb s) (poss bb s) (posg _ _)

theorem E28 (c : Dev nD) :
    (Pipeline.afterTail₀ cfgs (dats m) 0 (V0 m) [hostOps1] c main_v28 : S4x2048x2816.Idx → EReal)
      = Cert.Reference7Ideal.Read.val_main_v43 (F := Ideal) (a0 m c) (a1 m c) (a2 m c) (a3 m c) (a4 m c) := by
  funext i
  obtain ⟨bb, s, g, rfl⟩ : ∃ (bb : Fin 4) (s : Fin 2048) (g : Fin 2816), i = ix3 bb s g := ⟨i 0, i 1, i 2, eq_ix3 i⟩
  refine Eq.trans (α := EReal) ?_ (Cert.Reference7Ideal.Hand.R43 _ _ _ _ _ bb s g).symm
  refine (T28 (Zr m c) bb s g).trans ?_
  rw [Z7, arr7]
  unfold G7 Cert.Spec.Wd.hid
  rw [sgt_eq]
  refine congrArg₂ (· * ·) (congrArg₂ (· * ·) ?_ (congrArg sigm ?_)) ?_
  · exact cv_eq _ _ _ (posb bb s) (poss bb s) (by show 0 * 2816 + (g.val / 704 * 704 + g.val % 704) = g.val; omega)
  · exact cv_eq _ _ _ (posb bb s) (poss bb s) (by show 0 * 2816 + (g.val / 704 * 704 + g.val % 704) = g.val; omega)
  · exact cv_eq _ _ _ (posb bb s) (poss bb s) (by show 1 * 2816 + (g.val / 704 * 704 + g.val % 704) = 2816 + g.val; omega)

/-- The run: the three results at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v23) = Pipeline.afterTail₀ cfgs (dats m) 0 (V0 m) [hostOps1] c main_v23
      ∧ r.2.mem ((c.tc : Thread nD τ).loc main_v25) = Pipeline.afterTail₀ cfgs (dats m) 0 (V0 m) [hostOps1] c main_v25
      ∧ r.2.mem ((c.tc : Thread nD τ).loc main_v28) = Pipeline.afterTail₀ cfgs (dats m) 0 (V0 m) [hostOps1] c main_v28) :=
  (θ_run defs _ _).mono (fun _ h c => ⟨(h c).2 main_v23 (Pipeline.mem_restRefs_of main_v23 (by decide) (by decide)),
    (h c).2 main_v25 (Pipeline.mem_restRefs_of main_v25 (by decide) (by decide)),
    (h c).2 main_v28 (Pipeline.mem_restRefs_of main_v28 (by decide) (by decide))⟩) (run_main m ρ)

end Cert.Kernel7Ideal.Hand
end
-- ==== Proof.WoBlock.lean ====
/- What one grid point of the output projection's weights' gradient leaves in its accumulator and its output block, at an index, as a
   function of the two input blocks at the point. -/
module

public import proofs.«01_k».proof.Proof.Gen.Kernel8Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Hand
open Cert.Kernel8Ideal Cert.Kernel8Ideal.Gen

variable (m : (ℓ : Loc nD τ sig) → Buf (Elt Ideal) ℓ)

/-- What a point adds to one entry: the product over the block's positions. -/
def incB (x0 : Vec Ideal S1x1024x1024 .bf16) (x1 : Vec Ideal S1x1024x1024 .f32) (l : Fin 1024) (k : Fin 1024) : EReal :=
  ∑ r : Fin 1024, x0 (ix3 0 r l) * x1 (ix3 0 r k)

theorem pay1_apply (l k : Fin 1024) : (k0_pay1 (F := Ideal) (ix4 0 0 l k) : EReal) = 0 := by
  pointwise [k0_pay1]

/-- The stored sum. -/
theorem pay2_apply (x0 : Vec Ideal S1x1024x1024 .bf16) (x1 : Vec Ideal S1x1024x1024 .f32) (b : Vec Ideal S1x1x1024x1024 .f32) (l k : Fin 1024) :
    (k0_pay2 (F := Ideal) x1 x0 b (ix4 0 0 l k) : EReal) = b (ix4 0 0 l k) + incB x0 x1 l k := by
  unfold incB
  pointwise [k0_pay2]

/-- The output block is the accumulator, rounded. -/
theorem pay3_apply (v : Vec Ideal S1x1x1024x1024 .f32) (i : S1x1x1024x1024.Idx) : (k0_pay3 (F := Ideal) v i : EReal) = v i := by
  pointwise [k0_pay3]

set_option maxHeartbeats 1000000 in
theorem acc_A (c : Dev nD) (t : Fin cfg0.N) (h0 : t.val % 8 = 0) (h1 : ¬t.val % 8 = 7) (l : Fin 1024) (k : Fin 1024) :
    (outsAt0 m c t.val t.isLt).2 (ix4 0 0 l k) = 0 + incB (iblk m c 0 t) (iblk m c 1 t) l k := by
  rw [outsAt0_A m c t h0 h1]
  dsimp only
  generalize iblk m c 0 t = x0
  generalize iblk m c 1 t = x1
  frame_open
  simp (disch := decide) only [↓ View.readCov_skip, ↓ View.readCov_cons_toLoadRect, ↓ View.readCov_fill]
  frame_out
  refine Eq.trans (α := EReal) (pay2_apply _ _ _ l k) ?_
  rw [pay1_apply]

set_option maxHeartbeats 1000000 in
theorem acc_B (c : Dev nD) (t : Fin cfg0.N) (h0 : ¬t.val % 8 = 0) (h1 : ¬t.val % 8 = 7) (l : Fin 1024) (k : Fin 1024) :
    (outsAt0 m c t.val t.isLt).2 (ix4 0 0 l k) = (outsAt0 m c (t.val - 1) (Nat.lt_of_le_of_lt (Nat.sub_le _ _) t.isLt)).2 (ix4 0 0 l k)
      + incB (iblk m c 0 t) (iblk m c 1 t) l k := by
  rw [outsAt0_B m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  try simp only [read_unread_whole]
  exact pay2_apply _ _ _ l k

set_option maxHeartbeats 1000000 in
theorem acc_C (c : Dev nD) (t : Fin cfg0.N) (h0 : ¬t.val % 8 = 0) (h1 : t.val % 8 = 7) (l : Fin 1024) (k : Fin 1024) :
    (outsAt0 m c t.val t.isLt).2 (ix4 0 0 l k) = (outsAt0 m c (t.val - 1) (Nat.lt_of_le_of_lt (Nat.sub_le _ _) t.isLt)).2 (ix4 0 0 l k)
      + incB (iblk m c 0 t) (iblk m c 1 t) l k := by
  rw [outsAt0_C m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  try simp only [read_unread_whole]
  exact pay2_apply _ _ _ l k

set_option maxHeartbeats 1000000 in
theorem out_C (c : Dev nD) (t : Fin cfg0.N) (h0 : ¬t.val % 8 = 0) (h1 : t.val % 8 = 7) (l : Fin 1024) (k : Fin 1024) :
    ((outsAt0 m c t.val t.isLt).1 (ix4 0 0 l k) : EReal) = (outsAt0 m c (t.val - 1) (Nat.lt_of_le_of_lt (Nat.sub_le _ _) t.isLt)).2 (ix4 0 0 l k)
      + incB (iblk m c 0 t) (iblk m c 1 t) l k := by
  rw [outsAt0_C m c t h0 h1]
  dsimp only
  generalize iblk m c 0 t = x0
  generalize iblk m c 1 t = x1
  generalize (outsAt0 m c (t.val - 1) _).2 = x3
  frame_open
  simp (disch := decide) only [↓ View.readCov_skip, ↓ View.readCov_cons_toLoadRect, ↓ View.readCov_fill]
  frame_out
  try simp only [read_unread_whole]
  refine Eq.trans (α := EReal) (pay3_apply _ _) ?_
  exact pay2_apply _ _ _ l k

end Cert.Kernel8Ideal.Hand
end
-- ==== Proof.WoFinal.lean ====
/- The input arrays of the output projection's weights' gradient, as the host lines before its call leave them, its output array, what
   the reference computes, and the run that leaves the result. -/
module

public import proofs.«01_k».proof.Proof.WoBlock
public import proofs.«01_k».proof.Proof.Gen.Reference8Ideal.Run
public import proofs.«01_k».proof.Proof.Gen.Reference8Ideal.Read
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel8Ideal.Hand
open Cert.Kernel8Ideal Cert.Kernel8Ideal.Gen

abbrev X3 := (⟨3, ![4, 2048, 1024]⟩ : Shape).Idx → EReal

variable (m : (ℓ : Loc nD τ sig) → Buf (Elt Ideal) ℓ)

/-- The kernel's arguments. -/
abbrev a0 (c : Dev nD) : X3 := m ((c : Thread nD τ).loc main_arg0)
abbrev a2 (c : Dev nD) : X3 := m ((c : Thread nD τ).loc main_arg2)

/-- Row `l`, column `k` of the gradient. -/
def dw (y t : X3) (l k : Fin 1024) : EReal := ∑ b : Fin 4, ∑ s : Fin 2048, y (ix3 b s l) * t (ix3 b s k)

abbrev bq (T : Fin 8192) : Fin 4 := ⟨T.val / 2048, by omega⟩
abbrev sq (T : Fin 8192) : Fin 2048 := ⟨T.val % 2048, by omega⟩

theorem VA (c : Dev nD) (T : Fin 8192) (l : Fin 1024) :
    (V m c main_v1 : S1x8192x1024.Idx → EReal) (ix3 0 T l) = a0 m c (ix3 (bq T) (sq T) l) := by
  unfold V
  after_reads_at

theorem VB (c : Dev nD) (T : Fin 8192) (k : Fin 1024) :
    (V m c main_v2 : S1x8192x1024.Idx → EReal) (ix3 0 T k) = a2 m c (ix3 (bq T) (sq T) k) := by
  unfold V
  after_reads_at

/-! ## The blocks at a point -/

theorem idx : ∀ t : Fin cfg0.N,
    win0_0.index t = ![0, t.val, 0] ∧ win0_1.index t = ![0, t.val, 0] ∧ win0_2.index t = ![0, 0, 0, 0] :=
  (by decide +kernel : ∀ t : Fin grid0.N, _)

theorem tlt (t : Fin cfg0.N) : t.val < 8 := t.isLt

/-- The position that a block's row is. -/
abbrev rb (t : Fin cfg0.N) (r : Fin 1024) : Fin 8192 := ⟨t.val * 1024 + r.val, by have := tlt t; omega⟩

theorem ib0 (c : Dev nD) (t : Fin cfg0.N) (r : Fin 1024) (l : Fin 1024) :
    iblk m c 0 t (ix3 0 r l) = (V m c main_v1 : S1x8192x1024.Idx → EReal) (ix3 0 (rb t r) l) := by
  blk_ext [iblk, idx t]

theorem ib1 (c : Dev nD) (t : Fin cfg0.N) (r : Fin 1024) (k : Fin 1024) :
    iblk m c 1 t (ix3 0 r k) = (V m c main_v2 : S1x8192x1024.Idx → EReal) (ix3 0 (rb t r) k) := by
  blk_ext [iblk, idx t]

/-! ## The accumulator -/

/-- A position's part of an entry. -/
def term (c : Dev nD) (l k : Fin 1024) (b s : ℕ) : EReal :=
  if h : b < 4 ∧ s < 2048 then a0 m c (ix3 ⟨b, h.1⟩ ⟨s, h.2⟩ l) * a2 m c (ix3 ⟨b, h.1⟩ ⟨s, h.2⟩ k) else 0

theorem term_eq (c : Dev nD) (l k : Fin 1024) (b : Fin 4) (s : Fin 2048) {b' s' : ℕ} (hb : b' = b.val) (hs : s' = s.val) :
    term m c l k b' s' = a0 m c (ix3 b s l) * a2 m c (ix3 b s k) := by
  subst hb
  subst hs
  exact dif_pos ⟨b.isLt, s.isLt⟩

/-- A step's addition, zero behind the grid. -/
def inc (c : Dev nD) (n : ℕ) (q : Fin 1024 × Fin 1024) : EReal :=
  if n < 8 then ∑ r : Fin 1024, term m c q.1 q.2 (n / 2) (n % 2 * 1024 + r.val) else 0

theorem inc_eq (c : Dev nD) (t : Fin cfg0.N) (l k : Fin 1024) :
    incB (iblk m c 0 t) (iblk m c 1 t) l k = inc m c t.val (l, k) := by
  unfold inc incB
  rw [if_pos (tlt t)]
  refine Finset.sum_congr rfl fun r _ => ?_
  refine Eq.trans (α := EReal) (congrArg₂ (fun a b : EReal => a * b) ((ib0 m c t r l).trans (VA m c _ _)) ((ib1 m c t r k).trans (VB m c _ _))) ?_
  exact (term_eq m c l k _ _ (by show t.val / 2 = (t.val * 1024 + r.val) / 2048; omega)
    (by show t.val % 2 * 1024 + r.val = (t.val * 1024 + r.val) % 2048; omega)).symm

theorem acc (c : Dev nD) (t : Fin cfg0.N) (ht : t.val % 8 = 7) (l k : Fin 1024) :
    (outsAt0 m c t.val t.isLt).2 (ix4 0 0 l k) = dw (a0 m c) (a2 m c) l k := by
  have key := Pipeline.eq_sum_of_reset_step_apply_of_mod
    (fun n hn (q : Fin 1024 × Fin 1024) => ((outsAt0 m c n hn).2 (ix4 0 0 q.1 q.2) : EReal)) 8 (fun _ => (0 : EReal)) (inc m c)
    (fun t h0 q => by
      refine (acc_A m c t h0 (by omega) q.1 q.2).trans ?_
      rw [inc_eq])
    (fun t h0 q => by
      by_cases h1 : t.val % 8 = 7
      · refine (acc_C m c t h0 h1 q.1 q.2).trans ?_
        rw [inc_eq]
      · refine (acc_B m c t h0 h1 q.1 q.2).trans ?_
        rw [inc_eq])
    t ht (l, k)
  refine key.trans ?_
  rw [zero_add, Finset.sum_range]
  refine (Finset.sum_congr rfl fun n _ => ?_).trans ((Fin.sum_points_lanes 4 2 1024 fun a s => term m c l k a s).trans ?_)
  · have hN := tlt t
    have hn : n.val < 8 := n.isLt
    have e : 8 * (t.val / 8) + n.val = n.val := by omega
    rw [e]
    exact if_pos hn
  · exact Finset.sum_congr rfl fun b _ => Finset.sum_congr rfl fun s _ => term_eq m c l k b s rfl rfl

/-! ## The output array -/

def G2 (c : Dev nD) (i : S1x1x1024x1024.Idx) : EReal := dw (a0 m c) (a2 m c) (i 2) (i 3)

theorem eta (x : S1x1x1024x1024.Idx) : x = ix4 0 0 (x 2) (x 3) := by
  have e0 : x 0 = (0 : Fin 1) := Subsingleton.elim (α := Fin 1) _ _
  have e1 : x 1 = (0 : Fin 1) := Subsingleton.elim (α := Fin 1) _ _
  funext a
  match a with
  | ⟨0, _⟩ => exact e0
  | ⟨1, _⟩ => exact e1
  | ⟨2, _⟩ => rfl
  | ⟨3, _⟩ => rfl

theorem out2 (c : Dev nD) (t : Fin cfg0.N) (ht : t.val % 8 = 7) (l k : Fin 1024) :
    ((outsAt0 m c t.val t.isLt).1 (ix4 0 0 l k) : EReal) = G2 m c (ix4 0 0 l k) :=
  (out_C m c t (by omega) ht l k).trans ((acc_C m c t (by omega) ht l k).symm.trans (acc m c t ht l k))

theorem outEmb (t : Fin cfg0.N) (y : S1x1x1024x1024.Idx) :
    ((win0_2.blk t).view.emb y : S1x1x1024x1024.Idx) = ix4 0 0 (y 2) (y 3) := by
  have e0 : y 0 = (0 : Fin 1) := Subsingleton.elim (α := Fin 1) _ _
  have e1 : y 1 = (0 : Fin 1) := Subsingleton.elim (α := Fin 1) _ _
  blk_ext [idx t]

theorem arr2 (c : Dev nD) : (dats m 0 c).arrAt 2 (cfgs 0).N = G2 m c := by
  refine (dats m 0 c).arrAt_eq_of_covers 2 _ (by decide +kernel) fun t hf y => ?_
  blk_simp
  rw [after0_2]
  exact (congrArg _ (eta y)).trans ((out2 m c t ((flush0_2 t).mp hf) (y 2) (y 3)).trans (congrArg (G2 m c) (outEmb t y).symm))

/-! ## The result -/

theorem T (Z : Valuation τ sig (Elt Ideal)) (l k : Fin 1024) :
    (StableHlo.after [hostOps1].flatten Z (Proc.devRef .tc main_v5) : S1024x1024.Idx → EReal) (ix2 l k)
      = (Z (Proc.devRef .tc main_v3) : S1x1x1024x1024.Idx → EReal) (ix4 0 0 l k) := by
  after_reads_at

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z2 (c : Dev nD) : Zr m c (Proc.devRef .tc main_v3) = (dats m 0 c).arrAt 2 (cfgs 0).N :=
  Dat.withArrays_arrAt (dats m 0 c) sharedIn0 (V0 m c) (A_eq m c) 2

theorem R2 (y t : X3) (l k : Fin 1024) :
    Cert.Reference8Ideal.Read.val_main_v2 (F := Ideal) y t (ix2 l k) = dw y t l k := by
  refine Eq.trans (α := EReal) (b := ∑ b : Fin 4, ∑ s : Fin 2048, t (ix3 b s k) * y (ix3 b s l)) ?_ ?_
  · pointwise [Cert.Reference8Ideal.Read.val_main_v2, Cert.Reference8Ideal.Read.val_main_v1]
  · exact Finset.sum_congr rfl fun b _ => Finset.sum_congr rfl fun s _ => mul_comm _ _

theorem E5 (c : Dev nD) :
    (Pipeline.afterTail₀ cfgs (dats m) 0 (V0 m) [hostOps1] c main_v5 : S1024x1024.Idx → EReal)
      = Cert.Reference8Ideal.Read.val_main_v2 (F := Ideal) (a0 m c) (a2 m c) := by
  funext i
  obtain ⟨l, k, rfl⟩ : ∃ (l k : Fin 1024), i = ix2 l k := ⟨i 0, i 1, eq_ix2 i⟩
  refine (T (Zr m c) l k).trans (Eq.trans ?_ (R2 _ _ l k).symm)
  rw [Z2, arr2]
  rfl

/-- The run: the result at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v5) = Pipeline.afterTail₀ cfgs (dats m) 0 (V0 m) [hostOps1] c main_v5) :=
  (θ_run defs _ _).mono (fun _ h c => (h c).2 main_v5 (Pipeline.mem_restRefs_of main_v5 (by decide) (by decide))) (run_main m ρ)

end Cert.Kernel8Ideal.Hand
end
-- ==== Proof.DyFinal.lean ====
/- The gradient of the output projection's input: what the call leaves, what the reference computes, and the run that leaves it. -/
module

public import proofs.«01_k».proof.Proof.Gen.Kernel9Ideal.Frame
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel9Ideal.Hand
open Cert.Kernel9Ideal Cert.Kernel9Ideal.Gen

abbrev X3 := (⟨3, ![4, 2048, 1024]⟩ : Shape).Idx → EReal
abbrev WO := (⟨2, ![1024, 1024]⟩ : Shape).Idx → EReal

/-- An entry of the gradient: a row of the gradient behind the projection times a row of the weights. -/
def dy (w : WO) (t : X3) (b : Fin 4) (s : Fin 2048) (k : Fin 1024) : EReal := ∑ e : Fin 1024, t (ix3 b s e) * w (ix2 k e)

variable (m : (ℓ : Loc nD τ sig) → Buf (Elt Ideal) ℓ)

/-- The kernel's arguments. -/
abbrev a1 (c : Dev nD) : WO := m ((c : Thread nD τ).loc main_arg1)
abbrev a2 (c : Dev nD) : X3 := m ((c : Thread nD τ).loc main_arg2)
abbrev bq (T : Fin 8192) : Fin 4 := ⟨T.val / 2048, by omega⟩
abbrev sq (T : Fin 8192) : Fin 2048 := ⟨T.val % 2048, by omega⟩

theorem V0a (c : Dev nD) (T : Fin 8192) (k : Fin 1024) : (V m c main_v0 : S8192x1024.Idx → EReal) (ix2 T k) = a2 m c (ix3 (bq T) (sq T) k) := by
  unfold V
  after_reads_at

theorem V1a (c : Dev nD) (k e : Fin 1024) : (V m c main_v1 : S1024x1024.Idx → EReal) (ix2 k e) = a1 m c (ix2 k e) := by
  unfold V
  after_reads_at

theorem idx : ∀ t : Fin cfg0.N, win0_0.index t = ![t.val, 0] ∧ win0_1.index t = ![0, 0] ∧ win0_2.index t = ![t.val, 0] :=
  (by decide +kernel : ∀ t : Fin grid0.N, _)

theorem tlt (t : Fin cfg0.N) : t.val < 16 := t.isLt
/-- The row of the batch that a point's row is. -/
abbrev rb (t : Fin cfg0.N) (r : Fin 512) : Fin 8192 := ⟨t.val * 512 + r.val, by have := tlt t; omega⟩

theorem ib0 (c : Dev nD) (t : Fin cfg0.N) (r : Fin 512) (k : Fin 1024) :
    iblk m c 0 t (ix2 r k) = (V m c main_v0 : S8192x1024.Idx → EReal) (ix2 (rb t r) k) := by
  blk_ext [iblk, idx t]

theorem ib1 (c : Dev nD) (t : Fin cfg0.N) (k e : Fin 1024) :
    iblk m c 1 t (ix2 k e) = (V m c main_v1 : S1024x1024.Idx → EReal) (ix2 k e) := by
  blk_ext [iblk, idx t]

theorem out_apply (x0 : Vec Ideal S512x1024 .f32) (x1 : Vec Ideal S1024x1024 .bf16) (r : Fin 512) (k : Fin 1024) :
    (out0_2 (F := Ideal) x0 x1 (ix2 r k) : EReal) = ∑ e : Fin 1024, x0 (ix2 r e) * x1 (ix2 k e) := by
  unfold out0_2
  frame_out
  pointwise [k0_pay1]

/-- The array, at the layout that the kernel writes. -/
def G2 (c : Dev nD) (i : S8192x1024.Idx) : EReal := dy (a1 m c) (a2 m c) (bq (i 0)) (sq (i 0)) (i 1)

theorem out2 (c : Dev nD) (t : Fin cfg0.N) (r : Fin 512) (k : Fin 1024) :
    (out0_2 (F := Ideal) (iblk m c 0 t) (iblk m c 1 t) (ix2 r k) : EReal) = G2 m c (ix2 (rb t r) k) := by
  refine (out_apply _ _ r k).trans ?_
  show _ = dy (a1 m c) (a2 m c) (bq (rb t r)) (sq (rb t r)) k
  unfold dy
  refine Finset.sum_congr rfl fun e _ => ?_
  exact congrArg₂ (fun a b : EReal => a * b) ((ib0 m c t r e).trans (V0a m c _ e)) ((ib1 m c t k e).trans (V1a m c k e))

theorem outEmb (t : Fin cfg0.N) (y : S512x1024.Idx) : ((win0_2.blk t).view.emb y : S8192x1024.Idx) = ix2 (rb t (y 0)) (y 1) := by
  blk_ext [idx t]

theorem arr2 (c : Dev nD) : (dats m 0 c).arrAt 2 (cfgs 0).N = G2 m c := by
  refine (dats m 0 c).arrAt_eq_of_covers 2 _ (by decide +kernel) fun t hf y => ?_
  blk_simp
  rw [after0_2]
  exact (congrArg _ (eq_ix2 y)).trans ((out2 m c t (y 0) (y 1)).trans (congrArg (G2 m c) (outEmb t y).symm))

theorem T (Z : Valuation τ sig (Elt Ideal)) (b : Fin 4) (s : Fin 2048) (k : Fin 1024) :
    (StableHlo.after [hostOps1].flatten Z (Proc.devRef .tc main_v3) : S4x2048x1024.Idx → EReal) (ix3 b s k)
      = (Z (Proc.devRef .tc main_v2) : S8192x1024.Idx → EReal) (ix2 ⟨b.val * 2048 + s.val, by omega⟩ k) := by
  after_reads_at

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z2 (c : Dev nD) : Zr m c (Proc.devRef .tc main_v2) = (dats m 0 c).arrAt 2 (cfgs 0).N :=
  Dat.withArrays_arrAt (dats m 0 c) sharedIn0 (V0 m c) (A_eq m c) 2

theorem R1 (w : WO) (t : X3) (b : Fin 4) (s : Fin 2048) (k : Fin 1024) :
    Cert.Reference9Ideal.Read.val_main_v1 (F := Ideal) w t (ix3 b s k) = dy w t b s k := by
  unfold dy
  pointwise [Cert.Reference9Ideal.Read.val_main_v1]

theorem E3 (c : Dev nD) :
    (Pipeline.afterTail₀ cfgs (dats m) 0 (V0 m) [hostOps1] c main_v3 : S4x2048x1024.Idx → EReal)
      = Cert.Reference9Ideal.Read.val_main_v1 (F := Ideal) (a1 m c) (a2 m c) := by
  funext i
  obtain ⟨b, s, k, rfl⟩ : ∃ (b : Fin 4) (s : Fin 2048) (k : Fin 1024), i = ix3 b s k := ⟨i 0, i 1, i 2, eq_ix3 i⟩
  refine (T (Zr m c) b s k).trans (Eq.trans ?_ (R1 _ _ b s k).symm)
  rw [Z2, arr2]
  have hb : bq ⟨b.val * 2048 + s.val, by omega⟩ = b := Fin.ext (by show (b.val * 2048 + s.val) / 2048 = b.val; omega)
  have hs : sq ⟨b.val * 2048 + s.val, by omega⟩ = s := Fin.ext (by show (b.val * 2048 + s.val) % 2048 = s.val; omega)
  show dy (a1 m c) (a2 m c) (bq ⟨b.val * 2048 + s.val, by omega⟩) (sq ⟨b.val * 2048 + s.val, by omega⟩) k = _
  rw [hb, hs]

/-- The run: the result at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v3) = Pipeline.afterTail₀ cfgs (dats m) 0 (V0 m) [hostOps1] c main_v3) :=
  (θ_run defs _ _).mono (fun _ h c => (h c).2 main_v3 (Pipeline.mem_restRefs_of main_v3 (by decide) (by decide))) (run_main m ρ)

end Cert.Kernel9Ideal.Hand
end
-- ==== Proof.MiFinal.lean ====
/- The combined input projection: what the call leaves, what the reference computes, and the run that leaves it. -/
module

public import proofs.«01_k».proof.Proof.Gen.Kernel10Ideal.Frame
public import proofs.«01_k».proof.Proof.Gen.Reference10Ideal.Run
public import proofs.«01_k».proof.Proof.Gen.Reference10Ideal.Read
public import proofs.«01_k».proof.Proof.WiFinal
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel10Ideal.Hand
open Cert.Kernel10Ideal Cert.Kernel10Ideal.Gen
open Cert.Spec.Up Cert.Spec.In
open Cert.Spec.Wu (hh)
open Cert.Kernel6Ideal.Hand (col pd_col unpad)

variable (m : (ℓ : Loc nD τ sig) → Buf (Elt Ideal) ℓ)

/-- The kernel's arguments. -/
abbrev a0 (c : Dev nD) : X3 := m ((c : Thread nD τ).loc main_arg0)
abbrev a1 (c : Dev nD) : G1 := m ((c : Thread nD τ).loc main_arg1)
abbrev a2 (c : Dev nD) : WI := m ((c : Thread nD τ).loc main_arg2)
abbrev bq (T : Fin 8192) : Fin 4 := ⟨T.val / 2048, by omega⟩
abbrev sq (T : Fin 8192) : Fin 2048 := ⟨T.val % 2048, by omega⟩
theorem hb (b : Fin 4) (s : Fin 2048) : bq ⟨b.val * 2048 + s.val, by omega⟩ = b := Fin.ext (by show (b.val * 2048 + s.val) / 2048 = b.val; omega)
theorem hs (b : Fin 4) (s : Fin 2048) : sq ⟨b.val * 2048 + s.val, by omega⟩ = s := Fin.ext (by show (b.val * 2048 + s.val) % 2048 = s.val; omega)

/-- The projection, and the projection in the call's order of columns. -/
def pr (x : X3) (g : G1) (w : WI) (b : Fin 4) (s : Fin 2048) (f : Fin 2822) : EReal := ∑ k : Fin 1024, hh x g b s k * w (ix2 k f)
def pq (c : Dev nD) (b : Fin 4) (s : Fin 2048) (q : ℕ) : EReal :=
  ∑ k : Fin 1024, hh (a0 m c) (a1 m c) b s k * pd (fun f => a2 m c (ix2 k f)) q

theorem VA (c : Dev nD) (T : Fin 8192) (k : Fin 1024) :
    (V m c main_v14 : S8192x1024.Idx → EReal) (ix2 T k) = hh (a0 m c) (a1 m c) (bq T) (sq T) k := by
  unfold hh rr ms nn ee V
  after_reads_at

theorem QA (c : Dev nD) (k : Fin 1024) (q : Fin 1152) :
    (StableHlo.upto [hostOps0].flatten (fun b => m (c, b)) 24 (Proc.tc.devRef main_v17) : S1024x1152.Idx → EReal) (ix2 k q) = a2 m c (ix2 k ⟨q.val, by omega⟩) := by
  unfold StableHlo.upto
  after_reads_at

theorem QB (c : Dev nD) (k : Fin 1024) (q : Fin 1664) :
    (StableHlo.upto [hostOps0].flatten (fun b => m (c, b)) 24 (Proc.tc.devRef main_v18) : S1024x1664.Idx → EReal) (ix2 k q) = a2 m c (ix2 k ⟨1158 + q.val, by omega⟩) := by
  unfold StableHlo.upto
  after_reads_at

theorem QC (c : Dev nD) (k : Fin 1024) (q : Fin 6) :
    (StableHlo.upto [hostOps0].flatten (fun b => m (c, b)) 24 (Proc.tc.devRef main_v19) : S1024x6.Idx → EReal) (ix2 k q) = a2 m c (ix2 k ⟨1152 + q.val, by omega⟩) := by
  unfold StableHlo.upto
  after_reads_at

theorem QZ (c : Dev nD) (k : Fin 1024) (q : Fin 250) :
    (StableHlo.upto [hostOps0].flatten (fun b => m (c, b)) 24 (Proc.tc.devRef main_v16) : S1024x250.Idx → EReal) (ix2 k q) = (0 : EReal) := by
  unfold StableHlo.upto
  after_reads_at

theorem VB (c : Dev nD) (k : Fin 1024) (l : Fin 3072) :
    (V m c main_v20 : S1024x3072.Idx → EReal) (ix2 k l) = pd (fun f => a2 m c (ix2 k f)) l.val := by
  unfold V
  after_reads_at
  exact pd_form (fun f => a2 m c (ix2 k f)) _ _ _ _ (fun q => QA m c k q) (fun q => QB m c k q) (fun q => QC m c k q)
    (fun q => QZ m c k q) l.val l.isLt

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem tlt (t : Fin cfg0.N) : t.val < 16 := t.isLt
/-- The row of the batch that a point's row is. -/
abbrev rb (t : Fin cfg0.N) (r : Fin 512) : Fin 8192 := ⟨t.val * 512 + r.val, by have := tlt t; omega⟩

theorem ib0 (c : Dev nD) (t : Fin cfg0.N) (r : Fin 512) (k : Fin 1024) :
    iblk m c 0 t (ix2 r k) = (V m c main_v14 : S8192x1024.Idx → EReal) (ix2 (rb t r) k) := by
  blk_ext [iblk, idx t]

theorem ib1 (c : Dev nD) (t : Fin cfg0.N) (k : Fin 1024) (l : Fin 3072) :
    iblk m c 1 t (ix2 k l) = (V m c main_v20 : S1024x3072.Idx → EReal) (ix2 k l) := by
  blk_ext [iblk, idx t]

theorem out_2 (x0 : Vec Ideal S512x1024 .bf16) (x1 : Vec Ideal S1024x3072 .bf16) (r : Fin 512) (l : Fin 2304) :
    (out0_2 (F := Ideal) x0 x1 (ix2 r l) : EReal) = ∑ k : Fin 1024, x0 (ix2 r k) * x1 (ix2 k ⟨l.val, by omega⟩) := by
  unfold out0_2
  frame_out
  pointwise [k0_pay2, k0_pay1]

theorem out_3 (x0 : Vec Ideal S512x1024 .bf16) (x1 : Vec Ideal S1024x3072 .bf16) (r : Fin 512) (l : Fin 768) :
    (out0_3 (F := Ideal) x0 x1 (ix2 r l) : EReal) = ∑ k : Fin 1024, x0 (ix2 r k) * x1 (ix2 k ⟨2304 + l.val, by omega⟩) := by
  unfold out0_3
  frame_out
  pointwise [k0_pay3, k0_pay1]

/-- A row of the one block times a column of the other. -/
def pB (x0 : Vec Ideal S512x1024 .bf16) (x1 : Vec Ideal S1024x3072 .bf16) (r : Fin 512) (l : Fin 3072) : EReal :=
  ∑ k : Fin 1024, x0 (ix2 r k) * x1 (ix2 k l)

/-- The two arrays, as the kernel writes them. -/
def G2 (c : Dev nD) (i : S8192x2304.Idx) : EReal := pq m c (bq (i 0)) (sq (i 0)) (i 1).val
def G3 (c : Dev nD) (i : S8192x768.Idx) : EReal := pq m c (bq (i 0)) (sq (i 0)) (2304 + (i 1).val)

theorem pt (c : Dev nD) (t : Fin cfg0.N) (r : Fin 512) (l : Fin 3072) :
    pB (iblk m c 0 t) (iblk m c 1 t) r l = pq m c (bq (rb t r)) (sq (rb t r)) l.val := by
  unfold pq pB
  refine Finset.sum_congr rfl fun k _ => ?_
  exact congrArg₂ (fun a b : EReal => a * b) ((ib0 m c t r k).trans (VA m c _ k)) ((ib1 m c t k l).trans (VB m c k l))

theorem out2 (c : Dev nD) (t : Fin cfg0.N) (r : Fin 512) (l : Fin 2304) :
    (out0_2 (F := Ideal) (iblk m c 0 t) (iblk m c 1 t) (ix2 r l) : EReal) = G2 m c (ix2 (rb t r) l) :=
  (out_2 _ _ r l).trans (pt m c t r ⟨l.val, by omega⟩)
theorem out3 (c : Dev nD) (t : Fin cfg0.N) (r : Fin 512) (l : Fin 768) :
    (out0_3 (F := Ideal) (iblk m c 0 t) (iblk m c 1 t) (ix2 r l) : EReal) = G3 m c (ix2 (rb t r) l) :=
  (out_3 _ _ r l).trans (pt m c t r ⟨2304 + l.val, by omega⟩)

theorem outEmb2 (t : Fin cfg0.N) (y : S512x2304.Idx) : ((win0_2.blk t).view.emb y : S8192x2304.Idx) = ix2 (rb t (y 0)) (y 1) := by
  blk_ext [idx t]
theorem outEmb3 (t : Fin cfg0.N) (y : S512x768.Idx) : ((win0_3.blk t).view.emb y : S8192x768.Idx) = ix2 (rb t (y 0)) (y 1) := by
  blk_ext [idx t]

theorem arr2 (c : Dev nD) : (dats m 0 c).arrAt 2 (cfgs 0).N = G2 m c := by
  refine (dats m 0 c).arrAt_eq_of_covers 2 _ (by decide +kernel) fun t hf y => ?_
  blk_simp
  rw [after0_2]
  exact (congrArg _ (eq_ix2 y)).trans ((out2 m c t (y 0) (y 1)).trans (congrArg (G2 m c) (outEmb2 t y).symm))

theorem arr3 (c : Dev nD) : (dats m 0 c).arrAt 3 (cfgs 0).N = G3 m c := by
  refine (dats m 0 c).arrAt_eq_of_covers 3 _ (by decide +kernel) fun t hf y => ?_
  blk_simp
  rw [after0_3]
  exact (congrArg _ (eq_ix2 y)).trans ((out3 m c t (y 0) (y 1)).trans (congrArg (G3 m c) (outEmb3 t y).symm))

/-! ## The result -/

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z2 (c : Dev nD) : Zr m c (Proc.devRef .tc main_v21_0) = (dats m 0 c).arrAt 2 (cfgs 0).N :=
  Dat.withArrays_arrAt (dats m 0 c) sharedIn0 (V0 m c) (A_eq m c) 2
theorem Z3 (c : Dev nD) : Zr m c (Proc.devRef .tc main_v21_1) = (dats m 0 c).arrAt 3 (cfgs 0).N :=
  Dat.withArrays_arrAt (dats m 0 c) sharedIn0 (V0 m c) (A_eq m c) 3

/-- The two results of the call, side by side. -/
def zz (Z : Valuation τ sig (Elt Ideal)) (T : Fin 8192) (l : Fin 3072) : EReal :=
  if h : l.val < 2304 then (Z (Proc.devRef .tc main_v21_0) : S8192x2304.Idx → EReal) (ix2 T ⟨l.val, h⟩)
  else (Z (Proc.devRef .tc main_v21_1) : S8192x768.Idx → EReal) (ix2 T ⟨l.val - 2304, by omega⟩)

theorem WA (Z : Valuation τ sig (Elt Ideal)) (T : Fin 8192) (l : Fin 2304) :
    (StableHlo.upto (List.take 5 [hostOps1].flatten) Z 1 (Proc.tc.devRef main_v22) : S8192x2304.Idx → EReal) (ix2 T l)
      = (Z (Proc.devRef .tc main_v21_0) : S8192x2304.Idx → EReal) (ix2 T l) := by
  unfold StableHlo.upto
  after_reads_at

theorem WB (Z : Valuation τ sig (Elt Ideal)) (T : Fin 8192) (l : Fin 768) :
    (StableHlo.upto (List.take 5 [hostOps1].flatten) Z 1 (Proc.tc.devRef main_v21_1) : S8192x768.Idx → EReal) (ix2 T l)
      = (Z (Proc.devRef .tc main_v21_1) : S8192x768.Idx → EReal) (ix2 T l) := by
  unfold StableHlo.upto
  after_reads_at

theorem UA (Z : Valuation τ sig (Elt Ideal)) (T : Fin 8192) (q : Fin 1152) :
    (StableHlo.upto [hostOps1].flatten Z 5 (Proc.tc.devRef main_v24) : S8192x1152.Idx → EReal) (ix2 T q) = zz Z T ⟨q.val, by omega⟩ := by
  unfold StableHlo.upto zz
  after_reads_at
  exact dite_congr rfl (fun _ => WA Z _ _) (fun _ => WB Z _ _)

theorem UB (Z : Valuation τ sig (Elt Ideal)) (T : Fin 8192) (q : Fin 6) :
    (StableHlo.upto [hostOps1].flatten Z 5 (Proc.tc.devRef main_v25) : S8192x6.Idx → EReal) (ix2 T q) = zz Z T ⟨2816 + q.val, by omega⟩ := by
  unfold StableHlo.upto zz
  after_reads_at
  exact dite_congr rfl (fun _ => WA Z _ _) (fun _ => WB Z _ _)

theorem UC (Z : Valuation τ sig (Elt Ideal)) (T : Fin 8192) (q : Fin 1664) :
    (StableHlo.upto [hostOps1].flatten Z 5 (Proc.tc.devRef main_v26) : S8192x1664.Idx → EReal) (ix2 T q) = zz Z T ⟨1152 + q.val, by omega⟩ := by
  unfold StableHlo.upto zz
  after_reads_at
  exact dite_congr rfl (fun _ => WA Z _ _) (fun _ => WB Z _ _)

theorem T (Z : Valuation τ sig (Elt Ideal)) (b : Fin 4) (s : Fin 2048) (k : Fin 2822) :
    (StableHlo.after [hostOps1].flatten Z (Proc.devRef .tc main_v28) : S4x2048x2822.Idx → EReal) (ix3 b s k)
      = zz Z ⟨b.val * 2048 + s.val, by omega⟩ (col k) := by
  after_reads_at
  exact unpad (fun q => zz Z ⟨b.val * 2048 + s.val, by omega⟩ q) _ _ _ (fun q => UA Z _ q) (fun q => UB Z _ q) (fun q => UC Z _ q) k

theorem R12 (x : X3) (g : G1) (b : Fin 4) (s : Fin 2048) (k : Fin 1024) :
    Cert.Reference10Ideal.Read.val_main_v12 (F := Ideal) x g (ix3 b s k) = hh x g b s k := by
  unfold hh rr ms nn ee
  open Cert.Reference10Ideal.Read in
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem R13 (x : X3) (g : G1) (w : WI) (b : Fin 4) (s : Fin 2048) (f : Fin 2822) :
    Cert.Reference10Ideal.Read.val_main_v13 (F := Ideal) x g w (ix3 b s f) = pr x g w b s f := by
  unfold Cert.Reference10Ideal.Read.val_main_v13
  generalize hy : Cert.Reference10Ideal.Read.val_main_v12 (F := Ideal) x g = y
  pointwise
  subst hy
  unfold pr
  exact Finset.sum_congr rfl fun k _ => congrArg (fun z : EReal => z * w (ix2 k f)) (R12 x g b s k)

theorem zz_eq (c : Dev nD) (T : Fin 8192) (l : Fin 3072) : zz (Zr m c) T l = pq m c (bq T) (sq T) l.val := by
  unfold zz
  by_cases h : l.val < 2304
  · rw [dif_pos h, Z2, arr2]
    rfl
  · rw [dif_neg h, Z3, arr3]
    exact congrArg (pq m c (bq T) (sq T)) (by show 2304 + (l.val - 2304) = l.val; omega)

theorem pq_col (c : Dev nD) (b : Fin 4) (s : Fin 2048) (k : Fin 2822) :
    pq m c b s (col k).val = pr (a0 m c) (a1 m c) (a2 m c) b s k := by
  unfold pq pr
  exact Finset.sum_congr rfl fun q _ => congrArg (fun z : EReal => hh (a0 m c) (a1 m c) b s q * z) (pd_col _ k)

theorem E28 (c : Dev nD) :
    (Pipeline.afterTail₀ cfgs (dats m) 0 (V0 m) [hostOps1] c main_v28 : S4x2048x2822.Idx → EReal)
      = Cert.Reference10Ideal.Read.val_main_v13 (F := Ideal) (a0 m c) (a1 m c) (a2 m c) := by
  funext i
  obtain ⟨b, s, k, rfl⟩ : ∃ (b : Fin 4) (s : Fin 2048) (k : Fin 2822), i = ix3 b s k := ⟨i 0, i 1, i 2, eq_ix3 i⟩
  refine (T (Zr m c) b s k).trans (Eq.trans ?_ (R13 _ _ _ b s k).symm)
  rw [zz_eq, hb, hs]
  exact pq_col m c b s k

/-- The run: the result at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v28) = Pipeline.afterTail₀ cfgs (dats m) 0 (V0 m) [hostOps1] c main_v28) :=
  (θ_run defs _ _).mono (fun _ h c => (h c).2 main_v28 (Pipeline.mem_restRefs_of main_v28 (by decide) (by decide))) (run_main m ρ)

end Cert.Kernel10Ideal.Hand
end
-- ==== Proof.MoFinal.lean ====
/- The output projection with the residual stream and the norm behind it: what the call leaves, what the reference computes, and the run that leaves it. -/
module

public import proofs.«01_k».proof.Proof.Gen.Kernel11Ideal.Frame
public import proofs.«01_k».proof.Proof.Gen.Reference11Ideal.Run
public import proofs.«01_k».proof.Proof.Gen.Reference11Ideal.Read
public import proofs.«01_k».proof.Proof.WuSpec
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel11Ideal.Hand
open Cert.Kernel11Ideal Cert.Kernel11Ideal.Gen
open Cert.Spec.Up (X3 G1 rr ms nn ee row)
open Cert.Spec.Wu (hh)

variable (m : (ℓ : Loc nD τ sig) → Buf (Elt Ideal) ℓ)

abbrev AT := (⟨3, ![4, 2048, 1024]⟩ : Shape).Idx → EReal
abbrev WT := (⟨2, ![1024, 1024]⟩ : Shape).Idx → EReal
/-- The kernel's arguments. -/
abbrev a0 (c : Dev nD) : AT := m ((c : Thread nD τ).loc main_arg0)
abbrev a1 (c : Dev nD) : WT := m ((c : Thread nD τ).loc main_arg1)
abbrev a2 (c : Dev nD) : X3 := m ((c : Thread nD τ).loc main_arg2)
abbrev a3 (c : Dev nD) : G1 := m ((c : Thread nD τ).loc main_arg3)
abbrev bq (T : Fin 8192) : Fin 4 := ⟨T.val / 2048, by omega⟩
abbrev sq (T : Fin 8192) : Fin 2048 := ⟨T.val % 2048, by omega⟩
theorem hb (b : Fin 4) (s : Fin 2048) : bq ⟨b.val * 2048 + s.val, by omega⟩ = b := Fin.ext (by show (b.val * 2048 + s.val) / 2048 = b.val; omega)
theorem hs (b : Fin 4) (s : Fin 2048) : sq ⟨b.val * 2048 + s.val, by omega⟩ = s := Fin.ext (by show (b.val * 2048 + s.val) % 2048 = s.val; omega)

/-- The residual stream behind the projection. -/
def xr (a : AT) (w : WT) (x : X3) : X3 := fun i => x i + ∑ e : Fin 1024, a (ix3 (i 0) (i 1) e) * w (ix2 e (i 2))
abbrev xo (c : Dev nD) : X3 := xr (a0 m c) (a1 m c) (a2 m c)

theorem VA (c : Dev nD) (T : Fin 8192) (e : Fin 1024) :
    (V m c main_v1 : S1x8192x1024.Idx → EReal) (ix3 0 T e) = a0 m c (ix3 (bq T) (sq T) e) := by
  unfold V
  after_reads_at

theorem VW (c : Dev nD) (e : Fin 1024) (k : Fin 1024) :
    (V m c main_v3 : S1x1024x1024.Idx → EReal) (ix3 0 e k) = a1 m c (ix2 e k) := by
  unfold V
  after_reads_at

theorem VR (c : Dev nD) (T : Fin 8192) (k : Fin 1024) :
    (V m c main_v4 : S8192x1024.Idx → EReal) (ix2 T k) = a2 m c (ix3 (bq T) (sq T) k) := by
  unfold V
  after_reads_at

theorem VG (c : Dev nD) (k : Fin 1024) : (V m c main_v5 : S1x1024.Idx → EReal) (ix2 0 k) = a3 m c (ix1 k) := by
  unfold V
  after_reads_at

theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

theorem tlt (t : Fin cfg0.N) : t.val < 16 := t.isLt
/-- The row of the batch that a point's row is. -/
abbrev rb (t : Fin cfg0.N) (r : Fin 512) : Fin 8192 := ⟨t.val * 512 + r.val, by have := tlt t; omega⟩

theorem ib0 (c : Dev nD) (t : Fin cfg0.N) (r : Fin 512) (e : Fin 1024) :
    iblk m c 0 t (ix3 0 r e) = (V m c main_v1 : S1x8192x1024.Idx → EReal) (ix3 0 (rb t r) e) := by
  blk_ext [iblk, idx t]

theorem ib1 (c : Dev nD) (t : Fin cfg0.N) (e : Fin 1024) (k : Fin 1024) :
    iblk m c 1 t (ix3 0 e k) = (V m c main_v3 : S1x1024x1024.Idx → EReal) (ix3 0 e k) := by
  blk_ext [iblk, idx t]

theorem ib2 (c : Dev nD) (t : Fin cfg0.N) (r : Fin 512) (k : Fin 1024) :
    iblk m c 2 t (ix2 r k) = (V m c main_v4 : S8192x1024.Idx → EReal) (ix2 (rb t r) k) := by
  blk_ext [iblk, idx t]

theorem ib3 (c : Dev nD) (t : Fin cfg0.N) (k : Fin 1024) :
    iblk m c 3 t (ix2 0 k) = (V m c main_v5 : S1x1024.Idx → EReal) (ix2 0 k) := by
  blk_ext [iblk, idx t]

/-- A row of the residual stream, from the blocks at a point. -/
def xB (x0 : Vec Ideal S1x512x1024 .bf16) (x1 : Vec Ideal S1x1024x1024 .bf16) (x2 : Vec Ideal S512x1024 .f32) (r : Fin 512) (k : Fin 1024) : EReal :=
  x2 (ix2 r k) + ∑ e : Fin 1024, x0 (ix3 0 r e) * x1 (ix3 0 e k)

theorem pay_x (x0 : Vec Ideal S1x512x1024 .bf16) (x1 : Vec Ideal S1x1024x1024 .bf16) (x2 : Vec Ideal S512x1024 .f32) (r : Fin 512) (k : Fin 1024) :
    (k0_pay1 (F := Ideal) x2 x0 x1 (ix2 r k) : EReal) = xB x0 x1 x2 r k := by
  unfold xB
  pointwise [k0_pay1]

theorem out_4 (x0 : Vec Ideal S1x512x1024 .bf16) (x1 : Vec Ideal S1x1024x1024 .bf16) (x2 : Vec Ideal S512x1024 .f32) (x3 : Vec Ideal S1x1024 .f32) (r : Fin 512)
    (k : Fin 1024) : (out0_4 (F := Ideal) x0 x1 x2 x3 (ix2 r k) : EReal) = xB x0 x1 x2 r k := by
  unfold out0_4
  frame_out
  exact pay_x x0 x1 x2 r k

theorem out_5 (x0 : Vec Ideal S1x512x1024 .bf16) (x1 : Vec Ideal S1x1024x1024 .bf16) (x2 : Vec Ideal S512x1024 .f32) (x3 : Vec Ideal S1x1024 .f32) (r : Fin 512)
    (k : Fin 1024) : (out0_5 (F := Ideal) x0 x1 x2 x3 (ix2 r k) : EReal) = xB x0 x1 x2 r k * rr (xB x0 x1 x2 r) * x3 (ix2 0 k) := by
  unfold out0_5
  frame_out
  have h : ∀ q, (k0_pay1 (F := Ideal) x2 x0 x1 (ix2 r q) : EReal) = xB x0 x1 x2 r q := fun q => pay_x x0 x1 x2 r q
  unfold k0_pay2
  generalize k0_pay1 (F := Ideal) x2 x0 x1 = D at h
  pointwise
  simp only [h]
  rfl

theorem xB_eq (c : Dev nD) (t : Fin cfg0.N) (r : Fin 512) (k : Fin 1024) :
    xB (iblk m c 0 t) (iblk m c 1 t) (iblk m c 2 t) r k = xo m c (ix3 (bq (rb t r)) (sq (rb t r)) k) := by
  unfold xB xo xr
  exact congrArg₂ (fun a b : EReal => a + b) ((ib2 m c t r k).trans (VR m c _ k)) (Finset.sum_congr rfl fun e _ =>
    congrArg₂ (fun a b : EReal => a * b) ((ib0 m c t r e).trans (VA m c _ e)) ((ib1 m c t e k).trans (VW m c e k)))

/-- The two arrays, as the kernel writes them. -/
def G4 (c : Dev nD) (i : S8192x1024.Idx) : EReal := xo m c (ix3 (bq (i 0)) (sq (i 0)) (i 1))
def G5 (c : Dev nD) (i : S8192x1024.Idx) : EReal := hh (xo m c) (a3 m c) (bq (i 0)) (sq (i 0)) (i 1)

theorem pt5 (c : Dev nD) (t : Fin cfg0.N) (r : Fin 512) (k : Fin 1024) :
    (out0_5 (F := Ideal) (iblk m c 0 t) (iblk m c 1 t) (iblk m c 2 t) (iblk m c 3 t) (ix2 r k) : EReal) = G5 m c (ix2 (rb t r) k) := by
  refine (out_5 _ _ _ _ r k).trans ?_
  show _ = xo m c (ix3 (bq (rb t r)) (sq (rb t r)) k) * rr (row (xo m c) (bq (rb t r)) (sq (rb t r))) * a3 m c (ix1 k)
  refine congrArg₂ (fun a b : EReal => a * b) (congrArg₂ (fun a b : EReal => a * b) (xB_eq m c t r k) (congrArg rr (funext fun q => xB_eq m c t r q))) ?_
  exact (ib3 m c t k).trans (VG m c k)

theorem outEmb4 (t : Fin cfg0.N) (y : S512x1024.Idx) : ((win0_4.blk t).view.emb y : S8192x1024.Idx) = ix2 (rb t (y 0)) (y 1) := by
  blk_ext [idx t]
theorem outEmb5 (t : Fin cfg0.N) (y : S512x1024.Idx) : ((win0_5.blk t).view.emb y : S8192x1024.Idx) = ix2 (rb t (y 0)) (y 1) := by
  blk_ext [idx t]

theorem arr4 (c : Dev nD) : (dats m 0 c).arrAt 4 (cfgs 0).N = G4 m c := by
  refine (dats m 0 c).arrAt_eq_of_covers 4 _ (by decide +kernel) fun t hf y => ?_
  blk_simp
  rw [after0_4]
  exact (congrArg _ (eq_ix2 y)).trans (((out_4 _ _ _ _ (y 0) (y 1)).trans (xB_eq m c t (y 0) (y 1))).trans (congrArg (G4 m c) (outEmb4 t y).symm))

theorem arr5 (c : Dev nD) : (dats m 0 c).arrAt 5 (cfgs 0).N = G5 m c := by
  refine (dats m 0 c).arrAt_eq_of_covers 5 _ (by decide +kernel) fun t hf y => ?_
  blk_simp
  rw [after0_5]
  exact (congrArg _ (eq_ix2 y)).trans ((pt5 m c t (y 0) (y 1)).trans (congrArg (G5 m c) (outEmb5 t y).symm))

/-! ## The results -/

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z4 (c : Dev nD) : Zr m c (Proc.devRef .tc main_v6_0) = (dats m 0 c).arrAt 4 (cfgs 0).N :=
  Dat.withArrays_arrAt (dats m 0 c) sharedIn0 (V0 m c) (A_eq m c) 4
theorem Z5 (c : Dev nD) : Zr m c (Proc.devRef .tc main_v6_1) = (dats m 0 c).arrAt 5 (cfgs 0).N :=
  Dat.withArrays_arrAt (dats m 0 c) sharedIn0 (V0 m c) (A_eq m c) 5

theorem T0 (Z : Valuation τ sig (Elt Ideal)) (b : Fin 4) (s : Fin 2048) (k : Fin 1024) :
    (StableHlo.after [hostOps1].flatten Z (Proc.devRef .tc main_v7) : S4x2048x1024.Idx → EReal) (ix3 b s k)
      = (Z (Proc.devRef .tc main_v6_0) : S8192x1024.Idx → EReal) (ix2 ⟨b.val * 2048 + s.val, by omega⟩ k) := by
  after_reads_at

theorem T1 (Z : Valuation τ sig (Elt Ideal)) (b : Fin 4) (s : Fin 2048) (k : Fin 1024) :
    (StableHlo.after [hostOps1].flatten Z (Proc.devRef .tc main_v9) : S4x2048x1024.Idx → EReal) (ix3 b s k)
      = (Z (Proc.devRef .tc main_v6_1) : S8192x1024.Idx → EReal) (ix2 ⟨b.val * 2048 + s.val, by omega⟩ k) := by
  after_reads_at

theorem R1 (a : AT) (w : WT) (x : X3) : Cert.Reference11Ideal.Read.val_main_v1 (F := Ideal) a w x = xr a w x := by
  funext i
  obtain ⟨b, s, k, rfl⟩ : ∃ (b : Fin 4) (s : Fin 2048) (k : Fin 1024), i = ix3 b s k := ⟨i 0, i 1, i 2, eq_ix3 i⟩
  show _ = x (ix3 b s k) + ∑ e : Fin 1024, a (ix3 b s e) * w (ix2 e k)
  pointwise [Cert.Reference11Ideal.Read.val_main_v1, Cert.Reference11Ideal.Read.val_main_v0]

theorem R14 (a : AT) (w : WT) (x : X3) (g : G1) (b : Fin 4) (s : Fin 2048) (k : Fin 1024) :
    Cert.Reference11Ideal.Read.val_main_v14 (F := Ideal) a w x g (ix3 b s k) = hh (xr a w x) g b s k := by
  rw [← R1]
  open Cert.Reference11Ideal.Read in
  unfold val_main_v14 val_main_v11 val_main_v10 val_main_v9 val_main_v8 val_main_v6 val_main_v4 val_main_v3 val_main_v2
  generalize Cert.Reference11Ideal.Read.val_main_v1 (F := Ideal) a w x = y
  unfold hh rr ms nn ee
  open Cert.Reference11Ideal.Read in
  pointwise [val_main_v13, val_main_v12, val_main_v7, val_main_v5, val_main_cst, val_main_cst_0, val_main_cst_1]

theorem E7 (c : Dev nD) :
    (Pipeline.afterTail₀ cfgs (dats m) 0 (V0 m) [hostOps1] c main_v7 : S4x2048x1024.Idx → EReal)
      = Cert.Reference11Ideal.Read.val_main_v1 (F := Ideal) (a0 m c) (a1 m c) (a2 m c) := by
  funext i
  obtain ⟨b, s, k, rfl⟩ : ∃ (b : Fin 4) (s : Fin 2048) (k : Fin 1024), i = ix3 b s k := ⟨i 0, i 1, i 2, eq_ix3 i⟩
  refine (T0 (Zr m c) b s k).trans (Eq.trans ?_ (congrFun (R1 _ _ _) (ix3 b s k)).symm)
  rw [Z4, arr4]
  show xo m c (ix3 (bq ⟨b.val * 2048 + s.val, by omega⟩) (sq ⟨b.val * 2048 + s.val, by omega⟩) k) = _
  rw [hb, hs]

theorem E9 (c : Dev nD) :
    (Pipeline.afterTail₀ cfgs (dats m) 0 (V0 m) [hostOps1] c main_v9 : S4x2048x1024.Idx → EReal)
      = Cert.Reference11Ideal.Read.val_main_v14 (F := Ideal) (a0 m c) (a1 m c) (a2 m c) (a3 m c) := by
  funext i
  obtain ⟨b, s, k, rfl⟩ : ∃ (b : Fin 4) (s : Fin 2048) (k : Fin 1024), i = ix3 b s k := ⟨i 0, i 1, i 2, eq_ix3 i⟩
  refine (T1 (Zr m c) b s k).trans (Eq.trans ?_ (R14 _ _ _ _ b s k).symm)
  rw [Z5, arr5]
  show hh (xo m c) (a3 m c) (bq ⟨b.val * 2048 + s.val, by omega⟩) (sq ⟨b.val * 2048 + s.val, by omega⟩) k = _
  rw [hb, hs]

/-- The run: the two results at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v7) = Pipeline.afterTail₀ cfgs (dats m) 0 (V0 m) [hostOps1] c main_v7
      ∧ r.2.mem ((c.tc : Thread nD τ).loc main_v9) = Pipeline.afterTail₀ cfgs (dats m) 0 (V0 m) [hostOps1] c main_v9) :=
  (θ_run defs _ _).mono (fun _ h c => ⟨(h c).2 main_v7 (Pipeline.mem_restRefs_of main_v7 (by decide) (by decide)),
    (h c).2 main_v9 (Pipeline.mem_restRefs_of main_v9 (by decide) (by decide))⟩) (run_main m ρ)

end Cert.Kernel11Ideal.Hand
end
-- ==== Proof.MdFinal.lean ====
/- The down projection with the residual stream and the norm behind it: what the call leaves, what the reference computes, and the run that leaves it. -/
module

public import proofs.«01_k».proof.Proof.Gen.Kernel12Ideal.Frame
public import proofs.«01_k».proof.Proof.Gen.Reference12Ideal.Run
public import proofs.«01_k».proof.Proof.Gen.Reference12Ideal.Read
public import proofs.«01_k».proof.Proof.WuSpec
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel12Ideal.Hand
open Cert.Kernel12Ideal Cert.Kernel12Ideal.Gen
open Cert.Spec.Up (X3 G1 rr ms nn ee row)
open Cert.Spec.Wu (hh)

variable (m : (ℓ : Loc nD τ sig) → Buf (Elt Ideal) ℓ)

abbrev AT := (⟨3, ![4, 2048, 2816]⟩ : Shape).Idx → EReal
abbrev WT := (⟨2, ![2816, 1024]⟩ : Shape).Idx → EReal
/-- The kernel's arguments. -/
abbrev a0 (c : Dev nD) : AT := m ((c : Thread nD τ).loc main_arg0)
abbrev a1 (c : Dev nD) : WT := m ((c : Thread nD τ).loc main_arg1)
abbrev a2 (c : Dev nD) : X3 := m ((c : Thread nD τ).loc main_arg2)
abbrev a3 (c : Dev nD) : G1 := m ((c : Thread nD τ).loc main_arg3)
abbrev bq (T : Fin 8192) : Fin 4 := ⟨T.val / 2048, by omega⟩
abbrev sq (T : Fin 8192) : Fin 2048 := ⟨T.val % 2048, by omega⟩
theorem hb (b : Fin 4) (s : Fin 2048) : bq ⟨b.val * 2048 + s.val, by omega⟩ = b := Fin.ext (by show (b.val * 2048 + s.val) / 2048 = b.val; omega)
theorem hs (b : Fin 4) (s : Fin 2048) : sq ⟨b.val * 2048 + s.val, by omega⟩ = s := Fin.ext (by show (b.val * 2048 + s.val) % 2048 = s.val; omega)

/-- The residual stream behind the projection. -/
def xr (a : AT) (w : WT) (x : X3) : X3 := fun i => x i + ∑ e : Fin 2816, a (ix3 (i 0) (i 1) e) * w (ix2 e (i 2))
abbrev xo (c : Dev nD) : X3 := xr (a0 m c) (a1 m c) (a2 m c)

theorem VA (c : Dev nD) (j : Fin 4) (T : Fin 8192) (e : Fin 704) :
    (V m c main_v2 : S4x8192x704.Idx → EReal) (ix3 j T e) = a0 m c (ix3 (bq T) (sq T) ⟨j.val * 704 + e.val, by omega⟩) := by
  unfold V
  after_reads_at

theorem VW (c : Dev nD) (j : Fin 4) (e : Fin 704) (k : Fin 1024) :
    (V m c main_v4 : S4x704x1024.Idx → EReal) (ix3 j e k) = a1 m c (ix2 ⟨j.val * 704 + e.val, by omega⟩ k) := by
  unfold V
  after_reads_at

theorem VR (c : Dev nD) (T : Fin 8192) (k : Fin 1024) :
    (V m c main_v5 : S8192x1024.Idx → EReal) (ix2 T k) = a2 m c (ix3 (bq T) (sq T) k) := by
  unfold V
  after_reads_at

theorem VG (c : Dev nD) (k : Fin 1024) : (V m c main_v6 : S1x1024.Idx → EReal) (ix2 0 k) = a3 m c (ix1 k) := by
  unfold V
  after_reads_at

theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

theorem tlt (t : Fin cfg0.N) : t.val < 16 := t.isLt
/-- The row of the batch that a point's row is. -/
abbrev rb (t : Fin cfg0.N) (r : Fin 512) : Fin 8192 := ⟨t.val * 512 + r.val, by have := tlt t; omega⟩

theorem ib0 (c : Dev nD) (t : Fin cfg0.N) (j : Fin 4) (r : Fin 512) (e : Fin 704) :
    iblk m c 0 t (ix3 j r e) = (V m c main_v2 : S4x8192x704.Idx → EReal) (ix3 j (rb t r) e) := by
  blk_ext [iblk, idx t]

theorem ib1 (c : Dev nD) (t : Fin cfg0.N) (j : Fin 4) (e : Fin 704) (k : Fin 1024) :
    iblk m c 1 t (ix3 j e k) = (V m c main_v4 : S4x704x1024.Idx → EReal) (ix3 j e k) := by
  blk_ext [iblk, idx t]

theorem ib2 (c : Dev nD) (t : Fin cfg0.N) (r : Fin 512) (k : Fin 1024) :
    iblk m c 2 t (ix2 r k) = (V m c main_v5 : S8192x1024.Idx → EReal) (ix2 (rb t r) k) := by
  blk_ext [iblk, idx t]

theorem ib3 (c : Dev nD) (t : Fin cfg0.N) (k : Fin 1024) :
    iblk m c 3 t (ix2 0 k) = (V m c main_v6 : S1x1024.Idx → EReal) (ix2 0 k) := by
  blk_ext [iblk, idx t]

/-- A block's part of the product. -/
def pB (x0 : Vec Ideal S4x512x704 .bf16) (x1 : Vec Ideal S4x704x1024 .bf16) (j : Fin 4) (r : Fin 512) (k : Fin 1024) : EReal :=
  ∑ e : Fin 704, x0 (ix3 j r e) * x1 (ix3 j e k)

/-- A row of the residual stream, from the blocks at a point. -/
def xB (x0 : Vec Ideal S4x512x704 .bf16) (x1 : Vec Ideal S4x704x1024 .bf16) (x2 : Vec Ideal S512x1024 .f32) (r : Fin 512) (k : Fin 1024) : EReal :=
  x2 (ix2 r k) + pB x0 x1 0 r k + pB x0 x1 1 r k + pB x0 x1 2 r k + pB x0 x1 3 r k

theorem pay_x (x0 : Vec Ideal S4x512x704 .bf16) (x1 : Vec Ideal S4x704x1024 .bf16) (x2 : Vec Ideal S512x1024 .f32) (x3 : Vec Ideal S1x1024 .f32) (r : Fin 512)
    (k : Fin 1024) : (k0_pay3 (F := Ideal) x0 x1 x2 x3 (ix2 r k) : EReal) = xB x0 x1 x2 r k := by
  unfold xB pB k0_pay3
  pointwise [k0_pay2]

theorem out_4 (x0 : Vec Ideal S4x512x704 .bf16) (x1 : Vec Ideal S4x704x1024 .bf16) (x2 : Vec Ideal S512x1024 .f32) (x3 : Vec Ideal S1x1024 .f32) (r : Fin 512)
    (k : Fin 1024) : (out0_4 (F := Ideal) x0 x1 x2 x3 (ix2 r k) : EReal) = xB x0 x1 x2 r k := by
  refine Eq.trans (α := EReal) ?_ (pay_x x0 x1 x2 x3 r k)
  unfold out0_4
  generalize k0_pay3 (F := Ideal) x0 x1 x2 x3 = D
  frame_out

theorem out_5 (x0 : Vec Ideal S4x512x704 .bf16) (x1 : Vec Ideal S4x704x1024 .bf16) (x2 : Vec Ideal S512x1024 .f32) (x3 : Vec Ideal S1x1024 .f32) (r : Fin 512)
    (k : Fin 1024) : (out0_5 (F := Ideal) x0 x1 x2 x3 (ix2 r k) : EReal) = xB x0 x1 x2 r k * rr (xB x0 x1 x2 r) * x3 (ix2 0 k) := by
  have h : ∀ q, (k0_pay3 (F := Ideal) x0 x1 x2 x3 (ix2 r q) : EReal) = xB x0 x1 x2 r q := fun q => pay_x x0 x1 x2 x3 r q
  unfold out0_5
  generalize k0_pay3 (F := Ideal) x0 x1 x2 x3 = D at h
  frame_out
  unfold k0_pay1
  pointwise
  simp only [h]
  rfl

/-- A term of the sum, by its place. -/
def tm (c : Dev nD) (b : Fin 4) (s : Fin 2048) (k : Fin 1024) (n : ℕ) : EReal :=
  if h : n < 2816 then a0 m c (ix3 b s ⟨n, h⟩) * a1 m c (ix2 ⟨n, h⟩ k) else 0

theorem tm_lt (c : Dev nD) (b : Fin 4) (s : Fin 2048) (k : Fin 1024) (e : Fin 2816) :
    tm m c b s k e.val = a0 m c (ix3 b s e) * a1 m c (ix2 e k) := dif_pos e.isLt

/-- A sum over all columns is the sum of the sums over the four blocks. -/
theorem split4 (f : ℕ → EReal) : (∑ e : Fin 2816, f e.val)
    = (∑ e : Fin 704, f ((0 : Fin 4).val * 704 + e.val)) + ((∑ e : Fin 704, f ((1 : Fin 4).val * 704 + e.val))
      + ((∑ e : Fin 704, f ((2 : Fin 4).val * 704 + e.val)) + (∑ e : Fin 704, f ((3 : Fin 4).val * 704 + e.val)))) := by
  have h : ∀ (n : ℕ) (g : ℕ → EReal), (∑ e : Fin n, g e.val) = ∑ e ∈ Finset.range n, g e := fun n g => (Finset.sum_range g).symm
  show _ = (∑ e : Fin 704, f (0 * 704 + e.val)) + ((∑ e : Fin 704, f (1 * 704 + e.val))
      + ((∑ e : Fin 704, f (2 * 704 + e.val)) + (∑ e : Fin 704, f (3 * 704 + e.val))))
  rw [h 2816 f, h 704 fun n => f (0 * 704 + n), h 704 fun n => f (1 * 704 + n), h 704 fun n => f (2 * 704 + n), h 704 fun n => f (3 * 704 + n)]
  rw [show (2816 : ℕ) = 704 + (704 + (704 + 704)) from rfl, Finset.sum_range_add, Finset.sum_range_add, Finset.sum_range_add]
  simp only [zero_mul, zero_add, one_mul, ← add_assoc]

theorem xB_eq (c : Dev nD) (t : Fin cfg0.N) (r : Fin 512) (k : Fin 1024) :
    xB (iblk m c 0 t) (iblk m c 1 t) (iblk m c 2 t) r k = xo m c (ix3 (bq (rb t r)) (sq (rb t r)) k) := by
  have hj : ∀ j : Fin 4, pB (iblk m c 0 t) (iblk m c 1 t) j r k
      = ∑ e : Fin 704, tm m c (bq (rb t r)) (sq (rb t r)) k (j.val * 704 + e.val) := fun j => by
    unfold pB
    refine Finset.sum_congr rfl fun e _ => ?_
    refine Eq.trans (α := EReal) (congrArg₂ (fun a b : EReal => a * b) ((ib0 m c t j r e).trans (VA m c j _ e)) ((ib1 m c t j e k).trans (VW m c j e k))) ?_
    exact (tm_lt m c _ _ k ⟨j.val * 704 + e.val, by omega⟩).symm
  show xB (iblk m c 0 t) (iblk m c 1 t) (iblk m c 2 t) r k
    = a2 m c (ix3 (bq (rb t r)) (sq (rb t r)) k) + ∑ e : Fin 2816, a0 m c (ix3 (bq (rb t r)) (sq (rb t r)) e) * a1 m c (ix2 e k)
  unfold xB
  refine Eq.trans (α := EReal) (congrArg₂ (fun a b : EReal => a + b) (congrArg₂ (fun a b : EReal => a + b) (congrArg₂ (fun a b : EReal => a + b)
    (congrArg₂ (fun a b : EReal => a + b) ((ib2 m c t r k).trans (VR m c _ k)) (hj 0)) (hj 1)) (hj 2)) (hj 3)) ?_
  refine Eq.trans (α := EReal) ?_ (congrArg (fun z : EReal => a2 m c (ix3 (bq (rb t r)) (sq (rb t r)) k) + z)
    (Finset.sum_congr rfl fun e _ => tm_lt m c (bq (rb t r)) (sq (rb t r)) k e))
  rw [split4 (tm m c (bq (rb t r)) (sq (rb t r)) k)]
  simp only [add_assoc]

/-- The two arrays, as the kernel writes them. -/
def G4 (c : Dev nD) (i : S8192x1024.Idx) : EReal := xo m c (ix3 (bq (i 0)) (sq (i 0)) (i 1))
def G5 (c : Dev nD) (i : S8192x1024.Idx) : EReal := hh (xo m c) (a3 m c) (bq (i 0)) (sq (i 0)) (i 1)

theorem pt5 (c : Dev nD) (t : Fin cfg0.N) (r : Fin 512) (k : Fin 1024) :
    (out0_5 (F := Ideal) (iblk m c 0 t) (iblk m c 1 t) (iblk m c 2 t) (iblk m c 3 t) (ix2 r k) : EReal) = G5 m c (ix2 (rb t r) k) := by
  refine (out_5 _ _ _ _ r k).trans ?_
  show _ = xo m c (ix3 (bq (rb t r)) (sq (rb t r)) k) * rr (row (xo m c) (bq (rb t r)) (sq (rb t r))) * a3 m c (ix1 k)
  refine congrArg₂ (fun a b : EReal => a * b) (congrArg₂ (fun a b : EReal => a * b) (xB_eq m c t r k) (congrArg rr (funext fun q => xB_eq m c t r q))) ?_
  exact (ib3 m c t k).trans (VG m c k)

theorem outEmb4 (t : Fin cfg0.N) (y : S512x1024.Idx) : ((win0_4.blk t).view.emb y : S8192x1024.Idx) = ix2 (rb t (y 0)) (y 1) := by
  blk_ext [idx t]
theorem outEmb5 (t : Fin cfg0.N) (y : S512x1024.Idx) : ((win0_5.blk t).view.emb y : S8192x1024.Idx) = ix2 (rb t (y 0)) (y 1) := by
  blk_ext [idx t]

theorem arr4 (c : Dev nD) : (dats m 0 c).arrAt 4 (cfgs 0).N = G4 m c := by
  refine (dats m 0 c).arrAt_eq_of_covers 4 _ (by decide +kernel) fun t hf y => ?_
  blk_simp
  rw [after0_4]
  exact (congrArg _ (eq_ix2 y)).trans (((out_4 _ _ _ _ (y 0) (y 1)).trans (xB_eq m c t (y 0) (y 1))).trans (congrArg (G4 m c) (outEmb4 t y).symm))

theorem arr5 (c : Dev nD) : (dats m 0 c).arrAt 5 (cfgs 0).N = G5 m c := by
  refine (dats m 0 c).arrAt_eq_of_covers 5 _ (by decide +kernel) fun t hf y => ?_
  blk_simp
  rw [after0_5]
  exact (congrArg _ (eq_ix2 y)).trans ((pt5 m c t (y 0) (y 1)).trans (congrArg (G5 m c) (outEmb5 t y).symm))

/-! ## The results -/

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z4 (c : Dev nD) : Zr m c (Proc.devRef .tc main_v7_0) = (dats m 0 c).arrAt 4 (cfgs 0).N :=
  Dat.withArrays_arrAt (dats m 0 c) sharedIn0 (V0 m c) (A_eq m c) 4
theorem Z5 (c : Dev nD) : Zr m c (Proc.devRef .tc main_v7_1) = (dats m 0 c).arrAt 5 (cfgs 0).N :=
  Dat.withArrays_arrAt (dats m 0 c) sharedIn0 (V0 m c) (A_eq m c) 5

theorem T0 (Z : Valuation τ sig (Elt Ideal)) (b : Fin 4) (s : Fin 2048) (k : Fin 1024) :
    (StableHlo.after [hostOps1].flatten Z (Proc.devRef .tc main_v8) : S4x2048x1024.Idx → EReal) (ix3 b s k)
      = (Z (Proc.devRef .tc main_v7_0) : S8192x1024.Idx → EReal) (ix2 ⟨b.val * 2048 + s.val, by omega⟩ k) := by
  after_reads_at

theorem T1 (Z : Valuation τ sig (Elt Ideal)) (b : Fin 4) (s : Fin 2048) (k : Fin 1024) :
    (StableHlo.after [hostOps1].flatten Z (Proc.devRef .tc main_v10) : S4x2048x1024.Idx → EReal) (ix3 b s k)
      = (Z (Proc.devRef .tc main_v7_1) : S8192x1024.Idx → EReal) (ix2 ⟨b.val * 2048 + s.val, by omega⟩ k) := by
  after_reads_at

theorem R1 (a : AT) (w : WT) (x : X3) : Cert.Reference12Ideal.Read.val_main_v1 (F := Ideal) a w x = xr a w x := by
  funext i
  obtain ⟨b, s, k, rfl⟩ : ∃ (b : Fin 4) (s : Fin 2048) (k : Fin 1024), i = ix3 b s k := ⟨i 0, i 1, i 2, eq_ix3 i⟩
  show _ = x (ix3 b s k) + ∑ e : Fin 2816, a (ix3 b s e) * w (ix2 e k)
  pointwise [Cert.Reference12Ideal.Read.val_main_v1, Cert.Reference12Ideal.Read.val_main_v0]

theorem R14 (a : AT) (w : WT) (x : X3) (g : G1) (b : Fin 4) (s : Fin 2048) (k : Fin 1024) :
    Cert.Reference12Ideal.Read.val_main_v14 (F := Ideal) a w x g (ix3 b s k) = hh (xr a w x) g b s k := by
  rw [← R1]
  open Cert.Reference12Ideal.Read in
  unfold val_main_v14 val_main_v11 val_main_v10 val_main_v9 val_main_v8 val_main_v6 val_main_v4 val_main_v3 val_main_v2
  generalize Cert.Reference12Ideal.Read.val_main_v1 (F := Ideal) a w x = y
  unfold hh rr ms nn ee
  open Cert.Reference12Ideal.Read in
  pointwise [val_main_v13, val_main_v12, val_main_v7, val_main_v5, val_main_cst, val_main_cst_0, val_main_cst_1]

theorem E8 (c : Dev nD) :
    (Pipeline.afterTail₀ cfgs (dats m) 0 (V0 m) [hostOps1] c main_v8 : S4x2048x1024.Idx → EReal)
      = Cert.Reference12Ideal.Read.val_main_v1 (F := Ideal) (a0 m c) (a1 m c) (a2 m c) := by
  funext i
  obtain ⟨b, s, k, rfl⟩ : ∃ (b : Fin 4) (s : Fin 2048) (k : Fin 1024), i = ix3 b s k := ⟨i 0, i 1, i 2, eq_ix3 i⟩
  refine (T0 (Zr m c) b s k).trans (Eq.trans ?_ (congrFun (R1 _ _ _) (ix3 b s k)).symm)
  rw [Z4, arr4]
  show xo m c (ix3 (bq ⟨b.val * 2048 + s.val, by omega⟩) (sq ⟨b.val * 2048 + s.val, by omega⟩) k) = _
  rw [hb, hs]

theorem E10 (c : Dev nD) :
    (Pipeline.afterTail₀ cfgs (dats m) 0 (V0 m) [hostOps1] c main_v10 : S4x2048x1024.Idx → EReal)
      = Cert.Reference12Ideal.Read.val_main_v14 (F := Ideal) (a0 m c) (a1 m c) (a2 m c) (a3 m c) := by
  funext i
  obtain ⟨b, s, k, rfl⟩ : ∃ (b : Fin 4) (s : Fin 2048) (k : Fin 1024), i = ix3 b s k := ⟨i 0, i 1, i 2, eq_ix3 i⟩
  refine (T1 (Zr m c) b s k).trans (Eq.trans ?_ (R14 _ _ _ _ b s k).symm)
  rw [Z5, arr5]
  show hh (xo m c) (a3 m c) (bq ⟨b.val * 2048 + s.val, by omega⟩) (sq ⟨b.val * 2048 + s.val, by omega⟩) k = _
  rw [hb, hs]

/-- The run: the two results at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_v10) = Pipeline.afterTail₀ cfgs (dats m) 0 (V0 m) [hostOps1] c main_v10) :=
  (θ_run defs _ _).mono (fun _ h c => ⟨(h c).2 main_v8 (Pipeline.mem_restRefs_of main_v8 (by decide) (by decide)),
    (h c).2 main_v10 (Pipeline.mem_restRefs_of main_v10 (by decide) (by decide))⟩) (run_main m ρ)

end Cert.Kernel12Ideal.Hand
end
-- ==== Proof.FlSpec.lean ====
/- The loss behind the last norm and its gradients, in plain sums over the argument arrays: what both programs compute. -/
module

public import proofs.«01_k».proof.Proof.UpSpec

@[expose] public section

noncomputable section

open Idealize.ShloMosaic

namespace Cert.Spec.Fl
open Cert.Spec.Up

/-- The reciprocal of a row's length, as the kernel writes it, and one half. -/
def rcp : EReal := Ideal.ofBits .f32 0x3A800000#32
def hlf : EReal := Ideal.ofBits .f32 0x3F000000#32

/-- A row's error: the norm less the target. -/
def er (x g t : Fin 1024 → EReal) (k : Fin 1024) : EReal := x k * rr x * g k - t k
/-- The loss' gradient at the norm. -/
def de (x g t : Fin 1024 → EReal) (k : Fin 1024) : EReal := er x g t k * rcp
/-- A row's part of the loss, before the half. -/
def ls (x g t : Fin 1024 → EReal) : EReal := Ideal.div (∑ k, er x g t k * er x g t k) nn

theorem rcp_eq : rcp = ((1 / 1024 : ℝ) : EReal) := by
  unfold rcp
  simp [Ideal.ofBits, Ideal.ieee, -EReal.coe_mul]; norm_num

theorem hlf_eq : hlf = ((1 / 2 : ℝ) : EReal) := by
  unfold hlf
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

/-- The reference's factors in front of the error. -/
theorem de_ref (e : EReal) :
    Ideal.div (Ideal.ofBits .f32 0x3F000000#32 * Ideal.ofBits .f32 0x3F800000#32) nn * (Ideal.ofBits .f32 0x40000000#32 * e) = e * rcp := by
  have hN : (1024 : ℝ) ≠ 0 := by norm_num
  have hh : Ideal.ofBits .f32 0x3F000000#32 = ((1 / 2 : ℝ) : EReal) := hlf_eq
  rw [nn_eq, Ideal.div_coe hN, rcp_eq, one_eq, two_eq, hh, ← mul_assoc, ← EReal.coe_mul, ← EReal.coe_mul, ← EReal.coe_mul, mul_comm]
  exact congrArg (fun r : ℝ => e * (r : EReal)) (by norm_num)

theorem half_sum {ι : Type} [Fintype ι] (f : ι → EReal) : ∑ i, hlf * f i = hlf * ∑ i, f i := by
  rw [hlf_eq, mul_comm, ← sum_mul_real f (by norm_num : (0 : ℝ) ≤ 1 / 2)]
  exact Finset.sum_congr rfl fun i _ => mul_comm _ _

end Cert.Spec.Fl
end
-- ==== Proof.FlBlock.lean ====
/- What one grid point of the loss leaves in its three output blocks, at an index, as a function of the three input blocks at the
   point. -/
module

public import proofs.«01_k».proof.Proof.Gen.Kernel13Ideal.Frame
public import proofs.«01_k».proof.Proof.FlSpec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Hand
open Cert.Kernel13Ideal Cert.Kernel13Ideal.Gen
open Cert.Spec.Up Cert.Spec.Fl

/-- A row of a block, and the row of weights. -/
abbrev rowB (x : Vec Ideal S512x1024 .f32) (r : Fin 512) (k : Fin 1024) : EReal := x (ix2 r k)
abbrev gB (g : Vec Ideal S1x1024 .f32) (k : Fin 1024) : EReal := g (ix2 0 k)
/-- The loss' gradient at a block's norm. -/
abbrev deB (x t : Vec Ideal S512x1024 .f32) (g : Vec Ideal S1x1024 .f32) (r : Fin 512) : Fin 1024 → EReal := de (rowB x r) (gB g) (rowB t r)

variable (m : (ℓ : Loc nD τ sig) → Buf (Elt Ideal) ℓ)

theorem pay10_apply (x t : Vec Ideal S512x1024 .f32) (g : Vec Ideal S1x1024 .f32) (r : Fin 512) (k : Fin 1024) :
    (k0_pay10 (F := Ideal) x g t (ix2 r k) : EReal) = er (rowB x r) (gB g) (rowB t r) k := by
  unfold er rr ms nn ee
  pointwise [k0_pay10, k0_pay9, k0_pay8]

theorem pay1_apply (x t : Vec Ideal S512x1024 .f32) (g : Vec Ideal S1x1024 .f32) (r : Fin 512) (k : Fin 1024) :
    (k0_pay1 (F := Ideal) (k0_pay10 x g t) k0_pay12 (ix2 r k) : EReal) = deB x t g r k := by
  have h : (k0_pay1 (F := Ideal) (k0_pay10 x g t) k0_pay12 (ix2 r k) : EReal) = k0_pay10 (F := Ideal) x g t (ix2 r k) * rcp := by
    unfold rcp
    pointwise [k0_pay1, k0_pay12]
  rw [h, pay10_apply]
  rfl

theorem pay8_apply (x : Vec Ideal S512x1024 .f32) : k0_pay8 (F := Ideal) x = x := by
  funext i
  pointwise [k0_pay8]

theorem pay9_apply (x : Vec Ideal S1x1024 .f32) : k0_pay9 (F := Ideal) x = x := by
  funext i
  pointwise [k0_pay9]

theorem pay4_gen (x e u : Vec Ideal S512x1024 .f32) (g : Vec Ideal S1x1024 .f32) (d : Fin 512 → Fin 1024 → EReal)
    (h : ∀ r q, k0_pay1 (F := Ideal) e u (ix2 r q) = d r q) (r : Fin 512) (k : Fin 1024) :
    (k0_pay4 (F := Ideal) x g e u (ix2 r k) : EReal) = dx (rowB x r) (d r) (gB g) (fun _ => 0) k := by
  unfold k0_pay4 k0_pay3 k0_pay2
  generalize k0_pay1 (F := Ideal) e u = D at h
  unfold dx rr ms nn ee
  rw [zero_add]
  pointwise
  simp only [h]

theorem pay5_gen (x e u : Vec Ideal S512x1024 .f32) (a : Vec Ideal S1x1024 .f32) (d : Fin 512 → Fin 1024 → EReal)
    (h : ∀ r q, k0_pay1 (F := Ideal) e u (ix2 r q) = d r q) (k : Fin 1024) :
    (k0_pay5 (F := Ideal) x e u a (ix2 0 k) : EReal) = a (ix2 0 k) + ∑ r : Fin 512, dg (rowB x r) (d r) k := by
  unfold k0_pay5 k0_pay3 k0_pay2
  generalize k0_pay1 (F := Ideal) e u = D at h
  unfold dg rr ms nn ee
  pointwise
  simp only [h]

theorem pay4_apply (x t : Vec Ideal S512x1024 .f32) (g : Vec Ideal S1x1024 .f32) (r : Fin 512) (k : Fin 1024) :
    (k0_pay4 (F := Ideal) (k0_pay8 x) (k0_pay9 g) (k0_pay10 x g t) k0_pay12 (ix2 r k) : EReal)
      = dx (rowB x r) (deB x t g r) (gB g) (fun _ => 0) k := by
  rw [pay8_apply, pay9_apply]
  exact pay4_gen x _ _ g (deB x t g) (fun r q => pay1_apply x t g r q) r k

theorem pay5_apply (x t : Vec Ideal S512x1024 .f32) (g a : Vec Ideal S1x1024 .f32) (k : Fin 1024) :
    (k0_pay5 (F := Ideal) (k0_pay8 x) (k0_pay10 x g t) k0_pay12 a (ix2 0 k) : EReal)
      = a (ix2 0 k) + ∑ r : Fin 512, dg (rowB x r) (deB x t g r) k := by
  rw [pay8_apply]
  exact pay5_gen x _ _ a (deB x t g) (fun r q => pay1_apply x t g r q) k

/-- A block's part of the loss. -/
def lB (x t : Vec Ideal S512x1024 .f32) (g : Vec Ideal S1x1024 .f32) : EReal := hlf * ∑ r : Fin 512, ls (rowB x r) (gB g) (rowB t r)

theorem pay11_apply (x t : Vec Ideal S512x1024 .f32) (g : Vec Ideal S1x1024 .f32) (a : Vec Ideal S1x128 .f32) (l : Fin 128) :
    (k0_pay11 (F := Ideal) x g t a (ix2 0 l) : EReal) = a (ix2 0 l) + lB x t g := by
  have h : ∀ r q, (k0_pay10 (F := Ideal) x g t (ix2 r q) : EReal) = er (rowB x r) (gB g) (rowB t r) q := pay10_apply x t g
  unfold k0_pay11
  generalize k0_pay10 (F := Ideal) x g t = E at h
  unfold lB ls nn hlf
  pointwise
  simp only [h]

set_option maxHeartbeats 1000000 in
theorem out3_A (c : Dev nD) (t : Fin cfg0.N) (h0 : t.val % 16 = 0) (r : Fin 512) (k : Fin 1024) :
    ((outsAt0 m c t.val t.isLt).1 (ix2 r k) : EReal)
      = dx (rowB (iblk m c 0 t) r) (deB (iblk m c 0 t) (iblk m c 1 t) (iblk m c 2 t) r) (gB (iblk m c 2 t)) (fun _ => 0) k := by
  rw [outsAt0_A m c t h0]
  dsimp only
  generalize iblk m c 0 t = x0
  generalize iblk m c 1 t = x1
  generalize iblk m c 2 t = x2
  frame_open
  simp (disch := decide) only [↓ View.readCov_skip, ↓ View.readCov_cons_toLoadRect, ↓ View.readCov_fill]
  frame_out
  exact pay4_apply x0 x1 x2 r k

set_option maxHeartbeats 1000000 in
theorem out3_B (c : Dev nD) (t : Fin cfg0.N) (h0 : ¬ t.val % 16 = 0) (r : Fin 512) (k : Fin 1024) :
    ((outsAt0 m c t.val t.isLt).1 (ix2 r k) : EReal)
      = dx (rowB (iblk m c 0 t) r) (deB (iblk m c 0 t) (iblk m c 1 t) (iblk m c 2 t) r) (gB (iblk m c 2 t)) (fun _ => 0) k := by
  rw [outsAt0_B m c t h0]
  dsimp only
  generalize iblk m c 0 t = x0
  generalize iblk m c 1 t = x1
  generalize iblk m c 2 t = x2
  frame_open
  simp (disch := decide) only [↓ View.readCov_skip, ↓ View.readCov_cons_toLoadRect, ↓ View.readCov_fill]
  frame_out
  exact pay4_apply x0 x1 x2 r k

set_option maxHeartbeats 1000000 in
theorem out4_A (c : Dev nD) (t : Fin cfg0.N) (h0 : t.val % 16 = 0) (l : Fin 128) :
    ((outsAt0 m c t.val t.isLt).2.1 (ix2 0 l) : EReal) = lB (iblk m c 0 t) (iblk m c 1 t) (iblk m c 2 t) := by
  rw [outsAt0_A m c t h0]
  dsimp only
  generalize iblk m c 0 t = x0
  generalize iblk m c 1 t = x1
  generalize iblk m c 2 t = x2
  frame_open
  simp (disch := decide) only [↓ View.readCov_skip, ↓ View.readCov_cons_toLoadRect, ↓ View.readCov_fill]
  frame_out
  refine Eq.trans (α := EReal) (pay11_apply x0 x1 x2 _ l) ?_
  have hz : k0_pay6 (F := Ideal) (ix2 0 l) = (0 : EReal) := by
    pointwise [k0_pay6]
  rw [hz, zero_add]

set_option maxHeartbeats 1000000 in
theorem out4_B (c : Dev nD) (t : Fin cfg0.N) (h0 : ¬ t.val % 16 = 0) (l : Fin 128) :
    ((outsAt0 m c t.val t.isLt).2.1 (ix2 0 l) : EReal)
      = (outsAt0 m c (t.val - 1) (Nat.lt_of_le_of_lt (Nat.sub_le _ _) t.isLt)).2.1 (ix2 0 l)
        + lB (iblk m c 0 t) (iblk m c 1 t) (iblk m c 2 t) := by
  rw [outsAt0_B m c t h0]
  dsimp only
  generalize iblk m c 0 t = x0
  generalize iblk m c 1 t = x1
  generalize iblk m c 2 t = x2
  frame_open
  simp (disch := decide) only [↓ View.readCov_skip, ↓ View.readCov_cons_toLoadRect, ↓ View.readCov_fill]
  frame_out
  exact pay11_apply x0 x1 x2 _ l

set_option maxHeartbeats 1000000 in
theorem out5_A (c : Dev nD) (t : Fin cfg0.N) (h0 : t.val % 16 = 0) (k : Fin 1024) :
    ((outsAt0 m c t.val t.isLt).2.2 (ix2 0 k) : EReal)
      = ∑ r : Fin 512, dg (rowB (iblk m c 0 t) r) (deB (iblk m c 0 t) (iblk m c 1 t) (iblk m c 2 t) r) k := by
  rw [outsAt0_A m c t h0]
  dsimp only
  generalize iblk m c 0 t = x0
  generalize iblk m c 1 t = x1
  generalize iblk m c 2 t = x2
  frame_open
  simp (disch := decide) only [↓ View.readCov_skip, ↓ View.readCov_cons_toLoadRect, ↓ View.readCov_fill]
  frame_out
  refine Eq.trans (α := EReal) (pay5_apply x0 x1 x2 _ k) ?_
  have hz : k0_pay7 (F := Ideal) (ix2 0 k) = (0 : EReal) := by
    pointwise [k0_pay7]
  rw [hz, zero_add]

set_option maxHeartbeats 1000000 in
theorem out5_B (c : Dev nD) (t : Fin cfg0.N) (h0 : ¬ t.val % 16 = 0) (k : Fin 1024) :
    ((outsAt0 m c t.val t.isLt).2.2 (ix2 0 k) : EReal)
      = (outsAt0 m c (t.val - 1) (Nat.lt_of_le_of_lt (Nat.sub_le _ _) t.isLt)).2.2 (ix2 0 k)
        + ∑ r : Fin 512, dg (rowB (iblk m c 0 t) r) (deB (iblk m c 0 t) (iblk m c 1 t) (iblk m c 2 t) r) k := by
  rw [outsAt0_B m c t h0]
  dsimp only
  generalize iblk m c 0 t = x0
  generalize iblk m c 1 t = x1
  generalize iblk m c 2 t = x2
  frame_open
  simp (disch := decide) only [↓ View.readCov_skip, ↓ View.readCov_cons_toLoadRect, ↓ View.readCov_fill]
  frame_out
  exact pay5_apply x0 x1 x2 _ k

end Cert.Kernel13Ideal.Hand
end
-- ==== Proof.FlRef.lean ====
/- What the reference of the loss and of its gradients computes, at an index. -/
module

public import proofs.«01_k».proof.Proof.FlSpec
public import proofs.«01_k».proof.Proof.Ref
public import proofs.«01_k».proof.Proof.Gen.Reference13Ideal.Run
public import proofs.«01_k».proof.Proof.Gen.Reference13Ideal.Read

@[expose] public section

set_option maxRecDepth 16384

noncomputable section

open Idealize.ShloMosaic

namespace Cert.Reference13Ideal.Hand

open Cert.Reference13Ideal Cert.Reference13Ideal.Gen Cert.Reference13Ideal.Read
open Cert.Spec Cert.Spec.Up Cert.Spec.Fl

variable (x t : X3) (g : G1)

/-- The norm's weights. -/
abbrev gw (k : Fin 1024) : EReal := g (ix1 k)

theorem R16 (b : Fin 4) (s : Fin 2048) (k : Fin 1024) :
    val_main_v16 (F := Ideal) x t g (ix3 b s k) = er (row x b s) (gw g) (row t b s) k := by
  unfold er rr ms nn ee
  pointwise [val_main_v16, val_main_v15, val_main_v14, val_main_v13, val_main_v12, val_main_v11, val_main_v7, val_main_v6, val_main_v5, val_main_v4,
    val_main_v3, val_main_v2, val_main_v1, val_main_v0, val_main_cst, val_main_cst_0, val_main_cst_1]

theorem R30 (b : Fin 4) (s : Fin 2048) (k : Fin 1024) :
    val_main_v30 (F := Ideal) x t g (ix3 b s k) = de (row x b s) (gw g) (row t b s) k := by
  have h : val_main_v30 (F := Ideal) x t g (ix3 b s k)
      = Ideal.div (Ideal.ofBits .f32 0x3F000000#32 * Ideal.ofBits .f32 0x3F800000#32) nn * (Ideal.ofBits .f32 0x40000000#32 * val_main_v16 (F := Ideal) x t g (ix3 b s k)) := by
    unfold nn
    pointwise [val_main_v30, val_main_v29, val_main_v28, val_main_v27, val_main_v26, val_main_v25, val_main_v19, val_main_v18, val_main_cst_3,
      val_main_cst_8, val_main_cst_9, val_main_cst_10]
  rw [h, de_ref, R16]
  rfl

theorem P50 (b : Fin 4) (s : Fin 2048) (k : Fin 1024) :
    val_main_v50 (F := Ideal) x t g (ix3 b s k) + 0
      = dxRef (row x b s) (fun q => val_main_v30 (F := Ideal) x t g (ix3 b s q)) (gw g) (fun _ => 0) k := by
  unfold dxRef rr ms nn ee
  rw [zero_add, add_zero]
  pointwise [val_main_v50, val_main_v49, val_main_v48, val_main_v47, val_main_v46, val_main_v45, val_main_v44, val_main_v43, val_main_v42, val_main_v41,
    val_main_v40, val_main_v39, val_main_v38, val_main_v37, val_main_v35, val_main_v34, val_main_v13, val_main_v10,
    val_main_v9, val_main_v8, val_main_v7, val_main_v6, val_main_v5, val_main_v4, val_main_v3, val_main_v2, val_main_v1, val_main_v0,
    val_main_cst, val_main_cst_0, val_main_cst_1, val_main_cst_2, val_main_cst_13, val_main_cst_14, val_main_cst_15]
  rw [Fin.sum_univ_one]

theorem R50 (b : Fin 4) (s : Fin 2048) (k : Fin 1024) :
    val_main_v50 (F := Ideal) x t g (ix3 b s k) = dx (row x b s) (de (row x b s) (gw g) (row t b s)) (gw g) (fun _ => 0) k := by
  refine (add_zero _).symm.trans ((P50 x t g b s k).trans ?_)
  simp only [R30]
  exact dx_eq _ _ _ _ k

theorem P31 (b : Fin 4) (s : Fin 2048) (k : Fin 1024) :
    val_main_v31 (F := Ideal) x t g (ix3 b s k) = row x b s k * rr (row x b s) * val_main_v30 (F := Ideal) x t g (ix3 b s k) := by
  unfold rr ms nn ee
  pointwise [val_main_v31, val_main_v12, val_main_v11, val_main_v7, val_main_v6, val_main_v5, val_main_v4, val_main_v3, val_main_v2, val_main_v1, val_main_v0,
    val_main_cst, val_main_cst_0, val_main_cst_1]

theorem red2 (v : S4x2048x1024.Idx → EReal) (k : Fin 1024) :
    Ideal.hostReduceAdd reducesTo_S1x1x1024_S1024_d0_1
      (shapeCast S1x1x1024
        (Host.reduceAdd (F := Ideal) (φ := .f32) v (constant S_ FTy.f32 0#32) reducesTo_S4x2048x1024_S1024_d0_1 h_S_)
        shapeCasts_S1024_S1x1x1024)
      0 (ix1 k) = ∑ b : Fin 4, ∑ s : Fin 2048, v (ix3 b s k) := by
  rw [Cert.ReferenceIdeal.Hand.hostSum01, zero_add, Fin.sum_univ_one, Fin.sum_univ_one]
  pointwise
  rw [Cert.ReferenceIdeal.Hand.hostSum01, zero_add]

theorem R36 (k : Fin 1024) :
    val_main_v36 (F := Ideal) x t g (ix1 k) = ∑ b : Fin 4, ∑ s : Fin 2048, dg (row x b s) (de (row x b s) (gw g) (row t b s)) k := by
  pointwise [val_main_v36, val_main_v33, val_main_v32, val_main_cst_11, val_main_cst_12]
  refine (red2 _ _).trans (Finset.sum_congr rfl fun b _ => Finset.sum_congr rfl fun s _ => (P31 x t g b s k).trans ?_)
  rw [R30, mul_comm]
  rfl

theorem R22 (b : Fin 4) (s : Fin 2048) :
    val_main_v22 (F := Ideal) x t g (ix2 b s) = ls (row x b s) (gw g) (row t b s) := by
  have h : val_main_v22 (F := Ideal) x t g (ix2 b s)
      = Ideal.div (∑ k : Fin 1024, val_main_v16 (F := Ideal) x t g (ix3 b s k) * val_main_v16 (F := Ideal) x t g (ix3 b s k)) nn := by
    unfold nn
    pointwise [val_main_v22, val_main_v21, val_main_v20, val_main_v17, val_main_cst_4, val_main_cst_5]
  rw [h]
  simp only [R16]
  rfl

theorem sum_ix2 (f : S4x2048.Idx → EReal) : ∑ j : S4x2048.Idx, f j = ∑ b : Fin 4, ∑ s : Fin 2048, f (ix2 b s) := by
  refine Eq.trans ?_ (Fintype.sum_prod_type (fun p : Fin 4 × Fin 2048 => f (ix2 p.1 p.2)))
  refine (Function.Bijective.sum_comp (e := fun p : Fin 4 × Fin 2048 => (ix2 p.1 p.2 : S4x2048.Idx)) ⟨?_, ?_⟩ f).symm
  · intro p q e
    exact Prod.ext (congrFun e 0) (congrFun e 1)
  · intro i
    exact ⟨(i 0, i 1), (eq_ix2 i).symm⟩

theorem R24 (i : S_.Idx) :
    val_main_v24 (F := Ideal) x t g i = hlf * ∑ b : Fin 4, ∑ s : Fin 2048, ls (row x b s) (gw g) (row t b s) := by
  have h : val_main_v24 (F := Ideal) x t g i = hlf * val_main_v23 (F := Ideal) x t g i := by
    unfold hlf
    pointwise [val_main_v24, val_main_cst_7]
  rw [h, val_main_v23_apply]
  have h0 : ∀ j, val_main_cst_6 (F := Ideal) j = (0 : EReal) := fun j => by
    pointwise [val_main_cst_6]
  rw [h0, zero_add, sum_ix2]
  simp only [R22]

end Cert.Reference13Ideal.Hand
end
-- ==== Proof.FlFinal.lean ====
/- The three results of the loss' program: its input arrays, its output arrays, and the run that leaves them. -/
module

public import proofs.«01_k».proof.Proof.FlBlock
public import proofs.«01_k».proof.Proof.FlRef
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel13Ideal.Hand
open Cert.Kernel13Ideal Cert.Kernel13Ideal.Gen
open Cert.Spec.Up Cert.Spec.Fl

variable (m : (ℓ : Loc nD τ sig) → Buf (Elt Ideal) ℓ)

/-- The kernel's arguments. -/
abbrev a0 (c : Dev nD) : X3 := m ((c : Thread nD τ).loc main_arg0)
abbrev a1 (c : Dev nD) : X3 := m ((c : Thread nD τ).loc main_arg1)
abbrev a2 (c : Dev nD) : G1 := m ((c : Thread nD τ).loc main_arg2)
abbrev bq (T : Fin 8192) : Fin 4 := ⟨T.val / 2048, by omega⟩
abbrev sq (T : Fin 8192) : Fin 2048 := ⟨T.val % 2048, by omega⟩
/-- The norm's weights. -/
abbrev gw (c : Dev nD) (k : Fin 1024) : EReal := a2 m c (ix1 k)

theorem V0a (c : Dev nD) (T : Fin 8192) (k : Fin 1024) : (V m c main_v0 : S8192x1024.Idx → EReal) (ix2 T k) = a0 m c (ix3 (bq T) (sq T) k) := by
  unfold V
  after_reads_at

theorem V1a (c : Dev nD) (T : Fin 8192) (k : Fin 1024) : (V m c main_v1 : S8192x1024.Idx → EReal) (ix2 T k) = a1 m c (ix3 (bq T) (sq T) k) := by
  unfold V
  after_reads_at

theorem V2a (c : Dev nD) (k : Fin 1024) : (V m c main_v2 : S1x1024.Idx → EReal) (ix2 0 k) = a2 m c (ix1 k) := by
  unfold V
  after_reads_at

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

theorem tlt (t : Fin cfg0.N) : t.val < 16 := t.isLt
/-- The row of the batch that a point's row is. -/
abbrev rb (t : Fin cfg0.N) (r : Fin 512) : Fin 8192 := ⟨t.val * 512 + r.val, by have := tlt t; omega⟩

theorem ib0 (c : Dev nD) (t : Fin cfg0.N) (r : Fin 512) (k : Fin 1024) :
    iblk m c 0 t (ix2 r k) = (V m c main_v0 : S8192x1024.Idx → EReal) (ix2 (rb t r) k) := by
  blk_ext [iblk, idx t]

theorem ib1 (c : Dev nD) (t : Fin cfg0.N) (r : Fin 512) (k : Fin 1024) :
    iblk m c 1 t (ix2 r k) = (V m c main_v1 : S8192x1024.Idx → EReal) (ix2 (rb t r) k) := by
  blk_ext [iblk, idx t]

theorem ib2 (c : Dev nD) (t : Fin cfg0.N) (k : Fin 1024) :
    iblk m c 2 t (ix2 0 k) = (V m c main_v2 : S1x1024.Idx → EReal) (ix2 0 k) := by
  blk_ext [iblk, idx t]

theorem x_eq (c : Dev nD) (t : Fin cfg0.N) (r : Fin 512) : rowB (iblk m c 0 t) r = row (a0 m c) (bq (rb t r)) (sq (rb t r)) :=
  funext fun q => (ib0 m c t r q).trans (V0a m c _ q)

theorem t_eq (c : Dev nD) (t : Fin cfg0.N) (r : Fin 512) : rowB (iblk m c 1 t) r = row (a1 m c) (bq (rb t r)) (sq (rb t r)) :=
  funext fun q => (ib1 m c t r q).trans (V1a m c _ q)

theorem g_eq (c : Dev nD) (t : Fin cfg0.N) : gB (iblk m c 2 t) = gw m c := funext fun q => (ib2 m c t q).trans (V2a m c q)

/-- The loss' gradient at a row's norm. -/
abbrev dr (c : Dev nD) (b : Fin 4) (s : Fin 2048) : Fin 1024 → EReal := de (row (a0 m c) b s) (gw m c) (row (a1 m c) b s)

theorem d_eq (c : Dev nD) (t : Fin cfg0.N) (r : Fin 512) :
    deB (iblk m c 0 t) (iblk m c 1 t) (iblk m c 2 t) r = dr m c (bq (rb t r)) (sq (rb t r)) := by
  show de (rowB (iblk m c 0 t) r) (gB (iblk m c 2 t)) (rowB (iblk m c 1 t) r) = _
  rw [x_eq, t_eq, g_eq]

/-! ## The three output arrays -/

/-- The gradient of the norm's input, at the layout that the kernel writes. -/
def G3 (c : Dev nD) (i : S8192x1024.Idx) : EReal :=
  dx (row (a0 m c) (bq (i 0)) (sq (i 0))) (dr m c (bq (i 0)) (sq (i 0))) (gw m c) (fun _ => 0) (i 1)

theorem out3 (c : Dev nD) (t : Fin cfg0.N) (r : Fin 512) (k : Fin 1024) :
    (outsAt0 m c t.val t.isLt).1 (ix2 r k) = G3 m c (ix2 (rb t r) k) := by
  have h : ((outsAt0 m c t.val t.isLt).1 (ix2 r k) : EReal)
      = dx (rowB (iblk m c 0 t) r) (deB (iblk m c 0 t) (iblk m c 1 t) (iblk m c 2 t) r) (gB (iblk m c 2 t)) (fun _ => 0) k := by
    by_cases h0 : t.val % 16 = 0
    · exact out3_A m c t h0 r k
    · exact out3_B m c t h0 r k
  refine h.trans ?_
  rw [d_eq, x_eq, g_eq]
  rfl

theorem outEmb3 (t : Fin cfg0.N) (y : S512x1024.Idx) : ((win0_3.blk t).view.emb y : S8192x1024.Idx) = ix2 (rb t (y 0)) (y 1) := by
  blk_ext [idx t]

theorem outEmb4 (t : Fin cfg0.N) (y : S1x128.Idx) : ((win0_4.blk t).view.emb y : S1x128.Idx) = ix2 0 (y 1) := by
  blk_ext [idx t]

theorem outEmb5 (t : Fin cfg0.N) (y : S1x1024.Idx) : ((win0_5.blk t).view.emb y : S1x1024.Idx) = ix2 0 (y 1) := by
  blk_ext [idx t]

theorem arr3 (c : Dev nD) : (dats m 0 c).arrAt 3 (cfgs 0).N = G3 m c := by
  refine (dats m 0 c).arrAt_eq_of_covers 3 _ (by decide +kernel) fun t hf y => ?_
  blk_simp
  rw [after0_3]
  exact (congrArg _ (eq_ix2 y)).trans ((out3 m c t (y 0) (y 1)).trans (congrArg (G3 m c) (outEmb3 t y).symm))

/-- A sequence and a row in it by their numbers, zero elsewhere. -/
def at2 (f : Fin 4 → Fin 2048 → EReal) (b s : ℕ) : EReal := if h : b < 4 ∧ s < 2048 then f ⟨b, h.1⟩ ⟨s, h.2⟩ else 0

theorem at2_eq (f : Fin 4 → Fin 2048 → EReal) (b : Fin 4) (s : Fin 2048) {b' s' : ℕ} (hb : b' = b.val) (hs : s' = s.val) :
    at2 f b' s' = f b s := by
  subst hb
  subst hs
  exact dif_pos ⟨b.isLt, s.isLt⟩

/-- A block's rows of a sum over the batch. -/
def blkSum (f : Fin 4 → Fin 2048 → EReal) (n : ℕ) : EReal := ∑ r : Fin 512, at2 f (n / 4) (n % 4 * 512 + r.val)

theorem blkSum_eq (f : Fin 4 → Fin 2048 → EReal) (t : Fin cfg0.N) : ∑ r : Fin 512, f (bq (rb t r)) (sq (rb t r)) = blkSum f t.val :=
  Finset.sum_congr rfl fun r _ => (at2_eq f _ _ (by show t.val / 4 = (t.val * 512 + r.val) / 2048; omega)
    (by show t.val % 4 * 512 + r.val = (t.val * 512 + r.val) % 2048; omega)).symm

theorem blkSum_sum (f : Fin 4 → Fin 2048 → EReal) : ∑ n : Fin 16, blkSum f n.val = ∑ b : Fin 4, ∑ s : Fin 2048, f b s :=
  (Fin.sum_points_lanes 4 4 512 fun a s => at2 f a s).trans
    (Finset.sum_congr rfl fun b _ => Finset.sum_congr rfl fun s _ => at2_eq f b s rfl rfl)

/-- A row's part of the gradient of the norm's weights, and of the loss before the half. -/
def fG (c : Dev nD) (k : Fin 1024) (b : Fin 4) (s : Fin 2048) : EReal := dg (row (a0 m c) b s) (dr m c b s) k
def fL (c : Dev nD) (b : Fin 4) (s : Fin 2048) : EReal := ls (row (a0 m c) b s) (gw m c) (row (a1 m c) b s)

theorem incG (c : Dev nD) (t : Fin cfg0.N) (k : Fin 1024) :
    ∑ r : Fin 512, dg (rowB (iblk m c 0 t) r) (deB (iblk m c 0 t) (iblk m c 1 t) (iblk m c 2 t) r) k = blkSum (fG m c k) t.val := by
  refine Eq.trans (Finset.sum_congr rfl fun r _ => ?_) (blkSum_eq (fG m c k) t)
  rw [x_eq, d_eq]
  rfl

theorem incL (c : Dev nD) (t : Fin cfg0.N) : lB (iblk m c 0 t) (iblk m c 1 t) (iblk m c 2 t) = hlf * blkSum (fL m c) t.val := by
  unfold lB
  refine congrArg (fun y : EReal => hlf * y) (Eq.trans (Finset.sum_congr rfl fun r _ => ?_) (blkSum_eq (fL m c) t))
  rw [x_eq, t_eq, g_eq]
  rfl

theorem accG (c : Dev nD) (t : Fin cfg0.N) (ht : t.val % 16 = 15) (k : Fin 1024) :
    (outsAt0 m c t.val t.isLt).2.2 (ix2 0 k) = ∑ b : Fin 4, ∑ s : Fin 2048, fG m c k b s := by
  have key := Pipeline.eq_sum_of_reset_step_apply_of_mod
    (fun n hn (q : Fin 1024) => ((outsAt0 m c n hn).2.2 (ix2 0 q) : EReal)) 16 (fun _ => (0 : EReal)) (fun n q => blkSum (fG m c q) n)
    (fun t h0 q => by
      refine (out5_A m c t h0 q).trans ?_
      rw [incG, zero_add])
    (fun t h0 q => by
      refine (out5_B m c t h0 q).trans ?_
      rw [incG])
    t ht k
  refine key.trans ?_
  rw [zero_add, Finset.sum_range]
  refine (Finset.sum_congr rfl fun n _ => ?_).trans (blkSum_sum (fG m c k))
  have hN := tlt t
  have e : 16 * (t.val / 16) + n.val = n.val := by omega
  rw [e]

theorem accL (c : Dev nD) (t : Fin cfg0.N) (ht : t.val % 16 = 15) (l : Fin 128) :
    (outsAt0 m c t.val t.isLt).2.1 (ix2 0 l) = hlf * ∑ b : Fin 4, ∑ s : Fin 2048, fL m c b s := by
  have key := Pipeline.eq_sum_of_reset_step_apply_of_mod
    (fun n hn (q : Fin 128) => ((outsAt0 m c n hn).2.1 (ix2 0 q) : EReal)) 16 (fun _ => (0 : EReal)) (fun n _ => hlf * blkSum (fL m c) n)
    (fun t h0 q => by
      refine (out4_A m c t h0 q).trans ?_
      rw [incL, zero_add])
    (fun t h0 q => by
      refine (out4_B m c t h0 q).trans ?_
      rw [incL])
    t ht l
  refine key.trans ?_
  rw [zero_add, Finset.sum_range]
  refine (Finset.sum_congr rfl fun n _ => ?_).trans
    ((half_sum fun n : Fin 16 => blkSum (fL m c) n.val).trans (congrArg (fun y : EReal => hlf * y) (blkSum_sum (fL m c))))
  have hN := tlt t
  have e : 16 * (t.val / 16) + n.val = n.val := by omega
  rw [e]

theorem arr4 (c : Dev nD) :
    ((dats m 0 c).arrAt 4 (cfgs 0).N : S1x128.Idx → EReal) (ix2 0 0) = hlf * ∑ b : Fin 4, ∑ s : Fin 2048, fL m c b s := by
  refine (dats m 0 c).arrAt_forall_of_covers 4 (fun i v => i = ix2 0 0 → v = hlf * ∑ b : Fin 4, ∑ s : Fin 2048, fL m c b s)
    (by decide +kernel) (fun t hf y => ?_) (ix2 0 0) (Memref.isWhole_whole _) rfl
  blk_simp
  rw [after0_4]
  intro hy
  have i1 : y 1 = (0 : Fin 128) := congrFun ((outEmb4 t y).symm.trans hy) 1
  have e0 : y 0 = (0 : Fin 1) := Subsingleton.elim (α := Fin 1) _ _
  have e : y = ix2 0 0 := (eq_ix2 y).trans (by rw [e0, i1])
  rw [e]
  exact accL m c t ((flush0_4 t).mp hf) 0

theorem arr5 (c : Dev nD) (k : Fin 1024) :
    ((dats m 0 c).arrAt 5 (cfgs 0).N : S1x1024.Idx → EReal) (ix2 0 k) = ∑ b : Fin 4, ∑ s : Fin 2048, fG m c k b s := by
  refine (dats m 0 c).arrAt_forall_of_covers 5 (fun i v => i = ix2 0 k → v = ∑ b : Fin 4, ∑ s : Fin 2048, fG m c k b s)
    (by decide +kernel) (fun t hf y => ?_) (ix2 0 k) (Memref.isWhole_whole _) rfl
  blk_simp
  rw [after0_5]
  intro hy
  have i1 : y 1 = k := congrFun ((outEmb5 t y).symm.trans hy) 1
  have e0 : y 0 = (0 : Fin 1) := Subsingleton.elim (α := Fin 1) _ _
  have e : y = ix2 0 k := (eq_ix2 y).trans (by rw [e0, i1])
  rw [e]
  exact accG m c t ((flush0_5 t).mp hf) k

/-! ## The lines after the region -/

theorem T6 (Z : Valuation τ sig (Elt Ideal)) (i : S_.Idx) :
    (StableHlo.after [hostOps1].flatten Z (Proc.devRef .tc main_v6) : S_.Idx → EReal) i
      = (Z (Proc.devRef .tc main_v3_1) : S1x128.Idx → EReal) (ix2 0 0) := by
  after_reads_at

theorem T7 (Z : Valuation τ sig (Elt Ideal)) (b : Fin 4) (s : Fin 2048) (k : Fin 1024) :
    (StableHlo.after [hostOps1].flatten Z (Proc.devRef .tc main_v7) : S4x2048x1024.Idx → EReal) (ix3 b s k)
      = (Z (Proc.devRef .tc main_v3_0) : S8192x1024.Idx → EReal) (ix2 ⟨b.val * 2048 + s.val, by omega⟩ k) := by
  after_reads_at

theorem T8 (Z : Valuation τ sig (Elt Ideal)) (k : Fin 1024) :
    (StableHlo.after [hostOps1].flatten Z (Proc.devRef .tc main_v8) : S1024.Idx → EReal) (ix1 k)
      = (Z (Proc.devRef .tc main_v3_2) : S1x1024.Idx → EReal) (ix2 0 k) := by
  after_reads_at

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z3 (c : Dev nD) : Zr m c (Proc.devRef .tc main_v3_0) = (dats m 0 c).arrAt 3 (cfgs 0).N :=
  Dat.withArrays_arrAt (dats m 0 c) sharedIn0 (V0 m c) (A_eq m c) 3

theorem Z4 (c : Dev nD) : Zr m c (Proc.devRef .tc main_v3_1) = (dats m 0 c).arrAt 4 (cfgs 0).N :=
  Dat.withArrays_arrAt (dats m 0 c) sharedIn0 (V0 m c) (A_eq m c) 4

theorem Z5 (c : Dev nD) : Zr m c (Proc.devRef .tc main_v3_2) = (dats m 0 c).arrAt 5 (cfgs 0).N :=
  Dat.withArrays_arrAt (dats m 0 c) sharedIn0 (V0 m c) (A_eq m c) 5

theorem E6 (c : Dev nD) :
    (Pipeline.afterTail₀ cfgs (dats m) 0 (V0 m) [hostOps1] c main_v6 : S_.Idx → EReal)
      = Cert.Reference13Ideal.Read.val_main_v24 (F := Ideal) (a0 m c) (a1 m c) (a2 m c) := by
  funext i
  refine (T6 (Zr m c) i).trans (Eq.trans ?_ (Cert.Reference13Ideal.Hand.R24 _ _ _ i).symm)
  rw [Z4]
  exact arr4 m c

theorem E7 (c : Dev nD) :
    (Pipeline.afterTail₀ cfgs (dats m) 0 (V0 m) [hostOps1] c main_v7 : S4x2048x1024.Idx → EReal)
      = Cert.Reference13Ideal.Read.val_main_v50 (F := Ideal) (a0 m c) (a1 m c) (a2 m c) := by
  funext i
  obtain ⟨b, s, k, rfl⟩ : ∃ (b : Fin 4) (s : Fin 2048) (k : Fin 1024), i = ix3 b s k := ⟨i 0, i 1, i 2, eq_ix3 i⟩
  refine (T7 (Zr m c) b s k).trans (Eq.trans ?_ (Cert.Reference13Ideal.Hand.R50 _ _ _ b s k).symm)
  rw [Z3, arr3]
  have hb : bq ⟨b.val * 2048 + s.val, by omega⟩ = b := Fin.ext (by show (b.val * 2048 + s.val) / 2048 = b.val; omega)
  have hs : sq ⟨b.val * 2048 + s.val, by omega⟩ = s := Fin.ext (by show (b.val * 2048 + s.val) % 2048 = s.val; omega)
  show dx (row (a0 m c) (bq ⟨b.val * 2048 + s.val, by omega⟩) (sq ⟨b.val * 2048 + s.val, by omega⟩))
    (dr m c (bq ⟨b.val * 2048 + s.val, by omega⟩) (sq ⟨b.val * 2048 + s.val, by omega⟩)) _ _ k = _
  rw [hb, hs]

theorem E8 (c : Dev nD) :
    (Pipeline.afterTail₀ cfgs (dats m) 0 (V0 m) [hostOps1] c main_v8 : S1024.Idx → EReal)
      = Cert.Reference13Ideal.Read.val_main_v36 (F := Ideal) (a0 m c) (a1 m c) (a2 m c) := by
  funext i
  obtain ⟨k, rfl⟩ : ∃ k : Fin 1024, i = ix1 k := ⟨i 0, eq_ix1 i⟩
  refine (T8 (Zr m c) k).trans (Eq.trans ?_ (Cert.Reference13Ideal.Hand.R36 _ _ _ k).symm)
  rw [Z5]
  exact arr5 m c k

/-- The run: the three results at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v6) = Pipeline.afterTail₀ cfgs (dats m) 0 (V0 m) [hostOps1] c main_v6
      ∧ r.2.mem ((c.tc : Thread nD τ).loc main_v7) = Pipeline.afterTail₀ cfgs (dats m) 0 (V0 m) [hostOps1] c main_v7
      ∧ r.2.mem ((c.tc : Thread nD τ).loc main_v8) = Pipeline.afterTail₀ cfgs (dats m) 0 (V0 m) [hostOps1] c main_v8) :=
  (θ_run defs _ _).mono (fun _ h c => ⟨(h c).2 main_v6 (Pipeline.mem_restRefs_of main_v6 (by decide) (by decide)),
    (h c).2 main_v7 (Pipeline.mem_restRefs_of main_v7 (by decide) (by decide)),
    (h c).2 main_v8 (Pipeline.mem_restRefs_of main_v8 (by decide) (by decide))⟩) (run_main m ρ)

end Cert.Kernel13Ideal.Hand
end
-- ==== Proof.AwFinal.lean ====
/- The optimiser's step of the second layer's up projection: what the call leaves, what the reference computes, and the run that leaves it. -/
module

public import proofs.«01_k».proof.Proof.Gen.Kernel14Ideal.Frame
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Kernel14Ideal.Hand
open Cert.Kernel14Ideal Cert.Kernel14Ideal.Gen

abbrev PT := (⟨3, ![8, 704, 1024]⟩ : Shape).Idx → EReal
abbrev W3 := (⟨3, ![2, 1024, 704]⟩ : Shape).Idx → EReal
abbrev k32 (b : BitVec 32) : EReal := Ideal.ofBits .f32 b

/-- The summed gradient of a weight: the devices' parts of it. -/
def gr (p : PT) (j : Fin 704) (k : Fin 1024) : EReal := ∑ d : Fin 8, p (ix3 d j k)
/-- The new first moment. -/
def mn (g m : EReal) : EReal := k32 0x3F666666#32 * m + k32 0x3DCCCCCD#32 * g
/-- The new second moment. -/
def vn (g v : EReal) : EReal := k32 0x3F7FBE77#32 * v + k32 0x3A83126F#32 * (g * g)
/-- The change of a weight. -/
def dl (g w m v : EReal) : EReal :=
  k32 0xBA83126F#32 * (Ideal.div (Ideal.div (mn g m) (k32 0x3F26BD02#32)) (Ideal.sqrt (Ideal.div (vn g v) (k32 0x3C231ACC#32)) + k32 0x322BCC77#32)
    + k32 0x3C23D70A#32 * w)

variable (m : (ℓ : Loc nD τ sig) → Buf (Elt Ideal) ℓ)

/-- The kernel's arguments. -/
abbrev a0 (c : Dev nD) : PT := m ((c : Thread nD τ).loc main_arg0)
abbrev a1 (c : Dev nD) : W3 := m ((c : Thread nD τ).loc main_arg1)
abbrev a2 (c : Dev nD) : W3 := m ((c : Thread nD τ).loc main_arg2)
abbrev a3 (c : Dev nD) : W3 := m ((c : Thread nD τ).loc main_arg3)
/-- The layer and the column of a row of the arrays. -/
abbrev lq (T : Fin 1408) : Fin 2 := ⟨T.val / 704, by omega⟩
abbrev jq (T : Fin 1408) : Fin 704 := ⟨T.val % 704, by omega⟩

theorem V0a (c : Dev nD) (d : Fin 8) (j : Fin 704) (k : Fin 1024) : (V m c main_v0 : S8x704x1024.Idx → EReal) (ix3 d j k) = a0 m c (ix3 d j k) := by
  unfold V
  after_reads_at

theorem V2a (c : Dev nD) (T : Fin 1408) (k : Fin 1024) : (V m c main_v2 : S1408x1024.Idx → EReal) (ix2 T k) = a1 m c (ix3 (lq T) k (jq T)) := by
  unfold V
  after_reads_at

theorem V4a (c : Dev nD) (T : Fin 1408) (k : Fin 1024) : (V m c main_v4 : S1408x1024.Idx → EReal) (ix2 T k) = a2 m c (ix3 (lq T) k (jq T)) := by
  unfold V
  after_reads_at

theorem V6a (c : Dev nD) (T : Fin 1408) (k : Fin 1024) : (V m c main_v6 : S1408x1024.Idx → EReal) (ix2 T k) = a3 m c (ix3 (lq T) k (jq T)) := by
  unfold V
  after_reads_at

theorem idx : ∀ t : Fin cfg0.N, win0_0.index t = ![0, t.val, 0] ∧ win0_1.index t = ![11 + t.val, 0] ∧ win0_2.index t = ![11 + t.val, 0]
    ∧ win0_3.index t = ![11 + t.val, 0] ∧ win0_4.index t = ![11 + t.val, 0] ∧ win0_5.index t = ![11 + t.val, 0]
    ∧ win0_6.index t = ![11 + t.val, 0] ∧ win0_7.index t = ![11 + t.val, 0] :=
  (by decide +kernel : ∀ t : Fin grid0.N, _)

theorem tlt (t : Fin cfg0.N) : t.val < 11 := t.isLt
/-- The row of the parts, and of the arrays, that a point's row is. -/
abbrev pb (t : Fin cfg0.N) (r : Fin 64) : Fin 704 := ⟨t.val * 64 + r.val, by have := tlt t; omega⟩
abbrev rb (t : Fin cfg0.N) (r : Fin 64) : Fin 1408 := ⟨(11 + t.val) * 64 + r.val, by have := tlt t; omega⟩

theorem ib0 (c : Dev nD) (t : Fin cfg0.N) (d : Fin 8) (r : Fin 64) (k : Fin 1024) :
    iblk m c 0 t (ix3 d r k) = (V m c main_v0 : S8x704x1024.Idx → EReal) (ix3 d (pb t r) k) := by
  blk_ext [iblk, idx t]

theorem ib1 (c : Dev nD) (t : Fin cfg0.N) (r : Fin 64) (k : Fin 1024) :
    iblk m c 1 t (ix2 r k) = (V m c main_v2 : S1408x1024.Idx → EReal) (ix2 (rb t r) k) := by
  blk_ext [iblk, idx t]

theorem ib2 (c : Dev nD) (t : Fin cfg0.N) (r : Fin 64) (k : Fin 1024) :
    iblk m c 2 t (ix2 r k) = (V m c main_v4 : S1408x1024.Idx → EReal) (ix2 (rb t r) k) := by
  blk_ext [iblk, idx t]

theorem ib3 (c : Dev nD) (t : Fin cfg0.N) (r : Fin 64) (k : Fin 1024) :
    iblk m c 3 t (ix2 r k) = (V m c main_v6 : S1408x1024.Idx → EReal) (ix2 (rb t r) k) := by
  blk_ext [iblk, idx t]

section block
variable (x0 : Vec Ideal S8x64x1024 .bf16) (x1 x2 x3 : Vec Ideal S64x1024 .f32)

/-- The sum over the devices of a block. -/
def gb (r : Fin 64) (k : Fin 1024) : EReal := ∑ d : Fin 8, x0 (ix3 d r k)

theorem p6 (r : Fin 64) (k : Fin 1024) : (k0_pay6 (F := Ideal) x0 x1 x2 x3 (ix2 r k) : EReal) = gb x0 r k := by
  unfold gb
  rw [Fin.sum_univ_eight]
  pointwise [k0_pay6, k0_pay4]

theorem p7 (r : Fin 64) (k : Fin 1024) : (k0_pay7 (F := Ideal) x0 x1 x2 x3 (ix2 r k) : EReal) = x2 (ix2 r k) := by
  pointwise [k0_pay7, k0_pay5]

theorem p1 (y z : FVec Ideal S64x1024 .f32) (r : Fin 64) (k : Fin 1024) :
    (k0_pay1 (F := Ideal) y z (ix2 r k) : EReal) = mn (y (ix2 r k)) (z (ix2 r k)) := by
  unfold mn
  pointwise [k0_pay1]

theorem p2 (y : FVec Ideal S64x1024 .f32) (z : Vec Ideal S64x1024 .f32) (r : Fin 64) (k : Fin 1024) :
    (k0_pay2 (F := Ideal) y z (ix2 r k) : EReal) = vn (y (ix2 r k)) (z (ix2 r k)) := by
  unfold vn
  pointwise [k0_pay2]

theorem p3 (y z : FVec Ideal S64x1024 .f32) (v w : Vec Ideal S64x1024 .f32) (r : Fin 64) (k : Fin 1024) :
    (k0_pay3 (F := Ideal) y z v w (ix2 r k) : EReal) = dl (y (ix2 r k)) (w (ix2 r k)) (z (ix2 r k)) (v (ix2 r k)) := by
  unfold dl mn vn
  pointwise [k0_pay3, k0_pay1, k0_pay2]

theorem o4 (r : Fin 64) (k : Fin 1024) : (out0_4 (F := Ideal) x0 x1 x2 x3 (ix2 r k) : EReal) = gb x0 r k := by
  unfold out0_4
  frame_out
  exact p6 x0 x1 x2 x3 r k

theorem o5 (r : Fin 64) (k : Fin 1024) :
    (out0_5 (F := Ideal) x0 x1 x2 x3 (ix2 r k) : EReal) = dl (gb x0 r k) (x1 (ix2 r k)) (x2 (ix2 r k)) (x3 (ix2 r k)) := by
  unfold out0_5
  frame_out
  refine (p3 _ _ _ _ r k).trans ?_
  rw [p6, p7]

theorem o6 (r : Fin 64) (k : Fin 1024) : (out0_6 (F := Ideal) x0 x1 x2 x3 (ix2 r k) : EReal) = mn (gb x0 r k) (x2 (ix2 r k)) := by
  unfold out0_6
  frame_out
  refine (p1 _ _ r k).trans ?_
  rw [p6, p7]

theorem o7 (r : Fin 64) (k : Fin 1024) : (out0_7 (F := Ideal) x0 x1 x2 x3 (ix2 r k) : EReal) = vn (gb x0 r k) (x3 (ix2 r k)) := by
  unfold out0_7
  frame_out
  refine (p2 _ _ r k).trans ?_
  rw [p6]

end block

/-- The summed gradient, the weight and its moments, at a row of the arrays. -/
abbrev gA (c : Dev nD) (T : Fin 1408) (k : Fin 1024) : EReal := gr (a0 m c) (jq T) k
abbrev wA (c : Dev nD) (T : Fin 1408) (k : Fin 1024) : EReal := a1 m c (ix3 (lq T) k (jq T))
abbrev mA (c : Dev nD) (T : Fin 1408) (k : Fin 1024) : EReal := a2 m c (ix3 (lq T) k (jq T))
abbrev vA (c : Dev nD) (T : Fin 1408) (k : Fin 1024) : EReal := a3 m c (ix3 (lq T) k (jq T))

theorem gbA (c : Dev nD) (t : Fin cfg0.N) (r : Fin 64) (k : Fin 1024) : gb (iblk m c 0 t) r k = gA m c (rb t r) k := by
  have h : jq (rb t r) = pb t r := Fin.ext (by have := tlt t; show ((11 + t.val) * 64 + r.val) % 704 = t.val * 64 + r.val; omega)
  show _ = gr (a0 m c) (jq (rb t r)) k
  rw [h]
  unfold gb gr
  exact Finset.sum_congr rfl fun d _ => (ib0 m c t d r k).trans (V0a m c d _ k)

theorem wbA (c : Dev nD) (t : Fin cfg0.N) (r : Fin 64) (k : Fin 1024) : (iblk m c 1 t (ix2 r k) : EReal) = wA m c (rb t r) k :=
  (ib1 m c t r k).trans (V2a m c _ k)

theorem mbA (c : Dev nD) (t : Fin cfg0.N) (r : Fin 64) (k : Fin 1024) : (iblk m c 2 t (ix2 r k) : EReal) = mA m c (rb t r) k :=
  (ib2 m c t r k).trans (V4a m c _ k)

theorem vbA (c : Dev nD) (t : Fin cfg0.N) (r : Fin 64) (k : Fin 1024) : (iblk m c 3 t (ix2 r k) : EReal) = vA m c (rb t r) k :=
  (ib3 m c t r k).trans (V6a m c _ k)

/-- The four arrays, at the layout that the kernel writes. -/
def G4 (c : Dev nD) (i : S1408x1024.Idx) : EReal := gA m c (i 0) (i 1)
def G5 (c : Dev nD) (i : S1408x1024.Idx) : EReal := dl (gA m c (i 0) (i 1)) (wA m c (i 0) (i 1)) (mA m c (i 0) (i 1)) (vA m c (i 0) (i 1))
def G6 (c : Dev nD) (i : S1408x1024.Idx) : EReal := mn (gA m c (i 0) (i 1)) (mA m c (i 0) (i 1))
def G7 (c : Dev nD) (i : S1408x1024.Idx) : EReal := vn (gA m c (i 0) (i 1)) (vA m c (i 0) (i 1))

theorem out4 (c : Dev nD) (t : Fin cfg0.N) (r : Fin 64) (k : Fin 1024) :
    (out0_4 (F := Ideal) (iblk m c 0 t) (iblk m c 1 t) (iblk m c 2 t) (iblk m c 3 t) (ix2 r k) : EReal) = G4 m c (ix2 (rb t r) k) :=
  (o4 _ _ _ _ r k).trans (gbA m c t r k)

theorem out5 (c : Dev nD) (t : Fin cfg0.N) (r : Fin 64) (k : Fin 1024) :
    (out0_5 (F := Ideal) (iblk m c 0 t) (iblk m c 1 t) (iblk m c 2 t) (iblk m c 3 t) (ix2 r k) : EReal) = G5 m c (ix2 (rb t r) k) := by
  refine (o5 _ _ _ _ r k).trans ?_
  rw [gbA, wbA, mbA, vbA]
  rfl

theorem out6 (c : Dev nD) (t : Fin cfg0.N) (r : Fin 64) (k : Fin 1024) :
    (out0_6 (F := Ideal) (iblk m c 0 t) (iblk m c 1 t) (iblk m c 2 t) (iblk m c 3 t) (ix2 r k) : EReal) = G6 m c (ix2 (rb t r) k) := by
  refine (o6 _ _ _ _ r k).trans ?_
  rw [gbA, mbA]
  rfl

theorem out7 (c : Dev nD) (t : Fin cfg0.N) (r : Fin 64) (k : Fin 1024) :
    (out0_7 (F := Ideal) (iblk m c 0 t) (iblk m c 1 t) (iblk m c 2 t) (iblk m c 3 t) (ix2 r k) : EReal) = G7 m c (ix2 (rb t r) k) := by
  refine (o7 _ _ _ _ r k).trans ?_
  rw [gbA, vbA]
  rfl

theorem outEmb4 (t : Fin cfg0.N) (y : S64x1024.Idx) : ((win0_4.blk t).view.emb y : S1408x1024.Idx) = ix2 (rb t (y 0)) (y 1) := by
  blk_ext [idx t]
theorem outEmb5 (t : Fin cfg0.N) (y : S64x1024.Idx) : ((win0_5.blk t).view.emb y : S1408x1024.Idx) = ix2 (rb t (y 0)) (y 1) := by
  blk_ext [idx t]
theorem outEmb6 (t : Fin cfg0.N) (y : S64x1024.Idx) : ((win0_6.blk t).view.emb y : S1408x1024.Idx) = ix2 (rb t (y 0)) (y 1) := by
  blk_ext [idx t]
theorem outEmb7 (t : Fin cfg0.N) (y : S64x1024.Idx) : ((win0_7.blk t).view.emb y : S1408x1024.Idx) = ix2 (rb t (y 0)) (y 1) := by
  blk_ext [idx t]

/-- The second layer's rows are the rows from block eleven on: the only ones that the call writes. -/
theorem arr4 (c : Dev nD) : (dats m 0 c).arrAt 4 (cfgs 0).N
    = fun i : S1408x1024.Idx => if 11 ≤ (i 0).val / 64 then G4 m c i else (dats m 0 c).A 4 i := by
  refine (dats m 0 c).arrAt_eq_of_coversWhere 4 _ (fun β => 11 ≤ β (0 : Fin 2)) (by decide +kernel) (fun t hf y => ?_) (fun j => Iff.rfl)
  blk_simp
  rw [after0_4]
  exact (congrArg _ (eq_ix2 y)).trans ((out4 m c t (y 0) (y 1)).trans (congrArg (G4 m c) (outEmb4 t y).symm))

theorem arr5 (c : Dev nD) : (dats m 0 c).arrAt 5 (cfgs 0).N
    = fun i : S1408x1024.Idx => if 11 ≤ (i 0).val / 64 then G5 m c i else (dats m 0 c).A 5 i := by
  refine (dats m 0 c).arrAt_eq_of_coversWhere 5 _ (fun β => 11 ≤ β (0 : Fin 2)) (by decide +kernel) (fun t hf y => ?_) (fun j => Iff.rfl)
  blk_simp
  rw [after0_5]
  exact (congrArg _ (eq_ix2 y)).trans ((out5 m c t (y 0) (y 1)).trans (congrArg (G5 m c) (outEmb5 t y).symm))

theorem arr6 (c : Dev nD) : (dats m 0 c).arrAt 6 (cfgs 0).N
    = fun i : S1408x1024.Idx => if 11 ≤ (i 0).val / 64 then G6 m c i else (dats m 0 c).A 6 i := by
  refine (dats m 0 c).arrAt_eq_of_coversWhere 6 _ (fun β => 11 ≤ β (0 : Fin 2)) (by decide +kernel) (fun t hf y => ?_) (fun j => Iff.rfl)
  blk_simp
  rw [after0_6]
  exact (congrArg _ (eq_ix2 y)).trans ((out6 m c t (y 0) (y 1)).trans (congrArg (G6 m c) (outEmb6 t y).symm))

theorem arr7 (c : Dev nD) : (dats m 0 c).arrAt 7 (cfgs 0).N
    = fun i : S1408x1024.Idx => if 11 ≤ (i 0).val / 64 then G7 m c i else (dats m 0 c).A 7 i := by
  refine (dats m 0 c).arrAt_eq_of_coversWhere 7 _ (fun β => 11 ≤ β (0 : Fin 2)) (by decide +kernel) (fun t hf y => ?_) (fun j => Iff.rfl)
  blk_simp
  rw [after0_7]
  exact (congrArg _ (eq_ix2 y)).trans ((out7 m c t (y 0) (y 1)).trans (congrArg (G7 m c) (outEmb7 t y).symm))

/-- The row of the arrays that a column of the second layer's weights is. -/
abbrev hi (j : Fin 704) : Fin 1408 := ⟨704 + j.val, by omega⟩

theorem T11 (Z : Valuation τ sig (Elt Ideal)) (k : Fin 1024) (j : Fin 704) :
    (StableHlo.after [hostOps1].flatten Z (Proc.devRef .tc main_v11) : S1024x704.Idx → EReal) (ix2 k j)
      = (Z (Proc.devRef .tc main_v7_0) : S1408x1024.Idx → EReal) (ix2 (hi j) k) := by
  after_reads_at

theorem T15 (Z : Valuation τ sig (Elt Ideal)) (k : Fin 1024) (j : Fin 704) :
    (StableHlo.after [hostOps1].flatten Z (Proc.devRef .tc main_v15) : S1024x704.Idx → EReal) (ix2 k j)
      = (Z (Proc.devRef .tc main_v7_1) : S1408x1024.Idx → EReal) (ix2 (hi j) k) := by
  after_reads_at

theorem T19 (Z : Valuation τ sig (Elt Ideal)) (k : Fin 1024) (j : Fin 704) :
    (StableHlo.after [hostOps1].flatten Z (Proc.devRef .tc main_v19) : S1024x704.Idx → EReal) (ix2 k j)
      = (Z (Proc.devRef .tc main_v7_2) : S1408x1024.Idx → EReal) (ix2 (hi j) k) := by
  after_reads_at

theorem T23 (Z : Valuation τ sig (Elt Ideal)) (k : Fin 1024) (j : Fin 704) :
    (StableHlo.after [hostOps1].flatten Z (Proc.devRef .tc main_v23) : S1024x704.Idx → EReal) (ix2 k j)
      = (Z (Proc.devRef .tc main_v7_3) : S1408x1024.Idx → EReal) (ix2 (hi j) k) := by
  after_reads_at

/-- No two windows share an array that one of them writes. -/
theorem sharedIn0 : Pipeline.SharedIn spec0 := by decide

/-- The buffers as the region leaves them. -/
abbrev Zr (c : Dev nD) : Valuation τ sig (Elt Ideal) :=
  Pipeline.withArrays (cfgs 0).spec c (V0 m c) fun w => (dats m 0 c).arrAt w (cfgs 0).N

theorem Z4 (c : Dev nD) : Zr m c (Proc.devRef .tc main_v7_0) = (dats m 0 c).arrAt 4 (cfgs 0).N :=
  Dat.withArrays_arrAt (dats m 0 c) sharedIn0 (V0 m c) (A_eq m c) 4
theorem Z5 (c : Dev nD) : Zr m c (Proc.devRef .tc main_v7_1) = (dats m 0 c).arrAt 5 (cfgs 0).N :=
  Dat.withArrays_arrAt (dats m 0 c) sharedIn0 (V0 m c) (A_eq m c) 5
theorem Z6 (c : Dev nD) : Zr m c (Proc.devRef .tc main_v7_2) = (dats m 0 c).arrAt 6 (cfgs 0).N :=
  Dat.withArrays_arrAt (dats m 0 c) sharedIn0 (V0 m c) (A_eq m c) 6
theorem Z7 (c : Dev nD) : Zr m c (Proc.devRef .tc main_v7_3) = (dats m 0 c).arrAt 7 (cfgs 0).N :=
  Dat.withArrays_arrAt (dats m 0 c) sharedIn0 (V0 m c) (A_eq m c) 7

theorem hi_le (j : Fin 704) : 11 ≤ (hi j).val / 64 := by show 11 ≤ (704 + j.val) / 64; omega
theorem lq_hi (j : Fin 704) : lq (hi j) = 1 := Fin.ext (by show (704 + j.val) / 704 = 1; omega)
theorem jq_hi (j : Fin 704) : jq (hi j) = j := Fin.ext (by show (704 + j.val) % 704 = j.val; omega)

section reference
open Cert.Reference14Ideal.Read
variable (p : PT) (w u v : W3) (k : Fin 1024) (j : Fin 704)

theorem R1 : val_main_v1 (F := Ideal) p (ix2 k j) = gr p j k := by
  unfold gr
  pointwise [val_main_v1, val_main_v0, val_main_cst]

theorem R12 : val_main_v12 (F := Ideal) p u (ix2 k j) = mn (gr p j k) (u (ix3 1 k j)) := by
  rw [val_main_v12_apply, val_main_v11_apply, R1]
  unfold mn
  pointwise [val_main_v10, val_main_v9, val_main_v8, val_main_v5, val_main_v4, val_main_cst_0, val_main_cst_1]

theorem R18 : val_main_v18 (F := Ideal) p v (ix2 k j) = vn (gr p j k) (v (ix3 1 k j)) := by
  rw [val_main_v18_apply, val_main_v17_apply, val_main_v15_apply, R1]
  unfold vn
  pointwise [val_main_v16, val_main_v14, val_main_v13, val_main_v7, val_main_v6, val_main_cst_2, val_main_cst_3]

theorem R31 : val_main_v31 (F := Ideal) p w u v (ix2 k j) = dl (gr p j k) (w (ix3 1 k j)) (u (ix3 1 k j)) (v (ix3 1 k j)) := by
  rw [val_main_v31_apply, val_main_v29_apply, val_main_v26_apply, val_main_v25_apply, val_main_v23_apply, val_main_v22_apply,
    val_main_v20_apply, R12, R18]
  unfold dl
  pointwise [val_main_v30, val_main_v28, val_main_v27, val_main_v24, val_main_v21, val_main_v19, val_main_v3, val_main_v2,
    val_main_cst_4, val_main_cst_5, val_main_cst_6, val_main_cst_7, val_main_cst_8]

end reference

theorem E11 (c : Dev nD) :
    (Pipeline.afterTail₀ cfgs (dats m) 0 (V0 m) [hostOps1] c main_v11 : S1024x704.Idx → EReal)
      = Cert.Reference14Ideal.Read.val_main_v1 (F := Ideal) (a0 m c) := by
  funext i
  obtain ⟨k, j, rfl⟩ : ∃ (k : Fin 1024) (j : Fin 704), i = ix2 k j := ⟨i 0, i 1, eq_ix2 i⟩
  refine (T11 (Zr m c) k j).trans (Eq.trans ?_ (R1 _ k j).symm)
  rw [Z4, arr4]
  refine (if_pos (hi_le j)).trans ?_
  show gr (a0 m c) (jq (hi j)) k = _
  rw [jq_hi]

theorem E15 (c : Dev nD) :
    (Pipeline.afterTail₀ cfgs (dats m) 0 (V0 m) [hostOps1] c main_v15 : S1024x704.Idx → EReal)
      = Cert.Reference14Ideal.Read.val_main_v31 (F := Ideal) (a0 m c) (a1 m c) (a2 m c) (a3 m c) := by
  funext i
  obtain ⟨k, j, rfl⟩ : ∃ (k : Fin 1024) (j : Fin 704), i = ix2 k j := ⟨i 0, i 1, eq_ix2 i⟩
  refine (T15 (Zr m c) k j).trans (Eq.trans ?_ (R31 _ _ _ _ k j).symm)
  rw [Z5, arr5]
  refine (if_pos (hi_le j)).trans ?_
  show dl (gr (a0 m c) (jq (hi j)) k) (a1 m c (ix3 (lq (hi j)) k (jq (hi j)))) (a2 m c (ix3 (lq (hi j)) k (jq (hi j))))
    (a3 m c (ix3 (lq (hi j)) k (jq (hi j)))) = _
  rw [jq_hi, lq_hi]

theorem E19 (c : Dev nD) :
    (Pipeline.afterTail₀ cfgs (dats m) 0 (V0 m) [hostOps1] c main_v19 : S1024x704.Idx → EReal)
      = Cert.Reference14Ideal.Read.val_main_v12 (F := Ideal) (a0 m c) (a2 m c) := by
  funext i
  obtain ⟨k, j, rfl⟩ : ∃ (k : Fin 1024) (j : Fin 704), i = ix2 k j := ⟨i 0, i 1, eq_ix2 i⟩
  refine (T19 (Zr m c) k j).trans (Eq.trans ?_ (R12 _ _ k j).symm)
  rw [Z6, arr6]
  refine (if_pos (hi_le j)).trans ?_
  show mn (gr (a0 m c) (jq (hi j)) k) (a2 m c (ix3 (lq (hi j)) k (jq (hi j)))) = _
  rw [jq_hi, lq_hi]

theorem E23 (c : Dev nD) :
    (Pipeline.afterTail₀ cfgs (dats m) 0 (V0 m) [hostOps1] c main_v23 : S1024x704.Idx → EReal)
      = Cert.Reference14Ideal.Read.val_main_v18 (F := Ideal) (a0 m c) (a3 m c) := by
  funext i
  obtain ⟨k, j, rfl⟩ : ∃ (k : Fin 1024) (j : Fin 704), i = ix2 k j := ⟨i 0, i 1, eq_ix2 i⟩
  refine (T23 (Zr m c) k j).trans (Eq.trans ?_ (R18 _ _ k j).symm)
  rw [Z7, arr7]
  refine (if_pos (hi_le j)).trans ?_
  show vn (gr (a0 m c) (jq (hi j)) k) (a3 m c (ix3 (lq (hi j)) k (jq (hi j)))) = _
  rw [jq_hi, lq_hi]

/-- The run: the results at the lines after the region. -/
theorem run_results (ρ : Dev nD → PrngReg) :
    θ_run defs (onTc (τ := τ) (main (F := Ideal))) ⟨m, fun _ => 0, ρ⟩ (fun r => ∀ c : Dev nD,
      r.2.mem ((c.tc : Thread nD τ).loc main_v11) = Pipeline.afterTail₀ cfgs (dats m) 0 (V0 m) [hostOps1] c main_v11
      ∧ r.2.mem ((c.tc : Thread nD τ).loc main_v15) = Pipeline.afterTail₀ cfgs (dats m) 0 (V0 m) [hostOps1] c main_v15
      ∧ r.2.mem ((c.tc : Thread nD τ).loc main_v19) = Pipeline.afterTail₀ cfgs (dats m) 0 (V0 m) [hostOps1] c main_v19
      ∧ r.2.mem ((c.tc : Thread nD τ).loc main_v23) = Pipeline.afterTail₀ cfgs (dats m) 0 (V0 m) [hostOps1] c main_v23) :=
  (θ_run defs _ _).mono (fun _ h c => ⟨(h c).2 main_v11 (Pipeline.mem_restRefs_of main_v11 (by decide) (by decide)),
    (h c).2 main_v15 (Pipeline.mem_restRefs_of main_v15 (by decide) (by decide)),
    (h c).2 main_v19 (Pipeline.mem_restRefs_of main_v19 (by decide) (by decide)),
    (h c).2 main_v23 (Pipeline.mem_restRefs_of main_v23 (by decide) (by decide))⟩) (run_main m ρ)

end Cert.Kernel14Ideal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Final
public import proofs.«01_k».proof.Proof.UpFinal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel13.Skeleton
public import proofs.«01_k».proof.Proof.Gen.Kernel14.Skeleton
public import proofs.«01_k».proof.Proof.Gen.Kernel12.Launch
public import proofs.«01_k».proof.Proof.Gen.Kernel13.Launch
public import proofs.«01_k».proof.Proof.Gen.Kernel14.Launch
public import proofs.«01_k».proof.Proof.Gen.Kernel12.Points
public import proofs.«01_k».proof.Proof.Gen.Kernel13.Points
public import proofs.«01_k».proof.Proof.Gen.Kernel14.Points
public import proofs.«01_k».proof.Proof.Gen.Kernel12.Frame
public import proofs.«01_k».proof.Proof.Gen.Kernel13.Frame
public import proofs.«01_k».proof.Proof.Gen.Kernel14.Frame
public import proofs.«01_k».proof.Proof.Gen.Kernel12Ideal
public import proofs.«01_k».proof.Proof.Gen.Kernel12Ideal.Skeleton
public import proofs.«01_k».proof.Proof.Gen.Kernel13Ideal.Skeleton
public import proofs.«01_k».proof.Proof.Gen.Kernel14Ideal.Skeleton
public import proofs.«01_k».proof.Proof.Gen.Kernel12Ideal.Launch
public import proofs.«01_k».proof.Proof.Gen.Kernel13Ideal.Launch
public import proofs.«01_k».proof.Proof.Gen.Kernel14Ideal.Launch
public import proofs.«01_k».proof.Proof.Gen.Kernel12Ideal.Points
public import proofs.«01_k».proof.Proof.Gen.Kernel13Ideal.Points
public import proofs.«01_k».proof.Proof.Gen.Kernel14Ideal.Points
public import proofs.«01_k».proof.Proof.Gen.Kernel12Ideal.Frame
public import proofs.«01_k».proof.Proof.Gen.Kernel13Ideal.Frame
public import proofs.«01_k».proof.Proof.Gen.Kernel14Ideal.Frame
public import proofs.«01_k».proof.Proof.Gen.Reference12Ideal
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference12Ideal.Read
public import proofs.«01_k».proof.Proof.Gen.Reference13Ideal.Read
public import proofs.«01_k».proof.Proof.Gen.Reference14Ideal.Read
public import proofs.«01_k».proof.Proof.WuFinal
public import proofs.«01_k».proof.Proof.WdFinal
public import proofs.«01_k».proof.Proof.InFinal
public import proofs.«01_k».proof.Proof.WiFinal
public import proofs.«01_k».proof.Proof.UfFinal
public import proofs.«01_k».proof.Proof.WoFinal
public import proofs.«01_k».proof.Proof.DyFinal
public import proofs.«01_k».proof.Proof.MiFinal
public import proofs.«01_k».proof.Proof.MoFinal
public import proofs.«01_k».proof.Proof.MdFinal
public import proofs.«01_k».proof.Proof.FlFinal
public import proofs.«01_k».proof.Proof.AwFinal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frameK : Cert.quiescent_Kernel := fun m ρ _ => Cert.Kernel.Gen.frame m ρ

theorem frameKI : Cert.quiescent_KernelIdeal := fun m ρ _ => Cert.KernelIdeal.Gen.frame m ρ

theorem frameKIp : Cert.quiescent_KernelIdeal_pre_finite := fun m ρ _ => Cert.KernelIdeal.Gen.frame m ρ

theorem frameRI : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frameRIp : Cert.quiescent_ReferenceIdeal_pre_finite := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem value : Cert.algebraic_KernelIdeal_ReferenceIdeal_pre_finite := by
  intro m g m' g' hpre hagree
  have hF := fun c => Cert.Pre_finite.Hand.fins _ _ _ _ _ (hpre c)
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v38,
    fun c => Pipeline.afterTail₀ Cert.KernelIdeal.cfgs (Cert.KernelIdeal.Gen.dats m) 0 (Cert.KernelIdeal.Gen.V0 m) [Cert.KernelIdeal.Gen.hostOps1] c Cert.KernelIdeal.main_v41,
    fun c => Pipeline.afterTail₀ Cert.KernelIdeal.cfgs (Cert.KernelIdeal.Gen.dats m) 0 (Cert.KernelIdeal.Gen.V0 m) [Cert.KernelIdeal.Gen.hostOps1] c Cert.KernelIdeal.main_v44, ?_, ?_⟩
  · exact (θ_run Cert.KernelIdeal.defs _ _).mono (fun r h c => ⟨(h.1 c).1, (h.1 c).2.1, (h.1 c).2.2, h.2 c⟩)
      (θ_run_and (Cert.KernelIdeal.Hand.run_results m g) (Cert.KernelIdeal.Gen.unchanged m g))
  · refine (θ_run Cert.ReferenceIdeal.defs _ _).mono (fun r h c => ?_) (Cert.ReferenceIdeal.Value.run (F := Ideal) m' g')
    obtain ⟨h0, h1, h2, h3⟩ := h c
    obtain ⟨e0, e1, e2, e3, e4⟩ := hagree c
    refine ⟨h0.trans ?_, h1.trans ?_, h2.trans ?_, h3⟩
    · refine (Cert.ReferenceIdeal.Read.val_main_v74_eq m' c).trans ?_
      rw [e0, e1, e2, e3, e4]
      exact (Cert.KernelIdeal.Hand.E38 m c (hF c)).symm
    · refine (Cert.ReferenceIdeal.Read.val_main_v72_eq m' c).trans ?_
      rw [e0, e1, e2, e3, e4]
      exact (Cert.KernelIdeal.Hand.E41 m c (hF c)).symm
    · refine (Cert.ReferenceIdeal.Read.val_main_v41_eq m' c).trans ?_
      rw [e0, e1, e2, e3, e4]
      exact (Cert.KernelIdeal.Hand.E44 m c (hF c)).symm

theorem frameK2 : Cert.quiescent_Kernel2 := fun m ρ _ => Cert.Kernel2.Gen.frame m ρ

theorem frameKI2 : Cert.quiescent_Kernel2Ideal := fun m ρ _ => Cert.Kernel2Ideal.Gen.frame m ρ

theorem frameRI2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem value2 : Cert.algebraic_Kernel2Ideal_Reference2Ideal := by
  intro m g m' g' hpre hagree
  refine ⟨fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v10,
    fun c => Pipeline.afterTail₀ Cert.Kernel2Ideal.cfgs (Cert.Kernel2Ideal.Gen.dats m) 0 (Cert.Kernel2Ideal.Gen.V0 m) [Cert.Kernel2Ideal.Gen.hostOps1] c Cert.Kernel2Ideal.main_v11, ?_, ?_⟩
  · exact (θ_run Cert.Kernel2Ideal.defs _ _).mono (fun r h c => ⟨(h.1 c).1, (h.1 c).2, h.2 c⟩)
      (θ_run_and (Cert.Kernel2Ideal.Hand.run_results m g) (Cert.Kernel2Ideal.Gen.unchanged m g))
  · refine (θ_run Cert.Reference2Ideal.defs _ _).mono (fun r h c => ?_) (Cert.Reference2Ideal.Value.run (F := Ideal) m' g')
    obtain ⟨h0, h1, h2⟩ := h c
    obtain ⟨e0, e1, e2, e3, e4⟩ := hagree c
    refine ⟨h0.trans ?_, h1.trans ?_, h2⟩
    · refine (Cert.Reference2Ideal.Read.val_main_v38_eq m' c).trans ?_
      rw [e0, e1, e2, e3, e4]
      exact (Cert.Kernel2Ideal.Hand.E10 m c).symm
    · refine (Cert.Reference2Ideal.Read.val_main_v23_eq (F := Ideal) _ _ _).trans ?_
      rw [e0, e2, e4]
      exact (Cert.Kernel2Ideal.Hand.E11 m c).symm

theorem frameK3 : Cert.quiescent_Kernel3 := fun m ρ _ => Cert.Kernel3.Gen.frame m ρ

theorem frameKI3 : Cert.quiescent_Kernel3Ideal := fun m ρ _ => Cert.Kernel3Ideal.Gen.frame m ρ

theorem frameRI3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value3 : Cert.algebraic_Kernel3Ideal_Reference3Ideal := by
  intro m g m' g' hpre hagree
  refine ⟨fun c => Pipeline.afterTail₀ Cert.Kernel3Ideal.cfgs (Cert.Kernel3Ideal.Gen.dats m) 0 (Cert.Kernel3Ideal.Gen.V0 m) [Cert.Kernel3Ideal.Gen.hostOps1] c Cert.Kernel3Ideal.main_v23, ?_, ?_⟩
  · exact (θ_run Cert.Kernel3Ideal.defs _ _).mono (fun r h c => ⟨h.1 c, h.2 c⟩)
      (θ_run_and (Cert.Kernel3Ideal.Hand.run_results m g) (Cert.Kernel3Ideal.Gen.unchanged m g))
  · refine (θ_run Cert.Reference3Ideal.defs _ _).mono (fun r h c => ?_) (Cert.Reference3Ideal.Value.run (F := Ideal) m' g')
    obtain ⟨h0, h1⟩ := h c
    obtain ⟨e0, e1, e2, e3⟩ := hagree c
    refine ⟨h0.trans ?_, h1⟩
    refine (Cert.Reference3Ideal.Read.val_main_v15_eq (F := Ideal) _ _ _).trans ?_
    rw [e0, e1, e3]
    exact (Cert.Kernel3Ideal.Hand.E23 m c).symm

theorem frameK4 : Cert.quiescent_Kernel4 := fun m ρ _ => Cert.Kernel4.Gen.frame m ρ

theorem frameKI4 : Cert.quiescent_Kernel4Ideal := fun m ρ _ => Cert.Kernel4Ideal.Gen.frame m ρ

theorem frameRI4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem value4 : Cert.algebraic_Kernel4Ideal_Reference4Ideal := by
  intro m g m' g' hpre hagree
  refine ⟨fun c => Pipeline.afterTail₀ Cert.Kernel4Ideal.cfgs (Cert.Kernel4Ideal.Gen.dats m) 0 (Cert.Kernel4Ideal.Gen.V0 m) [Cert.Kernel4Ideal.Gen.hostOps1] c Cert.Kernel4Ideal.main_v37, ?_, ?_⟩
  · exact (θ_run Cert.Kernel4Ideal.defs _ _).mono (fun r h c => ⟨h.1 c, h.2 c⟩)
      (θ_run_and (Cert.Kernel4Ideal.Hand.run_results m g) (Cert.Kernel4Ideal.Gen.unchanged m g))
  · refine (θ_run Cert.Reference4Ideal.defs _ _).mono (fun r h c => ?_) (Cert.Reference4Ideal.Value.run (F := Ideal) m' g')
    obtain ⟨h0, h1⟩ := h c
    obtain ⟨e0, e1, e2, e3, e4⟩ := hagree c
    refine ⟨h0.trans ?_, h1⟩
    refine (Cert.Reference4Ideal.Read.val_main_v32_eq m' c).trans ?_
    rw [e0, e1, e2, e4]
    exact (Cert.Kernel4Ideal.Hand.E37 m c).symm

theorem frameK5 : Cert.quiescent_Kernel5 := fun m ρ _ => Cert.Kernel5.Gen.frame m ρ

theorem frameKI5 : Cert.quiescent_Kernel5Ideal := fun m ρ _ => Cert.Kernel5Ideal.Gen.frame m ρ

theorem frameRI5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem value5 : Cert.algebraic_Kernel5Ideal_Reference5Ideal := by
  intro m g m' g' hpre hagree
  refine ⟨fun c => Pipeline.afterTail₀ Cert.Kernel5Ideal.cfgs (Cert.Kernel5Ideal.Gen.dats m) 0 (Cert.Kernel5Ideal.Gen.V0 m) [Cert.Kernel5Ideal.Gen.hostOps1] c Cert.Kernel5Ideal.main_v17,
    fun c => Pipeline.afterTail₀ Cert.Kernel5Ideal.cfgs (Cert.Kernel5Ideal.Gen.dats m) 0 (Cert.Kernel5Ideal.Gen.V0 m) [Cert.Kernel5Ideal.Gen.hostOps1] c Cert.Kernel5Ideal.main_v18, ?_, ?_⟩
  · exact (θ_run Cert.Kernel5Ideal.defs _ _).mono (fun r h c => ⟨(h.1 c).1, (h.1 c).2, h.2 c⟩)
      (θ_run_and (Cert.Kernel5Ideal.Hand.run_results m g) (Cert.Kernel5Ideal.Gen.unchanged m g))
  · refine (θ_run Cert.Reference5Ideal.defs _ _).mono (fun r h c => ?_) (Cert.Reference5Ideal.Value.run (F := Ideal) m' g')
    obtain ⟨h0, h1, h2⟩ := h c
    obtain ⟨e0, e1, e2, e3, e4⟩ := hagree c
    refine ⟨h0.trans ?_, h1.trans ?_, h2⟩
    · refine (Cert.Reference5Ideal.Read.val_main_v38_eq m' c).trans ?_
      rw [e0, e1, e2, e3, e4]
      exact (Cert.Kernel5Ideal.Hand.E17 m c).symm
    · refine (Cert.Reference5Ideal.Read.val_main_v23_eq (F := Ideal) _ _ _).trans ?_
      rw [e0, e2, e4]
      exact (Cert.Kernel5Ideal.Hand.E18 m c).symm

theorem frameK6 : Cert.quiescent_Kernel6 := fun m ρ _ => Cert.Kernel6.Gen.frame m ρ

theorem frameKI6 : Cert.quiescent_Kernel6Ideal := fun m ρ _ => Cert.Kernel6Ideal.Gen.frame m ρ

theorem frameRI6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem value6 : Cert.algebraic_Kernel6Ideal_Reference6Ideal := by
  intro m g m' g' hpre hagree
  refine ⟨fun c => Pipeline.afterTail₀ Cert.Kernel6Ideal.cfgs (Cert.Kernel6Ideal.Gen.dats m) 0 (Cert.Kernel6Ideal.Gen.V0 m) [Cert.Kernel6Ideal.Gen.hostOps1] c Cert.Kernel6Ideal.main_v29, ?_, ?_⟩
  · exact (θ_run Cert.Kernel6Ideal.defs _ _).mono (fun r h c => ⟨h.1 c, h.2 c⟩)
      (θ_run_and (Cert.Kernel6Ideal.Hand.run_results m g) (Cert.Kernel6Ideal.Gen.unchanged m g))
  · refine (θ_run Cert.Reference6Ideal.defs _ _).mono (fun r h c => ?_) (Cert.Reference6Ideal.Value.run (F := Ideal) m' g')
    obtain ⟨h0, h1⟩ := h c
    obtain ⟨e0, e1, e2, e3⟩ := hagree c
    refine ⟨h0.trans ?_, h1⟩
    · refine (Cert.Reference6Ideal.Read.val_main_v15_eq (F := Ideal) _ _ _).trans ?_
      rw [e0, e1, e3]
      exact (Cert.Kernel6Ideal.Hand.E29 m c).symm

theorem frameK7 : Cert.quiescent_Kernel7 := fun m ρ _ => Cert.Kernel7.Gen.frame m ρ

theorem frameKI7 : Cert.quiescent_Kernel7Ideal := fun m ρ _ => Cert.Kernel7Ideal.Gen.frame m ρ

theorem frameRI7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem value7 : Cert.algebraic_Kernel7Ideal_Reference7Ideal := by
  intro m g m' g' hpre hagree
  refine ⟨fun c => Pipeline.afterTail₀ Cert.Kernel7Ideal.cfgs (Cert.Kernel7Ideal.Gen.dats m) 0 (Cert.Kernel7Ideal.Gen.V0 m) [Cert.Kernel7Ideal.Gen.hostOps1] c Cert.Kernel7Ideal.main_v23,
    fun c => Pipeline.afterTail₀ Cert.Kernel7Ideal.cfgs (Cert.Kernel7Ideal.Gen.dats m) 0 (Cert.Kernel7Ideal.Gen.V0 m) [Cert.Kernel7Ideal.Gen.hostOps1] c Cert.Kernel7Ideal.main_v25,
    fun c => Pipeline.afterTail₀ Cert.Kernel7Ideal.cfgs (Cert.Kernel7Ideal.Gen.dats m) 0 (Cert.Kernel7Ideal.Gen.V0 m) [Cert.Kernel7Ideal.Gen.hostOps1] c Cert.Kernel7Ideal.main_v28, ?_, ?_⟩
  · exact (θ_run Cert.Kernel7Ideal.defs _ _).mono (fun r h c => ⟨(h.1 c).1, (h.1 c).2.1, (h.1 c).2.2, h.2 c⟩)
      (θ_run_and (Cert.Kernel7Ideal.Hand.run_results m g) (Cert.Kernel7Ideal.Gen.unchanged m g))
  · refine (θ_run Cert.Reference7Ideal.defs _ _).mono (fun r h c => ?_) (Cert.Reference7Ideal.Value.run (F := Ideal) m' g')
    obtain ⟨h0, h1, h2, h3⟩ := h c
    obtain ⟨e0, e1, e2, e3, e4⟩ := hagree c
    refine ⟨h0.trans ?_, h1.trans ?_, h2.trans ?_, h3⟩
    · refine (Cert.Reference7Ideal.Read.val_main_v13_eq (F := Ideal) _ _ _).trans ?_
      rw [e0, e1, e2]
      exact (Cert.Kernel7Ideal.Hand.E23 m c).symm
    · refine (Cert.Reference7Ideal.Read.val_main_v39_eq m' c).trans ?_
      rw [e0, e1, e2, e3, e4]
      exact (Cert.Kernel7Ideal.Hand.E25 m c).symm
    · refine (Cert.Reference7Ideal.Read.val_main_v43_eq m' c).trans ?_
      rw [e0, e1, e2, e3, e4]
      exact (Cert.Kernel7Ideal.Hand.E28 m c).symm

theorem frameK8 : Cert.quiescent_Kernel8 := fun m ρ _ => Cert.Kernel8.Gen.frame m ρ

theorem frameKI8 : Cert.quiescent_Kernel8Ideal := fun m ρ _ => Cert.Kernel8Ideal.Gen.frame m ρ

theorem frameRI8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem value8 : Cert.algebraic_Kernel8Ideal_Reference8Ideal := by
  intro m g m' g' hpre hagree
  refine ⟨fun c => Pipeline.afterTail₀ Cert.Kernel8Ideal.cfgs (Cert.Kernel8Ideal.Gen.dats m) 0 (Cert.Kernel8Ideal.Gen.V0 m) [Cert.Kernel8Ideal.Gen.hostOps1] c Cert.Kernel8Ideal.main_v5, ?_, ?_⟩
  · exact (θ_run Cert.Kernel8Ideal.defs _ _).mono (fun r h c => ⟨h.1 c, h.2 c⟩)
      (θ_run_and (Cert.Kernel8Ideal.Hand.run_results m g) (Cert.Kernel8Ideal.Gen.unchanged m g))
  · refine (θ_run Cert.Reference8Ideal.defs _ _).mono (fun r h c => ?_) (Cert.Reference8Ideal.Value.run (F := Ideal) m' g')
    obtain ⟨h0, h1⟩ := h c
    obtain ⟨e0, e1, e2⟩ := hagree c
    refine ⟨h0.trans ?_, h1⟩
    · refine (Cert.Reference8Ideal.Read.val_main_v2_eq (F := Ideal) _ _).trans ?_
      rw [e0, e2]
      exact (Cert.Kernel8Ideal.Hand.E5 m c).symm

theorem frameK9 : Cert.quiescent_Kernel9 := fun m ρ _ => Cert.Kernel9.Gen.frame m ρ

theorem frameKI9 : Cert.quiescent_Kernel9Ideal := fun m ρ _ => Cert.Kernel9Ideal.Gen.frame m ρ

theorem frameRI9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem value9 : Cert.algebraic_Kernel9Ideal_Reference9Ideal := by
  intro m g m' g' hpre hagree
  refine ⟨fun c => Pipeline.afterTail₀ Cert.Kernel9Ideal.cfgs (Cert.Kernel9Ideal.Gen.dats m) 0 (Cert.Kernel9Ideal.Gen.V0 m) [Cert.Kernel9Ideal.Gen.hostOps1] c Cert.Kernel9Ideal.main_v3, ?_, ?_⟩
  · exact (θ_run Cert.Kernel9Ideal.defs _ _).mono (fun r h c => ⟨h.1 c, h.2 c⟩)
      (θ_run_and (Cert.Kernel9Ideal.Hand.run_results m g) (Cert.Kernel9Ideal.Gen.unchanged m g))
  · refine (θ_run Cert.Reference9Ideal.defs _ _).mono (fun r h c => ?_) (Cert.Reference9Ideal.Value.run (F := Ideal) m' g')
    obtain ⟨h0, h1⟩ := h c
    obtain ⟨e0, e1, e2⟩ := hagree c
    refine ⟨h0.trans ?_, h1⟩
    · refine (Cert.Reference9Ideal.Read.val_main_v1_eq (F := Ideal) _ _).trans ?_
      rw [e1, e2]
      exact (Cert.Kernel9Ideal.Hand.E3 m c).symm

theorem frameK10 : Cert.quiescent_Kernel10 := fun m ρ _ => Cert.Kernel10.Gen.frame m ρ

theorem frameKI10 : Cert.quiescent_Kernel10Ideal := fun m ρ _ => Cert.Kernel10Ideal.Gen.frame m ρ

theorem frameRI10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem value10 : Cert.algebraic_Kernel10Ideal_Reference10Ideal := by
  intro m g m' g' hpre hagree
  refine ⟨fun c => Pipeline.afterTail₀ Cert.Kernel10Ideal.cfgs (Cert.Kernel10Ideal.Gen.dats m) 0 (Cert.Kernel10Ideal.Gen.V0 m) [Cert.Kernel10Ideal.Gen.hostOps1] c Cert.Kernel10Ideal.main_v28, ?_, ?_⟩
  · exact (θ_run Cert.Kernel10Ideal.defs _ _).mono (fun r h c => ⟨h.1 c, h.2 c⟩)
      (θ_run_and (Cert.Kernel10Ideal.Hand.run_results m g) (Cert.Kernel10Ideal.Gen.unchanged m g))
  · refine (θ_run Cert.Reference10Ideal.defs _ _).mono (fun r h c => ?_) (Cert.Reference10Ideal.Value.run (F := Ideal) m' g')
    obtain ⟨h0, h1⟩ := h c
    obtain ⟨e0, e1, e2⟩ := hagree c
    refine ⟨h0.trans ?_, h1⟩
    · refine (Cert.Reference10Ideal.Read.val_main_v13_eq (F := Ideal) _ _ _).trans ?_
      rw [e0, e1, e2]
      exact (Cert.Kernel10Ideal.Hand.E28 m c).symm

theorem frameK11 : Cert.quiescent_Kernel11 := fun m ρ _ => Cert.Kernel11.Gen.frame m ρ

theorem frameKI11 : Cert.quiescent_Kernel11Ideal := fun m ρ _ => Cert.Kernel11Ideal.Gen.frame m ρ

theorem frameRI11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem value11 : Cert.algebraic_Kernel11Ideal_Reference11Ideal := by
  intro m g m' g' hpre hagree
  refine ⟨fun c => Pipeline.afterTail₀ Cert.Kernel11Ideal.cfgs (Cert.Kernel11Ideal.Gen.dats m) 0 (Cert.Kernel11Ideal.Gen.V0 m) [Cert.Kernel11Ideal.Gen.hostOps1] c Cert.Kernel11Ideal.main_v7,
    fun c => Pipeline.afterTail₀ Cert.Kernel11Ideal.cfgs (Cert.Kernel11Ideal.Gen.dats m) 0 (Cert.Kernel11Ideal.Gen.V0 m) [Cert.Kernel11Ideal.Gen.hostOps1] c Cert.Kernel11Ideal.main_v9, ?_, ?_⟩
  · exact (θ_run Cert.Kernel11Ideal.defs _ _).mono (fun r h c => ⟨(h.1 c).1, (h.1 c).2, h.2 c⟩)
      (θ_run_and (Cert.Kernel11Ideal.Hand.run_results m g) (Cert.Kernel11Ideal.Gen.unchanged m g))
  · refine (θ_run Cert.Reference11Ideal.defs _ _).mono (fun r h c => ?_) (Cert.Reference11Ideal.Value.run (F := Ideal) m' g')
    obtain ⟨h0, h1, h2⟩ := h c
    obtain ⟨e0, e1, e2, e3⟩ := hagree c
    refine ⟨h0.trans ?_, h1.trans ?_, h2⟩
    · refine (Cert.Reference11Ideal.Read.val_main_v1_eq (F := Ideal) _ _ _).trans ?_
      rw [e0, e1, e2]
      exact (Cert.Kernel11Ideal.Hand.E7 m c).symm
    · refine (Cert.Reference11Ideal.Read.val_main_v14_eq (F := Ideal) _ _ _ _).trans ?_
      rw [e0, e1, e2, e3]
      exact (Cert.Kernel11Ideal.Hand.E9 m c).symm

theorem frameK12 : Cert.quiescent_Kernel12 := fun m ρ _ => Cert.Kernel12.Gen.frame m ρ

theorem frameKI12 : Cert.quiescent_Kernel12Ideal := fun m ρ _ => Cert.Kernel12Ideal.Gen.frame m ρ

theorem frameRI12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem value12 : Cert.algebraic_Kernel12Ideal_Reference12Ideal := by
  intro m g m' g' hpre hagree
  refine ⟨fun c => Pipeline.afterTail₀ Cert.Kernel12Ideal.cfgs (Cert.Kernel12Ideal.Gen.dats m) 0 (Cert.Kernel12Ideal.Gen.V0 m) [Cert.Kernel12Ideal.Gen.hostOps1] c Cert.Kernel12Ideal.main_v8,
    fun c => Pipeline.afterTail₀ Cert.Kernel12Ideal.cfgs (Cert.Kernel12Ideal.Gen.dats m) 0 (Cert.Kernel12Ideal.Gen.V0 m) [Cert.Kernel12Ideal.Gen.hostOps1] c Cert.Kernel12Ideal.main_v10, ?_, ?_⟩
  · exact (θ_run Cert.Kernel12Ideal.defs _ _).mono (fun r h c => ⟨(h.1 c).1, (h.1 c).2, h.2 c⟩)
      (θ_run_and (Cert.Kernel12Ideal.Hand.run_results m g) (Cert.Kernel12Ideal.Gen.unchanged m g))
  · refine (θ_run Cert.Reference12Ideal.defs _ _).mono (fun r h c => ?_) (Cert.Reference12Ideal.Value.run (F := Ideal) m' g')
    obtain ⟨h0, h1, h2⟩ := h c
    obtain ⟨e0, e1, e2, e3⟩ := hagree c
    refine ⟨h0.trans ?_, h1.trans ?_, h2⟩
    · refine (Cert.Reference12Ideal.Read.val_main_v1_eq (F := Ideal) _ _ _).trans ?_
      rw [e0, e1, e2]
      exact (Cert.Kernel12Ideal.Hand.E8 m c).symm
    · refine (Cert.Reference12Ideal.Read.val_main_v14_eq (F := Ideal) _ _ _ _).trans ?_
      rw [e0, e1, e2, e3]
      exact (Cert.Kernel12Ideal.Hand.E10 m c).symm

theorem frameK13 : Cert.quiescent_Kernel13 := fun m ρ _ => Cert.Kernel13.Gen.frame m ρ

theorem frameKI13 : Cert.quiescent_Kernel13Ideal := fun m ρ _ => Cert.Kernel13Ideal.Gen.frame m ρ

theorem frameRI13 : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem value13 : Cert.algebraic_Kernel13Ideal_Reference13Ideal := by
  intro m g m' g' hpre hagree
  refine ⟨fun c => Pipeline.afterTail₀ Cert.Kernel13Ideal.cfgs (Cert.Kernel13Ideal.Gen.dats m) 0 (Cert.Kernel13Ideal.Gen.V0 m) [Cert.Kernel13Ideal.Gen.hostOps1] c Cert.Kernel13Ideal.main_v6,
    fun c => Pipeline.afterTail₀ Cert.Kernel13Ideal.cfgs (Cert.Kernel13Ideal.Gen.dats m) 0 (Cert.Kernel13Ideal.Gen.V0 m) [Cert.Kernel13Ideal.Gen.hostOps1] c Cert.Kernel13Ideal.main_v7,
    fun c => Pipeline.afterTail₀ Cert.Kernel13Ideal.cfgs (Cert.Kernel13Ideal.Gen.dats m) 0 (Cert.Kernel13Ideal.Gen.V0 m) [Cert.Kernel13Ideal.Gen.hostOps1] c Cert.Kernel13Ideal.main_v8, ?_, ?_⟩
  · exact (θ_run Cert.Kernel13Ideal.defs _ _).mono (fun r h c => ⟨(h.1 c).1, (h.1 c).2.1, (h.1 c).2.2, h.2 c⟩)
      (θ_run_and (Cert.Kernel13Ideal.Hand.run_results m g) (Cert.Kernel13Ideal.Gen.unchanged m g))
  · refine (θ_run Cert.Reference13Ideal.defs _ _).mono (fun r h c => ?_) (Cert.Reference13Ideal.Value.run (F := Ideal) m' g')
    obtain ⟨h0, h1, h2, h3⟩ := h c
    obtain ⟨e0, e1, e2⟩ := hagree c
    refine ⟨h0.trans ?_, h1.trans ?_, h2.trans ?_, h3⟩
    · refine (Cert.Reference13Ideal.Read.val_main_v24_eq (F := Ideal) _ _ _).trans ?_
      rw [e0, e1, e2]
      exact (Cert.Kernel13Ideal.Hand.E6 m c).symm
    · refine (Cert.Reference13Ideal.Read.val_main_v50_eq m' c).trans ?_
      rw [e0, e1, e2]
      exact (Cert.Kernel13Ideal.Hand.E7 m c).symm
    · refine (Cert.Reference13Ideal.Read.val_main_v36_eq (F := Ideal) _ _ _).trans ?_
      rw [e0, e1, e2]
      exact (Cert.Kernel13Ideal.Hand.E8 m c).symm

theorem frameK14 : Cert.quiescent_Kernel14 := fun m ρ _ => Cert.Kernel14.Gen.frame m ρ

theorem frameKI14 : Cert.quiescent_Kernel14Ideal := fun m ρ _ => Cert.Kernel14Ideal.Gen.frame m ρ

theorem frameRI14 : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

theorem value14 : Cert.algebraic_Kernel14Ideal_Reference14Ideal := by
  intro m g m' g' hpre hagree
  refine ⟨fun c => Pipeline.afterTail₀ Cert.Kernel14Ideal.cfgs (Cert.Kernel14Ideal.Gen.dats m) 0 (Cert.Kernel14Ideal.Gen.V0 m) [Cert.Kernel14Ideal.Gen.hostOps1] c Cert.Kernel14Ideal.main_v11,
    fun c => Pipeline.afterTail₀ Cert.Kernel14Ideal.cfgs (Cert.Kernel14Ideal.Gen.dats m) 0 (Cert.Kernel14Ideal.Gen.V0 m) [Cert.Kernel14Ideal.Gen.hostOps1] c Cert.Kernel14Ideal.main_v15,
    fun c => Pipeline.afterTail₀ Cert.Kernel14Ideal.cfgs (Cert.Kernel14Ideal.Gen.dats m) 0 (Cert.Kernel14Ideal.Gen.V0 m) [Cert.Kernel14Ideal.Gen.hostOps1] c Cert.Kernel14Ideal.main_v19,
    fun c => Pipeline.afterTail₀ Cert.Kernel14Ideal.cfgs (Cert.Kernel14Ideal.Gen.dats m) 0 (Cert.Kernel14Ideal.Gen.V0 m) [Cert.Kernel14Ideal.Gen.hostOps1] c Cert.Kernel14Ideal.main_v23, ?_, ?_⟩
  · exact (θ_run Cert.Kernel14Ideal.defs _ _).mono (fun r h c => ⟨(h.1 c).1, (h.1 c).2.1, (h.1 c).2.2.1, (h.1 c).2.2.2, h.2 c⟩)
      (θ_run_and (Cert.Kernel14Ideal.Hand.run_results m g) (Cert.Kernel14Ideal.Gen.unchanged m g))
  · refine (θ_run Cert.Reference14Ideal.defs _ _).mono (fun r h c => ?_) (Cert.Reference14Ideal.Value.run (F := Ideal) m' g')
    obtain ⟨h0, h1, h2, h3, h4⟩ := h c
    obtain ⟨e0, e1, e2, e3⟩ := hagree c
    refine ⟨h0.trans ?_, h1.trans ?_, h2.trans ?_, h3.trans ?_, h4⟩
    · refine (Cert.Reference14Ideal.Read.val_main_v1_eq (F := Ideal) _).trans ?_
      rw [e0]
      exact (Cert.Kernel14Ideal.Hand.E11 m c).symm
    · refine (Cert.Reference14Ideal.Read.val_main_v31_eq (F := Ideal) _ _ _ _).trans ?_
      rw [e0, e1, e2, e3]
      exact (Cert.Kernel14Ideal.Hand.E15 m c).symm
    · refine (Cert.Reference14Ideal.Read.val_main_v12_eq (F := Ideal) _ _).trans ?_
      rw [e0, e2]
      exact (Cert.Kernel14Ideal.Hand.E19 m c).symm
    · refine (Cert.Reference14Ideal.Read.val_main_v18_eq (F := Ideal) _ _).trans ?_
      rw [e0, e3]
      exact (Cert.Kernel14Ideal.Hand.E23 m c).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts, Cert.Pre_finite.Gen.facts,
    frameK, frameKI, frameKIp, frameRI, frameRIp, frameK2, frameKI2, frameRI2, frameK3, frameKI3, frameRI3, frameK4,
    frameKI4, frameRI4, frameK5, frameKI5, frameRI5, frameK6, frameKI6, frameRI6, frameK7, frameKI7, frameRI7, frameK8,
    frameKI8, frameRI8, frameK9, frameKI9, frameRI9, frameK10, frameKI10, frameRI10, frameK11, frameKI11, frameRI11, frameK12,
    frameKI12, frameRI12, frameK13, frameKI13, frameRI13, frameK14, frameKI14, frameRI14,
    trivial, value, trivial, value2, trivial, value3, trivial, value4, trivial, value5,
    trivial, value6, trivial, value7, trivial, value8, trivial, value9, trivial, value10,
    trivial, value11, trivial, value12, trivial, value13, trivial, value14⟩

end Cert.Proof

end
